-- ==== Defs.lean ====
def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_DMlpAct (m : (ℓ : Loc Cert.DMlpAct.nD Cert.DMlpAct.τ Cert.DMlpAct.sig) → Buf (Elt Bits) ℓ) : Prop :=
  True

def Pre_DMlpActIdeal (m : (ℓ : Loc Cert.DMlpActIdeal.nD Cert.DMlpActIdeal.τ Cert.DMlpActIdeal.sig) → Buf (Elt Ideal) ℓ) : Prop :=
  True

def Pre_DMlpActRefIdeal (m : (ℓ : Loc Cert.DMlpActRefIdeal.nD Cert.DMlpActRefIdeal.τ Cert.DMlpActRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2RefIdeal (m : (ℓ : Loc Cert.DH2RefIdeal.nD Cert.DH2RefIdeal.τ Cert.DH2RefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DBranch (m : (ℓ : Loc Cert.DBranch.nD Cert.DBranch.τ Cert.DBranch.sig) → Buf (Elt Bits) ℓ) : Prop :=
  True

def Pre_DBranchIdeal (m : (ℓ : Loc Cert.DBranchIdeal.nD Cert.DBranchIdeal.τ Cert.DBranchIdeal.sig) → Buf (Elt Ideal) ℓ) : Prop :=
  True

def Pre_DBranchRefIdeal (m : (ℓ : Loc Cert.DBranchRefIdeal.nD Cert.DBranchRefIdeal.τ Cert.DBranchRefIdeal.sig) → Buf (Elt Ideal) ℓ) : Prop :=
  True

def Pre_DwBranch (m : (ℓ : Loc Cert.DwBranch.nD Cert.DwBranch.τ Cert.DwBranch.sig) → Buf (Elt Bits) ℓ) : Prop :=
  True

def Pre_DwBranchIdeal (m : (ℓ : Loc Cert.DwBranchIdeal.nD Cert.DwBranchIdeal.τ Cert.DwBranchIdeal.sig) → Buf (Elt Ideal) ℓ) : Prop :=
  True

def Pre_DwBranchRefIdeal (m : (ℓ : Loc Cert.DwBranchRefIdeal.nD Cert.DwBranchRefIdeal.τ Cert.DwBranchRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumMid (m : (ℓ : Loc Cert.SumMid.nD Cert.SumMid.τ Cert.SumMid.sig) → Buf (Elt Bits) ℓ) : Prop :=
  True

def Pre_SumMidIdeal (m : (ℓ : Loc Cert.SumMidIdeal.nD Cert.SumMidIdeal.τ Cert.SumMidIdeal.sig) → Buf (Elt Ideal) ℓ) : Prop :=
  True

def Pre_SumMidRefIdeal (m : (ℓ : Loc Cert.SumMidRefIdeal.nD Cert.SumMidRefIdeal.τ Cert.SumMidRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamMid (m : (ℓ : Loc Cert.AdamMid.nD Cert.AdamMid.τ Cert.AdamMid.sig) → Buf (Elt Bits) ℓ) : Prop :=
  True

def Pre_AdamMidIdeal (m : (ℓ : Loc Cert.AdamMidIdeal.nD Cert.AdamMidIdeal.τ Cert.AdamMidIdeal.sig) → Buf (Elt Ideal) ℓ) : Prop :=
  True

def Pre_AdamMidRefIdeal (m : (ℓ : Loc Cert.AdamMidRefIdeal.nD Cert.AdamMidRefIdeal.τ Cert.AdamMidRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamMlp (m : (ℓ : Loc Cert.AdamMlp.nD Cert.AdamMlp.τ Cert.AdamMlp.sig) → Buf (Elt Bits) ℓ) : Prop :=
  True

def Pre_AdamMlpIdeal (m : (ℓ : Loc Cert.AdamMlpIdeal.nD Cert.AdamMlpIdeal.τ Cert.AdamMlpIdeal.sig) → Buf (Elt Ideal) ℓ) : Prop :=
  True

def Pre_AdamMlpRefIdeal (m : (ℓ : Loc Cert.AdamMlpRefIdeal.nD Cert.AdamMlpRefIdeal.τ Cert.AdamMlpRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_GdnPostFwd (m : (ℓ : Loc Cert.GdnPostFwd.nD Cert.GdnPostFwd.τ Cert.GdnPostFwd.sig) → Buf (Elt Bits) ℓ) : Prop :=
  True

def Pre_GdnPostFwdIdeal (m : (ℓ : Loc Cert.GdnPostFwdIdeal.nD Cert.GdnPostFwdIdeal.τ Cert.GdnPostFwdIdeal.sig) → Buf (Elt Ideal) ℓ) : Prop :=
  True

def Pre_GdnPostFwdRefIdeal (m : (ℓ : Loc Cert.GdnPostFwdRefIdeal.nD Cert.GdnPostFwdRefIdeal.τ Cert.GdnPostFwdRefIdeal.sig) → Buf (Elt Ideal) ℓ) : Prop :=
  True

def Pre_DabReduce (m : (ℓ : Loc Cert.DabReduce.nD Cert.DabReduce.τ Cert.DabReduce.sig) → Buf (Elt Bits) ℓ) : Prop :=
  True

def Pre_DabReduceIdeal (m : (ℓ : Loc Cert.DabReduceIdeal.nD Cert.DabReduceIdeal.τ Cert.DabReduceIdeal.sig) → Buf (Elt Ideal) ℓ) : Prop :=
  True

def Pre_DabReduceRefIdeal (m : (ℓ : Loc Cert.DabReduceRefIdeal.nD Cert.DabReduceRefIdeal.τ Cert.DabReduceRefIdeal.sig) → Buf (Elt Ideal) ℓ) : Prop :=
  True

def Pre_LruConvFwd (m : (ℓ : Loc Cert.LruConvFwd.nD Cert.LruConvFwd.τ Cert.LruConvFwd.sig) → Buf (Elt Bits) ℓ) : Prop :=
  True

def Pre_LruConvFwdIdeal (m : (ℓ : Loc Cert.LruConvFwdIdeal.nD Cert.LruConvFwdIdeal.τ Cert.LruConvFwdIdeal.sig) → Buf (Elt Ideal) ℓ) : Prop :=
  True

def Pre_LruConvFwdRefIdeal (m : (ℓ : Loc Cert.LruConvFwdRefIdeal.nD Cert.LruConvFwdRefIdeal.τ Cert.LruConvFwdRefIdeal.sig) → Buf (Elt Ideal) ℓ) : Prop :=
  True

def Pre_LruConvBwd (m : (ℓ : Loc Cert.LruConvBwd.nD Cert.LruConvBwd.τ Cert.LruConvBwd.sig) → Buf (Elt Bits) ℓ) : Prop :=
  True

def Pre_LruConvBwdIdeal (m : (ℓ : Loc Cert.LruConvBwdIdeal.nD Cert.LruConvBwdIdeal.τ Cert.LruConvBwdIdeal.sig) → Buf (Elt Ideal) ℓ) : Prop :=
  True

def Pre_LruConvBwdRefIdeal (m : (ℓ : Loc Cert.LruConvBwdRefIdeal.nD Cert.LruConvBwdRefIdeal.τ Cert.LruConvBwdRefIdeal.sig) → Buf (Elt Ideal) ℓ) : Prop :=
  True

def Pre_GdnConvBwd (m : (ℓ : Loc Cert.GdnConvBwd.nD Cert.GdnConvBwd.τ Cert.GdnConvBwd.sig) → Buf (Elt Bits) ℓ) : Prop :=
  True

def Pre_GdnConvBwdIdeal (m : (ℓ : Loc Cert.GdnConvBwdIdeal.nD Cert.GdnConvBwdIdeal.τ Cert.GdnConvBwdIdeal.sig) → Buf (Elt Ideal) ℓ) : Prop :=
  True

def Pre_GdnConvBwdRefIdeal (m : (ℓ : Loc Cert.GdnConvBwdRefIdeal.nD Cert.GdnConvBwdRefIdeal.τ Cert.GdnConvBwdRefIdeal.sig) → Buf (Elt Ideal) ℓ) : Prop :=
  True

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_DMlpAct [hDMlpAct : Cert.DMlpAct.Facts] : Prop :=
  ∀ (m : (ℓ : Loc Cert.DMlpAct.nD Cert.DMlpAct.τ Cert.DMlpAct.sig) → Buf (Elt Bits) ℓ) (g : Dev Cert.DMlpAct.nD → PrngReg), Pre_DMlpAct m →
    θ_run (Cert.DMlpAct.defs (F := Bits)) (onTc (τ := Cert.DMlpAct.τ) (Cert.DMlpAct.main (F := Bits))) ⟨m, fun _ => 0, g⟩ (fun r => (∀ c : Dev Cert.DMlpAct.nD,
      r.2.mem ((c.tc : Thread Cert.DMlpAct.nD Cert.DMlpAct.τ).loc Cert.DMlpAct.main_arg0) = m ((c.tc : Thread Cert.DMlpAct.nD Cert.DMlpAct.τ).loc Cert.DMlpAct.main_arg0)
      ∧ r.2.mem ((c.tc : Thread Cert.DMlpAct.nD Cert.DMlpAct.τ).loc Cert.DMlpAct.main_arg1) = m ((c.tc : Thread Cert.DMlpAct.nD Cert.DMlpAct.τ).loc Cert.DMlpAct.main_arg1)
      ∧ r.2.mem ((c.tc : Thread Cert.DMlpAct.nD Cert.DMlpAct.τ).loc Cert.DMlpAct.main_arg2) = m ((c.tc : Thread Cert.DMlpAct.nD Cert.DMlpAct.τ).loc Cert.DMlpAct.main_arg2))
      ∧ r.2.sem = fun _ => 0)

def quiescent_DMlpActIdeal [hDMlpActIdeal : Cert.DMlpActIdeal.Facts] : Prop :=
  ∀ (m : (ℓ : Loc Cert.DMlpActIdeal.nD Cert.DMlpActIdeal.τ Cert.DMlpActIdeal.sig) → Buf (Elt Ideal) ℓ) (g : Dev Cert.DMlpActIdeal.nD → PrngReg), Pre_DMlpActIdeal m →
    θ_run (Cert.DMlpActIdeal.defs (F := Ideal)) (onTc (τ := Cert.DMlpActIdeal.τ) (Cert.DMlpActIdeal.main (F := Ideal))) ⟨m, fun _ => 0, g⟩ (fun r => (∀ c : Dev Cert.DMlpActIdeal.nD,
      r.2.mem ((c.tc : Thread Cert.DMlpActIdeal.nD Cert.DMlpActIdeal.τ).loc Cert.DMlpActIdeal.main_arg0) = m ((c.tc : Thread Cert.DMlpActIdeal.nD Cert.DMlpActIdeal.τ).loc Cert.DMlpActIdeal.main_arg0)
      ∧ r.2.mem ((c.tc : Thread Cert.DMlpActIdeal.nD Cert.DMlpActIdeal.τ).loc Cert.DMlpActIdeal.main_arg1) = m ((c.tc : Thread Cert.DMlpActIdeal.nD Cert.DMlpActIdeal.τ).loc Cert.DMlpActIdeal.main_arg1)
      ∧ r.2.mem ((c.tc : Thread Cert.DMlpActIdeal.nD Cert.DMlpActIdeal.τ).loc Cert.DMlpActIdeal.main_arg2) = m ((c.tc : Thread Cert.DMlpActIdeal.nD Cert.DMlpActIdeal.τ).loc Cert.DMlpActIdeal.main_arg2))
      ∧ r.2.sem = fun _ => 0)

def quiescent_DMlpActRefIdeal [hDMlpActRefIdeal : Cert.DMlpActRefIdeal.Facts] : Prop :=
  ∀ (m : (ℓ : Loc Cert.DMlpActRefIdeal.nD Cert.DMlpActRefIdeal.τ Cert.DMlpActRefIdeal.sig) → Buf (Elt Ideal) ℓ) (g : Dev Cert.DMlpActRefIdeal.nD → PrngReg), Pre_DMlpActRefIdeal m →
    θ_run (Cert.DMlpActRefIdeal.defs (F := Ideal)) (onTc (τ := Cert.DMlpActRefIdeal.τ) (Cert.DMlpActRefIdeal.main (F := Ideal))) ⟨m, fun _ => 0, g⟩ (fun r => (∀ c : Dev Cert.DMlpActRefIdeal.nD,
      r.2.mem ((c.tc : Thread Cert.DMlpActRefIdeal.nD Cert.DMlpActRefIdeal.τ).loc Cert.DMlpActRefIdeal.main_arg0) = m ((c.tc : Thread Cert.DMlpActRefIdeal.nD Cert.DMlpActRefIdeal.τ).loc Cert.DMlpActRefIdeal.main_arg0)
      ∧ r.2.mem ((c.tc : Thread Cert.DMlpActRefIdeal.nD Cert.DMlpActRefIdeal.τ).loc Cert.DMlpActRefIdeal.main_arg1) = m ((c.tc : Thread Cert.DMlpActRefIdeal.nD Cert.DMlpActRefIdeal.τ).loc Cert.DMlpActRefIdeal.main_arg1)
      ∧ r.2.mem ((c.tc : Thread Cert.DMlpActRefIdeal.nD Cert.DMlpActRefIdeal.τ).loc Cert.DMlpActRefIdeal.main_arg2) = m ((c.tc : Thread Cert.DMlpActRefIdeal.nD Cert.DMlpActRefIdeal.τ).loc Cert.DMlpActRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ r.2.sem = fun _ => 0)

def quiescent_DH2RefIdeal [hDH2RefIdeal : Cert.DH2RefIdeal.Facts] : Prop :=
  ∀ (m : (ℓ : Loc Cert.DH2RefIdeal.nD Cert.DH2RefIdeal.τ Cert.DH2RefIdeal.sig) → Buf (Elt Ideal) ℓ) (g : Dev Cert.DH2RefIdeal.nD → PrngReg), Pre_DH2RefIdeal m →
    θ_run (Cert.DH2RefIdeal.defs (F := Ideal)) (onTc (τ := Cert.DH2RefIdeal.τ) (Cert.DH2RefIdeal.main (F := Ideal))) ⟨m, fun _ => 0, g⟩ (fun r => (∀ c : Dev Cert.DH2RefIdeal.nD,
      r.2.mem ((c.tc : Thread Cert.DH2RefIdeal.nD Cert.DH2RefIdeal.τ).loc Cert.DH2RefIdeal.main_arg0) = m ((c.tc : Thread Cert.DH2RefIdeal.nD Cert.DH2RefIdeal.τ).loc Cert.DH2RefIdeal.main_arg0)
      ∧ r.2.mem ((c.tc : Thread Cert.DH2RefIdeal.nD Cert.DH2RefIdeal.τ).loc Cert.DH2RefIdeal.main_arg1) = m ((c.tc : Thread Cert.DH2RefIdeal.nD Cert.DH2RefIdeal.τ).loc Cert.DH2RefIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_DBranch [hDBranch : Cert.DBranch.Facts] : Prop :=
  ∀ (m : (ℓ : Loc Cert.DBranch.nD Cert.DBranch.τ Cert.DBranch.sig) → Buf (Elt Bits) ℓ) (g : Dev Cert.DBranch.nD → PrngReg), Pre_DBranch m →
    θ_run (Cert.DBranch.defs (F := Bits)) (onTc (τ := Cert.DBranch.τ) (Cert.DBranch.main (F := Bits))) ⟨m, fun _ => 0, g⟩ (fun r => (∀ c : Dev Cert.DBranch.nD,
      r.2.mem ((c.tc : Thread Cert.DBranch.nD Cert.DBranch.τ).loc Cert.DBranch.main_arg0) = m ((c.tc : Thread Cert.DBranch.nD Cert.DBranch.τ).loc Cert.DBranch.main_arg0)
      ∧ r.2.mem ((c.tc : Thread Cert.DBranch.nD Cert.DBranch.τ).loc Cert.DBranch.main_arg1) = m ((c.tc : Thread Cert.DBranch.nD Cert.DBranch.τ).loc Cert.DBranch.main_arg1))
      ∧ r.2.sem = fun _ => 0)

def quiescent_DBranchIdeal [hDBranchIdeal : Cert.DBranchIdeal.Facts] : Prop :=
  ∀ (m : (ℓ : Loc Cert.DBranchIdeal.nD Cert.DBranchIdeal.τ Cert.DBranchIdeal.sig) → Buf (Elt Ideal) ℓ) (g : Dev Cert.DBranchIdeal.nD → PrngReg), Pre_DBranchIdeal m →
    θ_run (Cert.DBranchIdeal.defs (F := Ideal)) (onTc (τ := Cert.DBranchIdeal.τ) (Cert.DBranchIdeal.main (F := Ideal))) ⟨m, fun _ => 0, g⟩ (fun r => (∀ c : Dev Cert.DBranchIdeal.nD,
      r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
      ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1))
      ∧ r.2.sem = fun _ => 0)

def quiescent_DBranchRefIdeal [hDBranchRefIdeal : Cert.DBranchRefIdeal.Facts] : Prop :=
  ∀ (m : (ℓ : Loc Cert.DBranchRefIdeal.nD Cert.DBranchRefIdeal.τ Cert.DBranchRefIdeal.sig) → Buf (Elt Ideal) ℓ) (g : Dev Cert.DBranchRefIdeal.nD → PrngReg), Pre_DBranchRefIdeal m →
    θ_run (Cert.DBranchRefIdeal.defs (F := Ideal)) (onTc (τ := Cert.DBranchRefIdeal.τ) (Cert.DBranchRefIdeal.main (F := Ideal))) ⟨m, fun _ => 0, g⟩ (fun r => (∀ c : Dev Cert.DBranchRefIdeal.nD,
      r.2.mem ((c.tc : Thread Cert.DBranchRefIdeal.nD Cert.DBranchRefIdeal.τ).loc Cert.DBranchRefIdeal.main_arg0) = m ((c.tc : Thread Cert.DBranchRefIdeal.nD Cert.DBranchRefIdeal.τ).loc Cert.DBranchRefIdeal.main_arg0)
      ∧ r.2.mem ((c.tc : Thread Cert.DBranchRefIdeal.nD Cert.DBranchRefIdeal.τ).loc Cert.DBranchRefIdeal.main_arg1) = m ((c.tc : Thread Cert.DBranchRefIdeal.nD Cert.DBranchRefIdeal.τ).loc Cert.DBranchRefIdeal.main_arg1))
      ∧ r.2.sem = fun _ => 0)

def quiescent_DwBranch [hDwBranch : Cert.DwBranch.Facts] : Prop :=
  ∀ (m : (ℓ : Loc Cert.DwBranch.nD Cert.DwBranch.τ Cert.DwBranch.sig) → Buf (Elt Bits) ℓ) (g : Dev Cert.DwBranch.nD → PrngReg), Pre_DwBranch m →
    θ_run (Cert.DwBranch.defs (F := Bits)) (onTc (τ := Cert.DwBranch.τ) (Cert.DwBranch.main (F := Bits))) ⟨m, fun _ => 0, g⟩ (fun r => (∀ c : Dev Cert.DwBranch.nD,
      r.2.mem ((c.tc : Thread Cert.DwBranch.nD Cert.DwBranch.τ).loc Cert.DwBranch.main_arg0) = m ((c.tc : Thread Cert.DwBranch.nD Cert.DwBranch.τ).loc Cert.DwBranch.main_arg0)
      ∧ r.2.mem ((c.tc : Thread Cert.DwBranch.nD Cert.DwBranch.τ).loc Cert.DwBranch.main_arg1) = m ((c.tc : Thread Cert.DwBranch.nD Cert.DwBranch.τ).loc Cert.DwBranch.main_arg1))
      ∧ r.2.sem = fun _ => 0)

def quiescent_DwBranchIdeal [hDwBranchIdeal : Cert.DwBranchIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg), Pre_DwBranchIdeal m →
    θ_run (Cert.DwBranchIdeal.defs (F := Ideal)) (onTc (τ := Cert.DwBranchIdeal.τ) (Cert.DwBranchIdeal.main (F := Ideal))) ⟨m, fun _ => 0, g⟩ (fun r => (∀ c : Dev Cert.DwBranchIdeal.nD,
      r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
      ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ r.2.sem = fun _ => 0)

def quiescent_DwBranchRefIdeal [hDwBranchRefIdeal : Cert.DwBranchRefIdeal.Facts] : Prop :=
  ∀ (m : (ℓ : Loc Cert.DwBranchRefIdeal.nD Cert.DwBranchRefIdeal.τ Cert.DwBranchRefIdeal.sig) → Buf (Elt Ideal) ℓ) (g : Dev Cert.DwBranchRefIdeal.nD → PrngReg), Pre_DwBranchRefIdeal m →
    θ_run (Cert.DwBranchRefIdeal.defs (F := Ideal)) (onTc (τ := Cert.DwBranchRefIdeal.τ) (Cert.DwBranchRefIdeal.main (F := Ideal))) ⟨m, fun _ => 0, g⟩ (fun r => (∀ c : Dev Cert.DwBranchRefIdeal.nD,
      r.2.mem ((c.tc : Thread Cert.DwBranchRefIdeal.nD Cert.DwBranchRefIdeal.τ).loc Cert.DwBranchRefIdeal.main_arg0) = m ((c.tc : Thread Cert.DwBranchRefIdeal.nD Cert.DwBranchRefIdeal.τ).loc Cert.DwBranchRefIdeal.main_arg0)
      ∧ r.2.mem ((c.tc : Thread Cert.DwBranchRefIdeal.nD Cert.DwBranchRefIdeal.τ).loc Cert.DwBranchRefIdeal.main_arg1) = m ((c.tc : Thread Cert.DwBranchRefIdeal.nD Cert.DwBranchRefIdeal.τ).loc Cert.DwBranchRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SumMid [hSumMid : Cert.SumMid.Facts] : Prop :=
  ∀ (m : (ℓ : Loc Cert.SumMid.nD Cert.SumMid.τ Cert.SumMid.sig) → Buf (Elt Bits) ℓ) (g : Dev Cert.SumMid.nD → PrngReg), Pre_SumMid m →
    θ_run (Cert.SumMid.defs (F := Bits)) (onTc (τ := Cert.SumMid.τ) (Cert.SumMid.main (F := Bits))) ⟨m, fun _ => 0, g⟩ (fun r => (∀ c : Dev Cert.SumMid.nD,
      r.2.mem ((c.tc : Thread Cert.SumMid.nD Cert.SumMid.τ).loc Cert.SumMid.main_arg0) = m ((c.tc : Thread Cert.SumMid.nD Cert.SumMid.τ).loc Cert.SumMid.main_arg0))
      ∧ r.2.sem = fun _ => 0)

def quiescent_SumMidIdeal [hSumMidIdeal : Cert.SumMidIdeal.Facts] : Prop :=
  ∀ (m : (ℓ : Loc Cert.SumMidIdeal.nD Cert.SumMidIdeal.τ Cert.SumMidIdeal.sig) → Buf (Elt Ideal) ℓ) (g : Dev Cert.SumMidIdeal.nD → PrngReg), Pre_SumMidIdeal m →
    θ_run (Cert.SumMidIdeal.defs (F := Ideal)) (onTc (τ := Cert.SumMidIdeal.τ) (Cert.SumMidIdeal.main (F := Ideal))) ⟨m, fun _ => 0, g⟩ (fun r => (∀ c : Dev Cert.SumMidIdeal.nD,
      r.2.mem ((c.tc : Thread Cert.SumMidIdeal.nD Cert.SumMidIdeal.τ).loc Cert.SumMidIdeal.main_arg0) = m ((c.tc : Thread Cert.SumMidIdeal.nD Cert.SumMidIdeal.τ).loc Cert.SumMidIdeal.main_arg0))
      ∧ r.2.sem = fun _ => 0)

def quiescent_SumMidRefIdeal [hSumMidRefIdeal : Cert.SumMidRefIdeal.Facts] : Prop :=
  ∀ (m : (ℓ : Loc Cert.SumMidRefIdeal.nD Cert.SumMidRefIdeal.τ Cert.SumMidRefIdeal.sig) → Buf (Elt Ideal) ℓ) (g : Dev Cert.SumMidRefIdeal.nD → PrngReg), Pre_SumMidRefIdeal m →
    θ_run (Cert.SumMidRefIdeal.defs (F := Ideal)) (onTc (τ := Cert.SumMidRefIdeal.τ) (Cert.SumMidRefIdeal.main (F := Ideal))) ⟨m, fun _ => 0, g⟩ (fun r => (∀ c : Dev Cert.SumMidRefIdeal.nD,
      r.2.mem ((c.tc : Thread Cert.SumMidRefIdeal.nD Cert.SumMidRefIdeal.τ).loc Cert.SumMidRefIdeal.main_arg0) = m ((c.tc : Thread Cert.SumMidRefIdeal.nD Cert.SumMidRefIdeal.τ).loc Cert.SumMidRefIdeal.main_arg0))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamMid [hAdamMid : Cert.AdamMid.Facts] : Prop :=
  ∀ (m : (ℓ : Loc Cert.AdamMid.nD Cert.AdamMid.τ Cert.AdamMid.sig) → Buf (Elt Bits) ℓ) (g : Dev Cert.AdamMid.nD → PrngReg), Pre_AdamMid m →
    θ_run (Cert.AdamMid.defs (F := Bits)) (onTc (τ := Cert.AdamMid.τ) (Cert.AdamMid.main (F := Bits))) ⟨m, fun _ => 0, g⟩ (fun r => (∀ c : Dev Cert.AdamMid.nD,
      r.2.mem ((c.tc : Thread Cert.AdamMid.nD Cert.AdamMid.τ).loc Cert.AdamMid.main_arg0) = m ((c.tc : Thread Cert.AdamMid.nD Cert.AdamMid.τ).loc Cert.AdamMid.main_arg0)
      ∧ r.2.mem ((c.tc : Thread Cert.AdamMid.nD Cert.AdamMid.τ).loc Cert.AdamMid.main_arg1) = m ((c.tc : Thread Cert.AdamMid.nD Cert.AdamMid.τ).loc Cert.AdamMid.main_arg1)
      ∧ r.2.mem ((c.tc : Thread Cert.AdamMid.nD Cert.AdamMid.τ).loc Cert.AdamMid.main_arg2) = m ((c.tc : Thread Cert.AdamMid.nD Cert.AdamMid.τ).loc Cert.AdamMid.main_arg2)
      ∧ r.2.mem ((c.tc : Thread Cert.AdamMid.nD Cert.AdamMid.τ).loc Cert.AdamMid.main_arg3) = m ((c.tc : Thread Cert.AdamMid.nD Cert.AdamMid.τ).loc Cert.AdamMid.main_arg3))
      ∧ r.2.sem = fun _ => 0)

def quiescent_AdamMidIdeal [hAdamMidIdeal : Cert.AdamMidIdeal.Facts] : Prop :=
  ∀ (m : (ℓ : Loc Cert.AdamMidIdeal.nD Cert.AdamMidIdeal.τ Cert.AdamMidIdeal.sig) → Buf (Elt Ideal) ℓ) (g : Dev Cert.AdamMidIdeal.nD → PrngReg), Pre_AdamMidIdeal m →
    θ_run (Cert.AdamMidIdeal.defs (F := Ideal)) (onTc (τ := Cert.AdamMidIdeal.τ) (Cert.AdamMidIdeal.main (F := Ideal))) ⟨m, fun _ => 0, g⟩ (fun r => (∀ c : Dev Cert.AdamMidIdeal.nD,
      r.2.mem ((c.tc : Thread Cert.AdamMidIdeal.nD Cert.AdamMidIdeal.τ).loc Cert.AdamMidIdeal.main_arg0) = m ((c.tc : Thread Cert.AdamMidIdeal.nD Cert.AdamMidIdeal.τ).loc Cert.AdamMidIdeal.main_arg0)
      ∧ r.2.mem ((c.tc : Thread Cert.AdamMidIdeal.nD Cert.AdamMidIdeal.τ).loc Cert.AdamMidIdeal.main_arg1) = m ((c.tc : Thread Cert.AdamMidIdeal.nD Cert.AdamMidIdeal.τ).loc Cert.AdamMidIdeal.main_arg1)
      ∧ r.2.mem ((c.tc : Thread Cert.AdamMidIdeal.nD Cert.AdamMidIdeal.τ).loc Cert.AdamMidIdeal.main_arg2) = m ((c.tc : Thread Cert.AdamMidIdeal.nD Cert.AdamMidIdeal.τ).loc Cert.AdamMidIdeal.main_arg2)
      ∧ r.2.mem ((c.tc : Thread Cert.AdamMidIdeal.nD Cert.AdamMidIdeal.τ).loc Cert.AdamMidIdeal.main_arg3) = m ((c.tc : Thread Cert.AdamMidIdeal.nD Cert.AdamMidIdeal.τ).loc Cert.AdamMidIdeal.main_arg3))
      ∧ r.2.sem = fun _ => 0)

def quiescent_AdamMidRefIdeal [hAdamMidRefIdeal : Cert.AdamMidRefIdeal.Facts] : Prop :=
  ∀ (m : (ℓ : Loc Cert.AdamMidRefIdeal.nD Cert.AdamMidRefIdeal.τ Cert.AdamMidRefIdeal.sig) → Buf (Elt Ideal) ℓ) (g : Dev Cert.AdamMidRefIdeal.nD → PrngReg), Pre_AdamMidRefIdeal m →
    θ_run (Cert.AdamMidRefIdeal.defs (F := Ideal)) (onTc (τ := Cert.AdamMidRefIdeal.τ) (Cert.AdamMidRefIdeal.main (F := Ideal))) ⟨m, fun _ => 0, g⟩ (fun r => (∀ c : Dev Cert.AdamMidRefIdeal.nD,
      r.2.mem ((c.tc : Thread Cert.AdamMidRefIdeal.nD Cert.AdamMidRefIdeal.τ).loc Cert.AdamMidRefIdeal.main_arg0) = m ((c.tc : Thread Cert.AdamMidRefIdeal.nD Cert.AdamMidRefIdeal.τ).loc Cert.AdamMidRefIdeal.main_arg0)
      ∧ r.2.mem ((c.tc : Thread Cert.AdamMidRefIdeal.nD Cert.AdamMidRefIdeal.τ).loc Cert.AdamMidRefIdeal.main_arg1) = m ((c.tc : Thread Cert.AdamMidRefIdeal.nD Cert.AdamMidRefIdeal.τ).loc Cert.AdamMidRefIdeal.main_arg1)
      ∧ r.2.mem ((c.tc : Thread Cert.AdamMidRefIdeal.nD Cert.AdamMidRefIdeal.τ).loc Cert.AdamMidRefIdeal.main_arg2) = m ((c.tc : Thread Cert.AdamMidRefIdeal.nD Cert.AdamMidRefIdeal.τ).loc Cert.AdamMidRefIdeal.main_arg2)
      ∧ r.2.mem ((c.tc : Thread Cert.AdamMidRefIdeal.nD Cert.AdamMidRefIdeal.τ).loc Cert.AdamMidRefIdeal.main_arg3) = m ((c.tc : Thread Cert.AdamMidRefIdeal.nD Cert.AdamMidRefIdeal.τ).loc Cert.AdamMidRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6)
      ∧ r.2.mem ((c.tc : Thread Cert.AdamIn.nD Cert.AdamIn.τ).loc Cert.AdamIn.main_arg7) = m ((c.tc : Thread Cert.AdamIn.nD Cert.AdamIn.τ).loc Cert.AdamIn.main_arg7)
      ∧ r.2.mem ((c.tc : Thread Cert.AdamIn.nD Cert.AdamIn.τ).loc Cert.AdamIn.main_arg8) = m ((c.tc : Thread Cert.AdamIn.nD Cert.AdamIn.τ).loc Cert.AdamIn.main_arg8))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
      ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7)
      ∧ r.2.mem ((c.tc : Thread Cert.AdamInIdeal.nD Cert.AdamInIdeal.τ).loc Cert.AdamInIdeal.main_arg8) = m ((c.tc : Thread Cert.AdamInIdeal.nD Cert.AdamInIdeal.τ).loc Cert.AdamInIdeal.main_arg8))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5)
      ∧ r.2.mem ((c.tc : Thread Cert.AdamInRefIdeal.nD Cert.AdamInRefIdeal.τ).loc Cert.AdamInRefIdeal.main_arg6) = m ((c.tc : Thread Cert.AdamInRefIdeal.nD Cert.AdamInRefIdeal.τ).loc Cert.AdamInRefIdeal.main_arg6)
      ∧ r.2.mem ((c.tc : Thread Cert.AdamInRefIdeal.nD Cert.AdamInRefIdeal.τ).loc Cert.AdamInRefIdeal.main_arg7) = m ((c.tc : Thread Cert.AdamInRefIdeal.nD Cert.AdamInRefIdeal.τ).loc Cert.AdamInRefIdeal.main_arg7)
      ∧ r.2.mem ((c.tc : Thread Cert.AdamInRefIdeal.nD Cert.AdamInRefIdeal.τ).loc Cert.AdamInRefIdeal.main_arg8) = m ((c.tc : Thread Cert.AdamInRefIdeal.nD Cert.AdamInRefIdeal.τ).loc Cert.AdamInRefIdeal.main_arg8))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3)
      ∧ r.2.mem ((c.tc : Thread Cert.AdamBranch.nD Cert.AdamBranch.τ).loc Cert.AdamBranch.main_arg4) = m ((c.tc : Thread Cert.AdamBranch.nD Cert.AdamBranch.τ).loc Cert.AdamBranch.main_arg4)
      ∧ r.2.mem ((c.tc : Thread Cert.AdamBranch.nD Cert.AdamBranch.τ).loc Cert.AdamBranch.main_arg5) = m ((c.tc : Thread Cert.AdamBranch.nD Cert.AdamBranch.τ).loc Cert.AdamBranch.main_arg5)
      ∧ r.2.mem ((c.tc : Thread Cert.AdamBranch.nD Cert.AdamBranch.τ).loc Cert.AdamBranch.main_arg6) = m ((c.tc : Thread Cert.AdamBranch.nD Cert.AdamBranch.τ).loc Cert.AdamBranch.main_arg6)
      ∧ r.2.mem ((c.tc : Thread Cert.AdamBranch.nD Cert.AdamBranch.τ).loc Cert.AdamBranch.main_arg7) = m ((c.tc : Thread Cert.AdamBranch.nD Cert.AdamBranch.τ).loc Cert.AdamBranch.main_arg7)
      ∧ r.2.mem ((c.tc : Thread Cert.AdamBranch.nD Cert.AdamBranch.τ).loc Cert.AdamBranch.main_arg8) = m ((c.tc : Thread Cert.AdamBranch.nD Cert.AdamBranch.τ).loc Cert.AdamBranch.main_arg8))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3)
      ∧ r.2.mem ((c.tc : Thread Cert.AdamBranchIdeal.nD Cert.AdamBranchIdeal.τ).loc Cert.AdamBranchIdeal.main_arg4) = m ((c.tc : Thread Cert.AdamBranchIdeal.nD Cert.AdamBranchIdeal.τ).loc Cert.AdamBranchIdeal.main_arg4)
      ∧ r.2.mem ((c.tc : Thread Cert.AdamBranchIdeal.nD Cert.AdamBranchIdeal.τ).loc Cert.AdamBranchIdeal.main_arg5) = m ((c.tc : Thread Cert.AdamBranchIdeal.nD Cert.AdamBranchIdeal.τ).loc Cert.AdamBranchIdeal.main_arg5)
      ∧ r.2.mem ((c.tc : Thread Cert.AdamBranchIdeal.nD Cert.AdamBranchIdeal.τ).loc Cert.AdamBranchIdeal.main_arg6) = m ((c.tc : Thread Cert.AdamBranchIdeal.nD Cert.AdamBranchIdeal.τ).loc Cert.AdamBranchIdeal.main_arg6)
      ∧ r.2.mem ((c.tc : Thread Cert.AdamBranchIdeal.nD Cert.AdamBranchIdeal.τ).loc Cert.AdamBranchIdeal.main_arg7) = m ((c.tc : Thread Cert.AdamBranchIdeal.nD Cert.AdamBranchIdeal.τ).loc Cert.AdamBranchIdeal.main_arg7)
      ∧ r.2.mem ((c.tc : Thread Cert.AdamBranchIdeal.nD Cert.AdamBranchIdeal.τ).loc Cert.AdamBranchIdeal.main_arg8) = m ((c.tc : Thread Cert.AdamBranchIdeal.nD Cert.AdamBranchIdeal.τ).loc Cert.AdamBranchIdeal.main_arg8))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3)
      ∧ r.2.mem ((c.tc : Thread Cert.AdamBranchRefIdeal.nD Cert.AdamBranchRefIdeal.τ).loc Cert.AdamBranchRefIdeal.main_arg4) = m ((c.tc : Thread Cert.AdamBranchRefIdeal.nD Cert.AdamBranchRefIdeal.τ).loc Cert.AdamBranchRefIdeal.main_arg4)
      ∧ r.2.mem ((c.tc : Thread Cert.AdamBranchRefIdeal.nD Cert.AdamBranchRefIdeal.τ).loc Cert.AdamBranchRefIdeal.main_arg5) = m ((c.tc : Thread Cert.AdamBranchRefIdeal.nD Cert.AdamBranchRefIdeal.τ).loc Cert.AdamBranchRefIdeal.main_arg5)
      ∧ r.2.mem ((c.tc : Thread Cert.AdamBranchRefIdeal.nD Cert.AdamBranchRefIdeal.τ).loc Cert.AdamBranchRefIdeal.main_arg6) = m ((c.tc : Thread Cert.AdamBranchRefIdeal.nD Cert.AdamBranchRefIdeal.τ).loc Cert.AdamBranchRefIdeal.main_arg6)
      ∧ r.2.mem ((c.tc : Thread Cert.AdamBranchRefIdeal.nD Cert.AdamBranchRefIdeal.τ).loc Cert.AdamBranchRefIdeal.main_arg7) = m ((c.tc : Thread Cert.AdamBranchRefIdeal.nD Cert.AdamBranchRefIdeal.τ).loc Cert.AdamBranchRefIdeal.main_arg7)
      ∧ r.2.mem ((c.tc : Thread Cert.AdamBranchRefIdeal.nD Cert.AdamBranchRefIdeal.τ).loc Cert.AdamBranchRefIdeal.main_arg8) = m ((c.tc : Thread Cert.AdamBranchRefIdeal.nD Cert.AdamBranchRefIdeal.τ).loc Cert.AdamBranchRefIdeal.main_arg8))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6)
      ∧ r.2.mem ((c.tc : Thread Cert.AdamOut.nD Cert.AdamOut.τ).loc Cert.AdamOut.main_arg7) = m ((c.tc : Thread Cert.AdamOut.nD Cert.AdamOut.τ).loc Cert.AdamOut.main_arg7)
      ∧ r.2.mem ((c.tc : Thread Cert.AdamOut.nD Cert.AdamOut.τ).loc Cert.AdamOut.main_arg8) = m ((c.tc : Thread Cert.AdamOut.nD Cert.AdamOut.τ).loc Cert.AdamOut.main_arg8))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
      ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7)
      ∧ r.2.mem ((c.tc : Thread Cert.AdamOutIdeal.nD Cert.AdamOutIdeal.τ).loc Cert.AdamOutIdeal.main_arg8) = m ((c.tc : Thread Cert.AdamOutIdeal.nD Cert.AdamOutIdeal.τ).loc Cert.AdamOutIdeal.main_arg8))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5)
      ∧ r.2.mem ((c.tc : Thread Cert.AdamOutRefIdeal.nD Cert.AdamOutRefIdeal.τ).loc Cert.AdamOutRefIdeal.main_arg6) = m ((c.tc : Thread Cert.AdamOutRefIdeal.nD Cert.AdamOutRefIdeal.τ).loc Cert.AdamOutRefIdeal.main_arg6)
      ∧ r.2.mem ((c.tc : Thread Cert.AdamOutRefIdeal.nD Cert.AdamOutRefIdeal.τ).loc Cert.AdamOutRefIdeal.main_arg7) = m ((c.tc : Thread Cert.AdamOutRefIdeal.nD Cert.AdamOutRefIdeal.τ).loc Cert.AdamOutRefIdeal.main_arg7)
      ∧ r.2.mem ((c.tc : Thread Cert.AdamOutRefIdeal.nD Cert.AdamOutRefIdeal.τ).loc Cert.AdamOutRefIdeal.main_arg8) = m ((c.tc : Thread Cert.AdamOutRefIdeal.nD Cert.AdamOutRefIdeal.τ).loc Cert.AdamOutRefIdeal.main_arg8))
      ∧ r.2.sem = fun _ => 0)

def quiescent_AdamMlp [hAdamMlp : Cert.AdamMlp.Facts] : Prop :=
  ∀ (m : (ℓ : Loc Cert.AdamMlp.nD Cert.AdamMlp.τ Cert.AdamMlp.sig) → Buf (Elt Bits) ℓ) (g : Dev Cert.AdamMlp.nD → PrngReg), Pre_AdamMlp m →
    θ_run (Cert.AdamMlp.defs (F := Bits)) (onTc (τ := Cert.AdamMlp.τ) (Cert.AdamMlp.main (F := Bits))) ⟨m, fun _ => 0, g⟩ (fun r => (∀ c : Dev Cert.AdamMlp.nD,
      r.2.mem ((c.tc : Thread Cert.AdamMlp.nD Cert.AdamMlp.τ).loc Cert.AdamMlp.main_arg0) = m ((c.tc : Thread Cert.AdamMlp.nD Cert.AdamMlp.τ).loc Cert.AdamMlp.main_arg0)
      ∧ r.2.mem ((c.tc : Thread Cert.AdamMlp.nD Cert.AdamMlp.τ).loc Cert.AdamMlp.main_arg1) = m ((c.tc : Thread Cert.AdamMlp.nD Cert.AdamMlp.τ).loc Cert.AdamMlp.main_arg1)
      ∧ r.2.mem ((c.tc : Thread Cert.AdamMlp.nD Cert.AdamMlp.τ).loc Cert.AdamMlp.main_arg2) = m ((c.tc : Thread Cert.AdamMlp.nD Cert.AdamMlp.τ).loc Cert.AdamMlp.main_arg2)
      ∧ r.2.mem ((c.tc : Thread Cert.AdamMlp.nD Cert.AdamMlp.τ).loc Cert.AdamMlp.main_arg3) = m ((c.tc : Thread Cert.AdamMlp.nD Cert.AdamMlp.τ).loc Cert.AdamMlp.main_arg3)
      ∧ r.2.mem ((c.tc : Thread Cert.AdamMlp.nD Cert.AdamMlp.τ).loc Cert.AdamMlp.main_arg4) = m ((c.tc : Thread Cert.AdamMlp.nD Cert.AdamMlp.τ).loc Cert.AdamMlp.main_arg4)
      ∧ r.2.mem ((c.tc : Thread Cert.AdamMlp.nD Cert.AdamMlp.τ).loc Cert.AdamMlp.main_arg5) = m ((c.tc : Thread Cert.AdamMlp.nD Cert.AdamMlp.τ).loc Cert.AdamMlp.main_arg5)
      ∧ r.2.mem ((c.tc : Thread Cert.AdamMlp.nD Cert.AdamMlp.τ).loc Cert.AdamMlp.main_arg6) = m ((c.tc : Thread Cert.AdamMlp.nD Cert.AdamMlp.τ).loc Cert.AdamMlp.main_arg6)
      ∧ r.2.mem ((c.tc : Thread Cert.AdamMlp.nD Cert.AdamMlp.τ).loc Cert.AdamMlp.main_arg7) = m ((c.tc : Thread Cert.AdamMlp.nD Cert.AdamMlp.τ).loc Cert.AdamMlp.main_arg7)
      ∧ r.2.mem ((c.tc : Thread Cert.AdamMlp.nD Cert.AdamMlp.τ).loc Cert.AdamMlp.main_arg8) = m ((c.tc : Thread Cert.AdamMlp.nD Cert.AdamMlp.τ).loc Cert.AdamMlp.main_arg8))
      ∧ r.2.sem = fun _ => 0)

def quiescent_AdamMlpIdeal [hAdamMlpIdeal : Cert.AdamMlpIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg), Pre_AdamMlpIdeal m →
    θ_run (Cert.AdamMlpIdeal.defs (F := Ideal)) (onTc (τ := Cert.AdamMlpIdeal.τ) (Cert.AdamMlpIdeal.main (F := Ideal))) ⟨m, fun _ => 0, g⟩ (fun r => (∀ c : Dev Cert.AdamMlpIdeal.nD,
      r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
      ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
      ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
      ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3)
      ∧ r.2.mem ((c.tc : Thread Cert.AdamMlpIdeal.nD Cert.AdamMlpIdeal.τ).loc Cert.AdamMlpIdeal.main_arg4) = m ((c.tc : Thread Cert.AdamMlpIdeal.nD Cert.AdamMlpIdeal.τ).loc Cert.AdamMlpIdeal.main_arg4)
      ∧ r.2.mem ((c.tc : Thread Cert.AdamMlpIdeal.nD Cert.AdamMlpIdeal.τ).loc Cert.AdamMlpIdeal.main_arg5) = m ((c.tc : Thread Cert.AdamMlpIdeal.nD Cert.AdamMlpIdeal.τ).loc Cert.AdamMlpIdeal.main_arg5)
      ∧ r.2.mem ((c.tc : Thread Cert.AdamMlpIdeal.nD Cert.AdamMlpIdeal.τ).loc Cert.AdamMlpIdeal.main_arg6) = m ((c.tc : Thread Cert.AdamMlpIdeal.nD Cert.AdamMlpIdeal.τ).loc Cert.AdamMlpIdeal.main_arg6)
      ∧ r.2.mem ((c.tc : Thread Cert.AdamMlpIdeal.nD Cert.AdamMlpIdeal.τ).loc Cert.AdamMlpIdeal.main_arg7) = m ((c.tc : Thread Cert.AdamMlpIdeal.nD Cert.AdamMlpIdeal.τ).loc Cert.AdamMlpIdeal.main_arg7)
      ∧ r.2.mem ((c.tc : Thread Cert.AdamMlpIdeal.nD Cert.AdamMlpIdeal.τ).loc Cert.AdamMlpIdeal.main_arg8) = m ((c.tc : Thread Cert.AdamMlpIdeal.nD Cert.AdamMlpIdeal.τ).loc Cert.AdamMlpIdeal.main_arg8))
      ∧ r.2.sem = fun _ => 0)

def quiescent_AdamMlpRefIdeal [hAdamMlpRefIdeal : Cert.AdamMlpRefIdeal.Facts] : Prop :=
  ∀ (m : (ℓ : Loc Cert.AdamMlpRefIdeal.nD Cert.AdamMlpRefIdeal.τ Cert.AdamMlpRefIdeal.sig) → Buf (Elt Ideal) ℓ) (g : Dev Cert.AdamMlpRefIdeal.nD → PrngReg), Pre_AdamMlpRefIdeal m →
    θ_run (Cert.AdamMlpRefIdeal.defs (F := Ideal)) (onTc (τ := Cert.AdamMlpRefIdeal.τ) (Cert.AdamMlpRefIdeal.main (F := Ideal))) ⟨m, fun _ => 0, g⟩ (fun r => (∀ c : Dev Cert.AdamMlpRefIdeal.nD,
      r.2.mem ((c.tc : Thread Cert.AdamMlpRefIdeal.nD Cert.AdamMlpRefIdeal.τ).loc Cert.AdamMlpRefIdeal.main_arg0) = m ((c.tc : Thread Cert.AdamMlpRefIdeal.nD Cert.AdamMlpRefIdeal.τ).loc Cert.AdamMlpRefIdeal.main_arg0)
      ∧ r.2.mem ((c.tc : Thread Cert.AdamMlpRefIdeal.nD Cert.AdamMlpRefIdeal.τ).loc Cert.AdamMlpRefIdeal.main_arg1) = m ((c.tc : Thread Cert.AdamMlpRefIdeal.nD Cert.AdamMlpRefIdeal.τ).loc Cert.AdamMlpRefIdeal.main_arg1)
      ∧ r.2.mem ((c.tc : Thread Cert.AdamMlpRefIdeal.nD Cert.AdamMlpRefIdeal.τ).loc Cert.AdamMlpRefIdeal.main_arg2) = m ((c.tc : Thread Cert.AdamMlpRefIdeal.nD Cert.AdamMlpRefIdeal.τ).loc Cert.AdamMlpRefIdeal.main_arg2)
      ∧ r.2.mem ((c.tc : Thread Cert.AdamMlpRefIdeal.nD Cert.AdamMlpRefIdeal.τ).loc Cert.AdamMlpRefIdeal.main_arg3) = m ((c.tc : Thread Cert.AdamMlpRefIdeal.nD Cert.AdamMlpRefIdeal.τ).loc Cert.AdamMlpRefIdeal.main_arg3)
      ∧ r.2.mem ((c.tc : Thread Cert.AdamMlpRefIdeal.nD Cert.AdamMlpRefIdeal.τ).loc Cert.AdamMlpRefIdeal.main_arg4) = m ((c.tc : Thread Cert.AdamMlpRefIdeal.nD Cert.AdamMlpRefIdeal.τ).loc Cert.AdamMlpRefIdeal.main_arg4)
      ∧ r.2.mem ((c.tc : Thread Cert.AdamMlpRefIdeal.nD Cert.AdamMlpRefIdeal.τ).loc Cert.AdamMlpRefIdeal.main_arg5) = m ((c.tc : Thread Cert.AdamMlpRefIdeal.nD Cert.AdamMlpRefIdeal.τ).loc Cert.AdamMlpRefIdeal.main_arg5)
      ∧ r.2.mem ((c.tc : Thread Cert.AdamMlpRefIdeal.nD Cert.AdamMlpRefIdeal.τ).loc Cert.AdamMlpRefIdeal.main_arg6) = m ((c.tc : Thread Cert.AdamMlpRefIdeal.nD Cert.AdamMlpRefIdeal.τ).loc Cert.AdamMlpRefIdeal.main_arg6)
      ∧ r.2.mem ((c.tc : Thread Cert.AdamMlpRefIdeal.nD Cert.AdamMlpRefIdeal.τ).loc Cert.AdamMlpRefIdeal.main_arg7) = m ((c.tc : Thread Cert.AdamMlpRefIdeal.nD Cert.AdamMlpRefIdeal.τ).loc Cert.AdamMlpRefIdeal.main_arg7)
      ∧ r.2.mem ((c.tc : Thread Cert.AdamMlpRefIdeal.nD Cert.AdamMlpRefIdeal.τ).loc Cert.AdamMlpRefIdeal.main_arg8) = m ((c.tc : Thread Cert.AdamMlpRefIdeal.nD Cert.AdamMlpRefIdeal.τ).loc Cert.AdamMlpRefIdeal.main_arg8))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def quiescent_GdnPostFwd [hGdnPostFwd : Cert.GdnPostFwd.Facts] : Prop :=
  ∀ (m : (ℓ : Loc Cert.GdnPostFwd.nD Cert.GdnPostFwd.τ Cert.GdnPostFwd.sig) → Buf (Elt Bits) ℓ) (g : Dev Cert.GdnPostFwd.nD → PrngReg), Pre_GdnPostFwd m →
    θ_run (Cert.GdnPostFwd.defs (F := Bits)) (onTc (τ := Cert.GdnPostFwd.τ) (Cert.GdnPostFwd.main (F := Bits))) ⟨m, fun _ => 0, g⟩ (fun r => (∀ c : Dev Cert.GdnPostFwd.nD,
      r.2.mem ((c.tc : Thread Cert.GdnPostFwd.nD Cert.GdnPostFwd.τ).loc Cert.GdnPostFwd.main_arg0) = m ((c.tc : Thread Cert.GdnPostFwd.nD Cert.GdnPostFwd.τ).loc Cert.GdnPostFwd.main_arg0)
      ∧ r.2.mem ((c.tc : Thread Cert.GdnPostFwd.nD Cert.GdnPostFwd.τ).loc Cert.GdnPostFwd.main_arg1) = m ((c.tc : Thread Cert.GdnPostFwd.nD Cert.GdnPostFwd.τ).loc Cert.GdnPostFwd.main_arg1)
      ∧ r.2.mem ((c.tc : Thread Cert.GdnPostFwd.nD Cert.GdnPostFwd.τ).loc Cert.GdnPostFwd.main_arg2) = m ((c.tc : Thread Cert.GdnPostFwd.nD Cert.GdnPostFwd.τ).loc Cert.GdnPostFwd.main_arg2))
      ∧ r.2.sem = fun _ => 0)

def quiescent_GdnPostFwdIdeal [hGdnPostFwdIdeal : Cert.GdnPostFwdIdeal.Facts] : Prop :=
  ∀ (m : (ℓ : Loc Cert.GdnPostFwdIdeal.nD Cert.GdnPostFwdIdeal.τ Cert.GdnPostFwdIdeal.sig) → Buf (Elt Ideal) ℓ) (g : Dev Cert.GdnPostFwdIdeal.nD → PrngReg), Pre_GdnPostFwdIdeal m →
    θ_run (Cert.GdnPostFwdIdeal.defs (F := Ideal)) (onTc (τ := Cert.GdnPostFwdIdeal.τ) (Cert.GdnPostFwdIdeal.main (F := Ideal))) ⟨m, fun _ => 0, g⟩ (fun r => (∀ c : Dev Cert.GdnPostFwdIdeal.nD,
      r.2.mem ((c.tc : Thread Cert.GdnPostFwdIdeal.nD Cert.GdnPostFwdIdeal.τ).loc Cert.GdnPostFwdIdeal.main_arg0) = m ((c.tc : Thread Cert.GdnPostFwdIdeal.nD Cert.GdnPostFwdIdeal.τ).loc Cert.GdnPostFwdIdeal.main_arg0)
      ∧ r.2.mem ((c.tc : Thread Cert.GdnPostFwdIdeal.nD Cert.GdnPostFwdIdeal.τ).loc Cert.GdnPostFwdIdeal.main_arg1) = m ((c.tc : Thread Cert.GdnPostFwdIdeal.nD Cert.GdnPostFwdIdeal.τ).loc Cert.GdnPostFwdIdeal.main_arg1)
      ∧ r.2.mem ((c.tc : Thread Cert.GdnPostFwdIdeal.nD Cert.GdnPostFwdIdeal.τ).loc Cert.GdnPostFwdIdeal.main_arg2) = m ((c.tc : Thread Cert.GdnPostFwdIdeal.nD Cert.GdnPostFwdIdeal.τ).loc Cert.GdnPostFwdIdeal.main_arg2))
      ∧ r.2.sem = fun _ => 0)

def quiescent_GdnPostFwdRefIdeal [hGdnPostFwdRefIdeal : Cert.GdnPostFwdRefIdeal.Facts] : Prop :=
  ∀ (m : (ℓ : Loc Cert.GdnPostFwdRefIdeal.nD Cert.GdnPostFwdRefIdeal.τ Cert.GdnPostFwdRefIdeal.sig) → Buf (Elt Ideal) ℓ) (g : Dev Cert.GdnPostFwdRefIdeal.nD → PrngReg), Pre_GdnPostFwdRefIdeal m →
    θ_run (Cert.GdnPostFwdRefIdeal.defs (F := Ideal)) (onTc (τ := Cert.GdnPostFwdRefIdeal.τ) (Cert.GdnPostFwdRefIdeal.main (F := Ideal))) ⟨m, fun _ => 0, g⟩ (fun r => (∀ c : Dev Cert.GdnPostFwdRefIdeal.nD,
      r.2.mem ((c.tc : Thread Cert.GdnPostFwdRefIdeal.nD Cert.GdnPostFwdRefIdeal.τ).loc Cert.GdnPostFwdRefIdeal.main_arg0) = m ((c.tc : Thread Cert.GdnPostFwdRefIdeal.nD Cert.GdnPostFwdRefIdeal.τ).loc Cert.GdnPostFwdRefIdeal.main_arg0)
      ∧ r.2.mem ((c.tc : Thread Cert.GdnPostFwdRefIdeal.nD Cert.GdnPostFwdRefIdeal.τ).loc Cert.GdnPostFwdRefIdeal.main_arg1) = m ((c.tc : Thread Cert.GdnPostFwdRefIdeal.nD Cert.GdnPostFwdRefIdeal.τ).loc Cert.GdnPostFwdRefIdeal.main_arg1)
      ∧ r.2.mem ((c.tc : Thread Cert.GdnPostFwdRefIdeal.nD Cert.GdnPostFwdRefIdeal.τ).loc Cert.GdnPostFwdRefIdeal.main_arg2) = m ((c.tc : Thread Cert.GdnPostFwdRefIdeal.nD Cert.GdnPostFwdRefIdeal.τ).loc Cert.GdnPostFwdRefIdeal.main_arg2))
      ∧ r.2.sem = fun _ => 0)

def quiescent_DabReduce [hDabReduce : Cert.DabReduce.Facts] : Prop :=
  ∀ (m : (ℓ : Loc Cert.DabReduce.nD Cert.DabReduce.τ Cert.DabReduce.sig) → Buf (Elt Bits) ℓ) (g : Dev Cert.DabReduce.nD → PrngReg), Pre_DabReduce m →
    θ_run (Cert.DabReduce.defs (F := Bits)) (onTc (τ := Cert.DabReduce.τ) (Cert.DabReduce.main (F := Bits))) ⟨m, fun _ => 0, g⟩ (fun r => (∀ c : Dev Cert.DabReduce.nD,
      r.2.mem ((c.tc : Thread Cert.DabReduce.nD Cert.DabReduce.τ).loc Cert.DabReduce.main_arg0) = m ((c.tc : Thread Cert.DabReduce.nD Cert.DabReduce.τ).loc Cert.DabReduce.main_arg0))
      ∧ r.2.sem = fun _ => 0)

def quiescent_DabReduceIdeal [hDabReduceIdeal : Cert.DabReduceIdeal.Facts] : Prop :=
  ∀ (m : (ℓ : Loc Cert.DabReduceIdeal.nD Cert.DabReduceIdeal.τ Cert.DabReduceIdeal.sig) → Buf (Elt Ideal) ℓ) (g : Dev Cert.DabReduceIdeal.nD → PrngReg), Pre_DabReduceIdeal m →
    θ_run (Cert.DabReduceIdeal.defs (F := Ideal)) (onTc (τ := Cert.DabReduceIdeal.τ) (Cert.DabReduceIdeal.main (F := Ideal))) ⟨m, fun _ => 0, g⟩ (fun r => (∀ c : Dev Cert.DabReduceIdeal.nD,
      r.2.mem ((c.tc : Thread Cert.DabReduceIdeal.nD Cert.DabReduceIdeal.τ).loc Cert.DabReduceIdeal.main_arg0) = m ((c.tc : Thread Cert.DabReduceIdeal.nD Cert.DabReduceIdeal.τ).loc Cert.DabReduceIdeal.main_arg0))
      ∧ r.2.sem = fun _ => 0)

def quiescent_DabReduceRefIdeal [hDabReduceRefIdeal : Cert.DabReduceRefIdeal.Facts] : Prop :=
  ∀ (m : (ℓ : Loc Cert.DabReduceRefIdeal.nD Cert.DabReduceRefIdeal.τ Cert.DabReduceRefIdeal.sig) → Buf (Elt Ideal) ℓ) (g : Dev Cert.DabReduceRefIdeal.nD → PrngReg), Pre_DabReduceRefIdeal m →
    θ_run (Cert.DabReduceRefIdeal.defs (F := Ideal)) (onTc (τ := Cert.DabReduceRefIdeal.τ) (Cert.DabReduceRefIdeal.main (F := Ideal))) ⟨m, fun _ => 0, g⟩ (fun r => (∀ c : Dev Cert.DabReduceRefIdeal.nD,
      r.2.mem ((c.tc : Thread Cert.DabReduceRefIdeal.nD Cert.DabReduceRefIdeal.τ).loc Cert.DabReduceRefIdeal.main_arg0) = m ((c.tc : Thread Cert.DabReduceRefIdeal.nD Cert.DabReduceRefIdeal.τ).loc Cert.DabReduceRefIdeal.main_arg0))
      ∧ r.2.sem = fun _ => 0)

def quiescent_LruConvFwd [hLruConvFwd : Cert.LruConvFwd.Facts] : Prop :=
  ∀ (m : (ℓ : Loc Cert.LruConvFwd.nD Cert.LruConvFwd.τ Cert.LruConvFwd.sig) → Buf (Elt Bits) ℓ) (g : Dev Cert.LruConvFwd.nD → PrngReg), Pre_LruConvFwd m →
    θ_run (Cert.LruConvFwd.defs (F := Bits)) (onTc (τ := Cert.LruConvFwd.τ) (Cert.LruConvFwd.main (F := Bits))) ⟨m, fun _ => 0, g⟩ (fun r => (∀ c : Dev Cert.LruConvFwd.nD,
      r.2.mem ((c.tc : Thread Cert.LruConvFwd.nD Cert.LruConvFwd.τ).loc Cert.LruConvFwd.main_arg0) = m ((c.tc : Thread Cert.LruConvFwd.nD Cert.LruConvFwd.τ).loc Cert.LruConvFwd.main_arg0)
      ∧ r.2.mem ((c.tc : Thread Cert.LruConvFwd.nD Cert.LruConvFwd.τ).loc Cert.LruConvFwd.main_arg1) = m ((c.tc : Thread Cert.LruConvFwd.nD Cert.LruConvFwd.τ).loc Cert.LruConvFwd.main_arg1)
      ∧ r.2.mem ((c.tc : Thread Cert.LruConvFwd.nD Cert.LruConvFwd.τ).loc Cert.LruConvFwd.main_arg2) = m ((c.tc : Thread Cert.LruConvFwd.nD Cert.LruConvFwd.τ).loc Cert.LruConvFwd.main_arg2))
      ∧ r.2.sem = fun _ => 0)

def quiescent_LruConvFwdIdeal [hLruConvFwdIdeal : Cert.LruConvFwdIdeal.Facts] : Prop :=
  ∀ (m : (ℓ : Loc Cert.LruConvFwdIdeal.nD Cert.LruConvFwdIdeal.τ Cert.LruConvFwdIdeal.sig) → Buf (Elt Ideal) ℓ) (g : Dev Cert.LruConvFwdIdeal.nD → PrngReg), Pre_LruConvFwdIdeal m →
    θ_run (Cert.LruConvFwdIdeal.defs (F := Ideal)) (onTc (τ := Cert.LruConvFwdIdeal.τ) (Cert.LruConvFwdIdeal.main (F := Ideal))) ⟨m, fun _ => 0, g⟩ (fun r => (∀ c : Dev Cert.LruConvFwdIdeal.nD,
      r.2.mem ((c.tc : Thread Cert.LruConvFwdIdeal.nD Cert.LruConvFwdIdeal.τ).loc Cert.LruConvFwdIdeal.main_arg0) = m ((c.tc : Thread Cert.LruConvFwdIdeal.nD Cert.LruConvFwdIdeal.τ).loc Cert.LruConvFwdIdeal.main_arg0)
      ∧ r.2.mem ((c.tc : Thread Cert.LruConvFwdIdeal.nD Cert.LruConvFwdIdeal.τ).loc Cert.LruConvFwdIdeal.main_arg1) = m ((c.tc : Thread Cert.LruConvFwdIdeal.nD Cert.LruConvFwdIdeal.τ).loc Cert.LruConvFwdIdeal.main_arg1)
      ∧ r.2.mem ((c.tc : Thread Cert.LruConvFwdIdeal.nD Cert.LruConvFwdIdeal.τ).loc Cert.LruConvFwdIdeal.main_arg2) = m ((c.tc : Thread Cert.LruConvFwdIdeal.nD Cert.LruConvFwdIdeal.τ).loc Cert.LruConvFwdIdeal.main_arg2))
      ∧ r.2.sem = fun _ => 0)

def quiescent_LruConvFwdRefIdeal [hLruConvFwdRefIdeal : Cert.LruConvFwdRefIdeal.Facts] : Prop :=
  ∀ (m : (ℓ : Loc Cert.LruConvFwdRefIdeal.nD Cert.LruConvFwdRefIdeal.τ Cert.LruConvFwdRefIdeal.sig) → Buf (Elt Ideal) ℓ) (g : Dev Cert.LruConvFwdRefIdeal.nD → PrngReg), Pre_LruConvFwdRefIdeal m →
    θ_run (Cert.LruConvFwdRefIdeal.defs (F := Ideal)) (onTc (τ := Cert.LruConvFwdRefIdeal.τ) (Cert.LruConvFwdRefIdeal.main (F := Ideal))) ⟨m, fun _ => 0, g⟩ (fun r => (∀ c : Dev Cert.LruConvFwdRefIdeal.nD,
      r.2.mem ((c.tc : Thread Cert.LruConvFwdRefIdeal.nD Cert.LruConvFwdRefIdeal.τ).loc Cert.LruConvFwdRefIdeal.main_arg0) = m ((c.tc : Thread Cert.LruConvFwdRefIdeal.nD Cert.LruConvFwdRefIdeal.τ).loc Cert.LruConvFwdRefIdeal.main_arg0)
      ∧ r.2.mem ((c.tc : Thread Cert.LruConvFwdRefIdeal.nD Cert.LruConvFwdRefIdeal.τ).loc Cert.LruConvFwdRefIdeal.main_arg1) = m ((c.tc : Thread Cert.LruConvFwdRefIdeal.nD Cert.LruConvFwdRefIdeal.τ).loc Cert.LruConvFwdRefIdeal.main_arg1)
      ∧ r.2.mem ((c.tc : Thread Cert.LruConvFwdRefIdeal.nD Cert.LruConvFwdRefIdeal.τ).loc Cert.LruConvFwdRefIdeal.main_arg2) = m ((c.tc : Thread Cert.LruConvFwdRefIdeal.nD Cert.LruConvFwdRefIdeal.τ).loc Cert.LruConvFwdRefIdeal.main_arg2))
      ∧ r.2.sem = fun _ => 0)

def quiescent_LruConvBwd [hLruConvBwd : Cert.LruConvBwd.Facts] : Prop :=
  ∀ (m : (ℓ : Loc Cert.LruConvBwd.nD Cert.LruConvBwd.τ Cert.LruConvBwd.sig) → Buf (Elt Bits) ℓ) (g : Dev Cert.LruConvBwd.nD → PrngReg), Pre_LruConvBwd m →
    θ_run (Cert.LruConvBwd.defs (F := Bits)) (onTc (τ := Cert.LruConvBwd.τ) (Cert.LruConvBwd.main (F := Bits))) ⟨m, fun _ => 0, g⟩ (fun r => (∀ c : Dev Cert.LruConvBwd.nD,
      r.2.mem ((c.tc : Thread Cert.LruConvBwd.nD Cert.LruConvBwd.τ).loc Cert.LruConvBwd.main_arg0) = m ((c.tc : Thread Cert.LruConvBwd.nD Cert.LruConvBwd.τ).loc Cert.LruConvBwd.main_arg0)
      ∧ r.2.mem ((c.tc : Thread Cert.LruConvBwd.nD Cert.LruConvBwd.τ).loc Cert.LruConvBwd.main_arg1) = m ((c.tc : Thread Cert.LruConvBwd.nD Cert.LruConvBwd.τ).loc Cert.LruConvBwd.main_arg1)
      ∧ r.2.mem ((c.tc : Thread Cert.LruConvBwd.nD Cert.LruConvBwd.τ).loc Cert.LruConvBwd.main_arg2) = m ((c.tc : Thread Cert.LruConvBwd.nD Cert.LruConvBwd.τ).loc Cert.LruConvBwd.main_arg2))
      ∧ r.2.sem = fun _ => 0)

def quiescent_LruConvBwdIdeal [hLruConvBwdIdeal : Cert.LruConvBwdIdeal.Facts] : Prop :=
  ∀ (m : (ℓ : Loc Cert.LruConvBwdIdeal.nD Cert.LruConvBwdIdeal.τ Cert.LruConvBwdIdeal.sig) → Buf (Elt Ideal) ℓ) (g : Dev Cert.LruConvBwdIdeal.nD → PrngReg), Pre_LruConvBwdIdeal m →
    θ_run (Cert.LruConvBwdIdeal.defs (F := Ideal)) (onTc (τ := Cert.LruConvBwdIdeal.τ) (Cert.LruConvBwdIdeal.main (F := Ideal))) ⟨m, fun _ => 0, g⟩ (fun r => (∀ c : Dev Cert.LruConvBwdIdeal.nD,
      r.2.mem ((c.tc : Thread Cert.LruConvBwdIdeal.nD Cert.LruConvBwdIdeal.τ).loc Cert.LruConvBwdIdeal.main_arg0) = m ((c.tc : Thread Cert.LruConvBwdIdeal.nD Cert.LruConvBwdIdeal.τ).loc Cert.LruConvBwdIdeal.main_arg0)
      ∧ r.2.mem ((c.tc : Thread Cert.LruConvBwdIdeal.nD Cert.LruConvBwdIdeal.τ).loc Cert.LruConvBwdIdeal.main_arg1) = m ((c.tc : Thread Cert.LruConvBwdIdeal.nD Cert.LruConvBwdIdeal.τ).loc Cert.LruConvBwdIdeal.main_arg1)
      ∧ r.2.mem ((c.tc : Thread Cert.LruConvBwdIdeal.nD Cert.LruConvBwdIdeal.τ).loc Cert.LruConvBwdIdeal.main_arg2) = m ((c.tc : Thread Cert.LruConvBwdIdeal.nD Cert.LruConvBwdIdeal.τ).loc Cert.LruConvBwdIdeal.main_arg2))
      ∧ r.2.sem = fun _ => 0)

def quiescent_LruConvBwdRefIdeal [hLruConvBwdRefIdeal : Cert.LruConvBwdRefIdeal.Facts] : Prop :=
  ∀ (m : (ℓ : Loc Cert.LruConvBwdRefIdeal.nD Cert.LruConvBwdRefIdeal.τ Cert.LruConvBwdRefIdeal.sig) → Buf (Elt Ideal) ℓ) (g : Dev Cert.LruConvBwdRefIdeal.nD → PrngReg), Pre_LruConvBwdRefIdeal m →
    θ_run (Cert.LruConvBwdRefIdeal.defs (F := Ideal)) (onTc (τ := Cert.LruConvBwdRefIdeal.τ) (Cert.LruConvBwdRefIdeal.main (F := Ideal))) ⟨m, fun _ => 0, g⟩ (fun r => (∀ c : Dev Cert.LruConvBwdRefIdeal.nD,
      r.2.mem ((c.tc : Thread Cert.LruConvBwdRefIdeal.nD Cert.LruConvBwdRefIdeal.τ).loc Cert.LruConvBwdRefIdeal.main_arg0) = m ((c.tc : Thread Cert.LruConvBwdRefIdeal.nD Cert.LruConvBwdRefIdeal.τ).loc Cert.LruConvBwdRefIdeal.main_arg0)
      ∧ r.2.mem ((c.tc : Thread Cert.LruConvBwdRefIdeal.nD Cert.LruConvBwdRefIdeal.τ).loc Cert.LruConvBwdRefIdeal.main_arg1) = m ((c.tc : Thread Cert.LruConvBwdRefIdeal.nD Cert.LruConvBwdRefIdeal.τ).loc Cert.LruConvBwdRefIdeal.main_arg1)
      ∧ r.2.mem ((c.tc : Thread Cert.LruConvBwdRefIdeal.nD Cert.LruConvBwdRefIdeal.τ).loc Cert.LruConvBwdRefIdeal.main_arg2) = m ((c.tc : Thread Cert.LruConvBwdRefIdeal.nD Cert.LruConvBwdRefIdeal.τ).loc Cert.LruConvBwdRefIdeal.main_arg2))
      ∧ r.2.sem = fun _ => 0)

def quiescent_GdnConvBwd [hGdnConvBwd : Cert.GdnConvBwd.Facts] : Prop :=
  ∀ (m : (ℓ : Loc Cert.GdnConvBwd.nD Cert.GdnConvBwd.τ Cert.GdnConvBwd.sig) → Buf (Elt Bits) ℓ) (g : Dev Cert.GdnConvBwd.nD → PrngReg), Pre_GdnConvBwd m →
    θ_run (Cert.GdnConvBwd.defs (F := Bits)) (onTc (τ := Cert.GdnConvBwd.τ) (Cert.GdnConvBwd.main (F := Bits))) ⟨m, fun _ => 0, g⟩ (fun r => (∀ c : Dev Cert.GdnConvBwd.nD,
      r.2.mem ((c.tc : Thread Cert.GdnConvBwd.nD Cert.GdnConvBwd.τ).loc Cert.GdnConvBwd.main_arg0) = m ((c.tc : Thread Cert.GdnConvBwd.nD Cert.GdnConvBwd.τ).loc Cert.GdnConvBwd.main_arg0)
      ∧ r.2.mem ((c.tc : Thread Cert.GdnConvBwd.nD Cert.GdnConvBwd.τ).loc Cert.GdnConvBwd.main_arg1) = m ((c.tc : Thread Cert.GdnConvBwd.nD Cert.GdnConvBwd.τ).loc Cert.GdnConvBwd.main_arg1)
      ∧ r.2.mem ((c.tc : Thread Cert.GdnConvBwd.nD Cert.GdnConvBwd.τ).loc Cert.GdnConvBwd.main_arg2) = m ((c.tc : Thread Cert.GdnConvBwd.nD Cert.GdnConvBwd.τ).loc Cert.GdnConvBwd.main_arg2))
      ∧ r.2.sem = fun _ => 0)

def quiescent_GdnConvBwdIdeal [hGdnConvBwdIdeal : Cert.GdnConvBwdIdeal.Facts] : Prop :=
  ∀ (m : (ℓ : Loc Cert.GdnConvBwdIdeal.nD Cert.GdnConvBwdIdeal.τ Cert.GdnConvBwdIdeal.sig) → Buf (Elt Ideal) ℓ) (g : Dev Cert.GdnConvBwdIdeal.nD → PrngReg), Pre_GdnConvBwdIdeal m →
    θ_run (Cert.GdnConvBwdIdeal.defs (F := Ideal)) (onTc (τ := Cert.GdnConvBwdIdeal.τ) (Cert.GdnConvBwdIdeal.main (F := Ideal))) ⟨m, fun _ => 0, g⟩ (fun r => (∀ c : Dev Cert.GdnConvBwdIdeal.nD,
      r.2.mem ((c.tc : Thread Cert.GdnConvBwdIdeal.nD Cert.GdnConvBwdIdeal.τ).loc Cert.GdnConvBwdIdeal.main_arg0) = m ((c.tc : Thread Cert.GdnConvBwdIdeal.nD Cert.GdnConvBwdIdeal.τ).loc Cert.GdnConvBwdIdeal.main_arg0)
      ∧ r.2.mem ((c.tc : Thread Cert.GdnConvBwdIdeal.nD Cert.GdnConvBwdIdeal.τ).loc Cert.GdnConvBwdIdeal.main_arg1) = m ((c.tc : Thread Cert.GdnConvBwdIdeal.nD Cert.GdnConvBwdIdeal.τ).loc Cert.GdnConvBwdIdeal.main_arg1)
      ∧ r.2.mem ((c.tc : Thread Cert.GdnConvBwdIdeal.nD Cert.GdnConvBwdIdeal.τ).loc Cert.GdnConvBwdIdeal.main_arg2) = m ((c.tc : Thread Cert.GdnConvBwdIdeal.nD Cert.GdnConvBwdIdeal.τ).loc Cert.GdnConvBwdIdeal.main_arg2))
      ∧ r.2.sem = fun _ => 0)

def quiescent_GdnConvBwdRefIdeal [hGdnConvBwdRefIdeal : Cert.GdnConvBwdRefIdeal.Facts] : Prop :=
  ∀ (m : (ℓ : Loc Cert.GdnConvBwdRefIdeal.nD Cert.GdnConvBwdRefIdeal.τ Cert.GdnConvBwdRefIdeal.sig) → Buf (Elt Ideal) ℓ) (g : Dev Cert.GdnConvBwdRefIdeal.nD → PrngReg), Pre_GdnConvBwdRefIdeal m →
    θ_run (Cert.GdnConvBwdRefIdeal.defs (F := Ideal)) (onTc (τ := Cert.GdnConvBwdRefIdeal.τ) (Cert.GdnConvBwdRefIdeal.main (F := Ideal))) ⟨m, fun _ => 0, g⟩ (fun r => (∀ c : Dev Cert.GdnConvBwdRefIdeal.nD,
      r.2.mem ((c.tc : Thread Cert.GdnConvBwdRefIdeal.nD Cert.GdnConvBwdRefIdeal.τ).loc Cert.GdnConvBwdRefIdeal.main_arg0) = m ((c.tc : Thread Cert.GdnConvBwdRefIdeal.nD Cert.GdnConvBwdRefIdeal.τ).loc Cert.GdnConvBwdRefIdeal.main_arg0)
      ∧ r.2.mem ((c.tc : Thread Cert.GdnConvBwdRefIdeal.nD Cert.GdnConvBwdRefIdeal.τ).loc Cert.GdnConvBwdRefIdeal.main_arg1) = m ((c.tc : Thread Cert.GdnConvBwdRefIdeal.nD Cert.GdnConvBwdRefIdeal.τ).loc Cert.GdnConvBwdRefIdeal.main_arg1)
      ∧ r.2.mem ((c.tc : Thread Cert.GdnConvBwdRefIdeal.nD Cert.GdnConvBwdRefIdeal.τ).loc Cert.GdnConvBwdRefIdeal.main_arg2) = m ((c.tc : Thread Cert.GdnConvBwdRefIdeal.nD Cert.GdnConvBwdRefIdeal.τ).loc Cert.GdnConvBwdRefIdeal.main_arg2))
      ∧ r.2.sem = fun _ => 0)

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v31) = v0 c
          ∧ r.2.mem ((c.tc : Thread Cert.MergeBwdRefIdeal.nD Cert.MergeBwdRefIdeal.τ).loc Cert.MergeBwdRefIdeal.main_v32) = v1 c
          ∧ r.2.mem ((c.tc : Thread Cert.MergeBwdRefIdeal.nD Cert.MergeBwdRefIdeal.τ).loc Cert.MergeBwdRefIdeal.main_v33) = v2 c
          ∧ r.2.mem ((c.tc : Thread Cert.MergeBwdRefIdeal.nD Cert.MergeBwdRefIdeal.τ).loc Cert.MergeBwdRefIdeal.main_v34) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_DMlpAct_DMlpActIdeal : Prop :=
  True

def algebraic_DMlpActIdeal_DMlpActRefIdeal [hDMlpActIdeal : Cert.DMlpActIdeal.Facts] [hDMlpActRefIdeal : Cert.DMlpActRefIdeal.Facts] : Prop :=
  ∀ (m : (ℓ : Loc Cert.DMlpActIdeal.nD Cert.DMlpActIdeal.τ Cert.DMlpActIdeal.sig) → Buf (Elt Ideal) ℓ) (g : Dev Cert.DMlpActIdeal.nD → PrngReg)
    (m' : (ℓ : Loc Cert.DMlpActRefIdeal.nD Cert.DMlpActRefIdeal.τ Cert.DMlpActRefIdeal.sig) → Buf (Elt Ideal) ℓ) (g' : Dev Cert.DMlpActRefIdeal.nD → PrngReg), Pre_DMlpActIdeal m →
    (∀ c : Dev Cert.DMlpActIdeal.nD,
      m' ((c.tc : Thread Cert.DMlpActRefIdeal.nD Cert.DMlpActRefIdeal.τ).loc Cert.DMlpActRefIdeal.main_arg0) = m ((c.tc : Thread Cert.DMlpActIdeal.nD Cert.DMlpActIdeal.τ).loc Cert.DMlpActIdeal.main_arg0)
      ∧ m' ((c.tc : Thread Cert.DMlpActRefIdeal.nD Cert.DMlpActRefIdeal.τ).loc Cert.DMlpActRefIdeal.main_arg1) = m ((c.tc : Thread Cert.DMlpActIdeal.nD Cert.DMlpActIdeal.τ).loc Cert.DMlpActIdeal.main_arg1)
      ∧ m' ((c.tc : Thread Cert.DMlpActRefIdeal.nD Cert.DMlpActRefIdeal.τ).loc Cert.DMlpActRefIdeal.main_arg2) = m ((c.tc : Thread Cert.DMlpActIdeal.nD Cert.DMlpActIdeal.τ).loc Cert.DMlpActIdeal.main_arg2)) →
    ∃ (v0 : (c : Dev Cert.DMlpActIdeal.nD) → Buf (Elt Ideal) ((c.tc : Thread Cert.DMlpActIdeal.nD Cert.DMlpActIdeal.τ).loc Cert.DMlpActIdeal.main_v3)),
      θ_run (Cert.DMlpActIdeal.defs (F := Ideal)) (onTc (τ := Cert.DMlpActIdeal.τ) (Cert.DMlpActIdeal.main (F := Ideal))) ⟨m, fun _ => 0, g⟩ (fun r => ∀ c : Dev Cert.DMlpActIdeal.nD,
          r.2.mem ((c.tc : Thread Cert.DMlpActIdeal.nD Cert.DMlpActIdeal.τ).loc Cert.DMlpActIdeal.main_v3) = v0 c
          ∧ r.2.mem ((c.tc : Thread Cert.DMlpActIdeal.nD Cert.DMlpActIdeal.τ).loc Cert.DMlpActIdeal.main_arg0) = m ((c.tc : Thread Cert.DMlpActIdeal.nD Cert.DMlpActIdeal.τ).loc Cert.DMlpActIdeal.main_arg0)
          ∧ r.2.mem ((c.tc : Thread Cert.DMlpActIdeal.nD Cert.DMlpActIdeal.τ).loc Cert.DMlpActIdeal.main_arg1) = m ((c.tc : Thread Cert.DMlpActIdeal.nD Cert.DMlpActIdeal.τ).loc Cert.DMlpActIdeal.main_arg1)
          ∧ r.2.mem ((c.tc : Thread Cert.DMlpActIdeal.nD Cert.DMlpActIdeal.τ).loc Cert.DMlpActIdeal.main_arg2) = m ((c.tc : Thread Cert.DMlpActIdeal.nD Cert.DMlpActIdeal.τ).loc Cert.DMlpActIdeal.main_arg2))
      ∧ θ_run (Cert.DMlpActRefIdeal.defs (F := Ideal)) (onTc (τ := Cert.DMlpActRefIdeal.τ) (Cert.DMlpActRefIdeal.main (F := Ideal))) ⟨m', fun _ => 0, g'⟩ (fun r => ∀ c : Dev Cert.DMlpActRefIdeal.nD,
          r.2.mem ((c.tc : Thread Cert.DMlpActRefIdeal.nD Cert.DMlpActRefIdeal.τ).loc Cert.DMlpActRefIdeal.main_v14) = v0 c
          ∧ r.2.mem ((c.tc : Thread Cert.DMlpActRefIdeal.nD Cert.DMlpActRefIdeal.τ).loc Cert.DMlpActRefIdeal.main_arg0) = m' ((c.tc : Thread Cert.DMlpActRefIdeal.nD Cert.DMlpActRefIdeal.τ).loc Cert.DMlpActRefIdeal.main_arg0)
          ∧ r.2.mem ((c.tc : Thread Cert.DMlpActRefIdeal.nD Cert.DMlpActRefIdeal.τ).loc Cert.DMlpActRefIdeal.main_arg1) = m' ((c.tc : Thread Cert.DMlpActRefIdeal.nD Cert.DMlpActRefIdeal.τ).loc Cert.DMlpActRefIdeal.main_arg1)
          ∧ r.2.mem ((c.tc : Thread Cert.DMlpActRefIdeal.nD Cert.DMlpActRefIdeal.τ).loc Cert.DMlpActRefIdeal.main_arg2) = m' ((c.tc : Thread Cert.DMlpActRefIdeal.nD Cert.DMlpActRefIdeal.τ).loc Cert.DMlpActRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v8) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v8) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DH2_DH2Ideal : Prop :=
  True

def algebraic_DH2Ideal_DH2RefIdeal [hDH2Ideal : Cert.DH2Ideal.Facts] [hDH2RefIdeal : Cert.DH2RefIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2RefIdeal.nD Cert.DH2RefIdeal.τ Cert.DH2RefIdeal.sig) → Buf (Elt Ideal) ℓ) (g' : Dev Cert.DH2RefIdeal.nD → PrngReg), Pre_DH2Ideal m →
    (∀ c : Dev Cert.DH2Ideal.nD,
      m' ((c.tc : Thread Cert.DH2RefIdeal.nD Cert.DH2RefIdeal.τ).loc Cert.DH2RefIdeal.main_arg0) = m ((c.tc : Thread Cert.DH2Ideal.nD Cert.DH2Ideal.τ).loc Cert.DH2Ideal.main_arg0)
      ∧ m' ((c.tc : Thread Cert.DH2RefIdeal.nD Cert.DH2RefIdeal.τ).loc Cert.DH2RefIdeal.main_arg1) = m ((c.tc : Thread Cert.DH2Ideal.nD Cert.DH2Ideal.τ).loc Cert.DH2Ideal.main_arg1)) →
    ∃ (v0 : (c : Dev Cert.DH2Ideal.nD) → Buf (Elt Ideal) ((c.tc : Thread Cert.DH2Ideal.nD Cert.DH2Ideal.τ).loc Cert.DH2Ideal.main_v0)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v0) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ θ_run (Cert.DH2RefIdeal.defs (F := Ideal)) (onTc (τ := Cert.DH2RefIdeal.τ) (Cert.DH2RefIdeal.main (F := Ideal))) ⟨m', fun _ => 0, g'⟩ (fun r => ∀ c : Dev Cert.DH2RefIdeal.nD,
          r.2.mem ((c.tc : Thread Cert.DH2RefIdeal.nD Cert.DH2RefIdeal.τ).loc Cert.DH2RefIdeal.main_v4) = v0 c
          ∧ r.2.mem ((c.tc : Thread Cert.DH2RefIdeal.nD Cert.DH2RefIdeal.τ).loc Cert.DH2RefIdeal.main_arg0) = m' ((c.tc : Thread Cert.DH2RefIdeal.nD Cert.DH2RefIdeal.τ).loc Cert.DH2RefIdeal.main_arg0)
          ∧ r.2.mem ((c.tc : Thread Cert.DH2RefIdeal.nD Cert.DH2RefIdeal.τ).loc Cert.DH2RefIdeal.main_arg1) = m' ((c.tc : Thread Cert.DH2RefIdeal.nD Cert.DH2RefIdeal.τ).loc Cert.DH2RefIdeal.main_arg1))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v4) = v0 c
          ∧ r.2.mem ((c.tc : Thread Cert.MlpUpRefIdeal.nD Cert.MlpUpRefIdeal.τ).loc Cert.MlpUpRefIdeal.main_v7) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v3) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v0)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v4) = v0 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v8) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_DBranch_DBranchIdeal : Prop :=
  True

def algebraic_DBranchIdeal_DBranchRefIdeal [hDBranchIdeal : Cert.DBranchIdeal.Facts] [hDBranchRefIdeal : Cert.DBranchRefIdeal.Facts] : Prop :=
  ∀ (m : (ℓ : Loc Cert.DBranchIdeal.nD Cert.DBranchIdeal.τ Cert.DBranchIdeal.sig) → Buf (Elt Ideal) ℓ) (g : Dev Cert.DBranchIdeal.nD → PrngReg)
    (m' : (ℓ : Loc Cert.DBranchRefIdeal.nD Cert.DBranchRefIdeal.τ Cert.DBranchRefIdeal.sig) → Buf (Elt Ideal) ℓ) (g' : Dev Cert.DBranchRefIdeal.nD → PrngReg), Pre_DBranchIdeal m →
    (∀ c : Dev Cert.DBranchIdeal.nD,
      m' ((c.tc : Thread Cert.DBranchRefIdeal.nD Cert.DBranchRefIdeal.τ).loc Cert.DBranchRefIdeal.main_arg0) = m ((c.tc : Thread Cert.DBranchIdeal.nD Cert.DBranchIdeal.τ).loc Cert.DBranchIdeal.main_arg0)
      ∧ m' ((c.tc : Thread Cert.DBranchRefIdeal.nD Cert.DBranchRefIdeal.τ).loc Cert.DBranchRefIdeal.main_arg1) = m ((c.tc : Thread Cert.DBranchIdeal.nD Cert.DBranchIdeal.τ).loc Cert.DBranchIdeal.main_arg1)) →
    ∃ (v0 : (c : Dev Cert.DBranchIdeal.nD) → Buf (Elt Ideal) ((c.tc : Thread Cert.DBranchIdeal.nD Cert.DBranchIdeal.τ).loc Cert.DBranchIdeal.main_v0)),
      θ_run (Cert.DBranchIdeal.defs (F := Ideal)) (onTc (τ := Cert.DBranchIdeal.τ) (Cert.DBranchIdeal.main (F := Ideal))) ⟨m, fun _ => 0, g⟩ (fun r => ∀ c : Dev Cert.DBranchIdeal.nD,
          r.2.mem ((c.tc : Thread Cert.DBranchIdeal.nD Cert.DBranchIdeal.τ).loc Cert.DBranchIdeal.main_v0) = v0 c
          ∧ r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
          ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1))
      ∧ θ_run (Cert.DBranchRefIdeal.defs (F := Ideal)) (onTc (τ := Cert.DBranchRefIdeal.τ) (Cert.DBranchRefIdeal.main (F := Ideal))) ⟨m', fun _ => 0, g'⟩ (fun r => ∀ c : Dev Cert.DBranchRefIdeal.nD,
          r.2.mem ((c.tc : Thread Cert.DBranchRefIdeal.nD Cert.DBranchRefIdeal.τ).loc Cert.DBranchRefIdeal.main_v4) = v0 c
          ∧ r.2.mem ((c.tc : Thread Cert.DBranchRefIdeal.nD Cert.DBranchRefIdeal.τ).loc Cert.DBranchRefIdeal.main_arg0) = m' ((c.tc : Thread Cert.DBranchRefIdeal.nD Cert.DBranchRefIdeal.τ).loc Cert.DBranchRefIdeal.main_arg0)
          ∧ r.2.mem ((c.tc : Thread Cert.DBranchRefIdeal.nD Cert.DBranchRefIdeal.τ).loc Cert.DBranchRefIdeal.main_arg1) = m' ((c.tc : Thread Cert.DBranchRefIdeal.nD Cert.DBranchRefIdeal.τ).loc Cert.DBranchRefIdeal.main_arg1))

def preserves_DwBranch_DwBranchIdeal : Prop :=
  True

def algebraic_DwBranchIdeal_DwBranchRefIdeal [hDwBranchIdeal : Cert.DwBranchIdeal.Facts] [hDwBranchRefIdeal : Cert.DwBranchRefIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg)
    (m' : (ℓ : Loc Cert.DwBranchRefIdeal.nD Cert.DwBranchRefIdeal.τ Cert.DwBranchRefIdeal.sig) → Buf (Elt Ideal) ℓ) (g' : Dev Cert.DwBranchRefIdeal.nD → PrngReg), Pre_DwBranchIdeal m →
    (∀ c : Dev Cert.DwBranchIdeal.nD,
      m' ((c.tc : Thread Cert.DwBranchRefIdeal.nD Cert.DwBranchRefIdeal.τ).loc Cert.DwBranchRefIdeal.main_arg0) = m ((c.tc : Thread Cert.DwBranchIdeal.nD Cert.DwBranchIdeal.τ).loc Cert.DwBranchIdeal.main_arg0)
      ∧ m' ((c.tc : Thread Cert.DwBranchRefIdeal.nD Cert.DwBranchRefIdeal.τ).loc Cert.DwBranchRefIdeal.main_arg1) = m ((c.tc : Thread Cert.DwBranchIdeal.nD Cert.DwBranchIdeal.τ).loc Cert.DwBranchIdeal.main_arg1)) →
    ∃ (v0 : (c : Dev Cert.DwBranchIdeal.nD) → Buf (Elt Ideal) ((c.tc : Thread Cert.DwBranchIdeal.nD Cert.DwBranchIdeal.τ).loc Cert.DwBranchIdeal.main_v0)),
      θ_run (Cert.DwBranchIdeal.defs (F := Ideal)) (onTc (τ := Cert.DwBranchIdeal.τ) (Cert.DwBranchIdeal.main (F := Ideal))) ⟨m, fun _ => 0, g⟩ (fun r => ∀ c : Dev Cert.DwBranchIdeal.nD,
          r.2.mem ((c.tc : Thread Cert.DwBranchIdeal.nD Cert.DwBranchIdeal.τ).loc Cert.DwBranchIdeal.main_v0) = v0 c
          ∧ r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
          ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ θ_run (Cert.DwBranchRefIdeal.defs (F := Ideal)) (onTc (τ := Cert.DwBranchRefIdeal.τ) (Cert.DwBranchRefIdeal.main (F := Ideal))) ⟨m', fun _ => 0, g'⟩ (fun r => ∀ c : Dev Cert.DwBranchRefIdeal.nD,
          r.2.mem ((c.tc : Thread Cert.DwBranchRefIdeal.nD Cert.DwBranchRefIdeal.τ).loc Cert.DwBranchRefIdeal.main_v8) = v0 c
          ∧ r.2.mem ((c.tc : Thread Cert.DwBranchRefIdeal.nD Cert.DwBranchRefIdeal.τ).loc Cert.DwBranchRefIdeal.main_arg0) = m' ((c.tc : Thread Cert.DwBranchRefIdeal.nD Cert.DwBranchRefIdeal.τ).loc Cert.DwBranchRefIdeal.main_arg0)
          ∧ r.2.mem ((c.tc : Thread Cert.DwBranchRefIdeal.nD Cert.DwBranchRefIdeal.τ).loc Cert.DwBranchRefIdeal.main_arg1) = m' ((c.tc : Thread Cert.DwBranchRefIdeal.nD Cert.DwBranchRefIdeal.τ).loc Cert.DwBranchRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v2) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)) →
    ∃ (v0 : (c : Dev Cert.DHIdeal.nD) → Buf (Elt Ideal) ((c.tc : Thread Cert.DHIdeal.nD Cert.DHIdeal.τ).loc Cert.DHIdeal.main_v0)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v0) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v4) = v0 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SumMid_SumMidIdeal : Prop :=
  True

def algebraic_SumMidIdeal_SumMidRefIdeal [hSumMidIdeal : Cert.SumMidIdeal.Facts] [hSumMidRefIdeal : Cert.SumMidRefIdeal.Facts] : Prop :=
  ∀ (m : (ℓ : Loc Cert.SumMidIdeal.nD Cert.SumMidIdeal.τ Cert.SumMidIdeal.sig) → Buf (Elt Ideal) ℓ) (g : Dev Cert.SumMidIdeal.nD → PrngReg)
    (m' : (ℓ : Loc Cert.SumMidRefIdeal.nD Cert.SumMidRefIdeal.τ Cert.SumMidRefIdeal.sig) → Buf (Elt Ideal) ℓ) (g' : Dev Cert.SumMidRefIdeal.nD → PrngReg), Pre_SumMidIdeal m →
    (∀ c : Dev Cert.SumMidIdeal.nD,
      m' ((c.tc : Thread Cert.SumMidRefIdeal.nD Cert.SumMidRefIdeal.τ).loc Cert.SumMidRefIdeal.main_arg0) = m ((c.tc : Thread Cert.SumMidIdeal.nD Cert.SumMidIdeal.τ).loc Cert.SumMidIdeal.main_arg0)) →
    ∃ (v0 : (c : Dev Cert.SumMidIdeal.nD) → Buf (Elt Ideal) ((c.tc : Thread Cert.SumMidIdeal.nD Cert.SumMidIdeal.τ).loc Cert.SumMidIdeal.main_v0)),
      θ_run (Cert.SumMidIdeal.defs (F := Ideal)) (onTc (τ := Cert.SumMidIdeal.τ) (Cert.SumMidIdeal.main (F := Ideal))) ⟨m, fun _ => 0, g⟩ (fun r => ∀ c : Dev Cert.SumMidIdeal.nD,
          r.2.mem ((c.tc : Thread Cert.SumMidIdeal.nD Cert.SumMidIdeal.τ).loc Cert.SumMidIdeal.main_v0) = v0 c
          ∧ r.2.mem ((c.tc : Thread Cert.SumMidIdeal.nD Cert.SumMidIdeal.τ).loc Cert.SumMidIdeal.main_arg0) = m ((c.tc : Thread Cert.SumMidIdeal.nD Cert.SumMidIdeal.τ).loc Cert.SumMidIdeal.main_arg0))
      ∧ θ_run (Cert.SumMidRefIdeal.defs (F := Ideal)) (onTc (τ := Cert.SumMidRefIdeal.τ) (Cert.SumMidRefIdeal.main (F := Ideal))) ⟨m', fun _ => 0, g'⟩ (fun r => ∀ c : Dev Cert.SumMidRefIdeal.nD,
          r.2.mem ((c.tc : Thread Cert.SumMidRefIdeal.nD Cert.SumMidRefIdeal.τ).loc Cert.SumMidRefIdeal.main_v0) = v0 c
          ∧ r.2.mem ((c.tc : Thread Cert.SumMidRefIdeal.nD Cert.SumMidRefIdeal.τ).loc Cert.SumMidRefIdeal.main_arg0) = m' ((c.tc : Thread Cert.SumMidRefIdeal.nD Cert.SumMidRefIdeal.τ).loc Cert.SumMidRefIdeal.main_arg0))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_arg1) = v0 c
          ∧ r.2.mem ((c.tc : Thread Cert.AdamSmallRefIdeal.nD Cert.AdamSmallRefIdeal.τ).loc Cert.AdamSmallRefIdeal.main_v23) = v1 c
          ∧ r.2.mem ((c.tc : Thread Cert.AdamSmallRefIdeal.nD Cert.AdamSmallRefIdeal.τ).loc Cert.AdamSmallRefIdeal.main_v4) = v2 c
          ∧ r.2.mem ((c.tc : Thread Cert.AdamSmallRefIdeal.nD Cert.AdamSmallRefIdeal.τ).loc Cert.AdamSmallRefIdeal.main_v10) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamMid_AdamMidIdeal : Prop :=
  True

def algebraic_AdamMidIdeal_AdamMidRefIdeal [hAdamMidIdeal : Cert.AdamMidIdeal.Facts] [hAdamMidRefIdeal : Cert.AdamMidRefIdeal.Facts] : Prop :=
  ∀ (m : (ℓ : Loc Cert.AdamMidIdeal.nD Cert.AdamMidIdeal.τ Cert.AdamMidIdeal.sig) → Buf (Elt Ideal) ℓ) (g : Dev Cert.AdamMidIdeal.nD → PrngReg)
    (m' : (ℓ : Loc Cert.AdamMidRefIdeal.nD Cert.AdamMidRefIdeal.τ Cert.AdamMidRefIdeal.sig) → Buf (Elt Ideal) ℓ) (g' : Dev Cert.AdamMidRefIdeal.nD → PrngReg), Pre_AdamMidIdeal m →
    (∀ c : Dev Cert.AdamMidIdeal.nD,
      m' ((c.tc : Thread Cert.AdamMidRefIdeal.nD Cert.AdamMidRefIdeal.τ).loc Cert.AdamMidRefIdeal.main_arg0) = m ((c.tc : Thread Cert.AdamMidIdeal.nD Cert.AdamMidIdeal.τ).loc Cert.AdamMidIdeal.main_arg0)
      ∧ m' ((c.tc : Thread Cert.AdamMidRefIdeal.nD Cert.AdamMidRefIdeal.τ).loc Cert.AdamMidRefIdeal.main_arg1) = m ((c.tc : Thread Cert.AdamMidIdeal.nD Cert.AdamMidIdeal.τ).loc Cert.AdamMidIdeal.main_arg1)
      ∧ m' ((c.tc : Thread Cert.AdamMidRefIdeal.nD Cert.AdamMidRefIdeal.τ).loc Cert.AdamMidRefIdeal.main_arg2) = m ((c.tc : Thread Cert.AdamMidIdeal.nD Cert.AdamMidIdeal.τ).loc Cert.AdamMidIdeal.main_arg2)
      ∧ m' ((c.tc : Thread Cert.AdamMidRefIdeal.nD Cert.AdamMidRefIdeal.τ).loc Cert.AdamMidRefIdeal.main_arg3) = m ((c.tc : Thread Cert.AdamMidIdeal.nD Cert.AdamMidIdeal.τ).loc Cert.AdamMidIdeal.main_arg3)) →
    ∃ (v0 : (c : Dev Cert.AdamMidIdeal.nD) → Buf (Elt Ideal) ((c.tc : Thread Cert.AdamMidIdeal.nD Cert.AdamMidIdeal.τ).loc Cert.AdamMidIdeal.main_v0_0)) (v1 : (c : Dev Cert.AdamMidIdeal.nD) → Buf (Elt Ideal) ((c.tc : Thread Cert.AdamMidIdeal.nD Cert.AdamMidIdeal.τ).loc Cert.AdamMidIdeal.main_v0_1)) (v2 : (c : Dev Cert.AdamMidIdeal.nD) → Buf (Elt Ideal) ((c.tc : Thread Cert.AdamMidIdeal.nD Cert.AdamMidIdeal.τ).loc Cert.AdamMidIdeal.main_v0_2)) (v3 : (c : Dev Cert.AdamMidIdeal.nD) → Buf (Elt Ideal) ((c.tc : Thread Cert.AdamMidIdeal.nD Cert.AdamMidIdeal.τ).loc Cert.AdamMidIdeal.main_v0_3)),
      θ_run (Cert.AdamMidIdeal.defs (F := Ideal)) (onTc (τ := Cert.AdamMidIdeal.τ) (Cert.AdamMidIdeal.main (F := Ideal))) ⟨m, fun _ => 0, g⟩ (fun r => ∀ c : Dev Cert.AdamMidIdeal.nD,
          r.2.mem ((c.tc : Thread Cert.AdamMidIdeal.nD Cert.AdamMidIdeal.τ).loc Cert.AdamMidIdeal.main_v0_0) = v0 c
          ∧ r.2.mem ((c.tc : Thread Cert.AdamMidIdeal.nD Cert.AdamMidIdeal.τ).loc Cert.AdamMidIdeal.main_v0_1) = v1 c
          ∧ r.2.mem ((c.tc : Thread Cert.AdamMidIdeal.nD Cert.AdamMidIdeal.τ).loc Cert.AdamMidIdeal.main_v0_2) = v2 c
          ∧ r.2.mem ((c.tc : Thread Cert.AdamMidIdeal.nD Cert.AdamMidIdeal.τ).loc Cert.AdamMidIdeal.main_v0_3) = v3 c
          ∧ r.2.mem ((c.tc : Thread Cert.AdamMidIdeal.nD Cert.AdamMidIdeal.τ).loc Cert.AdamMidIdeal.main_arg0) = m ((c.tc : Thread Cert.AdamMidIdeal.nD Cert.AdamMidIdeal.τ).loc Cert.AdamMidIdeal.main_arg0)
          ∧ r.2.mem ((c.tc : Thread Cert.AdamMidIdeal.nD Cert.AdamMidIdeal.τ).loc Cert.AdamMidIdeal.main_arg1) = m ((c.tc : Thread Cert.AdamMidIdeal.nD Cert.AdamMidIdeal.τ).loc Cert.AdamMidIdeal.main_arg1)
          ∧ r.2.mem ((c.tc : Thread Cert.AdamMidIdeal.nD Cert.AdamMidIdeal.τ).loc Cert.AdamMidIdeal.main_arg2) = m ((c.tc : Thread Cert.AdamMidIdeal.nD Cert.AdamMidIdeal.τ).loc Cert.AdamMidIdeal.main_arg2)
          ∧ r.2.mem ((c.tc : Thread Cert.AdamMidIdeal.nD Cert.AdamMidIdeal.τ).loc Cert.AdamMidIdeal.main_arg3) = m ((c.tc : Thread Cert.AdamMidIdeal.nD Cert.AdamMidIdeal.τ).loc Cert.AdamMidIdeal.main_arg3))
      ∧ θ_run (Cert.AdamMidRefIdeal.defs (F := Ideal)) (onTc (τ := Cert.AdamMidRefIdeal.τ) (Cert.AdamMidRefIdeal.main (F := Ideal))) ⟨m', fun _ => 0, g'⟩ (fun r => ∀ c : Dev Cert.AdamMidRefIdeal.nD,
          r.2.mem ((c.tc : Thread Cert.AdamMidRefIdeal.nD Cert.AdamMidRefIdeal.τ).loc Cert.AdamMidRefIdeal.main_arg1) = v0 c
          ∧ r.2.mem ((c.tc : Thread Cert.AdamMidRefIdeal.nD Cert.AdamMidRefIdeal.τ).loc Cert.AdamMidRefIdeal.main_v23) = v1 c
          ∧ r.2.mem ((c.tc : Thread Cert.AdamMidRefIdeal.nD Cert.AdamMidRefIdeal.τ).loc Cert.AdamMidRefIdeal.main_v4) = v2 c
          ∧ r.2.mem ((c.tc : Thread Cert.AdamMidRefIdeal.nD Cert.AdamMidRefIdeal.τ).loc Cert.AdamMidRefIdeal.main_v10) = v3 c
          ∧ r.2.mem ((c.tc : Thread Cert.AdamMidRefIdeal.nD Cert.AdamMidRefIdeal.τ).loc Cert.AdamMidRefIdeal.main_arg0) = m' ((c.tc : Thread Cert.AdamMidRefIdeal.nD Cert.AdamMidRefIdeal.τ).loc Cert.AdamMidRefIdeal.main_arg0)
          ∧ r.2.mem ((c.tc : Thread Cert.AdamMidRefIdeal.nD Cert.AdamMidRefIdeal.τ).loc Cert.AdamMidRefIdeal.main_arg1) = m' ((c.tc : Thread Cert.AdamMidRefIdeal.nD Cert.AdamMidRefIdeal.τ).loc Cert.AdamMidRefIdeal.main_arg1)
          ∧ r.2.mem ((c.tc : Thread Cert.AdamMidRefIdeal.nD Cert.AdamMidRefIdeal.τ).loc Cert.AdamMidRefIdeal.main_arg2) = m' ((c.tc : Thread Cert.AdamMidRefIdeal.nD Cert.AdamMidRefIdeal.τ).loc Cert.AdamMidRefIdeal.main_arg2)
          ∧ r.2.mem ((c.tc : Thread Cert.AdamMidRefIdeal.nD Cert.AdamMidRefIdeal.τ).loc Cert.AdamMidRefIdeal.main_arg3) = m' ((c.tc : Thread Cert.AdamMidRefIdeal.nD Cert.AdamMidRefIdeal.τ).loc Cert.AdamMidRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)) (v2 : (c : Dev Cert.RmsBwdIdeal.nD) → Buf (Elt Ideal) ((c.tc : Thread Cert.RmsBwdIdeal.nD Cert.RmsBwdIdeal.τ).loc Cert.RmsBwdIdeal.main_v1_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_v1_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v36) = v0 c
          ∧ r.2.mem ((c.tc : Thread Cert.RmsBwdRefIdeal.nD Cert.RmsBwdRefIdeal.τ).loc Cert.RmsBwdRefIdeal.main_v37) = v1 c
          ∧ r.2.mem ((c.tc : Thread Cert.RmsBwdRefIdeal.nD Cert.RmsBwdRefIdeal.τ).loc Cert.RmsBwdRefIdeal.main_v38) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_v53) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)
      ∧ m' ((c.tc : Thread Cert.AdamInRefIdeal.nD Cert.AdamInRefIdeal.τ).loc Cert.AdamInRefIdeal.main_arg6) = m ((c.tc : Thread Cert.AdamInIdeal.nD Cert.AdamInIdeal.τ).loc Cert.AdamInIdeal.main_arg6)
      ∧ m' ((c.tc : Thread Cert.AdamInRefIdeal.nD Cert.AdamInRefIdeal.τ).loc Cert.AdamInRefIdeal.main_arg7) = m ((c.tc : Thread Cert.AdamInIdeal.nD Cert.AdamInIdeal.τ).loc Cert.AdamInIdeal.main_arg7)
      ∧ m' ((c.tc : Thread Cert.AdamInRefIdeal.nD Cert.AdamInRefIdeal.τ).loc Cert.AdamInRefIdeal.main_arg8) = m ((c.tc : Thread Cert.AdamInIdeal.nD Cert.AdamInIdeal.τ).loc Cert.AdamInIdeal.main_arg8)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6)
          ∧ r.2.mem ((c.tc : Thread Cert.AdamInIdeal.nD Cert.AdamInIdeal.τ).loc Cert.AdamInIdeal.main_arg7) = m ((c.tc : Thread Cert.AdamInIdeal.nD Cert.AdamInIdeal.τ).loc Cert.AdamInIdeal.main_arg7)
          ∧ r.2.mem ((c.tc : Thread Cert.AdamInIdeal.nD Cert.AdamInIdeal.τ).loc Cert.AdamInIdeal.main_arg8) = m ((c.tc : Thread Cert.AdamInIdeal.nD Cert.AdamInIdeal.τ).loc Cert.AdamInIdeal.main_arg8))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v13) = v0 c
          ∧ r.2.mem ((c.tc : Thread Cert.AdamInRefIdeal.nD Cert.AdamInRefIdeal.τ).loc Cert.AdamInRefIdeal.main_v37) = v1 c
          ∧ r.2.mem ((c.tc : Thread Cert.AdamInRefIdeal.nD Cert.AdamInRefIdeal.τ).loc Cert.AdamInRefIdeal.main_v18) = v2 c
          ∧ r.2.mem ((c.tc : Thread Cert.AdamInRefIdeal.nD Cert.AdamInRefIdeal.τ).loc Cert.AdamInRefIdeal.main_v24) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5)
          ∧ r.2.mem ((c.tc : Thread Cert.AdamInRefIdeal.nD Cert.AdamInRefIdeal.τ).loc Cert.AdamInRefIdeal.main_arg6) = m' ((c.tc : Thread Cert.AdamInRefIdeal.nD Cert.AdamInRefIdeal.τ).loc Cert.AdamInRefIdeal.main_arg6)
          ∧ r.2.mem ((c.tc : Thread Cert.AdamInRefIdeal.nD Cert.AdamInRefIdeal.τ).loc Cert.AdamInRefIdeal.main_arg7) = m' ((c.tc : Thread Cert.AdamInRefIdeal.nD Cert.AdamInRefIdeal.τ).loc Cert.AdamInRefIdeal.main_arg7)
          ∧ r.2.mem ((c.tc : Thread Cert.AdamInRefIdeal.nD Cert.AdamInRefIdeal.τ).loc Cert.AdamInRefIdeal.main_arg8) = m' ((c.tc : Thread Cert.AdamInRefIdeal.nD Cert.AdamInRefIdeal.τ).loc Cert.AdamInRefIdeal.main_arg8))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)
      ∧ m' ((c.tc : Thread Cert.AdamBranchRefIdeal.nD Cert.AdamBranchRefIdeal.τ).loc Cert.AdamBranchRefIdeal.main_arg4) = m ((c.tc : Thread Cert.AdamBranchIdeal.nD Cert.AdamBranchIdeal.τ).loc Cert.AdamBranchIdeal.main_arg4)
      ∧ m' ((c.tc : Thread Cert.AdamBranchRefIdeal.nD Cert.AdamBranchRefIdeal.τ).loc Cert.AdamBranchRefIdeal.main_arg5) = m ((c.tc : Thread Cert.AdamBranchIdeal.nD Cert.AdamBranchIdeal.τ).loc Cert.AdamBranchIdeal.main_arg5)
      ∧ m' ((c.tc : Thread Cert.AdamBranchRefIdeal.nD Cert.AdamBranchRefIdeal.τ).loc Cert.AdamBranchRefIdeal.main_arg6) = m ((c.tc : Thread Cert.AdamBranchIdeal.nD Cert.AdamBranchIdeal.τ).loc Cert.AdamBranchIdeal.main_arg6)
      ∧ m' ((c.tc : Thread Cert.AdamBranchRefIdeal.nD Cert.AdamBranchRefIdeal.τ).loc Cert.AdamBranchRefIdeal.main_arg7) = m ((c.tc : Thread Cert.AdamBranchIdeal.nD Cert.AdamBranchIdeal.τ).loc Cert.AdamBranchIdeal.main_arg7)
      ∧ m' ((c.tc : Thread Cert.AdamBranchRefIdeal.nD Cert.AdamBranchRefIdeal.τ).loc Cert.AdamBranchRefIdeal.main_arg8) = m ((c.tc : Thread Cert.AdamBranchIdeal.nD Cert.AdamBranchIdeal.τ).loc Cert.AdamBranchIdeal.main_arg8)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)) (v3 : (c : Dev Cert.AdamBranchIdeal.nD) → Buf (Elt Ideal) ((c.tc : Thread Cert.AdamBranchIdeal.nD Cert.AdamBranchIdeal.τ).loc Cert.AdamBranchIdeal.main_v0_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_v0_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3)
          ∧ r.2.mem ((c.tc : Thread Cert.AdamBranchIdeal.nD Cert.AdamBranchIdeal.τ).loc Cert.AdamBranchIdeal.main_arg4) = m ((c.tc : Thread Cert.AdamBranchIdeal.nD Cert.AdamBranchIdeal.τ).loc Cert.AdamBranchIdeal.main_arg4)
          ∧ r.2.mem ((c.tc : Thread Cert.AdamBranchIdeal.nD Cert.AdamBranchIdeal.τ).loc Cert.AdamBranchIdeal.main_arg5) = m ((c.tc : Thread Cert.AdamBranchIdeal.nD Cert.AdamBranchIdeal.τ).loc Cert.AdamBranchIdeal.main_arg5)
          ∧ r.2.mem ((c.tc : Thread Cert.AdamBranchIdeal.nD Cert.AdamBranchIdeal.τ).loc Cert.AdamBranchIdeal.main_arg6) = m ((c.tc : Thread Cert.AdamBranchIdeal.nD Cert.AdamBranchIdeal.τ).loc Cert.AdamBranchIdeal.main_arg6)
          ∧ r.2.mem ((c.tc : Thread Cert.AdamBranchIdeal.nD Cert.AdamBranchIdeal.τ).loc Cert.AdamBranchIdeal.main_arg7) = m ((c.tc : Thread Cert.AdamBranchIdeal.nD Cert.AdamBranchIdeal.τ).loc Cert.AdamBranchIdeal.main_arg7)
          ∧ r.2.mem ((c.tc : Thread Cert.AdamBranchIdeal.nD Cert.AdamBranchIdeal.τ).loc Cert.AdamBranchIdeal.main_arg8) = m ((c.tc : Thread Cert.AdamBranchIdeal.nD Cert.AdamBranchIdeal.τ).loc Cert.AdamBranchIdeal.main_arg8))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v13) = v0 c
          ∧ r.2.mem ((c.tc : Thread Cert.AdamBranchRefIdeal.nD Cert.AdamBranchRefIdeal.τ).loc Cert.AdamBranchRefIdeal.main_v37) = v1 c
          ∧ r.2.mem ((c.tc : Thread Cert.AdamBranchRefIdeal.nD Cert.AdamBranchRefIdeal.τ).loc Cert.AdamBranchRefIdeal.main_v18) = v2 c
          ∧ r.2.mem ((c.tc : Thread Cert.AdamBranchRefIdeal.nD Cert.AdamBranchRefIdeal.τ).loc Cert.AdamBranchRefIdeal.main_v24) = v3 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3)
          ∧ r.2.mem ((c.tc : Thread Cert.AdamBranchRefIdeal.nD Cert.AdamBranchRefIdeal.τ).loc Cert.AdamBranchRefIdeal.main_arg4) = m' ((c.tc : Thread Cert.AdamBranchRefIdeal.nD Cert.AdamBranchRefIdeal.τ).loc Cert.AdamBranchRefIdeal.main_arg4)
          ∧ r.2.mem ((c.tc : Thread Cert.AdamBranchRefIdeal.nD Cert.AdamBranchRefIdeal.τ).loc Cert.AdamBranchRefIdeal.main_arg5) = m' ((c.tc : Thread Cert.AdamBranchRefIdeal.nD Cert.AdamBranchRefIdeal.τ).loc Cert.AdamBranchRefIdeal.main_arg5)
          ∧ r.2.mem ((c.tc : Thread Cert.AdamBranchRefIdeal.nD Cert.AdamBranchRefIdeal.τ).loc Cert.AdamBranchRefIdeal.main_arg6) = m' ((c.tc : Thread Cert.AdamBranchRefIdeal.nD Cert.AdamBranchRefIdeal.τ).loc Cert.AdamBranchRefIdeal.main_arg6)
          ∧ r.2.mem ((c.tc : Thread Cert.AdamBranchRefIdeal.nD Cert.AdamBranchRefIdeal.τ).loc Cert.AdamBranchRefIdeal.main_arg7) = m' ((c.tc : Thread Cert.AdamBranchRefIdeal.nD Cert.AdamBranchRefIdeal.τ).loc Cert.AdamBranchRefIdeal.main_arg7)
          ∧ r.2.mem ((c.tc : Thread Cert.AdamBranchRefIdeal.nD Cert.AdamBranchRefIdeal.τ).loc Cert.AdamBranchRefIdeal.main_arg8) = m' ((c.tc : Thread Cert.AdamBranchRefIdeal.nD Cert.AdamBranchRefIdeal.τ).loc Cert.AdamBranchRefIdeal.main_arg8))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)
      ∧ m' ((c.tc : Thread Cert.AdamOutRefIdeal.nD Cert.AdamOutRefIdeal.τ).loc Cert.AdamOutRefIdeal.main_arg6) = m ((c.tc : Thread Cert.AdamOutIdeal.nD Cert.AdamOutIdeal.τ).loc Cert.AdamOutIdeal.main_arg6)
      ∧ m' ((c.tc : Thread Cert.AdamOutRefIdeal.nD Cert.AdamOutRefIdeal.τ).loc Cert.AdamOutRefIdeal.main_arg7) = m ((c.tc : Thread Cert.AdamOutIdeal.nD Cert.AdamOutIdeal.τ).loc Cert.AdamOutIdeal.main_arg7)
      ∧ m' ((c.tc : Thread Cert.AdamOutRefIdeal.nD Cert.AdamOutRefIdeal.τ).loc Cert.AdamOutRefIdeal.main_arg8) = m ((c.tc : Thread Cert.AdamOutIdeal.nD Cert.AdamOutIdeal.τ).loc Cert.AdamOutIdeal.main_arg8)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
          ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7)
          ∧ r.2.mem ((c.tc : Thread Cert.AdamOutIdeal.nD Cert.AdamOutIdeal.τ).loc Cert.AdamOutIdeal.main_arg8) = m ((c.tc : Thread Cert.AdamOutIdeal.nD Cert.AdamOutIdeal.τ).loc Cert.AdamOutIdeal.main_arg8))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v13) = v0 c
          ∧ r.2.mem ((c.tc : Thread Cert.AdamOutRefIdeal.nD Cert.AdamOutRefIdeal.τ).loc Cert.AdamOutRefIdeal.main_v37) = v1 c
          ∧ r.2.mem ((c.tc : Thread Cert.AdamOutRefIdeal.nD Cert.AdamOutRefIdeal.τ).loc Cert.AdamOutRefIdeal.main_v18) = v2 c
          ∧ r.2.mem ((c.tc : Thread Cert.AdamOutRefIdeal.nD Cert.AdamOutRefIdeal.τ).loc Cert.AdamOutRefIdeal.main_v24) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5)
          ∧ r.2.mem ((c.tc : Thread Cert.AdamOutRefIdeal.nD Cert.AdamOutRefIdeal.τ).loc Cert.AdamOutRefIdeal.main_arg6) = m' ((c.tc : Thread Cert.AdamOutRefIdeal.nD Cert.AdamOutRefIdeal.τ).loc Cert.AdamOutRefIdeal.main_arg6)
          ∧ r.2.mem ((c.tc : Thread Cert.AdamOutRefIdeal.nD Cert.AdamOutRefIdeal.τ).loc Cert.AdamOutRefIdeal.main_arg7) = m' ((c.tc : Thread Cert.AdamOutRefIdeal.nD Cert.AdamOutRefIdeal.τ).loc Cert.AdamOutRefIdeal.main_arg7)
          ∧ r.2.mem ((c.tc : Thread Cert.AdamOutRefIdeal.nD Cert.AdamOutRefIdeal.τ).loc Cert.AdamOutRefIdeal.main_arg8) = m' ((c.tc : Thread Cert.AdamOutRefIdeal.nD Cert.AdamOutRefIdeal.τ).loc Cert.AdamOutRefIdeal.main_arg8))

def preserves_AdamMlp_AdamMlpIdeal : Prop :=
  True

def algebraic_AdamMlpIdeal_AdamMlpRefIdeal [hAdamMlpIdeal : Cert.AdamMlpIdeal.Facts] [hAdamMlpRefIdeal : Cert.AdamMlpRefIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg)
    (m' : (ℓ : Loc Cert.AdamMlpRefIdeal.nD Cert.AdamMlpRefIdeal.τ Cert.AdamMlpRefIdeal.sig) → Buf (Elt Ideal) ℓ) (g' : Dev Cert.AdamMlpRefIdeal.nD → PrngReg), Pre_AdamMlpIdeal m →
    (∀ c : Dev Cert.AdamMlpIdeal.nD,
      m' ((c.tc : Thread Cert.AdamMlpRefIdeal.nD Cert.AdamMlpRefIdeal.τ).loc Cert.AdamMlpRefIdeal.main_arg0) = m ((c.tc : Thread Cert.AdamMlpIdeal.nD Cert.AdamMlpIdeal.τ).loc Cert.AdamMlpIdeal.main_arg0)
      ∧ m' ((c.tc : Thread Cert.AdamMlpRefIdeal.nD Cert.AdamMlpRefIdeal.τ).loc Cert.AdamMlpRefIdeal.main_arg1) = m ((c.tc : Thread Cert.AdamMlpIdeal.nD Cert.AdamMlpIdeal.τ).loc Cert.AdamMlpIdeal.main_arg1)
      ∧ m' ((c.tc : Thread Cert.AdamMlpRefIdeal.nD Cert.AdamMlpRefIdeal.τ).loc Cert.AdamMlpRefIdeal.main_arg2) = m ((c.tc : Thread Cert.AdamMlpIdeal.nD Cert.AdamMlpIdeal.τ).loc Cert.AdamMlpIdeal.main_arg2)
      ∧ m' ((c.tc : Thread Cert.AdamMlpRefIdeal.nD Cert.AdamMlpRefIdeal.τ).loc Cert.AdamMlpRefIdeal.main_arg3) = m ((c.tc : Thread Cert.AdamMlpIdeal.nD Cert.AdamMlpIdeal.τ).loc Cert.AdamMlpIdeal.main_arg3)
      ∧ m' ((c.tc : Thread Cert.AdamMlpRefIdeal.nD Cert.AdamMlpRefIdeal.τ).loc Cert.AdamMlpRefIdeal.main_arg4) = m ((c.tc : Thread Cert.AdamMlpIdeal.nD Cert.AdamMlpIdeal.τ).loc Cert.AdamMlpIdeal.main_arg4)
      ∧ m' ((c.tc : Thread Cert.AdamMlpRefIdeal.nD Cert.AdamMlpRefIdeal.τ).loc Cert.AdamMlpRefIdeal.main_arg5) = m ((c.tc : Thread Cert.AdamMlpIdeal.nD Cert.AdamMlpIdeal.τ).loc Cert.AdamMlpIdeal.main_arg5)
      ∧ m' ((c.tc : Thread Cert.AdamMlpRefIdeal.nD Cert.AdamMlpRefIdeal.τ).loc Cert.AdamMlpRefIdeal.main_arg6) = m ((c.tc : Thread Cert.AdamMlpIdeal.nD Cert.AdamMlpIdeal.τ).loc Cert.AdamMlpIdeal.main_arg6)
      ∧ m' ((c.tc : Thread Cert.AdamMlpRefIdeal.nD Cert.AdamMlpRefIdeal.τ).loc Cert.AdamMlpRefIdeal.main_arg7) = m ((c.tc : Thread Cert.AdamMlpIdeal.nD Cert.AdamMlpIdeal.τ).loc Cert.AdamMlpIdeal.main_arg7)
      ∧ m' ((c.tc : Thread Cert.AdamMlpRefIdeal.nD Cert.AdamMlpRefIdeal.τ).loc Cert.AdamMlpRefIdeal.main_arg8) = m ((c.tc : Thread Cert.AdamMlpIdeal.nD Cert.AdamMlpIdeal.τ).loc Cert.AdamMlpIdeal.main_arg8)) →
    ∃ (v0 : (c : Dev Cert.AdamMlpIdeal.nD) → Buf (Elt Ideal) ((c.tc : Thread Cert.AdamMlpIdeal.nD Cert.AdamMlpIdeal.τ).loc Cert.AdamMlpIdeal.main_v0_0)) (v1 : (c : Dev Cert.AdamMlpIdeal.nD) → Buf (Elt Ideal) ((c.tc : Thread Cert.AdamMlpIdeal.nD Cert.AdamMlpIdeal.τ).loc Cert.AdamMlpIdeal.main_v0_1)) (v2 : (c : Dev Cert.AdamMlpIdeal.nD) → Buf (Elt Ideal) ((c.tc : Thread Cert.AdamMlpIdeal.nD Cert.AdamMlpIdeal.τ).loc Cert.AdamMlpIdeal.main_v0_2)) (v3 : (c : Dev Cert.AdamMlpIdeal.nD) → Buf (Elt Ideal) ((c.tc : Thread Cert.AdamMlpIdeal.nD Cert.AdamMlpIdeal.τ).loc Cert.AdamMlpIdeal.main_v0_3)),
      θ_run (Cert.AdamMlpIdeal.defs (F := Ideal)) (onTc (τ := Cert.AdamMlpIdeal.τ) (Cert.AdamMlpIdeal.main (F := Ideal))) ⟨m, fun _ => 0, g⟩ (fun r => ∀ c : Dev Cert.AdamMlpIdeal.nD,
          r.2.mem ((c.tc : Thread Cert.AdamMlpIdeal.nD Cert.AdamMlpIdeal.τ).loc Cert.AdamMlpIdeal.main_v0_0) = v0 c
          ∧ r.2.mem ((c.tc : Thread Cert.AdamMlpIdeal.nD Cert.AdamMlpIdeal.τ).loc Cert.AdamMlpIdeal.main_v0_1) = v1 c
          ∧ r.2.mem ((c.tc : Thread Cert.AdamMlpIdeal.nD Cert.AdamMlpIdeal.τ).loc Cert.AdamMlpIdeal.main_v0_2) = v2 c
          ∧ r.2.mem ((c.tc : Thread Cert.AdamMlpIdeal.nD Cert.AdamMlpIdeal.τ).loc Cert.AdamMlpIdeal.main_v0_3) = v3 c
          ∧ r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
          ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
          ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
          ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3)
          ∧ r.2.mem ((c.tc : Thread Cert.AdamMlpIdeal.nD Cert.AdamMlpIdeal.τ).loc Cert.AdamMlpIdeal.main_arg4) = m ((c.tc : Thread Cert.AdamMlpIdeal.nD Cert.AdamMlpIdeal.τ).loc Cert.AdamMlpIdeal.main_arg4)
          ∧ r.2.mem ((c.tc : Thread Cert.AdamMlpIdeal.nD Cert.AdamMlpIdeal.τ).loc Cert.AdamMlpIdeal.main_arg5) = m ((c.tc : Thread Cert.AdamMlpIdeal.nD Cert.AdamMlpIdeal.τ).loc Cert.AdamMlpIdeal.main_arg5)
          ∧ r.2.mem ((c.tc : Thread Cert.AdamMlpIdeal.nD Cert.AdamMlpIdeal.τ).loc Cert.AdamMlpIdeal.main_arg6) = m ((c.tc : Thread Cert.AdamMlpIdeal.nD Cert.AdamMlpIdeal.τ).loc Cert.AdamMlpIdeal.main_arg6)
          ∧ r.2.mem ((c.tc : Thread Cert.AdamMlpIdeal.nD Cert.AdamMlpIdeal.τ).loc Cert.AdamMlpIdeal.main_arg7) = m ((c.tc : Thread Cert.AdamMlpIdeal.nD Cert.AdamMlpIdeal.τ).loc Cert.AdamMlpIdeal.main_arg7)
          ∧ r.2.mem ((c.tc : Thread Cert.AdamMlpIdeal.nD Cert.AdamMlpIdeal.τ).loc Cert.AdamMlpIdeal.main_arg8) = m ((c.tc : Thread Cert.AdamMlpIdeal.nD Cert.AdamMlpIdeal.τ).loc Cert.AdamMlpIdeal.main_arg8))
      ∧ θ_run (Cert.AdamMlpRefIdeal.defs (F := Ideal)) (onTc (τ := Cert.AdamMlpRefIdeal.τ) (Cert.AdamMlpRefIdeal.main (F := Ideal))) ⟨m', fun _ => 0, g'⟩ (fun r => ∀ c : Dev Cert.AdamMlpRefIdeal.nD,
          r.2.mem ((c.tc : Thread Cert.AdamMlpRefIdeal.nD Cert.AdamMlpRefIdeal.τ).loc Cert.AdamMlpRefIdeal.main_v13) = v0 c
          ∧ r.2.mem ((c.tc : Thread Cert.AdamMlpRefIdeal.nD Cert.AdamMlpRefIdeal.τ).loc Cert.AdamMlpRefIdeal.main_v37) = v1 c
          ∧ r.2.mem ((c.tc : Thread Cert.AdamMlpRefIdeal.nD Cert.AdamMlpRefIdeal.τ).loc Cert.AdamMlpRefIdeal.main_v18) = v2 c
          ∧ r.2.mem ((c.tc : Thread Cert.AdamMlpRefIdeal.nD Cert.AdamMlpRefIdeal.τ).loc Cert.AdamMlpRefIdeal.main_v24) = v3 c
          ∧ r.2.mem ((c.tc : Thread Cert.AdamMlpRefIdeal.nD Cert.AdamMlpRefIdeal.τ).loc Cert.AdamMlpRefIdeal.main_arg0) = m' ((c.tc : Thread Cert.AdamMlpRefIdeal.nD Cert.AdamMlpRefIdeal.τ).loc Cert.AdamMlpRefIdeal.main_arg0)
          ∧ r.2.mem ((c.tc : Thread Cert.AdamMlpRefIdeal.nD Cert.AdamMlpRefIdeal.τ).loc Cert.AdamMlpRefIdeal.main_arg1) = m' ((c.tc : Thread Cert.AdamMlpRefIdeal.nD Cert.AdamMlpRefIdeal.τ).loc Cert.AdamMlpRefIdeal.main_arg1)
          ∧ r.2.mem ((c.tc : Thread Cert.AdamMlpRefIdeal.nD Cert.AdamMlpRefIdeal.τ).loc Cert.AdamMlpRefIdeal.main_arg2) = m' ((c.tc : Thread Cert.AdamMlpRefIdeal.nD Cert.AdamMlpRefIdeal.τ).loc Cert.AdamMlpRefIdeal.main_arg2)
          ∧ r.2.mem ((c.tc : Thread Cert.AdamMlpRefIdeal.nD Cert.AdamMlpRefIdeal.τ).loc Cert.AdamMlpRefIdeal.main_arg3) = m' ((c.tc : Thread Cert.AdamMlpRefIdeal.nD Cert.AdamMlpRefIdeal.τ).loc Cert.AdamMlpRefIdeal.main_arg3)
          ∧ r.2.mem ((c.tc : Thread Cert.AdamMlpRefIdeal.nD Cert.AdamMlpRefIdeal.τ).loc Cert.AdamMlpRefIdeal.main_arg4) = m' ((c.tc : Thread Cert.AdamMlpRefIdeal.nD Cert.AdamMlpRefIdeal.τ).loc Cert.AdamMlpRefIdeal.main_arg4)
          ∧ r.2.mem ((c.tc : Thread Cert.AdamMlpRefIdeal.nD Cert.AdamMlpRefIdeal.τ).loc Cert.AdamMlpRefIdeal.main_arg5) = m' ((c.tc : Thread Cert.AdamMlpRefIdeal.nD Cert.AdamMlpRefIdeal.τ).loc Cert.AdamMlpRefIdeal.main_arg5)
          ∧ r.2.mem ((c.tc : Thread Cert.AdamMlpRefIdeal.nD Cert.AdamMlpRefIdeal.τ).loc Cert.AdamMlpRefIdeal.main_arg6) = m' ((c.tc : Thread Cert.AdamMlpRefIdeal.nD Cert.AdamMlpRefIdeal.τ).loc Cert.AdamMlpRefIdeal.main_arg6)
          ∧ r.2.mem ((c.tc : Thread Cert.AdamMlpRefIdeal.nD Cert.AdamMlpRefIdeal.τ).loc Cert.AdamMlpRefIdeal.main_arg7) = m' ((c.tc : Thread Cert.AdamMlpRefIdeal.nD Cert.AdamMlpRefIdeal.τ).loc Cert.AdamMlpRefIdeal.main_arg7)
          ∧ r.2.mem ((c.tc : Thread Cert.AdamMlpRefIdeal.nD Cert.AdamMlpRefIdeal.τ).loc Cert.AdamMlpRefIdeal.main_arg8) = m' ((c.tc : Thread Cert.AdamMlpRefIdeal.nD Cert.AdamMlpRefIdeal.τ).loc Cert.AdamMlpRefIdeal.main_arg8))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v17) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def preserves_GdnPostFwd_GdnPostFwdIdeal : Prop :=
  True

def algebraic_GdnPostFwdIdeal_GdnPostFwdRefIdeal [hGdnPostFwdIdeal : Cert.GdnPostFwdIdeal.Facts] [hGdnPostFwdRefIdeal : Cert.GdnPostFwdRefIdeal.Facts] : Prop :=
  ∀ (m : (ℓ : Loc Cert.GdnPostFwdIdeal.nD Cert.GdnPostFwdIdeal.τ Cert.GdnPostFwdIdeal.sig) → Buf (Elt Ideal) ℓ) (g : Dev Cert.GdnPostFwdIdeal.nD → PrngReg)
    (m' : (ℓ : Loc Cert.GdnPostFwdRefIdeal.nD Cert.GdnPostFwdRefIdeal.τ Cert.GdnPostFwdRefIdeal.sig) → Buf (Elt Ideal) ℓ) (g' : Dev Cert.GdnPostFwdRefIdeal.nD → PrngReg), Pre_GdnPostFwdIdeal m →
    (∀ c : Dev Cert.GdnPostFwdIdeal.nD,
      m' ((c.tc : Thread Cert.GdnPostFwdRefIdeal.nD Cert.GdnPostFwdRefIdeal.τ).loc Cert.GdnPostFwdRefIdeal.main_arg0) = m ((c.tc : Thread Cert.GdnPostFwdIdeal.nD Cert.GdnPostFwdIdeal.τ).loc Cert.GdnPostFwdIdeal.main_arg0)
      ∧ m' ((c.tc : Thread Cert.GdnPostFwdRefIdeal.nD Cert.GdnPostFwdRefIdeal.τ).loc Cert.GdnPostFwdRefIdeal.main_arg1) = m ((c.tc : Thread Cert.GdnPostFwdIdeal.nD Cert.GdnPostFwdIdeal.τ).loc Cert.GdnPostFwdIdeal.main_arg1)
      ∧ m' ((c.tc : Thread Cert.GdnPostFwdRefIdeal.nD Cert.GdnPostFwdRefIdeal.τ).loc Cert.GdnPostFwdRefIdeal.main_arg2) = m ((c.tc : Thread Cert.GdnPostFwdIdeal.nD Cert.GdnPostFwdIdeal.τ).loc Cert.GdnPostFwdIdeal.main_arg2)) →
    ∃ (v0 : (c : Dev Cert.GdnPostFwdIdeal.nD) → Buf (Elt Ideal) ((c.tc : Thread Cert.GdnPostFwdIdeal.nD Cert.GdnPostFwdIdeal.τ).loc Cert.GdnPostFwdIdeal.main_v1)),
      θ_run (Cert.GdnPostFwdIdeal.defs (F := Ideal)) (onTc (τ := Cert.GdnPostFwdIdeal.τ) (Cert.GdnPostFwdIdeal.main (F := Ideal))) ⟨m, fun _ => 0, g⟩ (fun r => ∀ c : Dev Cert.GdnPostFwdIdeal.nD,
          r.2.mem ((c.tc : Thread Cert.GdnPostFwdIdeal.nD Cert.GdnPostFwdIdeal.τ).loc Cert.GdnPostFwdIdeal.main_v1) = v0 c
          ∧ r.2.mem ((c.tc : Thread Cert.GdnPostFwdIdeal.nD Cert.GdnPostFwdIdeal.τ).loc Cert.GdnPostFwdIdeal.main_arg0) = m ((c.tc : Thread Cert.GdnPostFwdIdeal.nD Cert.GdnPostFwdIdeal.τ).loc Cert.GdnPostFwdIdeal.main_arg0)
          ∧ r.2.mem ((c.tc : Thread Cert.GdnPostFwdIdeal.nD Cert.GdnPostFwdIdeal.τ).loc Cert.GdnPostFwdIdeal.main_arg1) = m ((c.tc : Thread Cert.GdnPostFwdIdeal.nD Cert.GdnPostFwdIdeal.τ).loc Cert.GdnPostFwdIdeal.main_arg1)
          ∧ r.2.mem ((c.tc : Thread Cert.GdnPostFwdIdeal.nD Cert.GdnPostFwdIdeal.τ).loc Cert.GdnPostFwdIdeal.main_arg2) = m ((c.tc : Thread Cert.GdnPostFwdIdeal.nD Cert.GdnPostFwdIdeal.τ).loc Cert.GdnPostFwdIdeal.main_arg2))
      ∧ θ_run (Cert.GdnPostFwdRefIdeal.defs (F := Ideal)) (onTc (τ := Cert.GdnPostFwdRefIdeal.τ) (Cert.GdnPostFwdRefIdeal.main (F := Ideal))) ⟨m', fun _ => 0, g'⟩ (fun r => ∀ c : Dev Cert.GdnPostFwdRefIdeal.nD,
          r.2.mem ((c.tc : Thread Cert.GdnPostFwdRefIdeal.nD Cert.GdnPostFwdRefIdeal.τ).loc Cert.GdnPostFwdRefIdeal.main_v25) = v0 c
          ∧ r.2.mem ((c.tc : Thread Cert.GdnPostFwdRefIdeal.nD Cert.GdnPostFwdRefIdeal.τ).loc Cert.GdnPostFwdRefIdeal.main_arg0) = m' ((c.tc : Thread Cert.GdnPostFwdRefIdeal.nD Cert.GdnPostFwdRefIdeal.τ).loc Cert.GdnPostFwdRefIdeal.main_arg0)
          ∧ r.2.mem ((c.tc : Thread Cert.GdnPostFwdRefIdeal.nD Cert.GdnPostFwdRefIdeal.τ).loc Cert.GdnPostFwdRefIdeal.main_arg1) = m' ((c.tc : Thread Cert.GdnPostFwdRefIdeal.nD Cert.GdnPostFwdRefIdeal.τ).loc Cert.GdnPostFwdRefIdeal.main_arg1)
          ∧ r.2.mem ((c.tc : Thread Cert.GdnPostFwdRefIdeal.nD Cert.GdnPostFwdRefIdeal.τ).loc Cert.GdnPostFwdRefIdeal.main_arg2) = m' ((c.tc : Thread Cert.GdnPostFwdRefIdeal.nD Cert.GdnPostFwdRefIdeal.τ).loc Cert.GdnPostFwdRefIdeal.main_arg2))

def preserves_DabReduce_DabReduceIdeal : Prop :=
  True

def algebraic_DabReduceIdeal_DabReduceRefIdeal [hDabReduceIdeal : Cert.DabReduceIdeal.Facts] [hDabReduceRefIdeal : Cert.DabReduceRefIdeal.Facts] : Prop :=
  ∀ (m : (ℓ : Loc Cert.DabReduceIdeal.nD Cert.DabReduceIdeal.τ Cert.DabReduceIdeal.sig) → Buf (Elt Ideal) ℓ) (g : Dev Cert.DabReduceIdeal.nD → PrngReg)
    (m' : (ℓ : Loc Cert.DabReduceRefIdeal.nD Cert.DabReduceRefIdeal.τ Cert.DabReduceRefIdeal.sig) → Buf (Elt Ideal) ℓ) (g' : Dev Cert.DabReduceRefIdeal.nD → PrngReg), Pre_DabReduceIdeal m →
    (∀ c : Dev Cert.DabReduceIdeal.nD,
      m' ((c.tc : Thread Cert.DabReduceRefIdeal.nD Cert.DabReduceRefIdeal.τ).loc Cert.DabReduceRefIdeal.main_arg0) = m ((c.tc : Thread Cert.DabReduceIdeal.nD Cert.DabReduceIdeal.τ).loc Cert.DabReduceIdeal.main_arg0)) →
    ∃ (v0 : (c : Dev Cert.DabReduceIdeal.nD) → Buf (Elt Ideal) ((c.tc : Thread Cert.DabReduceIdeal.nD Cert.DabReduceIdeal.τ).loc Cert.DabReduceIdeal.main_v0_0)) (v1 : (c : Dev Cert.DabReduceIdeal.nD) → Buf (Elt Ideal) ((c.tc : Thread Cert.DabReduceIdeal.nD Cert.DabReduceIdeal.τ).loc Cert.DabReduceIdeal.main_v0_1)),
      θ_run (Cert.DabReduceIdeal.defs (F := Ideal)) (onTc (τ := Cert.DabReduceIdeal.τ) (Cert.DabReduceIdeal.main (F := Ideal))) ⟨m, fun _ => 0, g⟩ (fun r => ∀ c : Dev Cert.DabReduceIdeal.nD,
          r.2.mem ((c.tc : Thread Cert.DabReduceIdeal.nD Cert.DabReduceIdeal.τ).loc Cert.DabReduceIdeal.main_v0_0) = v0 c
          ∧ r.2.mem ((c.tc : Thread Cert.DabReduceIdeal.nD Cert.DabReduceIdeal.τ).loc Cert.DabReduceIdeal.main_v0_1) = v1 c
          ∧ r.2.mem ((c.tc : Thread Cert.DabReduceIdeal.nD Cert.DabReduceIdeal.τ).loc Cert.DabReduceIdeal.main_arg0) = m ((c.tc : Thread Cert.DabReduceIdeal.nD Cert.DabReduceIdeal.τ).loc Cert.DabReduceIdeal.main_arg0))
      ∧ θ_run (Cert.DabReduceRefIdeal.defs (F := Ideal)) (onTc (τ := Cert.DabReduceRefIdeal.τ) (Cert.DabReduceRefIdeal.main (F := Ideal))) ⟨m', fun _ => 0, g'⟩ (fun r => ∀ c : Dev Cert.DabReduceRefIdeal.nD,
          r.2.mem ((c.tc : Thread Cert.DabReduceRefIdeal.nD Cert.DabReduceRefIdeal.τ).loc Cert.DabReduceRefIdeal.main_v1) = v0 c
          ∧ r.2.mem ((c.tc : Thread Cert.DabReduceRefIdeal.nD Cert.DabReduceRefIdeal.τ).loc Cert.DabReduceRefIdeal.main_v3) = v1 c
          ∧ r.2.mem ((c.tc : Thread Cert.DabReduceRefIdeal.nD Cert.DabReduceRefIdeal.τ).loc Cert.DabReduceRefIdeal.main_arg0) = m' ((c.tc : Thread Cert.DabReduceRefIdeal.nD Cert.DabReduceRefIdeal.τ).loc Cert.DabReduceRefIdeal.main_arg0))

def preserves_LruConvFwd_LruConvFwdIdeal : Prop :=
  True

def algebraic_LruConvFwdIdeal_LruConvFwdRefIdeal [hLruConvFwdIdeal : Cert.LruConvFwdIdeal.Facts] [hLruConvFwdRefIdeal : Cert.LruConvFwdRefIdeal.Facts] : Prop :=
  ∀ (m : (ℓ : Loc Cert.LruConvFwdIdeal.nD Cert.LruConvFwdIdeal.τ Cert.LruConvFwdIdeal.sig) → Buf (Elt Ideal) ℓ) (g : Dev Cert.LruConvFwdIdeal.nD → PrngReg)
    (m' : (ℓ : Loc Cert.LruConvFwdRefIdeal.nD Cert.LruConvFwdRefIdeal.τ Cert.LruConvFwdRefIdeal.sig) → Buf (Elt Ideal) ℓ) (g' : Dev Cert.LruConvFwdRefIdeal.nD → PrngReg), Pre_LruConvFwdIdeal m →
    (∀ c : Dev Cert.LruConvFwdIdeal.nD,
      m' ((c.tc : Thread Cert.LruConvFwdRefIdeal.nD Cert.LruConvFwdRefIdeal.τ).loc Cert.LruConvFwdRefIdeal.main_arg0) = m ((c.tc : Thread Cert.LruConvFwdIdeal.nD Cert.LruConvFwdIdeal.τ).loc Cert.LruConvFwdIdeal.main_arg0)
      ∧ m' ((c.tc : Thread Cert.LruConvFwdRefIdeal.nD Cert.LruConvFwdRefIdeal.τ).loc Cert.LruConvFwdRefIdeal.main_arg1) = m ((c.tc : Thread Cert.LruConvFwdIdeal.nD Cert.LruConvFwdIdeal.τ).loc Cert.LruConvFwdIdeal.main_arg1)
      ∧ m' ((c.tc : Thread Cert.LruConvFwdRefIdeal.nD Cert.LruConvFwdRefIdeal.τ).loc Cert.LruConvFwdRefIdeal.main_arg2) = m ((c.tc : Thread Cert.LruConvFwdIdeal.nD Cert.LruConvFwdIdeal.τ).loc Cert.LruConvFwdIdeal.main_arg2)) →
    ∃ (v0 : (c : Dev Cert.LruConvFwdIdeal.nD) → Buf (Elt Ideal) ((c.tc : Thread Cert.LruConvFwdIdeal.nD Cert.LruConvFwdIdeal.τ).loc Cert.LruConvFwdIdeal.main_v1)),
      θ_run (Cert.LruConvFwdIdeal.defs (F := Ideal)) (onTc (τ := Cert.LruConvFwdIdeal.τ) (Cert.LruConvFwdIdeal.main (F := Ideal))) ⟨m, fun _ => 0, g⟩ (fun r => ∀ c : Dev Cert.LruConvFwdIdeal.nD,
          r.2.mem ((c.tc : Thread Cert.LruConvFwdIdeal.nD Cert.LruConvFwdIdeal.τ).loc Cert.LruConvFwdIdeal.main_v1) = v0 c
          ∧ r.2.mem ((c.tc : Thread Cert.LruConvFwdIdeal.nD Cert.LruConvFwdIdeal.τ).loc Cert.LruConvFwdIdeal.main_arg0) = m ((c.tc : Thread Cert.LruConvFwdIdeal.nD Cert.LruConvFwdIdeal.τ).loc Cert.LruConvFwdIdeal.main_arg0)
          ∧ r.2.mem ((c.tc : Thread Cert.LruConvFwdIdeal.nD Cert.LruConvFwdIdeal.τ).loc Cert.LruConvFwdIdeal.main_arg1) = m ((c.tc : Thread Cert.LruConvFwdIdeal.nD Cert.LruConvFwdIdeal.τ).loc Cert.LruConvFwdIdeal.main_arg1)
          ∧ r.2.mem ((c.tc : Thread Cert.LruConvFwdIdeal.nD Cert.LruConvFwdIdeal.τ).loc Cert.LruConvFwdIdeal.main_arg2) = m ((c.tc : Thread Cert.LruConvFwdIdeal.nD Cert.LruConvFwdIdeal.τ).loc Cert.LruConvFwdIdeal.main_arg2))
      ∧ θ_run (Cert.LruConvFwdRefIdeal.defs (F := Ideal)) (onTc (τ := Cert.LruConvFwdRefIdeal.τ) (Cert.LruConvFwdRefIdeal.main (F := Ideal))) ⟨m', fun _ => 0, g'⟩ (fun r => ∀ c : Dev Cert.LruConvFwdRefIdeal.nD,
          r.2.mem ((c.tc : Thread Cert.LruConvFwdRefIdeal.nD Cert.LruConvFwdRefIdeal.τ).loc Cert.LruConvFwdRefIdeal.main_v32) = v0 c
          ∧ r.2.mem ((c.tc : Thread Cert.LruConvFwdRefIdeal.nD Cert.LruConvFwdRefIdeal.τ).loc Cert.LruConvFwdRefIdeal.main_arg0) = m' ((c.tc : Thread Cert.LruConvFwdRefIdeal.nD Cert.LruConvFwdRefIdeal.τ).loc Cert.LruConvFwdRefIdeal.main_arg0)
          ∧ r.2.mem ((c.tc : Thread Cert.LruConvFwdRefIdeal.nD Cert.LruConvFwdRefIdeal.τ).loc Cert.LruConvFwdRefIdeal.main_arg1) = m' ((c.tc : Thread Cert.LruConvFwdRefIdeal.nD Cert.LruConvFwdRefIdeal.τ).loc Cert.LruConvFwdRefIdeal.main_arg1)
          ∧ r.2.mem ((c.tc : Thread Cert.LruConvFwdRefIdeal.nD Cert.LruConvFwdRefIdeal.τ).loc Cert.LruConvFwdRefIdeal.main_arg2) = m' ((c.tc : Thread Cert.LruConvFwdRefIdeal.nD Cert.LruConvFwdRefIdeal.τ).loc Cert.LruConvFwdRefIdeal.main_arg2))

def preserves_LruConvBwd_LruConvBwdIdeal : Prop :=
  True

def algebraic_LruConvBwdIdeal_LruConvBwdRefIdeal [hLruConvBwdIdeal : Cert.LruConvBwdIdeal.Facts] [hLruConvBwdRefIdeal : Cert.LruConvBwdRefIdeal.Facts] : Prop :=
  ∀ (m : (ℓ : Loc Cert.LruConvBwdIdeal.nD Cert.LruConvBwdIdeal.τ Cert.LruConvBwdIdeal.sig) → Buf (Elt Ideal) ℓ) (g : Dev Cert.LruConvBwdIdeal.nD → PrngReg)
    (m' : (ℓ : Loc Cert.LruConvBwdRefIdeal.nD Cert.LruConvBwdRefIdeal.τ Cert.LruConvBwdRefIdeal.sig) → Buf (Elt Ideal) ℓ) (g' : Dev Cert.LruConvBwdRefIdeal.nD → PrngReg), Pre_LruConvBwdIdeal m →
    (∀ c : Dev Cert.LruConvBwdIdeal.nD,
      m' ((c.tc : Thread Cert.LruConvBwdRefIdeal.nD Cert.LruConvBwdRefIdeal.τ).loc Cert.LruConvBwdRefIdeal.main_arg0) = m ((c.tc : Thread Cert.LruConvBwdIdeal.nD Cert.LruConvBwdIdeal.τ).loc Cert.LruConvBwdIdeal.main_arg0)
      ∧ m' ((c.tc : Thread Cert.LruConvBwdRefIdeal.nD Cert.LruConvBwdRefIdeal.τ).loc Cert.LruConvBwdRefIdeal.main_arg1) = m ((c.tc : Thread Cert.LruConvBwdIdeal.nD Cert.LruConvBwdIdeal.τ).loc Cert.LruConvBwdIdeal.main_arg1)
      ∧ m' ((c.tc : Thread Cert.LruConvBwdRefIdeal.nD Cert.LruConvBwdRefIdeal.τ).loc Cert.LruConvBwdRefIdeal.main_arg2) = m ((c.tc : Thread Cert.LruConvBwdIdeal.nD Cert.LruConvBwdIdeal.τ).loc Cert.LruConvBwdIdeal.main_arg2)) →
    ∃ (v0 : (c : Dev Cert.LruConvBwdIdeal.nD) → Buf (Elt Ideal) ((c.tc : Thread Cert.LruConvBwdIdeal.nD Cert.LruConvBwdIdeal.τ).loc Cert.LruConvBwdIdeal.main_v0_0)) (v1 : (c : Dev Cert.LruConvBwdIdeal.nD) → Buf (Elt Ideal) ((c.tc : Thread Cert.LruConvBwdIdeal.nD Cert.LruConvBwdIdeal.τ).loc Cert.LruConvBwdIdeal.main_v0_1)) (v2 : (c : Dev Cert.LruConvBwdIdeal.nD) → Buf (Elt Ideal) ((c.tc : Thread Cert.LruConvBwdIdeal.nD Cert.LruConvBwdIdeal.τ).loc Cert.LruConvBwdIdeal.main_v0_2)),
      θ_run (Cert.LruConvBwdIdeal.defs (F := Ideal)) (onTc (τ := Cert.LruConvBwdIdeal.τ) (Cert.LruConvBwdIdeal.main (F := Ideal))) ⟨m, fun _ => 0, g⟩ (fun r => ∀ c : Dev Cert.LruConvBwdIdeal.nD,
          r.2.mem ((c.tc : Thread Cert.LruConvBwdIdeal.nD Cert.LruConvBwdIdeal.τ).loc Cert.LruConvBwdIdeal.main_v0_0) = v0 c
          ∧ r.2.mem ((c.tc : Thread Cert.LruConvBwdIdeal.nD Cert.LruConvBwdIdeal.τ).loc Cert.LruConvBwdIdeal.main_v0_1) = v1 c
          ∧ r.2.mem ((c.tc : Thread Cert.LruConvBwdIdeal.nD Cert.LruConvBwdIdeal.τ).loc Cert.LruConvBwdIdeal.main_v0_2) = v2 c
          ∧ r.2.mem ((c.tc : Thread Cert.LruConvBwdIdeal.nD Cert.LruConvBwdIdeal.τ).loc Cert.LruConvBwdIdeal.main_arg0) = m ((c.tc : Thread Cert.LruConvBwdIdeal.nD Cert.LruConvBwdIdeal.τ).loc Cert.LruConvBwdIdeal.main_arg0)
          ∧ r.2.mem ((c.tc : Thread Cert.LruConvBwdIdeal.nD Cert.LruConvBwdIdeal.τ).loc Cert.LruConvBwdIdeal.main_arg1) = m ((c.tc : Thread Cert.LruConvBwdIdeal.nD Cert.LruConvBwdIdeal.τ).loc Cert.LruConvBwdIdeal.main_arg1)
          ∧ r.2.mem ((c.tc : Thread Cert.LruConvBwdIdeal.nD Cert.LruConvBwdIdeal.τ).loc Cert.LruConvBwdIdeal.main_arg2) = m ((c.tc : Thread Cert.LruConvBwdIdeal.nD Cert.LruConvBwdIdeal.τ).loc Cert.LruConvBwdIdeal.main_arg2))
      ∧ θ_run (Cert.LruConvBwdRefIdeal.defs (F := Ideal)) (onTc (τ := Cert.LruConvBwdRefIdeal.τ) (Cert.LruConvBwdRefIdeal.main (F := Ideal))) ⟨m', fun _ => 0, g'⟩ (fun r => ∀ c : Dev Cert.LruConvBwdRefIdeal.nD,
          r.2.mem ((c.tc : Thread Cert.LruConvBwdRefIdeal.nD Cert.LruConvBwdRefIdeal.τ).loc Cert.LruConvBwdRefIdeal.main_v82) = v0 c
          ∧ r.2.mem ((c.tc : Thread Cert.LruConvBwdRefIdeal.nD Cert.LruConvBwdRefIdeal.τ).loc Cert.LruConvBwdRefIdeal.main_v78) = v1 c
          ∧ r.2.mem ((c.tc : Thread Cert.LruConvBwdRefIdeal.nD Cert.LruConvBwdRefIdeal.τ).loc Cert.LruConvBwdRefIdeal.main_v83) = v2 c
          ∧ r.2.mem ((c.tc : Thread Cert.LruConvBwdRefIdeal.nD Cert.LruConvBwdRefIdeal.τ).loc Cert.LruConvBwdRefIdeal.main_arg0) = m' ((c.tc : Thread Cert.LruConvBwdRefIdeal.nD Cert.LruConvBwdRefIdeal.τ).loc Cert.LruConvBwdRefIdeal.main_arg0)
          ∧ r.2.mem ((c.tc : Thread Cert.LruConvBwdRefIdeal.nD Cert.LruConvBwdRefIdeal.τ).loc Cert.LruConvBwdRefIdeal.main_arg1) = m' ((c.tc : Thread Cert.LruConvBwdRefIdeal.nD Cert.LruConvBwdRefIdeal.τ).loc Cert.LruConvBwdRefIdeal.main_arg1)
          ∧ r.2.mem ((c.tc : Thread Cert.LruConvBwdRefIdeal.nD Cert.LruConvBwdRefIdeal.τ).loc Cert.LruConvBwdRefIdeal.main_arg2) = m' ((c.tc : Thread Cert.LruConvBwdRefIdeal.nD Cert.LruConvBwdRefIdeal.τ).loc Cert.LruConvBwdRefIdeal.main_arg2))

def preserves_GdnConvBwd_GdnConvBwdIdeal : Prop :=
  True

def algebraic_GdnConvBwdIdeal_GdnConvBwdRefIdeal [hGdnConvBwdIdeal : Cert.GdnConvBwdIdeal.Facts] [hGdnConvBwdRefIdeal : Cert.GdnConvBwdRefIdeal.Facts] : Prop :=
  ∀ (m : (ℓ : Loc Cert.GdnConvBwdIdeal.nD Cert.GdnConvBwdIdeal.τ Cert.GdnConvBwdIdeal.sig) → Buf (Elt Ideal) ℓ) (g : Dev Cert.GdnConvBwdIdeal.nD → PrngReg)
    (m' : (ℓ : Loc Cert.GdnConvBwdRefIdeal.nD Cert.GdnConvBwdRefIdeal.τ Cert.GdnConvBwdRefIdeal.sig) → Buf (Elt Ideal) ℓ) (g' : Dev Cert.GdnConvBwdRefIdeal.nD → PrngReg), Pre_GdnConvBwdIdeal m →
    (∀ c : Dev Cert.GdnConvBwdIdeal.nD,
      m' ((c.tc : Thread Cert.GdnConvBwdRefIdeal.nD Cert.GdnConvBwdRefIdeal.τ).loc Cert.GdnConvBwdRefIdeal.main_arg0) = m ((c.tc : Thread Cert.GdnConvBwdIdeal.nD Cert.GdnConvBwdIdeal.τ).loc Cert.GdnConvBwdIdeal.main_arg0)
      ∧ m' ((c.tc : Thread Cert.GdnConvBwdRefIdeal.nD Cert.GdnConvBwdRefIdeal.τ).loc Cert.GdnConvBwdRefIdeal.main_arg1) = m ((c.tc : Thread Cert.GdnConvBwdIdeal.nD Cert.GdnConvBwdIdeal.τ).loc Cert.GdnConvBwdIdeal.main_arg1)
      ∧ m' ((c.tc : Thread Cert.GdnConvBwdRefIdeal.nD Cert.GdnConvBwdRefIdeal.τ).loc Cert.GdnConvBwdRefIdeal.main_arg2) = m ((c.tc : Thread Cert.GdnConvBwdIdeal.nD Cert.GdnConvBwdIdeal.τ).loc Cert.GdnConvBwdIdeal.main_arg2)) →
    ∃ (v0 : (c : Dev Cert.GdnConvBwdIdeal.nD) → Buf (Elt Ideal) ((c.tc : Thread Cert.GdnConvBwdIdeal.nD Cert.GdnConvBwdIdeal.τ).loc Cert.GdnConvBwdIdeal.main_v0_0)) (v1 : (c : Dev Cert.GdnConvBwdIdeal.nD) → Buf (Elt Ideal) ((c.tc : Thread Cert.GdnConvBwdIdeal.nD Cert.GdnConvBwdIdeal.τ).loc Cert.GdnConvBwdIdeal.main_v0_1)) (v2 : (c : Dev Cert.GdnConvBwdIdeal.nD) → Buf (Elt Ideal) ((c.tc : Thread Cert.GdnConvBwdIdeal.nD Cert.GdnConvBwdIdeal.τ).loc Cert.GdnConvBwdIdeal.main_v0_2)),
      θ_run (Cert.GdnConvBwdIdeal.defs (F := Ideal)) (onTc (τ := Cert.GdnConvBwdIdeal.τ) (Cert.GdnConvBwdIdeal.main (F := Ideal))) ⟨m, fun _ => 0, g⟩ (fun r => ∀ c : Dev Cert.GdnConvBwdIdeal.nD,
          r.2.mem ((c.tc : Thread Cert.GdnConvBwdIdeal.nD Cert.GdnConvBwdIdeal.τ).loc Cert.GdnConvBwdIdeal.main_v0_0) = v0 c
          ∧ r.2.mem ((c.tc : Thread Cert.GdnConvBwdIdeal.nD Cert.GdnConvBwdIdeal.τ).loc Cert.GdnConvBwdIdeal.main_v0_1) = v1 c
          ∧ r.2.mem ((c.tc : Thread Cert.GdnConvBwdIdeal.nD Cert.GdnConvBwdIdeal.τ).loc Cert.GdnConvBwdIdeal.main_v0_2) = v2 c
          ∧ r.2.mem ((c.tc : Thread Cert.GdnConvBwdIdeal.nD Cert.GdnConvBwdIdeal.τ).loc Cert.GdnConvBwdIdeal.main_arg0) = m ((c.tc : Thread Cert.GdnConvBwdIdeal.nD Cert.GdnConvBwdIdeal.τ).loc Cert.GdnConvBwdIdeal.main_arg0)
          ∧ r.2.mem ((c.tc : Thread Cert.GdnConvBwdIdeal.nD Cert.GdnConvBwdIdeal.τ).loc Cert.GdnConvBwdIdeal.main_arg1) = m ((c.tc : Thread Cert.GdnConvBwdIdeal.nD Cert.GdnConvBwdIdeal.τ).loc Cert.GdnConvBwdIdeal.main_arg1)
          ∧ r.2.mem ((c.tc : Thread Cert.GdnConvBwdIdeal.nD Cert.GdnConvBwdIdeal.τ).loc Cert.GdnConvBwdIdeal.main_arg2) = m ((c.tc : Thread Cert.GdnConvBwdIdeal.nD Cert.GdnConvBwdIdeal.τ).loc Cert.GdnConvBwdIdeal.main_arg2))
      ∧ θ_run (Cert.GdnConvBwdRefIdeal.defs (F := Ideal)) (onTc (τ := Cert.GdnConvBwdRefIdeal.τ) (Cert.GdnConvBwdRefIdeal.main (F := Ideal))) ⟨m', fun _ => 0, g'⟩ (fun r => ∀ c : Dev Cert.GdnConvBwdRefIdeal.nD,
          r.2.mem ((c.tc : Thread Cert.GdnConvBwdRefIdeal.nD Cert.GdnConvBwdRefIdeal.τ).loc Cert.GdnConvBwdRefIdeal.main_v82) = v0 c
          ∧ r.2.mem ((c.tc : Thread Cert.GdnConvBwdRefIdeal.nD Cert.GdnConvBwdRefIdeal.τ).loc Cert.GdnConvBwdRefIdeal.main_v78) = v1 c
          ∧ r.2.mem ((c.tc : Thread Cert.GdnConvBwdRefIdeal.nD Cert.GdnConvBwdRefIdeal.τ).loc Cert.GdnConvBwdRefIdeal.main_v83) = v2 c
          ∧ r.2.mem ((c.tc : Thread Cert.GdnConvBwdRefIdeal.nD Cert.GdnConvBwdRefIdeal.τ).loc Cert.GdnConvBwdRefIdeal.main_arg0) = m' ((c.tc : Thread Cert.GdnConvBwdRefIdeal.nD Cert.GdnConvBwdRefIdeal.τ).loc Cert.GdnConvBwdRefIdeal.main_arg0)
          ∧ r.2.mem ((c.tc : Thread Cert.GdnConvBwdRefIdeal.nD Cert.GdnConvBwdRefIdeal.τ).loc Cert.GdnConvBwdRefIdeal.main_arg1) = m' ((c.tc : Thread Cert.GdnConvBwdRefIdeal.nD Cert.GdnConvBwdRefIdeal.τ).loc Cert.GdnConvBwdRefIdeal.main_arg1)
          ∧ r.2.mem ((c.tc : Thread Cert.GdnConvBwdRefIdeal.nD Cert.GdnConvBwdRefIdeal.τ).loc Cert.GdnConvBwdRefIdeal.main_arg2) = m' ((c.tc : Thread Cert.GdnConvBwdRefIdeal.nD Cert.GdnConvBwdRefIdeal.τ).loc Cert.GdnConvBwdRefIdeal.main_arg2))

def Claim : Prop :=
  ∃ (hMergeBwd : Cert.MergeBwd.Facts) (hMergeBwdIdeal : Cert.MergeBwdIdeal.Facts) (hMergeBwdRefIdeal : Cert.MergeBwdRefIdeal.Facts) (hDMlpAct : Cert.DMlpAct.Facts) (hDMlpActIdeal : Cert.DMlpActIdeal.Facts) (hDMlpActRefIdeal : Cert.DMlpActRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDH2 : Cert.DH2.Facts) (hDH2Ideal : Cert.DH2Ideal.Facts) (hDH2RefIdeal : Cert.DH2RefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hDMerged : Cert.DMerged.Facts) (hDMergedIdeal : Cert.DMergedIdeal.Facts) (hDMergedRefIdeal : Cert.DMergedRefIdeal.Facts) (hDwOut : Cert.DwOut.Facts) (hDwOutIdeal : Cert.DwOutIdeal.Facts) (hDwOutRefIdeal : Cert.DwOutRefIdeal.Facts) (hOutProj : Cert.OutProj.Facts) (hOutProjIdeal : Cert.OutProjIdeal.Facts) (hOutProjRefIdeal : Cert.OutProjRefIdeal.Facts) (hDBranch : Cert.DBranch.Facts) (hDBranchIdeal : Cert.DBranchIdeal.Facts) (hDBranchRefIdeal : Cert.DBranchRefIdeal.Facts) (hDwBranch : Cert.DwBranch.Facts) (hDwBranchIdeal : Cert.DwBranchIdeal.Facts) (hDwBranchRefIdeal : Cert.DwBranchRefIdeal.Facts) (hBranch : Cert.Branch.Facts) (hBranchIdeal : Cert.BranchIdeal.Facts) (hBranchRefIdeal : Cert.BranchRefIdeal.Facts) (hDH : Cert.DH.Facts) (hDHIdeal : Cert.DHIdeal.Facts) (hDHRefIdeal : Cert.DHRefIdeal.Facts) (hDwIn : Cert.DwIn.Facts) (hDwInIdeal : Cert.DwInIdeal.Facts) (hDwInRefIdeal : Cert.DwInRefIdeal.Facts) (hProj : Cert.Proj.Facts) (hProjIdeal : Cert.ProjIdeal.Facts) (hProjRefIdeal : Cert.ProjRefIdeal.Facts) (hSumSmall : Cert.SumSmall.Facts) (hSumSmallIdeal : Cert.SumSmallIdeal.Facts) (hSumSmallRefIdeal : Cert.SumSmallRefIdeal.Facts) (hSumMid : Cert.SumMid.Facts) (hSumMidIdeal : Cert.SumMidIdeal.Facts) (hSumMidRefIdeal : Cert.SumMidRefIdeal.Facts) (hAdamSmall : Cert.AdamSmall.Facts) (hAdamSmallIdeal : Cert.AdamSmallIdeal.Facts) (hAdamSmallRefIdeal : Cert.AdamSmallRefIdeal.Facts) (hAdamMid : Cert.AdamMid.Facts) (hAdamMidIdeal : Cert.AdamMidIdeal.Facts) (hAdamMidRefIdeal : Cert.AdamMidRefIdeal.Facts) (hRmsFwd : Cert.RmsFwd.Facts) (hRmsFwdIdeal : Cert.RmsFwdIdeal.Facts) (hRmsFwdRefIdeal : Cert.RmsFwdRefIdeal.Facts) (hRmsBwd : Cert.RmsBwd.Facts) (hRmsBwdIdeal : Cert.RmsBwdIdeal.Facts) (hRmsBwdRefIdeal : Cert.RmsBwdRefIdeal.Facts) (hLossHead : Cert.LossHead.Facts) (hLossHeadIdeal : Cert.LossHeadIdeal.Facts) (hLossHeadRefIdeal : Cert.LossHeadRefIdeal.Facts) (hAdamIn : Cert.AdamIn.Facts) (hAdamInIdeal : Cert.AdamInIdeal.Facts) (hAdamInRefIdeal : Cert.AdamInRefIdeal.Facts) (hAdamBranch : Cert.AdamBranch.Facts) (hAdamBranchIdeal : Cert.AdamBranchIdeal.Facts) (hAdamBranchRefIdeal : Cert.AdamBranchRefIdeal.Facts) (hAdamOut : Cert.AdamOut.Facts) (hAdamOutIdeal : Cert.AdamOutIdeal.Facts) (hAdamOutRefIdeal : Cert.AdamOutRefIdeal.Facts) (hAdamMlp : Cert.AdamMlp.Facts) (hAdamMlpIdeal : Cert.AdamMlpIdeal.Facts) (hAdamMlpRefIdeal : Cert.AdamMlpRefIdeal.Facts) (hMergeFwd : Cert.MergeFwd.Facts) (hMergeFwdIdeal : Cert.MergeFwdIdeal.Facts) (hMergeFwdRefIdeal : Cert.MergeFwdRefIdeal.Facts) (hGdnPostFwd : Cert.GdnPostFwd.Facts) (hGdnPostFwdIdeal : Cert.GdnPostFwdIdeal.Facts) (hGdnPostFwdRefIdeal : Cert.GdnPostFwdRefIdeal.Facts) (hDabReduce : Cert.DabReduce.Facts) (hDabReduceIdeal : Cert.DabReduceIdeal.Facts) (hDabReduceRefIdeal : Cert.DabReduceRefIdeal.Facts) (hLruConvFwd : Cert.LruConvFwd.Facts) (hLruConvFwdIdeal : Cert.LruConvFwdIdeal.Facts) (hLruConvFwdRefIdeal : Cert.LruConvFwdRefIdeal.Facts) (hLruConvBwd : Cert.LruConvBwd.Facts) (hLruConvBwdIdeal : Cert.LruConvBwdIdeal.Facts) (hLruConvBwdRefIdeal : Cert.LruConvBwdRefIdeal.Facts) (hGdnConvBwd : Cert.GdnConvBwd.Facts) (hGdnConvBwdIdeal : Cert.GdnConvBwdIdeal.Facts) (hGdnConvBwdRefIdeal : Cert.GdnConvBwdRefIdeal.Facts),
    quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_DMlpAct (hDMlpAct := hDMlpAct)
    ∧ quiescent_DMlpActIdeal (hDMlpActIdeal := hDMlpActIdeal)
    ∧ quiescent_DMlpActRefIdeal (hDMlpActRefIdeal := hDMlpActRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DH2 (hDH2 := hDH2)
    ∧ quiescent_DH2Ideal (hDH2Ideal := hDH2Ideal)
    ∧ quiescent_DH2RefIdeal (hDH2RefIdeal := hDH2RefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DBranch (hDBranch := hDBranch)
    ∧ quiescent_DBranchIdeal (hDBranchIdeal := hDBranchIdeal)
    ∧ quiescent_DBranchRefIdeal (hDBranchRefIdeal := hDBranchRefIdeal)
    ∧ quiescent_DwBranch (hDwBranch := hDwBranch)
    ∧ quiescent_DwBranchIdeal (hDwBranchIdeal := hDwBranchIdeal)
    ∧ quiescent_DwBranchRefIdeal (hDwBranchRefIdeal := hDwBranchRefIdeal)
    ∧ quiescent_Branch (hBranch := hBranch)
    ∧ quiescent_BranchIdeal (hBranchIdeal := hBranchIdeal)
    ∧ quiescent_BranchRefIdeal (hBranchRefIdeal := hBranchRefIdeal)
    ∧ quiescent_DH (hDH := hDH)
    ∧ quiescent_DHIdeal (hDHIdeal := hDHIdeal)
    ∧ quiescent_DHRefIdeal (hDHRefIdeal := hDHRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Proj (hProj := hProj)
    ∧ quiescent_ProjIdeal (hProjIdeal := hProjIdeal)
    ∧ quiescent_ProjRefIdeal (hProjRefIdeal := hProjRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumMid (hSumMid := hSumMid)
    ∧ quiescent_SumMidIdeal (hSumMidIdeal := hSumMidIdeal)
    ∧ quiescent_SumMidRefIdeal (hSumMidRefIdeal := hSumMidRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamMid (hAdamMid := hAdamMid)
    ∧ quiescent_AdamMidIdeal (hAdamMidIdeal := hAdamMidIdeal)
    ∧ quiescent_AdamMidRefIdeal (hAdamMidRefIdeal := hAdamMidRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamMlp (hAdamMlp := hAdamMlp)
    ∧ quiescent_AdamMlpIdeal (hAdamMlpIdeal := hAdamMlpIdeal)
    ∧ quiescent_AdamMlpRefIdeal (hAdamMlpRefIdeal := hAdamMlpRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_GdnPostFwd (hGdnPostFwd := hGdnPostFwd)
    ∧ quiescent_GdnPostFwdIdeal (hGdnPostFwdIdeal := hGdnPostFwdIdeal)
    ∧ quiescent_GdnPostFwdRefIdeal (hGdnPostFwdRefIdeal := hGdnPostFwdRefIdeal)
    ∧ quiescent_DabReduce (hDabReduce := hDabReduce)
    ∧ quiescent_DabReduceIdeal (hDabReduceIdeal := hDabReduceIdeal)
    ∧ quiescent_DabReduceRefIdeal (hDabReduceRefIdeal := hDabReduceRefIdeal)
    ∧ quiescent_LruConvFwd (hLruConvFwd := hLruConvFwd)
    ∧ quiescent_LruConvFwdIdeal (hLruConvFwdIdeal := hLruConvFwdIdeal)
    ∧ quiescent_LruConvFwdRefIdeal (hLruConvFwdRefIdeal := hLruConvFwdRefIdeal)
    ∧ quiescent_LruConvBwd (hLruConvBwd := hLruConvBwd)
    ∧ quiescent_LruConvBwdIdeal (hLruConvBwdIdeal := hLruConvBwdIdeal)
    ∧ quiescent_LruConvBwdRefIdeal (hLruConvBwdRefIdeal := hLruConvBwdRefIdeal)
    ∧ quiescent_GdnConvBwd (hGdnConvBwd := hGdnConvBwd)
    ∧ quiescent_GdnConvBwdIdeal (hGdnConvBwdIdeal := hGdnConvBwdIdeal)
    ∧ quiescent_GdnConvBwdRefIdeal (hGdnConvBwdRefIdeal := hGdnConvBwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_DMlpAct_DMlpActIdeal
    ∧ algebraic_DMlpActIdeal_DMlpActRefIdeal (hDMlpActIdeal := hDMlpActIdeal) (hDMlpActRefIdeal := hDMlpActRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_DH2_DH2Ideal
    ∧ algebraic_DH2Ideal_DH2RefIdeal (hDH2Ideal := hDH2Ideal) (hDH2RefIdeal := hDH2RefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_DMerged_DMergedIdeal
    ∧ algebraic_DMergedIdeal_DMergedRefIdeal (hDMergedIdeal := hDMergedIdeal) (hDMergedRefIdeal := hDMergedRefIdeal)
    ∧ preserves_DwOut_DwOutIdeal
    ∧ algebraic_DwOutIdeal_DwOutRefIdeal (hDwOutIdeal := hDwOutIdeal) (hDwOutRefIdeal := hDwOutRefIdeal)
    ∧ preserves_OutProj_OutProjIdeal
    ∧ algebraic_OutProjIdeal_OutProjRefIdeal (hOutProjIdeal := hOutProjIdeal) (hOutProjRefIdeal := hOutProjRefIdeal)
    ∧ preserves_DBranch_DBranchIdeal
    ∧ algebraic_DBranchIdeal_DBranchRefIdeal (hDBranchIdeal := hDBranchIdeal) (hDBranchRefIdeal := hDBranchRefIdeal)
    ∧ preserves_DwBranch_DwBranchIdeal
    ∧ algebraic_DwBranchIdeal_DwBranchRefIdeal (hDwBranchIdeal := hDwBranchIdeal) (hDwBranchRefIdeal := hDwBranchRefIdeal)
    ∧ preserves_Branch_BranchIdeal
    ∧ algebraic_BranchIdeal_BranchRefIdeal (hBranchIdeal := hBranchIdeal) (hBranchRefIdeal := hBranchRefIdeal)
    ∧ preserves_DH_DHIdeal
    ∧ algebraic_DHIdeal_DHRefIdeal (hDHIdeal := hDHIdeal) (hDHRefIdeal := hDHRefIdeal)
    ∧ preserves_DwIn_DwInIdeal
    ∧ algebraic_DwInIdeal_DwInRefIdeal (hDwInIdeal := hDwInIdeal) (hDwInRefIdeal := hDwInRefIdeal)
    ∧ preserves_Proj_ProjIdeal
    ∧ algebraic_ProjIdeal_ProjRefIdeal (hProjIdeal := hProjIdeal) (hProjRefIdeal := hProjRefIdeal)
    ∧ preserves_SumSmall_SumSmallIdeal
    ∧ algebraic_SumSmallIdeal_SumSmallRefIdeal (hSumSmallIdeal := hSumSmallIdeal) (hSumSmallRefIdeal := hSumSmallRefIdeal)
    ∧ preserves_SumMid_SumMidIdeal
    ∧ algebraic_SumMidIdeal_SumMidRefIdeal (hSumMidIdeal := hSumMidIdeal) (hSumMidRefIdeal := hSumMidRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamMid_AdamMidIdeal
    ∧ algebraic_AdamMidIdeal_AdamMidRefIdeal (hAdamMidIdeal := hAdamMidIdeal) (hAdamMidRefIdeal := hAdamMidRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamIn_AdamInIdeal
    ∧ algebraic_AdamInIdeal_AdamInRefIdeal (hAdamInIdeal := hAdamInIdeal) (hAdamInRefIdeal := hAdamInRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamMlp_AdamMlpIdeal
    ∧ algebraic_AdamMlpIdeal_AdamMlpRefIdeal (hAdamMlpIdeal := hAdamMlpIdeal) (hAdamMlpRefIdeal := hAdamMlpRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_GdnPostFwd_GdnPostFwdIdeal
    ∧ algebraic_GdnPostFwdIdeal_GdnPostFwdRefIdeal (hGdnPostFwdIdeal := hGdnPostFwdIdeal) (hGdnPostFwdRefIdeal := hGdnPostFwdRefIdeal)
    ∧ preserves_DabReduce_DabReduceIdeal
    ∧ algebraic_DabReduceIdeal_DabReduceRefIdeal (hDabReduceIdeal := hDabReduceIdeal) (hDabReduceRefIdeal := hDabReduceRefIdeal)
    ∧ preserves_LruConvFwd_LruConvFwdIdeal
    ∧ algebraic_LruConvFwdIdeal_LruConvFwdRefIdeal (hLruConvFwdIdeal := hLruConvFwdIdeal) (hLruConvFwdRefIdeal := hLruConvFwdRefIdeal)
    ∧ preserves_LruConvBwd_LruConvBwdIdeal
    ∧ algebraic_LruConvBwdIdeal_LruConvBwdRefIdeal (hLruConvBwdIdeal := hLruConvBwdIdeal) (hLruConvBwdRefIdeal := hLruConvBwdRefIdeal)
    ∧ preserves_GdnConvBwd_GdnConvBwdIdeal
    ∧ algebraic_GdnConvBwdIdeal_GdnConvBwdRefIdeal (hGdnConvBwdIdeal := hGdnConvBwdIdeal) (hGdnConvBwdRefIdeal := hGdnConvBwdRefIdeal)
-- ==== MergeBwd.lean ====
abbrev S4096x10752 : Shape := ⟨2, ![4096, 10752]⟩
abbrev S4096x2048 : Shape := ⟨2, ![4096, 2048]⟩
abbrev S256x1024 : Shape := ⟨2, ![256, 1024]⟩

abbrev nBuf : Space → Nat
  | .hbm => 8
  | .vmem => 18
  | .smem => 0
  | _ => 0

abbrev bufTy : (tb : Table) → Fin (tcTables nBuf tb) → BufTy
  | .hbm, ⟨0, _⟩ => ⟨S4096x10752, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S4096x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeBwdRefIdeal.lean ====
abbrev S4096x10752 : Shape := ⟨2, ![4096, 10752]⟩
abbrev S4096x2048 : Shape := ⟨2, ![4096, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x10752, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .bf16⟩
  | .hbm, ⟨42, _⟩ => ⟨S4096x2048, .bf16⟩
  | .hbm, ⟨43, _⟩ => ⟨S4096x2048, .bf16⟩
  | .hbm, ⟨44, _⟩ => ⟨S4096x2048, .bf16⟩
  | _, _ => ⟨S4096x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== DMlpAct.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S4096x8192, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DMlpActRefIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S8192x2048, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DwDown.lean ====
abbrev S4096x8192 : Shape := ⟨2, ![4096, 8192]⟩
abbrev S4096x2048 : Shape := ⟨2, ![4096, 2048]⟩
abbrev S2x4x1024x2048 : Shape := ⟨4, ![2, 4, 1024, 2048]⟩
abbrev S2048x512 : Shape := ⟨2, ![2048, 512]⟩
abbrev S2048x1024 : Shape := ⟨2, ![2048, 1024]⟩
abbrev S1x1x512x1024 : Shape := ⟨4, ![1, 1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S2x4x1024x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x512x1024, .bf16⟩
  | .local _ .vmem, ⟨5, _⟩ => ⟨S1x1x512x1024, .bf16⟩
  | .local _ .vmem, ⟨6, _⟩ => ⟨S512x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.divsi v9 c2_i32
  let c0_i32_3 : BitVec 32 := 0#32
  let v11 : BitVec 1 := Scalar.cmpi .sgt v9 c0_i32_3
  let v12 : BitVec 32 := Scalar.extui v11
  let c0_i32_4 : BitVec 32 := 0#32
  let v13 : BitVec 1 := Scalar.cmpi .slt v9 c0_i32_4
  let v14 : BitVec 32 := Scalar.extui v13
  let v15 : BitVec 32 := Scalar.subi v12 v14
  let c0_i32_5 : BitVec 32 := 0#32
  let v16 : BitVec 1 := Scalar.cmpi .sgt c2_i32 c0_i32_5
  let v17 : BitVec 32 := Scalar.extui v16
  let c0_i32_6 : BitVec 32 := 0#32
  let v18 : BitVec 1 := Scalar.cmpi .slt c2_i32 c0_i32_6
  let v19 : BitVec 32 := Scalar.extui v18
  let v20 : BitVec 32 := Scalar.subi v17 v19
  let v21 : BitVec 1 := Scalar.cmpi .ne v15 v20
  let v22 : BitVec 32 := Scalar.remsi v9 c2_i32
  let c0_i32_7 : BitVec 32 := 0#32
  let v23 : BitVec 1 := Scalar.cmpi .ne v22 c0_i32_7
  let v24 : BitVec 1 := Scalar.andi v21 v23
  let c1_i32_8 : BitVec 32 := 1#32
  let v25 : BitVec 32 := Scalar.subi v10 c1_i32_8
  let v26 : BitVec 32 := Scalar.select v24 v25 v10
  let c4_i32_9 : BitVec 32 := 4#32
  let v27 : BitVec 32 := Scalar.divsi arg0 c4_i32_9
  let c0_i32_10 : BitVec 32 := 0#32
  let v28 : BitVec 1 := Scalar.cmpi .sgt arg0 c0_i32_10
  let v29 : BitVec 32 := Scalar.extui v28
  let c0_i32_11 : BitVec 32 := 0#32
  let v30 : BitVec 1 := Scalar.cmpi .slt arg0 c0_i32_11
  let v31 : BitVec 32 := Scalar.extui v30
  let v32 : BitVec 32 := Scalar.subi v29 v31
  let c0_i32_12 : BitVec 32 := 0#32
  let v33 : BitVec 1 := Scalar.cmpi .sgt c4_i32_9 c0_i32_12
  let v34 : BitVec 32 := Scalar.extui v33
  let c0_i32_13 : BitVec 32 := 0#32
  let v35 : BitVec 1 := Scalar.cmpi .slt c4_i32_9 c0_i32_13
  let v36 : BitVec 32 := Scalar.extui v35
  let v37 : BitVec 32 := Scalar.subi v34 v36
  let v38 : BitVec 1 := Scalar.cmpi .ne v32 v37
  let v39 : BitVec 32 := Scalar.remsi arg0 c4_i32_9
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c2_i32_16 : BitVec 32 := 2#32
  let c0_i32_17 : BitVec 32 := 0#32
  let v44 : BitVec 1 := Scalar.cmpi .eq c2_i32_16 c0_i32_17
  let c1_i32_18 : BitVec 32 := 1#32
  let v45 : BitVec 32 := Scalar.select v44 c1_i32_18 c2_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  ![v26.toNat, v43.toNat, v53.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩
abbrev S4x2x1024x2048 : Shape := ⟨4, ![4, 2, 1024, 2048]⟩
abbrev S2x4x1024x2048 : Shape := ⟨4, ![2, 4, 1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | .hbm, ⟨10, _⟩ => ⟨S4x2x1024x2048, .bf16⟩
  | .hbm, ⟨11, _⟩ => ⟨S2x4x1024x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwUp.lean ====
abbrev S4096x2048 : Shape := ⟨2, ![4096, 2048]⟩
abbrev S4096x8192 : Shape := ⟨2, ![4096, 8192]⟩
abbrev S2x4x1024x2048 : Shape := ⟨4, ![2, 4, 1024, 2048]⟩
abbrev S2048x512 : Shape := ⟨2, ![2048, 512]⟩
abbrev S2048x1024 : Shape := ⟨2, ![2048, 1024]⟩
abbrev S1x1x512x1024 : Shape := ⟨4, ![1, 1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2x4x1024x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x512x1024, .bf16⟩
  | .local _ .vmem, ⟨5, _⟩ => ⟨S1x1x512x1024, .bf16⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.divsi arg1 c2_i32_4
  let c0_i32_5 : BitVec 32 := 0#32
  let v18 : BitVec 1 := Scalar.cmpi .sgt arg1 c0_i32_5
  let v19 : BitVec 32 := Scalar.extui v18
  let c0_i32_6 : BitVec 32 := 0#32
  let v20 : BitVec 1 := Scalar.cmpi .slt arg1 c0_i32_6
  let v21 : BitVec 32 := Scalar.extui v20
  let v22 : BitVec 32 := Scalar.subi v19 v21
  let c0_i32_7 : BitVec 32 := 0#32
  let v23 : BitVec 1 := Scalar.cmpi .sgt c2_i32_4 c0_i32_7
  let v24 : BitVec 32 := Scalar.extui v23
  let c0_i32_8 : BitVec 32 := 0#32
  let v25 : BitVec 1 := Scalar.cmpi .slt c2_i32_4 c0_i32_8
  let v26 : BitVec 32 := Scalar.extui v25
  let v27 : BitVec 32 := Scalar.subi v24 v26
  let v28 : BitVec 1 := Scalar.cmpi .ne v22 v27
  let v29 : BitVec 32 := Scalar.remsi arg1 c2_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c2_i32_11 : BitVec 32 := 2#32
  let c0_i32_12 : BitVec 32 := 0#32
  let v34 : BitVec 1 := Scalar.cmpi .eq c2_i32_11 c0_i32_12
  let c1_i32_13 : BitVec 32 := 1#32
  let v35 : BitVec 32 := Scalar.select v34 c1_i32_13 c2_i32_11
  let v36 : BitVec 32 := Scalar.remsi arg0 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg1 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v33.toNat, v43.toNat, v53.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2x1024x4x2048 : Shape := ⟨4, ![2, 1024, 4, 2048]⟩
abbrev S2x4x1024x2048 : Shape := ⟨4, ![2, 4, 1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2x1024x4x2048, .bf16⟩
  | .hbm, ⟨11, _⟩ => ⟨S2x4x1024x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DH2.lean ====
abbrev S4096x8192 : Shape := ⟨2, ![4096, 8192]⟩
abbrev S2048x8192 : Shape := ⟨2, ![2048, 8192]⟩
abbrev S4096x2048 : Shape := ⟨2, ![4096, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH2RefIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlpUp.lean ====
abbrev S4096x2048 : Shape := ⟨2, ![4096, 2048]⟩
abbrev S2048x8192 : Shape := ⟨2, ![2048, 8192]⟩
abbrev S4096x8192 : Shape := ⟨2, ![4096, 8192]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x8192, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .bf16⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_call1_cst : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== MlpDown.lean ====
abbrev S4096x8192 : Shape := ⟨2, ![4096, 8192]⟩
abbrev S8192x2048 : Shape := ⟨2, ![8192, 2048]⟩
abbrev S4096x2048 : Shape := ⟨2, ![4096, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DMerged.lean ====
abbrev S4096x2048 : Shape := ⟨2, ![4096, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwOut.lean ====
abbrev S4096x2048 : Shape := ⟨2, ![4096, 2048]⟩
abbrev S2x4x256x2048 : Shape := ⟨4, ![2, 4, 256, 2048]⟩
abbrev S2048x256 : Shape := ⟨2, ![2048, 256]⟩
abbrev S2048x1024 : Shape := ⟨2, ![2048, 1024]⟩
abbrev S1x1x256x1024 : Shape := ⟨4, ![1, 1, 256, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2x4x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S256x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.divsi v9 c1_i32_3
  let c0_i32_4 : BitVec 32 := 0#32
  let v11 : BitVec 1 := Scalar.cmpi .sgt v9 c0_i32_4
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c0_i32_6 : BitVec 32 := 0#32
  let v16 : BitVec 1 := Scalar.cmpi .sgt c1_i32_3 c0_i32_6
  let v17 : BitVec 32 := Scalar.extui v16
  let c0_i32_7 : BitVec 32 := 0#32
  let v18 : BitVec 1 := Scalar.cmpi .slt c1_i32_3 c0_i32_7
  let v19 : BitVec 32 := Scalar.extui v18
  let v20 : BitVec 32 := Scalar.subi v17 v19
  let v21 : BitVec 1 := Scalar.cmpi .ne v15 v20
  let v22 : BitVec 32 := Scalar.remsi v9 c1_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c2_i32_10 : BitVec 32 := 2#32
  let v27 : BitVec 32 := Scalar.divsi arg0 c2_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg0 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c1_i32_17 : BitVec 32 := 1#32
  let c0_i32_18 : BitVec 32 := 0#32
  let v44 : BitVec 1 := Scalar.cmpi .eq c1_i32_17 c0_i32_18
  let c1_i32_19 : BitVec 32 := 1#32
  let v45 : BitVec 32 := Scalar.select v44 c1_i32_19 c1_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v26.toNat, v43.toNat, v53.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4096x2048 : Shape := ⟨2, ![4096, 2048]⟩
abbrev S_ : Shape := ⟨0, ![]⟩
abbrev S2048x2048 : Shape := ⟨2, ![2048, 2048]⟩
abbrev S4x2x256x2048 : Shape := ⟨4, ![4, 2, 256, 2048]⟩
abbrev S2x4x256x2048 : Shape := ⟨4, ![2, 4, 256, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S4x2x256x2048, .bf16⟩
  | .hbm, ⟨11, _⟩ => ⟨S2x4x256x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DBranch.lean ====
abbrev S4096x2048 : Shape := ⟨2, ![4096, 2048]⟩
abbrev S1024x2048 : Shape := ⟨2, ![1024, 2048]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DBranchRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwBranch.lean ====
abbrev S4096x1024 : Shape := ⟨2, ![4096, 1024]⟩
abbrev S4096x2048 : Shape := ⟨2, ![4096, 2048]⟩
abbrev S2x4x512x512 : Shape := ⟨4, ![2, 4, 512, 512]⟩
abbrev S2048x512 : Shape := ⟨2, ![2048, 512]⟩
abbrev S1x1x512x512 : Shape := ⟨4, ![1, 1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S2x4x512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x1x512x512, .bf16⟩
  | .local _ .vmem, ⟨5, _⟩ => ⟨S1x1x512x512, .bf16⟩
  | .local _ .vmem, ⟨6, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg1 c1_i32_5
  let c0_i32_6 : BitVec 32 := 0#32
  let v18 : BitVec 1 := Scalar.cmpi .sgt arg1 c0_i32_6
  let v19 : BitVec 32 := Scalar.extui v18
  let c0_i32_7 : BitVec 32 := 0#32
  let v20 : BitVec 1 := Scalar.cmpi .slt arg1 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg1 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwBranchRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S2x512x4x512 : Shape := ⟨4, ![2, 512, 4, 512]⟩
abbrev S2x4x512x512 : Shape := ⟨4, ![2, 4, 512, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S2x512x4x512, .bf16⟩
  | .hbm, ⟨11, _⟩ => ⟨S2x4x512x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Branch.lean ====
abbrev S4096x1024 : Shape := ⟨2, ![4096, 1024]⟩
abbrev S1024x2048 : Shape := ⟨2, ![1024, 2048]⟩
abbrev S4096x2048 : Shape := ⟨2, ![4096, 2048]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DH.lean ====
abbrev S4096x10752 : Shape := ⟨2, ![4096, 10752]⟩
abbrev S2048x10752 : Shape := ⟨2, ![2048, 10752]⟩
abbrev S4096x2048 : Shape := ⟨2, ![4096, 2048]⟩
abbrev S512x1792 : Shape := ⟨2, ![512, 1792]⟩
abbrev S1024x1792 : Shape := ⟨2, ![1024, 1792]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x10752, .bf16⟩
  | .hbm, ⟨1, _⟩ => ⟨S2048x10752, .bf16⟩
  | .hbm, ⟨2, _⟩ => ⟨S4096x2048, .f32⟩
  | .local _ .vmem, ⟨0, _⟩ => ⟨S512x1792, .bf16⟩
  | .local _ .vmem, ⟨1, _⟩ => ⟨S512x1792, .bf16⟩
  | .local _ .vmem, ⟨2, _⟩ => ⟨S1024x1792, .bf16⟩
  | .local _ .vmem, ⟨3, _⟩ => ⟨S1024x1792, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 6], ![false, false, false]⟩

def k0_cond3 (i : grid0.Coords) : BitVec 1 :=
  let arg2 : BitVec 32 := BitVec.ofNat 32 (i 2).val
  let c5_i32_6 : BitVec 32 := 5#32
  let v11 : BitVec 1 := Scalar.cmpi .eq arg2 c5_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHRefIdeal.lean ====
abbrev S4096x10752 : Shape := ⟨2, ![4096, 10752]⟩
abbrev S2048x10752 : Shape := ⟨2, ![2048, 10752]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x10752, .bf16⟩
  | .hbm, ⟨1, _⟩ => ⟨S2048x10752, .bf16⟩
  | .hbm, ⟨2, _⟩ => ⟨S_, .f32⟩
  | .hbm, ⟨3, _⟩ => ⟨S4096x2048, .f32⟩
  | .hbm, ⟨4, _⟩ => ⟨S2048x10752, .f32⟩
  | .hbm, ⟨5, _⟩ => ⟨S4096x10752, .f32⟩
  | .hbm, ⟨6, _⟩ => ⟨S4096x10752, .f32⟩
  | .hbm, ⟨7, _⟩ => ⟨S4096x2048, .f32⟩
  | _, _ => ⟨S4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwIn.lean ====
abbrev S4096x2048 : Shape := ⟨2, ![4096, 2048]⟩
abbrev S4096x10752 : Shape := ⟨2, ![4096, 10752]⟩
abbrev S2048x10752 : Shape := ⟨2, ![2048, 10752]⟩
abbrev S2048x512 : Shape := ⟨2, ![2048, 512]⟩
abbrev S2048x1536 : Shape := ⟨2, ![2048, 1536]⟩
abbrev S512x1536 : Shape := ⟨2, ![512, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x10752, .bf16⟩
  | .hbm, ⟨2, _⟩ => ⟨S2048x10752, .bf16⟩
  | .local _ .vmem, ⟨0, _⟩ => ⟨S2048x512, .bf16⟩
  | .local _ .vmem, ⟨1, _⟩ => ⟨S2048x512, .bf16⟩
  | .local _ .vmem, ⟨2, _⟩ => ⟨S2048x1536, .bf16⟩
  | .local _ .vmem, ⟨3, _⟩ => ⟨S2048x1536, .bf16⟩
  | .local _ .vmem, ⟨4, _⟩ => ⟨S512x1536, .bf16⟩
  | .local _ .vmem, ⟨5, _⟩ => ⟨S512x1536, .bf16⟩
  | .local _ .vmem, ⟨6, _⟩ => ⟨S512x1536, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x2048 : Shape := ⟨2, ![4096, 2048]⟩
abbrev S4096x10752 : Shape := ⟨2, ![4096, 10752]⟩
abbrev S_ : Shape := ⟨0, ![]⟩
abbrev S2048x10752 : Shape := ⟨2, ![2048, 10752]⟩
abbrev S10752x2048 : Shape := ⟨2, ![10752, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x10752, .bf16⟩
  | .hbm, ⟨2, _⟩ => ⟨S_, .f32⟩
  | .hbm, ⟨3, _⟩ => ⟨S2048x10752, .f32⟩
  | .hbm, ⟨4, _⟩ => ⟨S4096x2048, .f32⟩
  | .hbm, ⟨5, _⟩ => ⟨S4096x10752, .f32⟩
  | .hbm, ⟨6, _⟩ => ⟨S4096x10752, .f32⟩
  | .hbm, ⟨7, _⟩ => ⟨S10752x2048, .f32⟩
  | .hbm, ⟨8, _⟩ => ⟨S2048x10752, .f32⟩
  | .hbm, ⟨9, _⟩ => ⟨S2048x10752, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proj.lean ====
abbrev S4096x2048 : Shape := ⟨2, ![4096, 2048]⟩
abbrev S2048x10752 : Shape := ⟨2, ![2048, 10752]⟩
abbrev S4096x10752 : Shape := ⟨2, ![4096, 10752]⟩
abbrev S512x2048 : Shape := ⟨2, ![512, 2048]⟩
abbrev S2048x1536 : Shape := ⟨2, ![2048, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x10752, .bf16⟩
  | .hbm, ⟨2, _⟩ => ⟨S4096x10752, .f32⟩
  | .local _ .vmem, ⟨0, _⟩ => ⟨S512x2048, .bf16⟩
  | .local _ .vmem, ⟨1, _⟩ => ⟨S512x2048, .bf16⟩
  | .local _ .vmem, ⟨2, _⟩ => ⟨S2048x1536, .bf16⟩
  | .local _ .vmem, ⟨3, _⟩ => ⟨S2048x1536, .bf16⟩
  | .local _ .vmem, ⟨4, _⟩ => ⟨S512x1536, .f32⟩
  | .local _ .vmem, ⟨5, _⟩ => ⟨S512x1536, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x2048 : Shape := ⟨2, ![4096, 2048]⟩
abbrev S2048x10752 : Shape := ⟨2, ![2048, 10752]⟩
abbrev S4096x10752 : Shape := ⟨2, ![4096, 10752]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x10752, .bf16⟩
  | .hbm, ⟨2, _⟩ => ⟨S4096x2048, .f32⟩
  | .hbm, ⟨3, _⟩ => ⟨S2048x10752, .f32⟩
  | .hbm, ⟨4, _⟩ => ⟨S4096x10752, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SumSmall.lean ====
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x512x128, .f32⟩
  | .hbm, ⟨1, _⟩ => ⟨S512x128, .f32⟩
  | .local _ .vmem, ⟨0, _⟩ => ⟨S8x512x128, .f32⟩
  | .local _ .vmem, ⟨1, _⟩ => ⟨S512x128, .f32⟩
  | _, _ => ⟨S8x512x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallIdeal.lean ====
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x512x128, .f32⟩
  | .hbm, ⟨1, _⟩ => ⟨S512x128, .f32⟩
  | .local _ .vmem, ⟨0, _⟩ => ⟨S8x512x128, .f32⟩
  | .local _ .vmem, ⟨1, _⟩ => ⟨S512x128, .f32⟩
  | _, _ => ⟨S8x512x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x512x128 : Shape := ⟨3, ![8, 512, 128]⟩
abbrev S_ : Shape := ⟨0, ![]⟩
abbrev S512x128 : Shape := ⟨2, ![512, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S_, .f32⟩
  | .hbm, ⟨2, _⟩ => ⟨S512x128, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumMid.lean ====
abbrev S8x2048x128 : Shape := ⟨3, ![8, 2048, 128]⟩
abbrev S2048x128 : Shape := ⟨2, ![2048, 128]⟩
abbrev S8x1024x128 : Shape := ⟨3, ![8, 1024, 128]⟩
abbrev S1024x128 : Shape := ⟨2, ![1024, 128]⟩
abbrev S1x1024x128 : Shape := ⟨3, ![1, 1024, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x128, .f32⟩
  | .hbm, ⟨1, _⟩ => ⟨S2048x128, .f32⟩
  | .local _ .vmem, ⟨0, _⟩ => ⟨S8x1024x128, .f32⟩
  | .local _ .vmem, ⟨1, _⟩ => ⟨S8x1024x128, .f32⟩
  | .local _ .vmem, ⟨2, _⟩ => ⟨S1024x128, .f32⟩
  | .local _ .vmem, ⟨3, _⟩ => ⟨S1024x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumMidRefIdeal.lean ====
abbrev S8x2048x128 : Shape := ⟨3, ![8, 2048, 128]⟩
abbrev S_ : Shape := ⟨0, ![]⟩
abbrev S2048x128 : Shape := ⟨2, ![2048, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S_, .f32⟩
  | .hbm, ⟨2, _⟩ => ⟨S2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamSmall.lean ====
abbrev S512x128 : Shape := ⟨2, ![512, 128]⟩

abbrev nBuf : Space → Nat
  | .hbm => 8
  | .vmem => 8
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallIdeal.lean ====
abbrev S512x128 : Shape := ⟨2, ![512, 128]⟩

abbrev nBuf : Space → Nat
  | .hbm => 8
  | .vmem => 8
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMid.lean ====
abbrev S2048x128 : Shape := ⟨2, ![2048, 128]⟩

abbrev nBuf : Space → Nat
  | .hbm => 8
  | .vmem => 8
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamMidRefIdeal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== RmsFwd.lean ====
abbrev S4096x2048 : Shape := ⟨2, ![4096, 2048]⟩
abbrev S2048 : Shape := ⟨1, ![2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .bf16⟩
  | .local _ .vmem, ⟨4, _⟩ => ⟨S128x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== RmsBwd.lean ====
abbrev S4096x2048 : Shape := ⟨2, ![4096, 2048]⟩
abbrev S2048 : Shape := ⟨1, ![2048]⟩
abbrev S1x2048 : Shape := ⟨2, ![1, 2048]⟩
abbrev S64x2048 : Shape := ⟨2, ![64, 2048]⟩
abbrev S64 : Shape := ⟨1, ![64]⟩
abbrev S64x1 : Shape := ⟨2, ![64, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S64x2048, .f32⟩
  | .local _ .vmem, ⟨1, _⟩ => ⟨S64x2048, .f32⟩
  | .local _ .vmem, ⟨2, _⟩ => ⟨S1x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .bf16⟩
  | .local _ .vmem, ⟨10, _⟩ => ⟨S64x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== LossHead.lean ====
abbrev S4096x2048 : Shape := ⟨2, ![4096, 2048]⟩
abbrev S2048 : Shape := ⟨1, ![2048]⟩
abbrev S1x2048 : Shape := ⟨2, ![1, 2048]⟩
abbrev S8x128 : Shape := ⟨2, ![8, 128]⟩
abbrev S64x2048 : Shape := ⟨2, ![64, 2048]⟩
abbrev S64 : Shape := ⟨1, ![64]⟩
abbrev S64x1 : Shape := ⟨2, ![64, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S8x128, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S64x2048, .f32⟩
  | .local _ .vmem, ⟨1, _⟩ => ⟨S64x2048, .f32⟩
  | .local _ .vmem, ⟨2, _⟩ => ⟨S1x2048, .f32⟩
  | .local _ .vmem, ⟨3, _⟩ => ⟨S64x2048, .f32⟩
  | .local _ .vmem, ⟨4, _⟩ => ⟨S64x2048, .f32⟩
  | .local _ .vmem, ⟨5, _⟩ => ⟨S8x128, .f32⟩
  | .local _ .vmem, ⟨6, _⟩ => ⟨S64x2048, .f32⟩
  | .local _ .vmem, ⟨7, _⟩ => ⟨S64x2048, .f32⟩
  | .local _ .vmem, ⟨8, _⟩ => ⟨S64x2048, .bf16⟩
  | .local _ .vmem, ⟨9, _⟩ => ⟨S64x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S8x128, .f32⟩
  | .hbm, ⟨72, _⟩ => ⟨S4096x2048, .bf16⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== AdamIn.lean ====
abbrev S1 : Shape := ⟨1, ![1]⟩
abbrev S2x2x1024x2564 : Shape := ⟨4, ![2, 2, 1024, 2564]⟩
abbrev S1024x2564 : Shape := ⟨2, ![1024, 2564]⟩
abbrev S8x128 : Shape := ⟨2, ![8, 128]⟩
abbrev S1x1x32x2564 : Shape := ⟨4, ![1, 1, 32, 2564]⟩
abbrev S32x2564 : Shape := ⟨2, ![32, 2564]⟩

abbrev nBuf : Space → Nat
  | .hbm => 12
  | .vmem => 22
  | .smem => 1
  | _ => 0

abbrev bufTy : (tb : Table) → Fin (tcTables nBuf tb) → BufTy
  | .hbm, ⟨0, _⟩ => ⟨S2x2x1024x2564, .f32⟩
  | .hbm, ⟨1, _⟩ => ⟨S1024x2564, .f32⟩
  | .hbm, ⟨2, _⟩ => ⟨S1024x2564, .f32⟩
  | .hbm, ⟨3, _⟩ => ⟨S1024x2564, .f32⟩
  | .hbm, ⟨4, _⟩ => ⟨S1024x2564, .f32⟩
  | .hbm, ⟨5, _⟩ => ⟨S2x2x1024x2564, .f32⟩
  | .hbm, ⟨6, _⟩ => ⟨S2x2x1024x2564, .f32⟩
  | .hbm, ⟨7, _⟩ => ⟨S8x128, .f32⟩
  | .hbm, ⟨8, _⟩ => ⟨S2x2x1024x2564, .f32⟩
  | .hbm, ⟨9, _⟩ => ⟨S2x2x1024x2564, .f32⟩
  | .hbm, ⟨10, _⟩ => ⟨S2x2x1024x2564, .f32⟩
  | .hbm, ⟨11, _⟩ => ⟨S2x2x1024x2564, .f32⟩
  | .local _ .vmem, ⟨0, _⟩ => ⟨S1x1x32x2564, .f32⟩
  | .local _ .vmem, ⟨1, _⟩ => ⟨S1x1x32x2564, .f32⟩
  | .local _ .vmem, ⟨2, _⟩ => ⟨S32x2564, .f32⟩
  | .local _ .vmem, ⟨3, _⟩ => ⟨S32x2564, .f32⟩
  | .local _ .vmem, ⟨4, _⟩ => ⟨S32x2564, .f32⟩
  | .local _ .vmem, ⟨5, _⟩ => ⟨S32x2564, .f32⟩
  | .local _ .vmem, ⟨6, _⟩ => ⟨S32x2564, .f32⟩
  | .local _ .vmem, ⟨7, _⟩ => ⟨S32x2564, .f32⟩
  | .local _ .vmem, ⟨8, _⟩ => ⟨S32x2564, .f32⟩
  | .local _ .vmem, ⟨9, _⟩ => ⟨S32x2564, .f32⟩
  | .local _ .vmem, ⟨10, _⟩ => ⟨S1x1x32x2564, .f32⟩
  | .local _ .vmem, ⟨11, _⟩ => ⟨S1x1x32x2564, .f32⟩
  | .local _ .vmem, ⟨12, _⟩ => ⟨S1x1x32x2564, .f32⟩
  | .local _ .vmem, ⟨13, _⟩ => ⟨S1x1x32x2564, .f32⟩
  | .local _ .vmem, ⟨14, _⟩ => ⟨S1x1x32x2564, .f32⟩
  | .local _ .vmem, ⟨15, _⟩ => ⟨S1x1x32x2564, .f32⟩
  | .local _ .vmem, ⟨16, _⟩ => ⟨S1x1x32x2564, .f32⟩
  | .local _ .vmem, ⟨17, _⟩ => ⟨S1x1x32x2564, .f32⟩
  | .local _ .vmem, ⟨18, _⟩ => ⟨S1x1x32x2564, .f32⟩
  | .local _ .vmem, ⟨19, _⟩ => ⟨S1x1x32x2564, .f32⟩
  | .local _ .vmem, ⟨20, _⟩ => ⟨S1x1x32x2564, .f32⟩
  | .local _ .vmem, ⟨21, _⟩ => ⟨S1x1x32x2564, .f32⟩
  | .local _ .smem, ⟨0, _⟩ => ⟨S1, .i32⟩
  | _, _ => ⟨S2x2x1024x2564, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 32], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x32x2564 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S32x2564 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S32x2564 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S32x2564 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S32x2564 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1x32x2564 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x32x2564 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x32x2564 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x32x2564 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x32x2564 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x32x2564 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamInIdeal.lean ====
abbrev S1 : Shape := ⟨1, ![1]⟩
abbrev S2x2x1024x2564 : Shape := ⟨4, ![2, 2, 1024, 2564]⟩
abbrev S1024x2564 : Shape := ⟨2, ![1024, 2564]⟩
abbrev S8x128 : Shape := ⟨2, ![8, 128]⟩
abbrev S1x1x32x2564 : Shape := ⟨4, ![1, 1, 32, 2564]⟩
abbrev S32x2564 : Shape := ⟨2, ![32, 2564]⟩

abbrev nBuf : Space → Nat
  | .hbm => 12
  | .vmem => 22
  | .smem => 1
  | _ => 0

abbrev bufTy : (tb : Table) → Fin (tcTables nBuf tb) → BufTy
  | .hbm, ⟨0, _⟩ => ⟨S2x2x1024x2564, .f32⟩
  | .hbm, ⟨1, _⟩ => ⟨S1024x2564, .f32⟩
  | .hbm, ⟨2, _⟩ => ⟨S1024x2564, .f32⟩
  | .hbm, ⟨3, _⟩ => ⟨S1024x2564, .f32⟩
  | .hbm, ⟨4, _⟩ => ⟨S1024x2564, .f32⟩
  | .hbm, ⟨5, _⟩ => ⟨S2x2x1024x2564, .f32⟩
  | .hbm, ⟨6, _⟩ => ⟨S2x2x1024x2564, .f32⟩
  | .hbm, ⟨7, _⟩ => ⟨S8x128, .f32⟩
  | .hbm, ⟨8, _⟩ => ⟨S2x2x1024x2564, .f32⟩
  | .hbm, ⟨9, _⟩ => ⟨S2x2x1024x2564, .f32⟩
  | .hbm, ⟨10, _⟩ => ⟨S2x2x1024x2564, .f32⟩
  | .hbm, ⟨11, _⟩ => ⟨S2x2x1024x2564, .f32⟩
  | .local _ .vmem, ⟨0, _⟩ => ⟨S1x1x32x2564, .f32⟩
  | .local _ .vmem, ⟨1, _⟩ => ⟨S1x1x32x2564, .f32⟩
  | .local _ .vmem, ⟨2, _⟩ => ⟨S32x2564, .f32⟩
  | .local _ .vmem, ⟨3, _⟩ => ⟨S32x2564, .f32⟩
  | .local _ .vmem, ⟨4, _⟩ => ⟨S32x2564, .f32⟩
  | .local _ .vmem, ⟨5, _⟩ => ⟨S32x2564, .f32⟩
  | .local _ .vmem, ⟨6, _⟩ => ⟨S32x2564, .f32⟩
  | .local _ .vmem, ⟨7, _⟩ => ⟨S32x2564, .f32⟩
  | .local _ .vmem, ⟨8, _⟩ => ⟨S32x2564, .f32⟩
  | .local _ .vmem, ⟨9, _⟩ => ⟨S32x2564, .f32⟩
  | .local _ .vmem, ⟨10, _⟩ => ⟨S1x1x32x2564, .f32⟩
  | .local _ .vmem, ⟨11, _⟩ => ⟨S1x1x32x2564, .f32⟩
  | .local _ .vmem, ⟨12, _⟩ => ⟨S1x1x32x2564, .f32⟩
  | .local _ .vmem, ⟨13, _⟩ => ⟨S1x1x32x2564, .f32⟩
  | .local _ .vmem, ⟨14, _⟩ => ⟨S1x1x32x2564, .f32⟩
  | .local _ .vmem, ⟨15, _⟩ => ⟨S1x1x32x2564, .f32⟩
  | .local _ .vmem, ⟨16, _⟩ => ⟨S1x1x32x2564, .f32⟩
  | .local _ .vmem, ⟨17, _⟩ => ⟨S1x1x32x2564, .f32⟩
  | .local _ .vmem, ⟨18, _⟩ => ⟨S1x1x32x2564, .f32⟩
  | .local _ .vmem, ⟨19, _⟩ => ⟨S1x1x32x2564, .f32⟩
  | .local _ .vmem, ⟨20, _⟩ => ⟨S1x1x32x2564, .f32⟩
  | .local _ .vmem, ⟨21, _⟩ => ⟨S1x1x32x2564, .f32⟩
  | .local _ .smem, ⟨0, _⟩ => ⟨S1, .i32⟩
  | _, _ => ⟨S2x2x1024x2564, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 32], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x32x2564 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S32x2564 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S32x2564 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S32x2564 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S32x2564 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1x32x2564 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x32x2564 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x32x2564 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x32x2564 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x32x2564 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x32x2564 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamInRefIdeal.lean ====
abbrev S1 : Shape := ⟨1, ![1]⟩
abbrev S2x2x1024x2564 : Shape := ⟨4, ![2, 2, 1024, 2564]⟩
abbrev S1024x2564 : Shape := ⟨2, ![1024, 2564]⟩
abbrev S8x128 : Shape := ⟨2, ![8, 128]⟩
abbrev S2 : Shape := ⟨1, ![2]⟩
abbrev S1x2x1x1 : Shape := ⟨4, ![1, 2, 1, 1]⟩
abbrev S_ : Shape := ⟨0, ![]⟩
abbrev S1x1024x2564 : Shape := ⟨3, ![1, 1024, 2564]⟩
abbrev S2x1024x2564 : Shape := ⟨3, ![2, 1024, 2564]⟩
abbrev S2x1x1024x2564 : Shape := ⟨4, ![2, 1, 1024, 2564]⟩

abbrev nBuf : Space → Nat
  | .hbm => 59
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2x1024x2564, .f32⟩
  | .hbm, ⟨2, _⟩ => ⟨S1024x2564, .f32⟩
  | .hbm, ⟨3, _⟩ => ⟨S1024x2564, .f32⟩
  | .hbm, ⟨4, _⟩ => ⟨S1024x2564, .f32⟩
  | .hbm, ⟨5, _⟩ => ⟨S1024x2564, .f32⟩
  | .hbm, ⟨6, _⟩ => ⟨S2x2x1024x2564, .f32⟩
  | .hbm, ⟨7, _⟩ => ⟨S2x2x1024x2564, .f32⟩
  | .hbm, ⟨8, _⟩ => ⟨S8x128, .f32⟩
  | .hbm, ⟨9, _⟩ => ⟨S2, .i32⟩
  | .hbm, ⟨10, _⟩ => ⟨S1x2x1x1, .i32⟩
  | .hbm, ⟨11, _⟩ => ⟨S_, .i32⟩
  | .hbm, ⟨12, _⟩ => ⟨S1x2x1x1, .i32⟩
  | .hbm, ⟨13, _⟩ => ⟨S1x2x1x1, .i1⟩
  | .hbm, ⟨14, _⟩ => ⟨S1x1024x2564, .f32⟩
  | .hbm, ⟨15, _⟩ => ⟨S1x1024x2564, .f32⟩
  | .hbm, ⟨16, _⟩ => ⟨S2x1024x2564, .f32⟩
  | .hbm, ⟨17, _⟩ => ⟨S2x1x1024x2564, .f32⟩
  | .hbm, ⟨18, _⟩ => ⟨S1x1024x2564, .f32⟩
  | .hbm, ⟨19, _⟩ => ⟨S1x1024x2564, .f32⟩
  | .hbm, ⟨20, _⟩ => ⟨S2x1024x2564, .f32⟩
  | .hbm, ⟨21, _⟩ => ⟨S2x1x1024x2564, .f32⟩
  | .hbm, ⟨22, _⟩ => ⟨S2x2x1024x2564, .i1⟩
  | .hbm, ⟨23, _⟩ => ⟨S2x2x1024x2564, .f32⟩
  | .hbm, ⟨24, _⟩ => ⟨S2x2x1024x2564, .f32⟩
  | .hbm, ⟨25, _⟩ => ⟨S2x2x1024x2564, .f32⟩
  | .hbm, ⟨26, _⟩ => ⟨S_, .f32⟩
  | .hbm, ⟨27, _⟩ => ⟨S2x2x1024x2564, .f32⟩
  | .hbm, ⟨28, _⟩ => ⟨S2x2x1024x2564, .f32⟩
  | .hbm, ⟨29, _⟩ => ⟨S_, .f32⟩
  | .hbm, ⟨30, _⟩ => ⟨S2x2x1024x2564, .f32⟩
  | .hbm, ⟨31, _⟩ => ⟨S2x2x1024x2564, .f32⟩
  | .hbm, ⟨32, _⟩ => ⟨S2x2x1024x2564, .f32⟩
  | .hbm, ⟨33, _⟩ => ⟨S_, .f32⟩
  | .hbm, ⟨34, _⟩ => ⟨S2x2x1024x2564, .f32⟩
  | .hbm, ⟨35, _⟩ => ⟨S2x2x1024x2564, .f32⟩
  | .hbm, ⟨36, _⟩ => ⟨S2x2x1024x2564, .f32⟩
  | .hbm, ⟨37, _⟩ => ⟨S_, .f32⟩
  | .hbm, ⟨38, _⟩ => ⟨S2x2x1024x2564, .f32⟩
  | .hbm, ⟨39, _⟩ => ⟨S2x2x1024x2564, .f32⟩
  | .hbm, ⟨40, _⟩ => ⟨S2x2x1024x2564, .f32⟩
  | .hbm, ⟨41, _⟩ => ⟨S_, .f32⟩
  | .hbm, ⟨42, _⟩ => ⟨S2x2x1024x2564, .f32⟩
  | .hbm, ⟨43, _⟩ => ⟨S2x2x1024x2564, .f32⟩
  | .hbm, ⟨44, _⟩ => ⟨S_, .f32⟩
  | .hbm, ⟨45, _⟩ => ⟨S2x2x1024x2564, .f32⟩
  | .hbm, ⟨46, _⟩ => ⟨S2x2x1024x2564, .f32⟩
  | .hbm, ⟨47, _⟩ => ⟨S2x2x1024x2564, .f32⟩
  | .hbm, ⟨48, _⟩ => ⟨S_, .f32⟩
  | .hbm, ⟨49, _⟩ => ⟨S2x2x1024x2564, .f32⟩
  | .hbm, ⟨50, _⟩ => ⟨S2x2x1024x2564, .f32⟩
  | .hbm, ⟨51, _⟩ => ⟨S2x2x1024x2564, .f32⟩
  | .hbm, ⟨52, _⟩ => ⟨S_, .f32⟩
  | .hbm, ⟨53, _⟩ => ⟨S2x2x1024x2564, .f32⟩
  | .hbm, ⟨54, _⟩ => ⟨S2x2x1024x2564, .f32⟩
  | .hbm, ⟨55, _⟩ => ⟨S2x2x1024x2564, .f32⟩
  | .hbm, ⟨56, _⟩ => ⟨S_, .f32⟩
  | .hbm, ⟨57, _⟩ => ⟨S2x2x1024x2564, .f32⟩
  | .hbm, ⟨58, _⟩ => ⟨S2x2x1024x2564, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== AdamBranch.lean ====
abbrev S1 : Shape := ⟨1, ![1]⟩
abbrev S2x2x512x512 : Shape := ⟨4, ![2, 2, 512, 512]⟩
abbrev S512x512 : Shape := ⟨2, ![512, 512]⟩
abbrev S8x128 : Shape := ⟨2, ![8, 128]⟩
abbrev S1x1x256x512 : Shape := ⟨4, ![1, 1, 256, 512]⟩
abbrev S256x512 : Shape := ⟨2, ![256, 512]⟩

abbrev nBuf : Space → Nat
  | .hbm => 12
  | .vmem => 22
  | .smem => 1
  | _ => 0

abbrev bufTy : (tb : Table) → Fin (tcTables nBuf tb) → BufTy
  | .hbm, ⟨0, _⟩ => ⟨S2x2x512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2x2x512x512, .f32⟩
  | .hbm, ⟨6, _⟩ => ⟨S2x2x512x512, .f32⟩
  | .hbm, ⟨7, _⟩ => ⟨S8x128, .f32⟩
  | .hbm, ⟨8, _⟩ => ⟨S2x2x512x512, .f32⟩
  | .hbm, ⟨9, _⟩ => ⟨S2x2x512x512, .f32⟩
  | .hbm, ⟨10, _⟩ => ⟨S2x2x512x512, .f32⟩
  | .hbm, ⟨11, _⟩ => ⟨S2x2x512x512, .f32⟩
  | .local _ .vmem, ⟨0, _⟩ => ⟨S1x1x256x512, .f32⟩
  | .local _ .vmem, ⟨1, _⟩ => ⟨S1x1x256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x1x256x512, .f32⟩
  | .local _ .vmem, ⟨11, _⟩ => ⟨S1x1x256x512, .f32⟩
  | .local _ .vmem, ⟨12, _⟩ => ⟨S1x1x256x512, .f32⟩
  | .local _ .vmem, ⟨13, _⟩ => ⟨S1x1x256x512, .f32⟩
  | .local _ .vmem, ⟨14, _⟩ => ⟨S1x1x256x512, .f32⟩
  | .local _ .vmem, ⟨15, _⟩ => ⟨S1x1x256x512, .f32⟩
  | .local _ .vmem, ⟨16, _⟩ => ⟨S1x1x256x512, .f32⟩
  | .local _ .vmem, ⟨17, _⟩ => ⟨S1x1x256x512, .f32⟩
  | .local _ .vmem, ⟨18, _⟩ => ⟨S1x1x256x512, .f32⟩
  | .local _ .vmem, ⟨19, _⟩ => ⟨S1x1x256x512, .f32⟩
  | .local _ .vmem, ⟨20, _⟩ => ⟨S1x1x256x512, .f32⟩
  | .local _ .vmem, ⟨21, _⟩ => ⟨S1x1x256x512, .f32⟩
  | .local _ .smem, ⟨0, _⟩ => ⟨S1, .i32⟩
  | _, _ => ⟨S2x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 2], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamBranchIdeal.lean ====
abbrev S1 : Shape := ⟨1, ![1]⟩
abbrev S2x2x512x512 : Shape := ⟨4, ![2, 2, 512, 512]⟩
abbrev S512x512 : Shape := ⟨2, ![512, 512]⟩
abbrev S8x128 : Shape := ⟨2, ![8, 128]⟩
abbrev S1x1x256x512 : Shape := ⟨4, ![1, 1, 256, 512]⟩
abbrev S256x512 : Shape := ⟨2, ![256, 512]⟩

abbrev nBuf : Space → Nat
  | .hbm => 12
  | .vmem => 22
  | .smem => 1
  | _ => 0

abbrev bufTy : (tb : Table) → Fin (tcTables nBuf tb) → BufTy
  | .hbm, ⟨0, _⟩ => ⟨S2x2x512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2x2x512x512, .f32⟩
  | .hbm, ⟨6, _⟩ => ⟨S2x2x512x512, .f32⟩
  | .hbm, ⟨7, _⟩ => ⟨S8x128, .f32⟩
  | .hbm, ⟨8, _⟩ => ⟨S2x2x512x512, .f32⟩
  | .hbm, ⟨9, _⟩ => ⟨S2x2x512x512, .f32⟩
  | .hbm, ⟨10, _⟩ => ⟨S2x2x512x512, .f32⟩
  | .hbm, ⟨11, _⟩ => ⟨S2x2x512x512, .f32⟩
  | .local _ .vmem, ⟨0, _⟩ => ⟨S1x1x256x512, .f32⟩
  | .local _ .vmem, ⟨1, _⟩ => ⟨S1x1x256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x1x256x512, .f32⟩
  | .local _ .vmem, ⟨11, _⟩ => ⟨S1x1x256x512, .f32⟩
  | .local _ .vmem, ⟨12, _⟩ => ⟨S1x1x256x512, .f32⟩
  | .local _ .vmem, ⟨13, _⟩ => ⟨S1x1x256x512, .f32⟩
  | .local _ .vmem, ⟨14, _⟩ => ⟨S1x1x256x512, .f32⟩
  | .local _ .vmem, ⟨15, _⟩ => ⟨S1x1x256x512, .f32⟩
  | .local _ .vmem, ⟨16, _⟩ => ⟨S1x1x256x512, .f32⟩
  | .local _ .vmem, ⟨17, _⟩ => ⟨S1x1x256x512, .f32⟩
  | .local _ .vmem, ⟨18, _⟩ => ⟨S1x1x256x512, .f32⟩
  | .local _ .vmem, ⟨19, _⟩ => ⟨S1x1x256x512, .f32⟩
  | .local _ .vmem, ⟨20, _⟩ => ⟨S1x1x256x512, .f32⟩
  | .local _ .vmem, ⟨21, _⟩ => ⟨S1x1x256x512, .f32⟩
  | .local _ .smem, ⟨0, _⟩ => ⟨S1, .i32⟩
  | _, _ => ⟨S2x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 2], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamBranchRefIdeal.lean ====
abbrev S1 : Shape := ⟨1, ![1]⟩
abbrev S2x2x512x512 : Shape := ⟨4, ![2, 2, 512, 512]⟩
abbrev S512x512 : Shape := ⟨2, ![512, 512]⟩
abbrev S8x128 : Shape := ⟨2, ![8, 128]⟩
abbrev S2 : Shape := ⟨1, ![2]⟩
abbrev S1x2x1x1 : Shape := ⟨4, ![1, 2, 1, 1]⟩
abbrev S_ : Shape := ⟨0, ![]⟩
abbrev S1x512x512 : Shape := ⟨3, ![1, 512, 512]⟩
abbrev S2x512x512 : Shape := ⟨3, ![2, 512, 512]⟩
abbrev S2x1x512x512 : Shape := ⟨4, ![2, 1, 512, 512]⟩

abbrev nBuf : Space → Nat
  | .hbm => 59
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2x512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S2x2x512x512, .f32⟩
  | .hbm, ⟨7, _⟩ => ⟨S2x2x512x512, .f32⟩
  | .hbm, ⟨8, _⟩ => ⟨S8x128, .f32⟩
  | .hbm, ⟨9, _⟩ => ⟨S2, .i32⟩
  | .hbm, ⟨10, _⟩ => ⟨S1x2x1x1, .i32⟩
  | .hbm, ⟨11, _⟩ => ⟨S_, .i32⟩
  | .hbm, ⟨12, _⟩ => ⟨S1x2x1x1, .i32⟩
  | .hbm, ⟨13, _⟩ => ⟨S1x2x1x1, .i1⟩
  | .hbm, ⟨14, _⟩ => ⟨S1x512x512, .f32⟩
  | .hbm, ⟨15, _⟩ => ⟨S1x512x512, .f32⟩
  | .hbm, ⟨16, _⟩ => ⟨S2x512x512, .f32⟩
  | .hbm, ⟨17, _⟩ => ⟨S2x1x512x512, .f32⟩
  | .hbm, ⟨18, _⟩ => ⟨S1x512x512, .f32⟩
  | .hbm, ⟨19, _⟩ => ⟨S1x512x512, .f32⟩
  | .hbm, ⟨20, _⟩ => ⟨S2x512x512, .f32⟩
  | .hbm, ⟨21, _⟩ => ⟨S2x1x512x512, .f32⟩
  | .hbm, ⟨22, _⟩ => ⟨S2x2x512x512, .i1⟩
  | .hbm, ⟨23, _⟩ => ⟨S2x2x512x512, .f32⟩
  | .hbm, ⟨24, _⟩ => ⟨S2x2x512x512, .f32⟩
  | .hbm, ⟨25, _⟩ => ⟨S2x2x512x512, .f32⟩
  | .hbm, ⟨26, _⟩ => ⟨S_, .f32⟩
  | .hbm, ⟨27, _⟩ => ⟨S2x2x512x512, .f32⟩
  | .hbm, ⟨28, _⟩ => ⟨S2x2x512x512, .f32⟩
  | .hbm, ⟨29, _⟩ => ⟨S_, .f32⟩
  | .hbm, ⟨30, _⟩ => ⟨S2x2x512x512, .f32⟩
  | .hbm, ⟨31, _⟩ => ⟨S2x2x512x512, .f32⟩
  | .hbm, ⟨32, _⟩ => ⟨S2x2x512x512, .f32⟩
  | .hbm, ⟨33, _⟩ => ⟨S_, .f32⟩
  | .hbm, ⟨34, _⟩ => ⟨S2x2x512x512, .f32⟩
  | .hbm, ⟨35, _⟩ => ⟨S2x2x512x512, .f32⟩
  | .hbm, ⟨36, _⟩ => ⟨S2x2x512x512, .f32⟩
  | .hbm, ⟨37, _⟩ => ⟨S_, .f32⟩
  | .hbm, ⟨38, _⟩ => ⟨S2x2x512x512, .f32⟩
  | .hbm, ⟨39, _⟩ => ⟨S2x2x512x512, .f32⟩
  | .hbm, ⟨40, _⟩ => ⟨S2x2x512x512, .f32⟩
  | .hbm, ⟨41, _⟩ => ⟨S_, .f32⟩
  | .hbm, ⟨42, _⟩ => ⟨S2x2x512x512, .f32⟩
  | .hbm, ⟨43, _⟩ => ⟨S2x2x512x512, .f32⟩
  | .hbm, ⟨44, _⟩ => ⟨S_, .f32⟩
  | .hbm, ⟨45, _⟩ => ⟨S2x2x512x512, .f32⟩
  | .hbm, ⟨46, _⟩ => ⟨S2x2x512x512, .f32⟩
  | .hbm, ⟨47, _⟩ => ⟨S2x2x512x512, .f32⟩
  | .hbm, ⟨48, _⟩ => ⟨S_, .f32⟩
  | .hbm, ⟨49, _⟩ => ⟨S2x2x512x512, .f32⟩
  | .hbm, ⟨50, _⟩ => ⟨S2x2x512x512, .f32⟩
  | .hbm, ⟨51, _⟩ => ⟨S2x2x512x512, .f32⟩
  | .hbm, ⟨52, _⟩ => ⟨S_, .f32⟩
  | .hbm, ⟨53, _⟩ => ⟨S2x2x512x512, .f32⟩
  | .hbm, ⟨54, _⟩ => ⟨S2x2x512x512, .f32⟩
  | .hbm, ⟨55, _⟩ => ⟨S2x2x512x512, .f32⟩
  | .hbm, ⟨56, _⟩ => ⟨S_, .f32⟩
  | .hbm, ⟨57, _⟩ => ⟨S2x2x512x512, .f32⟩
  | .hbm, ⟨58, _⟩ => ⟨S2x2x512x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== AdamOut.lean ====
abbrev S1 : Shape := ⟨1, ![1]⟩
abbrev S2x2x256x2048 : Shape := ⟨4, ![2, 2, 256, 2048]⟩
abbrev S256x2048 : Shape := ⟨2, ![256, 2048]⟩
abbrev S8x128 : Shape := ⟨2, ![8, 128]⟩
abbrev S1x1x64x2048 : Shape := ⟨4, ![1, 1, 64, 2048]⟩
abbrev S64x2048 : Shape := ⟨2, ![64, 2048]⟩

abbrev nBuf : Space → Nat
  | .hbm => 12
  | .vmem => 22
  | .smem => 1
  | _ => 0

abbrev bufTy : (tb : Table) → Fin (tcTables nBuf tb) → BufTy
  | .hbm, ⟨0, _⟩ => ⟨S2x2x256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S2x2x256x2048, .f32⟩
  | .hbm, ⟨6, _⟩ => ⟨S2x2x256x2048, .f32⟩
  | .hbm, ⟨7, _⟩ => ⟨S8x128, .f32⟩
  | .hbm, ⟨8, _⟩ => ⟨S2x2x256x2048, .f32⟩
  | .hbm, ⟨9, _⟩ => ⟨S2x2x256x2048, .f32⟩
  | .hbm, ⟨10, _⟩ => ⟨S2x2x256x2048, .f32⟩
  | .hbm, ⟨11, _⟩ => ⟨S2x2x256x2048, .f32⟩
  | .local _ .vmem, ⟨0, _⟩ => ⟨S1x1x64x2048, .f32⟩
  | .local _ .vmem, ⟨1, _⟩ => ⟨S1x1x64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S1x1x64x2048, .f32⟩
  | .local _ .vmem, ⟨11, _⟩ => ⟨S1x1x64x2048, .f32⟩
  | .local _ .vmem, ⟨12, _⟩ => ⟨S1x1x64x2048, .f32⟩
  | .local _ .vmem, ⟨13, _⟩ => ⟨S1x1x64x2048, .f32⟩
  | .local _ .vmem, ⟨14, _⟩ => ⟨S1x1x64x2048, .f32⟩
  | .local _ .vmem, ⟨15, _⟩ => ⟨S1x1x64x2048, .f32⟩
  | .local _ .vmem, ⟨16, _⟩ => ⟨S1x1x64x2048, .f32⟩
  | .local _ .vmem, ⟨17, _⟩ => ⟨S1x1x64x2048, .f32⟩
  | .local _ .vmem, ⟨18, _⟩ => ⟨S1x1x64x2048, .f32⟩
  | .local _ .vmem, ⟨19, _⟩ => ⟨S1x1x64x2048, .f32⟩
  | .local _ .vmem, ⟨20, _⟩ => ⟨S1x1x64x2048, .f32⟩
  | .local _ .vmem, ⟨21, _⟩ => ⟨S1x1x64x2048, .f32⟩
  | .local _ .smem, ⟨0, _⟩ => ⟨S1, .i32⟩
  | _, _ => ⟨S2x2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 4], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamOutIdeal.lean ====
abbrev S1 : Shape := ⟨1, ![1]⟩
abbrev S2x2x256x2048 : Shape := ⟨4, ![2, 2, 256, 2048]⟩
abbrev S256x2048 : Shape := ⟨2, ![256, 2048]⟩
abbrev S8x128 : Shape := ⟨2, ![8, 128]⟩
abbrev S1x1x64x2048 : Shape := ⟨4, ![1, 1, 64, 2048]⟩
abbrev S64x2048 : Shape := ⟨2, ![64, 2048]⟩

abbrev nBuf : Space → Nat
  | .hbm => 12
  | .vmem => 22
  | .smem => 1
  | _ => 0

abbrev bufTy : (tb : Table) → Fin (tcTables nBuf tb) → BufTy
  | .hbm, ⟨0, _⟩ => ⟨S2x2x256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S2x2x256x2048, .f32⟩
  | .hbm, ⟨6, _⟩ => ⟨S2x2x256x2048, .f32⟩
  | .hbm, ⟨7, _⟩ => ⟨S8x128, .f32⟩
  | .hbm, ⟨8, _⟩ => ⟨S2x2x256x2048, .f32⟩
  | .hbm, ⟨9, _⟩ => ⟨S2x2x256x2048, .f32⟩
  | .hbm, ⟨10, _⟩ => ⟨S2x2x256x2048, .f32⟩
  | .hbm, ⟨11, _⟩ => ⟨S2x2x256x2048, .f32⟩
  | .local _ .vmem, ⟨0, _⟩ => ⟨S1x1x64x2048, .f32⟩
  | .local _ .vmem, ⟨1, _⟩ => ⟨S1x1x64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S1x1x64x2048, .f32⟩
  | .local _ .vmem, ⟨11, _⟩ => ⟨S1x1x64x2048, .f32⟩
  | .local _ .vmem, ⟨12, _⟩ => ⟨S1x1x64x2048, .f32⟩
  | .local _ .vmem, ⟨13, _⟩ => ⟨S1x1x64x2048, .f32⟩
  | .local _ .vmem, ⟨14, _⟩ => ⟨S1x1x64x2048, .f32⟩
  | .local _ .vmem, ⟨15, _⟩ => ⟨S1x1x64x2048, .f32⟩
  | .local _ .vmem, ⟨16, _⟩ => ⟨S1x1x64x2048, .f32⟩
  | .local _ .vmem, ⟨17, _⟩ => ⟨S1x1x64x2048, .f32⟩
  | .local _ .vmem, ⟨18, _⟩ => ⟨S1x1x64x2048, .f32⟩
  | .local _ .vmem, ⟨19, _⟩ => ⟨S1x1x64x2048, .f32⟩
  | .local _ .vmem, ⟨20, _⟩ => ⟨S1x1x64x2048, .f32⟩
  | .local _ .vmem, ⟨21, _⟩ => ⟨S1x1x64x2048, .f32⟩
  | .local _ .smem, ⟨0, _⟩ => ⟨S1, .i32⟩
  | _, _ => ⟨S2x2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 4], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamOutRefIdeal.lean ====
abbrev S1 : Shape := ⟨1, ![1]⟩
abbrev S2x2x256x2048 : Shape := ⟨4, ![2, 2, 256, 2048]⟩
abbrev S256x2048 : Shape := ⟨2, ![256, 2048]⟩
abbrev S8x128 : Shape := ⟨2, ![8, 128]⟩
abbrev S2 : Shape := ⟨1, ![2]⟩
abbrev S1x2x1x1 : Shape := ⟨4, ![1, 2, 1, 1]⟩
abbrev S_ : Shape := ⟨0, ![]⟩
abbrev S1x256x2048 : Shape := ⟨3, ![1, 256, 2048]⟩
abbrev S2x256x2048 : Shape := ⟨3, ![2, 256, 2048]⟩
abbrev S2x1x256x2048 : Shape := ⟨4, ![2, 1, 256, 2048]⟩

abbrev nBuf : Space → Nat
  | .hbm => 59
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2x256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S2x2x256x2048, .f32⟩
  | .hbm, ⟨7, _⟩ => ⟨S2x2x256x2048, .f32⟩
  | .hbm, ⟨8, _⟩ => ⟨S8x128, .f32⟩
  | .hbm, ⟨9, _⟩ => ⟨S2, .i32⟩
  | .hbm, ⟨10, _⟩ => ⟨S1x2x1x1, .i32⟩
  | .hbm, ⟨11, _⟩ => ⟨S_, .i32⟩
  | .hbm, ⟨12, _⟩ => ⟨S1x2x1x1, .i32⟩
  | .hbm, ⟨13, _⟩ => ⟨S1x2x1x1, .i1⟩
  | .hbm, ⟨14, _⟩ => ⟨S1x256x2048, .f32⟩
  | .hbm, ⟨15, _⟩ => ⟨S1x256x2048, .f32⟩
  | .hbm, ⟨16, _⟩ => ⟨S2x256x2048, .f32⟩
  | .hbm, ⟨17, _⟩ => ⟨S2x1x256x2048, .f32⟩
  | .hbm, ⟨18, _⟩ => ⟨S1x256x2048, .f32⟩
  | .hbm, ⟨19, _⟩ => ⟨S1x256x2048, .f32⟩
  | .hbm, ⟨20, _⟩ => ⟨S2x256x2048, .f32⟩
  | .hbm, ⟨21, _⟩ => ⟨S2x1x256x2048, .f32⟩
  | .hbm, ⟨22, _⟩ => ⟨S2x2x256x2048, .i1⟩
  | .hbm, ⟨23, _⟩ => ⟨S2x2x256x2048, .f32⟩
  | .hbm, ⟨24, _⟩ => ⟨S2x2x256x2048, .f32⟩
  | .hbm, ⟨25, _⟩ => ⟨S2x2x256x2048, .f32⟩
  | .hbm, ⟨26, _⟩ => ⟨S_, .f32⟩
  | .hbm, ⟨27, _⟩ => ⟨S2x2x256x2048, .f32⟩
  | .hbm, ⟨28, _⟩ => ⟨S2x2x256x2048, .f32⟩
  | .hbm, ⟨29, _⟩ => ⟨S_, .f32⟩
  | .hbm, ⟨30, _⟩ => ⟨S2x2x256x2048, .f32⟩
  | .hbm, ⟨31, _⟩ => ⟨S2x2x256x2048, .f32⟩
  | .hbm, ⟨32, _⟩ => ⟨S2x2x256x2048, .f32⟩
  | .hbm, ⟨33, _⟩ => ⟨S_, .f32⟩
  | .hbm, ⟨34, _⟩ => ⟨S2x2x256x2048, .f32⟩
  | .hbm, ⟨35, _⟩ => ⟨S2x2x256x2048, .f32⟩
  | .hbm, ⟨36, _⟩ => ⟨S2x2x256x2048, .f32⟩
  | .hbm, ⟨37, _⟩ => ⟨S_, .f32⟩
  | .hbm, ⟨38, _⟩ => ⟨S2x2x256x2048, .f32⟩
  | .hbm, ⟨39, _⟩ => ⟨S2x2x256x2048, .f32⟩
  | .hbm, ⟨40, _⟩ => ⟨S2x2x256x2048, .f32⟩
  | .hbm, ⟨41, _⟩ => ⟨S_, .f32⟩
  | .hbm, ⟨42, _⟩ => ⟨S2x2x256x2048, .f32⟩
  | .hbm, ⟨43, _⟩ => ⟨S2x2x256x2048, .f32⟩
  | .hbm, ⟨44, _⟩ => ⟨S_, .f32⟩
  | .hbm, ⟨45, _⟩ => ⟨S2x2x256x2048, .f32⟩
  | .hbm, ⟨46, _⟩ => ⟨S2x2x256x2048, .f32⟩
  | .hbm, ⟨47, _⟩ => ⟨S2x2x256x2048, .f32⟩
  | .hbm, ⟨48, _⟩ => ⟨S_, .f32⟩
  | .hbm, ⟨49, _⟩ => ⟨S2x2x256x2048, .f32⟩
  | .hbm, ⟨50, _⟩ => ⟨S2x2x256x2048, .f32⟩
  | .hbm, ⟨51, _⟩ => ⟨S2x2x256x2048, .f32⟩
  | .hbm, ⟨52, _⟩ => ⟨S_, .f32⟩
  | .hbm, ⟨53, _⟩ => ⟨S2x2x256x2048, .f32⟩
  | .hbm, ⟨54, _⟩ => ⟨S2x2x256x2048, .f32⟩
  | .hbm, ⟨55, _⟩ => ⟨S2x2x256x2048, .f32⟩
  | .hbm, ⟨56, _⟩ => ⟨S_, .f32⟩
  | .hbm, ⟨57, _⟩ => ⟨S2x2x256x2048, .f32⟩
  | .hbm, ⟨58, _⟩ => ⟨S2x2x256x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== AdamMlp.lean ====
abbrev S1 : Shape := ⟨1, ![1]⟩
abbrev S2x2x1024x2048 : Shape := ⟨4, ![2, 2, 1024, 2048]⟩
abbrev S1024x2048 : Shape := ⟨2, ![1024, 2048]⟩
abbrev S8x128 : Shape := ⟨2, ![8, 128]⟩
abbrev S1x1x64x2048 : Shape := ⟨4, ![1, 1, 64, 2048]⟩
abbrev S64x2048 : Shape := ⟨2, ![64, 2048]⟩

abbrev nBuf : Space → Nat
  | .hbm => 12
  | .vmem => 22
  | .smem => 1
  | _ => 0

abbrev bufTy : (tb : Table) → Fin (tcTables nBuf tb) → BufTy
  | .hbm, ⟨0, _⟩ => ⟨S2x2x1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S2x2x1024x2048, .f32⟩
  | .hbm, ⟨6, _⟩ => ⟨S2x2x1024x2048, .f32⟩
  | .hbm, ⟨7, _⟩ => ⟨S8x128, .f32⟩
  | .hbm, ⟨8, _⟩ => ⟨S2x2x1024x2048, .f32⟩
  | .hbm, ⟨9, _⟩ => ⟨S2x2x1024x2048, .f32⟩
  | .hbm, ⟨10, _⟩ => ⟨S2x2x1024x2048, .f32⟩
  | .hbm, ⟨11, _⟩ => ⟨S2x2x1024x2048, .f32⟩
  | .local _ .vmem, ⟨0, _⟩ => ⟨S1x1x64x2048, .f32⟩
  | .local _ .vmem, ⟨1, _⟩ => ⟨S1x1x64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S1x1x64x2048, .f32⟩
  | .local _ .vmem, ⟨11, _⟩ => ⟨S1x1x64x2048, .f32⟩
  | .local _ .vmem, ⟨12, _⟩ => ⟨S1x1x64x2048, .f32⟩
  | .local _ .vmem, ⟨13, _⟩ => ⟨S1x1x64x2048, .f32⟩
  | .local _ .vmem, ⟨14, _⟩ => ⟨S1x1x64x2048, .f32⟩
  | .local _ .vmem, ⟨15, _⟩ => ⟨S1x1x64x2048, .f32⟩
  | .local _ .vmem, ⟨16, _⟩ => ⟨S1x1x64x2048, .f32⟩
  | .local _ .vmem, ⟨17, _⟩ => ⟨S1x1x64x2048, .f32⟩
  | .local _ .vmem, ⟨18, _⟩ => ⟨S1x1x64x2048, .f32⟩
  | .local _ .vmem, ⟨19, _⟩ => ⟨S1x1x64x2048, .f32⟩
  | .local _ .vmem, ⟨20, _⟩ => ⟨S1x1x64x2048, .f32⟩
  | .local _ .vmem, ⟨21, _⟩ => ⟨S1x1x64x2048, .f32⟩
  | .local _ .smem, ⟨0, _⟩ => ⟨S1, .i32⟩
  | _, _ => ⟨S2x2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 16], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AdamMlpRefIdeal.lean ====
abbrev S1 : Shape := ⟨1, ![1]⟩
abbrev S2x2x1024x2048 : Shape := ⟨4, ![2, 2, 1024, 2048]⟩
abbrev S1024x2048 : Shape := ⟨2, ![1024, 2048]⟩
abbrev S8x128 : Shape := ⟨2, ![8, 128]⟩
abbrev S2 : Shape := ⟨1, ![2]⟩
abbrev S1x2x1x1 : Shape := ⟨4, ![1, 2, 1, 1]⟩
abbrev S_ : Shape := ⟨0, ![]⟩
abbrev S1x1024x2048 : Shape := ⟨3, ![1, 1024, 2048]⟩
abbrev S2x1024x2048 : Shape := ⟨3, ![2, 1024, 2048]⟩
abbrev S2x1x1024x2048 : Shape := ⟨4, ![2, 1, 1024, 2048]⟩

abbrev nBuf : Space → Nat
  | .hbm => 59
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2x1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S2x2x1024x2048, .f32⟩
  | .hbm, ⟨7, _⟩ => ⟨S2x2x1024x2048, .f32⟩
  | .hbm, ⟨8, _⟩ => ⟨S8x128, .f32⟩
  | .hbm, ⟨9, _⟩ => ⟨S2, .i32⟩
  | .hbm, ⟨10, _⟩ => ⟨S1x2x1x1, .i32⟩
  | .hbm, ⟨11, _⟩ => ⟨S_, .i32⟩
  | .hbm, ⟨12, _⟩ => ⟨S1x2x1x1, .i32⟩
  | .hbm, ⟨13, _⟩ => ⟨S1x2x1x1, .i1⟩
  | .hbm, ⟨14, _⟩ => ⟨S1x1024x2048, .f32⟩
  | .hbm, ⟨15, _⟩ => ⟨S1x1024x2048, .f32⟩
  | .hbm, ⟨16, _⟩ => ⟨S2x1024x2048, .f32⟩
  | .hbm, ⟨17, _⟩ => ⟨S2x1x1024x2048, .f32⟩
  | .hbm, ⟨18, _⟩ => ⟨S1x1024x2048, .f32⟩
  | .hbm, ⟨19, _⟩ => ⟨S1x1024x2048, .f32⟩
  | .hbm, ⟨20, _⟩ => ⟨S2x1024x2048, .f32⟩
  | .hbm, ⟨21, _⟩ => ⟨S2x1x1024x2048, .f32⟩
  | .hbm, ⟨22, _⟩ => ⟨S2x2x1024x2048, .i1⟩
  | .hbm, ⟨23, _⟩ => ⟨S2x2x1024x2048, .f32⟩
  | .hbm, ⟨24, _⟩ => ⟨S2x2x1024x2048, .f32⟩
  | .hbm, ⟨25, _⟩ => ⟨S2x2x1024x2048, .f32⟩
  | .hbm, ⟨26, _⟩ => ⟨S_, .f32⟩
  | .hbm, ⟨27, _⟩ => ⟨S2x2x1024x2048, .f32⟩
  | .hbm, ⟨28, _⟩ => ⟨S2x2x1024x2048, .f32⟩
  | .hbm, ⟨29, _⟩ => ⟨S_, .f32⟩
  | .hbm, ⟨30, _⟩ => ⟨S2x2x1024x2048, .f32⟩
  | .hbm, ⟨31, _⟩ => ⟨S2x2x1024x2048, .f32⟩
  | .hbm, ⟨32, _⟩ => ⟨S2x2x1024x2048, .f32⟩
  | .hbm, ⟨33, _⟩ => ⟨S_, .f32⟩
  | .hbm, ⟨34, _⟩ => ⟨S2x2x1024x2048, .f32⟩
  | .hbm, ⟨35, _⟩ => ⟨S2x2x1024x2048, .f32⟩
  | .hbm, ⟨36, _⟩ => ⟨S2x2x1024x2048, .f32⟩
  | .hbm, ⟨37, _⟩ => ⟨S_, .f32⟩
  | .hbm, ⟨38, _⟩ => ⟨S2x2x1024x2048, .f32⟩
  | .hbm, ⟨39, _⟩ => ⟨S2x2x1024x2048, .f32⟩
  | .hbm, ⟨40, _⟩ => ⟨S2x2x1024x2048, .f32⟩
  | .hbm, ⟨41, _⟩ => ⟨S_, .f32⟩
  | .hbm, ⟨42, _⟩ => ⟨S2x2x1024x2048, .f32⟩
  | .hbm, ⟨43, _⟩ => ⟨S2x2x1024x2048, .f32⟩
  | .hbm, ⟨44, _⟩ => ⟨S_, .f32⟩
  | .hbm, ⟨45, _⟩ => ⟨S2x2x1024x2048, .f32⟩
  | .hbm, ⟨46, _⟩ => ⟨S2x2x1024x2048, .f32⟩
  | .hbm, ⟨47, _⟩ => ⟨S2x2x1024x2048, .f32⟩
  | .hbm, ⟨48, _⟩ => ⟨S_, .f32⟩
  | .hbm, ⟨49, _⟩ => ⟨S2x2x1024x2048, .f32⟩
  | .hbm, ⟨50, _⟩ => ⟨S2x2x1024x2048, .f32⟩
  | .hbm, ⟨51, _⟩ => ⟨S2x2x1024x2048, .f32⟩
  | .hbm, ⟨52, _⟩ => ⟨S_, .f32⟩
  | .hbm, ⟨53, _⟩ => ⟨S2x2x1024x2048, .f32⟩
  | .hbm, ⟨54, _⟩ => ⟨S2x2x1024x2048, .f32⟩
  | .hbm, ⟨55, _⟩ => ⟨S2x2x1024x2048, .f32⟩
  | .hbm, ⟨56, _⟩ => ⟨S_, .f32⟩
  | .hbm, ⟨57, _⟩ => ⟨S2x2x1024x2048, .f32⟩
  | .hbm, ⟨58, _⟩ => ⟨S2x2x1024x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== MergeFwd.lean ====
abbrev S4096x10752 : Shape := ⟨2, ![4096, 10752]⟩
abbrev S4096x2048 : Shape := ⟨2, ![4096, 2048]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x10752, .f32⟩
  | .hbm, ⟨1, _⟩ => ⟨S4096x2048, .f32⟩
  | .hbm, ⟨2, _⟩ => ⟨S4096x2048, .f32⟩
  | .hbm, ⟨3, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S4096x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeFwdRefIdeal.lean ====
abbrev S4096x10752 : Shape := ⟨2, ![4096, 10752]⟩
abbrev S4096x2048 : Shape := ⟨2, ![4096, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x10752, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | _, _ => ⟨S4096x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== GdnPostFwd.lean ====
abbrev S4096x1024 : Shape := ⟨2, ![4096, 1024]⟩
abbrev S4096x10752 : Shape := ⟨2, ![4096, 10752]⟩
abbrev S128 : Shape := ⟨1, ![128]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x10752, .f32⟩
  | .hbm, ⟨2, _⟩ => ⟨S128, .f32⟩
  | .hbm, ⟨3, _⟩ => ⟨S1x128, .f32⟩
  | .hbm, ⟨4, _⟩ => ⟨S4096x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .bf16⟩
  | .local _ .vmem, ⟨6, _⟩ => ⟨S2048x128, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GdnPostFwdRefIdeal.lean ====
abbrev S4096x1024 : Shape := ⟨2, ![4096, 1024]⟩
abbrev S4096x10752 : Shape := ⟨2, ![4096, 10752]⟩
abbrev S128 : Shape := ⟨1, ![128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x10752, .f32⟩
  | .hbm, ⟨2, _⟩ => ⟨S128, .f32⟩
  | .hbm, ⟨3, _⟩ => ⟨S4096x1024, .f32⟩
  | .hbm, ⟨4, _⟩ => ⟨S4096x8x128, .f32⟩
  | .hbm, ⟨5, _⟩ => ⟨S4096x8x128, .f32⟩
  | .hbm, ⟨6, _⟩ => ⟨S_, .f32⟩
  | .hbm, ⟨7, _⟩ => ⟨S4096x8, .f32⟩
  | .hbm, ⟨8, _⟩ => ⟨S4096x8x1, .f32⟩
  | .hbm, ⟨9, _⟩ => ⟨S_, .f32⟩
  | .hbm, ⟨10, _⟩ => ⟨S4096x8x1, .f32⟩
  | .hbm, ⟨11, _⟩ => ⟨S4096x8x1, .f32⟩
  | .hbm, ⟨12, _⟩ => ⟨S_, .f32⟩
  | .hbm, ⟨13, _⟩ => ⟨S4096x8x1, .f32⟩
  | .hbm, ⟨14, _⟩ => ⟨S4096x8x1, .f32⟩
  | .hbm, ⟨15, _⟩ => ⟨S4096x8x1, .f32⟩
  | .hbm, ⟨16, _⟩ => ⟨S4096x8x128, .f32⟩
  | .hbm, ⟨17, _⟩ => ⟨S4096x8x128, .f32⟩
  | .hbm, ⟨18, _⟩ => ⟨S1x1x128, .f32⟩
  | .hbm, ⟨19, _⟩ => ⟨S4096x8x128, .f32⟩
  | .hbm, ⟨20, _⟩ => ⟨S4096x8x128, .f32⟩
  | .hbm, ⟨21, _⟩ => ⟨S4096x8x128, .f32⟩
  | .hbm, ⟨22, _⟩ => ⟨S4096x8x128, .f32⟩
  | .hbm, ⟨23, _⟩ => ⟨S4096x8x128, .f32⟩
  | .hbm, ⟨24, _⟩ => ⟨S_, .f32⟩
  | .hbm, ⟨25, _⟩ => ⟨S4096x8x128, .f32⟩
  | .hbm, ⟨26, _⟩ => ⟨S4096x8x128, .f32⟩
  | .hbm, ⟨27, _⟩ => ⟨S_, .f32⟩
  | .hbm, ⟨28, _⟩ => ⟨S4096x8x128, .f32⟩
  | .hbm, ⟨29, _⟩ => ⟨S4096x8x128, .f32⟩
  | .hbm, ⟨30, _⟩ => ⟨S4096x8x128, .f32⟩
  | .hbm, ⟨31, _⟩ => ⟨S4096x8x128, .f32⟩
  | .hbm, ⟨32, _⟩ => ⟨S4096x1024, .f32⟩
  | .hbm, ⟨33, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== DabReduce.lean ====
abbrev S4096x1024 : Shape := ⟨2, ![4096, 1024]⟩
abbrev S4096x128 : Shape := ⟨2, ![4096, 128]⟩
abbrev S1x128 : Shape := ⟨2, ![1, 128]⟩
abbrev S512x1024 : Shape := ⟨2, ![512, 1024]⟩
abbrev S512x128 : Shape := ⟨2, ![512, 128]⟩
abbrev S128 : Shape := ⟨1, ![128]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x128, .f32⟩
  | .hbm, ⟨2, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DabReduceRefIdeal.lean ====
abbrev S4096x1024 : Shape := ⟨2, ![4096, 1024]⟩
abbrev S4096x8x128 : Shape := ⟨3, ![4096, 8, 128]⟩
abbrev S_ : Shape := ⟨0, ![]⟩
abbrev S4096x128 : Shape := ⟨2, ![4096, 128]⟩
abbrev S128 : Shape := ⟨1, ![128]⟩
abbrev S1x128 : Shape := ⟨2, ![1, 128]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x8x128, .f32⟩
  | .hbm, ⟨2, _⟩ => ⟨S_, .f32⟩
  | .hbm, ⟨3, _⟩ => ⟨S4096x128, .f32⟩
  | .hbm, ⟨4, _⟩ => ⟨S_, .f32⟩
  | .hbm, ⟨5, _⟩ => ⟨S128, .f32⟩
  | .hbm, ⟨6, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LruConvFwd.lean ====
abbrev S4096x10752 : Shape := ⟨2, ![4096, 10752]⟩
abbrev S4x1024 : Shape := ⟨2, ![4, 1024]⟩
abbrev S1024 : Shape := ⟨1, ![1024]⟩
abbrev S1x1024 : Shape := ⟨2, ![1, 1024]⟩
abbrev S4096x1024 : Shape := ⟨2, ![4096, 1024]⟩
abbrev S2048x128 : Shape := ⟨2, ![2048, 128]⟩
abbrev S8x128 : Shape := ⟨2, ![8, 128]⟩
abbrev S4x128 : Shape := ⟨2, ![4, 128]⟩
abbrev S1x128 : Shape := ⟨2, ![1, 128]⟩
abbrev S2040x128 : Shape := ⟨2, ![2040, 128]⟩

abbrev nBuf : Space → Nat
  | .hbm => 5
  | .vmem => 10
  | .smem => 0
  | _ => 0

abbrev bufTy : (tb : Table) → Fin (tcTables nBuf tb) → BufTy
  | .hbm, ⟨0, _⟩ => ⟨S4096x10752, .f32⟩
  | .hbm, ⟨1, _⟩ => ⟨S4x1024, .f32⟩
  | .hbm, ⟨2, _⟩ => ⟨S1024, .f32⟩
  | .hbm, ⟨3, _⟩ => ⟨S1x1024, .f32⟩
  | .hbm, ⟨4, _⟩ => ⟨S4096x1024, .f32⟩
  | .local _ .vmem, ⟨0, _⟩ => ⟨S2048x128, .f32⟩
  | .local _ .vmem, ⟨1, _⟩ => ⟨S2048x128, .f32⟩
  | .local _ .vmem, ⟨2, _⟩ => ⟨S8x128, .f32⟩
  | .local _ .vmem, ⟨3, _⟩ => ⟨S8x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | _, _ => ⟨S4096x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c1_i32 : BitVec 32 := 1#32
  let v1 : BitVec 32 := Scalar.subi v0 c1_i32
  let c0_i32 : BitVec 32 := 0#32
  let v2 : BitVec 32 := Scalar.maxsi v1 c0_i32
  let c32_i32 : BitVec 32 := 32#32
  let v3 : BitVec 32 := Scalar.addi c32_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== LruConvFwdRefIdeal.lean ====
abbrev S4096x10752 : Shape := ⟨2, ![4096, 10752]⟩
abbrev S4x1024 : Shape := ⟨2, ![4, 1024]⟩
abbrev S1024 : Shape := ⟨1, ![1024]⟩
abbrev S4096x1024 : Shape := ⟨2, ![4096, 1024]⟩
abbrev S_ : Shape := ⟨0, ![]⟩
abbrev S3x1024 : Shape := ⟨2, ![3, 1024]⟩
abbrev S4099x1024 : Shape := ⟨2, ![4099, 1024]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x10752, .f32⟩
  | .hbm, ⟨1, _⟩ => ⟨S4x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S3x1024, .f32⟩
  | .hbm, ⟨6, _⟩ => ⟨S4099x1024, .f32⟩
  | .hbm, ⟨7, _⟩ => ⟨S4096x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | _, _ => ⟨S4096x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== LruConvBwd.lean ====
abbrev S4096x1024 : Shape := ⟨2, ![4096, 1024]⟩
abbrev S4096x10752 : Shape := ⟨2, ![4096, 10752]⟩
abbrev S4x1024 : Shape := ⟨2, ![4, 1024]⟩
abbrev S1x1024 : Shape := ⟨2, ![1, 1024]⟩
abbrev S2048x128 : Shape := ⟨2, ![2048, 128]⟩
abbrev S8x128 : Shape := ⟨2, ![8, 128]⟩
abbrev S4x128 : Shape := ⟨2, ![4, 128]⟩
abbrev S1x128 : Shape := ⟨2, ![1, 128]⟩
abbrev S128 : Shape := ⟨1, ![128]⟩
abbrev S2040x128 : Shape := ⟨2, ![2040, 128]⟩

abbrev nBuf : Space → Nat
  | .hbm => 6
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x10752, .f32⟩
  | .hbm, ⟨2, _⟩ => ⟨S4x1024, .f32⟩
  | .hbm, ⟨3, _⟩ => ⟨S4096x1024, .f32⟩
  | .hbm, ⟨4, _⟩ => ⟨S4x1024, .f32⟩
  | .hbm, ⟨5, _⟩ => ⟨S1x1024, .f32⟩
  | .local _ .vmem, ⟨0, _⟩ => ⟨S2048x128, .f32⟩
  | .local _ .vmem, ⟨1, _⟩ => ⟨S2048x128, .f32⟩
  | .local _ .vmem, ⟨2, _⟩ => ⟨S8x128, .f32⟩
  | .local _ .vmem, ⟨3, _⟩ => ⟨S8x128, .f32⟩
  | .local _ .vmem, ⟨4, _⟩ => ⟨S2048x128, .f32⟩
  | .local _ .vmem, ⟨5, _⟩ => ⟨S2048x128, .f32⟩
  | .local _ .vmem, ⟨6, _⟩ => ⟨S8x128, .f32⟩
  | .local _ .vmem, ⟨7, _⟩ => ⟨S8x128, .f32⟩
  | .local _ .vmem, ⟨8, _⟩ => ⟨S4x128, .f32⟩
  | .local _ .vmem, ⟨9, _⟩ => ⟨S4x128, .f32⟩
  | .local _ .vmem, ⟨10, _⟩ => ⟨S2048x128, .f32⟩
  | .local _ .vmem, ⟨11, _⟩ => ⟨S2048x128, .f32⟩
  | .local _ .vmem, ⟨12, _⟩ => ⟨S4x128, .f32⟩
  | .local _ .vmem, ⟨13, _⟩ => ⟨S4x128, .f32⟩
  | .local _ .vmem, ⟨14, _⟩ => ⟨S1x128, .f32⟩
  | .local _ .vmem, ⟨15, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.minsi v1 c511_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c1_i32 : BitVec 32 := 1#32
  let v1 : BitVec 32 := Scalar.subi v0 c1_i32
  let c0_i32 : BitVec 32 := 0#32
  let v2 : BitVec 32 := Scalar.maxsi v1 c0_i32
  let c32_i32 : BitVec 32 := 32#32
  let v3 : BitVec 32 := Scalar.addi c32_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== LruConvBwdRefIdeal.lean ====
abbrev S4096x1024 : Shape := ⟨2, ![4096, 1024]⟩
abbrev S4096x10752 : Shape := ⟨2, ![4096, 10752]⟩
abbrev S4x1024 : Shape := ⟨2, ![4, 1024]⟩
abbrev S_ : Shape := ⟨0, ![]⟩
abbrev S1024 : Shape := ⟨1, ![1024]⟩
abbrev S3x1024 : Shape := ⟨2, ![3, 1024]⟩
abbrev S4099x1024 : Shape := ⟨2, ![4099, 1024]⟩
abbrev S1x1024 : Shape := ⟨2, ![1, 1024]⟩

abbrev nBuf : Space → Nat
  | .hbm => 108
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x10752, .f32⟩
  | .hbm, ⟨2, _⟩ => ⟨S4x1024, .f32⟩
  | .hbm, ⟨3, _⟩ => ⟨S4096x1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S3x1024, .f32⟩
  | .hbm, ⟨8, _⟩ => ⟨S4099x1024, .f32⟩
  | .hbm, ⟨9, _⟩ => ⟨S_, .f32⟩
  | .hbm, ⟨10, _⟩ => ⟨S3x1024, .f32⟩
  | .hbm, ⟨11, _⟩ => ⟨S4096x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S4x1024, .f32⟩
  | .hbm, ⟨58, _⟩ => ⟨S_, .f32⟩
  | .hbm, ⟨59, _⟩ => ⟨S4099x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S4x1024, .f32⟩
  | .hbm, ⟨71, _⟩ => ⟨S4x1024, .f32⟩
  | .hbm, ⟨72, _⟩ => ⟨S_, .f32⟩
  | .hbm, ⟨73, _⟩ => ⟨S4099x1024, .f32⟩
  | .hbm, ⟨74, _⟩ => ⟨S4099x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S_, .f32⟩
  | .hbm, ⟨85, _⟩ => ⟨S4x1024, .f32⟩
  | .hbm, ⟨86, _⟩ => ⟨S4x1024, .f32⟩
  | .hbm, ⟨87, _⟩ => ⟨S_, .f32⟩
  | .hbm, ⟨88, _⟩ => ⟨S4099x1024, .f32⟩
  | .hbm, ⟨89, _⟩ => ⟨S4099x1024, .f32⟩
  | .hbm, ⟨90, _⟩ => ⟨S4096x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S4096x1024, .f32⟩
  | .hbm, ⟨95, _⟩ => ⟨S4096x1024, .f32⟩
  | .hbm, ⟨96, _⟩ => ⟨S_, .f32⟩
  | .hbm, ⟨97, _⟩ => ⟨S1024, .f32⟩
  | .hbm, ⟨98, _⟩ => ⟨S1x1024, .f32⟩
  | .hbm, ⟨99, _⟩ => ⟨S_, .f32⟩
  | .hbm, ⟨100, _⟩ => ⟨S4x1024, .f32⟩
  | .hbm, ⟨101, _⟩ => ⟨S4x1024, .f32⟩
  | .hbm, ⟨102, _⟩ => ⟨S_, .f32⟩
  | .hbm, ⟨103, _⟩ => ⟨S4099x1024, .f32⟩
  | .hbm, ⟨104, _⟩ => ⟨S4099x1024, .f32⟩
  | .hbm, ⟨105, _⟩ => ⟨S3x1024, .f32⟩
  | .hbm, ⟨106, _⟩ => ⟨S4096x1024, .f32⟩
  | .hbm, ⟨107, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_16 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_17 : Ref sig .tc := ⟨.hbm, 96, rfl⟩
abbrev main_v75 : Ref sig .tc := ⟨.hbm, 97, rfl⟩
abbrev main_v76 : Ref sig .tc := ⟨.hbm, 98, rfl⟩
abbrev main_cst_18 : Ref sig .tc := ⟨.hbm, 99, rfl⟩
abbrev main_v77 : Ref sig .tc := ⟨.hbm, 100, rfl⟩
abbrev main_v78 : Ref sig .tc := ⟨.hbm, 101, rfl⟩
abbrev main_cst_19 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩

abbrev nD : Nat := 1
abbrev τ : Topo := Topo.v7x

variable {F : FTy → Type} [FloatOps F]
-- ==== GdnConvBwd.lean ====
abbrev S4096x3072 : Shape := ⟨2, ![4096, 3072]⟩
abbrev S4096x10752 : Shape := ⟨2, ![4096, 10752]⟩
abbrev S4x3072 : Shape := ⟨2, ![4, 3072]⟩
abbrev S1x3072 : Shape := ⟨2, ![1, 3072]⟩
abbrev S2048x128 : Shape := ⟨2, ![2048, 128]⟩
abbrev S8x128 : Shape := ⟨2, ![8, 128]⟩
abbrev S4x128 : Shape := ⟨2, ![4, 128]⟩
abbrev S1x128 : Shape := ⟨2, ![1, 128]⟩
abbrev S128 : Shape := ⟨1, ![128]⟩
abbrev S2040x128 : Shape := ⟨2, ![2040, 128]⟩

abbrev nBuf : Space → Nat
  | .hbm => 6
  | .vmem => 16
  | .smem => 0
  | _ => 0

abbrev bufTy : (tb : Table) → Fin (tcTables nBuf tb) → BufTy
  | .hbm, ⟨0, _⟩ => ⟨S4096x3072, .f32⟩
  | .hbm, ⟨1, _⟩ => ⟨S4096x10752, .f32⟩
  | .hbm, ⟨2, _⟩ => ⟨S4x3072, .f32⟩
  | .hbm, ⟨3, _⟩ => ⟨S4096x3072, .f32⟩
  | .hbm, ⟨4, _⟩ => ⟨S4x3072, .f32⟩
  | .hbm, ⟨5, _⟩ => ⟨S1x3072, .f32⟩
  | .local _ .vmem, ⟨0, _⟩ => ⟨S2048x128, .f32⟩
  | .local _ .vmem, ⟨1, _⟩ => ⟨S2048x128, .f32⟩
  | .local _ .vmem, ⟨2, _⟩ => ⟨S8x128, .f32⟩
  | .local _ .vmem, ⟨3, _⟩ => ⟨S8x128, .f32⟩
  | .local _ .vmem, ⟨4, _⟩ => ⟨S2048x128, .f32⟩
  | .local _ .vmem, ⟨5, _⟩ => ⟨S2048x128, .f32⟩
  | .local _ .vmem, ⟨6, _⟩ => ⟨S8x128, .f32⟩
  | .local _ .vmem, ⟨7, _⟩ => ⟨S8x128, .f32⟩
  | .local _ .vmem, ⟨8, _⟩ => ⟨S4x128, .f32⟩
  | .local _ .vmem, ⟨9, _⟩ => ⟨S4x128, .f32⟩
  | .local _ .vmem, ⟨10, _⟩ => ⟨S2048x128, .f32⟩
  | .local _ .vmem, ⟨11, _⟩ => ⟨S2048x128, .f32⟩
  | .local _ .vmem, ⟨12, _⟩ => ⟨S4x128, .f32⟩
  | .local _ .vmem, ⟨13, _⟩ => ⟨S4x128, .f32⟩
  | .local _ .vmem, ⟨14, _⟩ => ⟨S1x128, .f32⟩
  | .local _ .vmem, ⟨15, _⟩ => ⟨S1x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![24, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c511_i32 : BitVec 32 := 511#32
  let v2 : BitVec 32 := Scalar.minsi v1 c511_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GdnConvBwdRefIdeal.lean ====
abbrev S4096x3072 : Shape := ⟨2, ![4096, 3072]⟩
abbrev S4096x10752 : Shape := ⟨2, ![4096, 10752]⟩
abbrev S4x3072 : Shape := ⟨2, ![4, 3072]⟩
abbrev S_ : Shape := ⟨0, ![]⟩
abbrev S3072 : Shape := ⟨1, ![3072]⟩
abbrev S3x3072 : Shape := ⟨2, ![3, 3072]⟩
abbrev S4099x3072 : Shape := ⟨2, ![4099, 3072]⟩
abbrev S1x3072 : Shape := ⟨2, ![1, 3072]⟩

abbrev nBuf : Space → Nat
  | .hbm => 108
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x10752, .f32⟩
  | .hbm, ⟨2, _⟩ => ⟨S4x3072, .f32⟩
  | .hbm, ⟨3, _⟩ => ⟨S4096x3072, .f32⟩
  | .hbm, ⟨4, _⟩ => ⟨S_, .f32⟩
  | .hbm, ⟨5, _⟩ => ⟨S3072, .f32⟩
  | .hbm, ⟨6, _⟩ => ⟨S_, .f32⟩
  | .hbm, ⟨7, _⟩ => ⟨S3x3072, .f32⟩
  | .hbm, ⟨8, _⟩ => ⟨S4099x3072, .f32⟩
  | .hbm, ⟨9, _⟩ => ⟨S_, .f32⟩
  | .hbm, ⟨10, _⟩ => ⟨S3x3072, .f32⟩
  | .hbm, ⟨11, _⟩ => ⟨S4096x3072, .f32⟩
  | .hbm, ⟨12, _⟩ => ⟨S1x3072, .f32⟩
  | .hbm, ⟨13, _⟩ => ⟨S3072, .f32⟩
  | .hbm, ⟨14, _⟩ => ⟨S1x3072, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S1x3072, .f32⟩
  | .hbm, ⟨19, _⟩ => ⟨S3072, .f32⟩
  | .hbm, ⟨20, _⟩ => ⟨S1x3072, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S1x3072, .f32⟩
  | .hbm, ⟨26, _⟩ => ⟨S3072, .f32⟩
  | .hbm, ⟨27, _⟩ => ⟨S1x3072, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S1x3072, .f32⟩
  | .hbm, ⟨33, _⟩ => ⟨S3072, .f32⟩
  | .hbm, ⟨34, _⟩ => ⟨S1x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S1x3072, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S_, .f32⟩
  | .hbm, ⟨43, _⟩ => ⟨S3072, .f32⟩
  | .hbm, ⟨44, _⟩ => ⟨S1x3072, .f32⟩
  | .hbm, ⟨45, _⟩ => ⟨S_, .f32⟩
  | .hbm, ⟨46, _⟩ => ⟨S3072, .f32⟩
  | .hbm, ⟨47, _⟩ => ⟨S4096x3072, .f32⟩
  | .hbm, ⟨48, _⟩ => ⟨S_, .f32⟩
  | .hbm, ⟨49, _⟩ => ⟨S3072, .f32⟩
  | .hbm, ⟨50, _⟩ => ⟨S1x3072, .f32⟩
  | .hbm, ⟨51, _⟩ => ⟨S4096x3072, .f32⟩
  | .hbm, ⟨52, _⟩ => ⟨S4096x3072, .f32⟩
  | .hbm, ⟨53, _⟩ => ⟨S_, .f32⟩
  | .hbm, ⟨54, _⟩ => ⟨S3072, .f32⟩
  | .hbm, ⟨55, _⟩ => ⟨S1x3072, .f32⟩
  | .hbm, ⟨56, _⟩ => ⟨S_, .f32⟩
  | .hbm, ⟨57, _⟩ => ⟨S4x3072, .f32⟩
  | .hbm, ⟨58, _⟩ => ⟨S_, .f32⟩
  | .hbm, ⟨59, _⟩ => ⟨S4099x3072, .f32⟩
  | .hbm, ⟨60, _⟩ => ⟨S4096x3072, .f32⟩
  | .hbm, ⟨61, _⟩ => ⟨S_, .f32⟩
  | .hbm, ⟨62, _⟩ => ⟨S3072, .f32⟩
  | .hbm, ⟨63, _⟩ => ⟨S1x3072, .f32⟩
  | .hbm, ⟨64, _⟩ => ⟨S4096x3072, .f32⟩
  | .hbm, ⟨65, _⟩ => ⟨S4096x3072, .f32⟩
  | .hbm, ⟨66, _⟩ => ⟨S_, .f32⟩
  | .hbm, ⟨67, _⟩ => ⟨S3072, .f32⟩
  | .hbm, ⟨68, _⟩ => ⟨S1x3072, .f32⟩
  | .hbm, ⟨69, _⟩ => ⟨S_, .f32⟩
  | .hbm, ⟨70, _⟩ => ⟨S4x3072, .f32⟩
  | .hbm, ⟨71, _⟩ => ⟨S4x3072, .f32⟩
  | .hbm, ⟨72, _⟩ => ⟨S_, .f32⟩
  | .hbm, ⟨73, _⟩ => ⟨S4099x3072, .f32⟩
  | .hbm, ⟨74, _⟩ => ⟨S4099x3072, .f32⟩
  | .hbm, ⟨75, _⟩ => ⟨S4096x3072, .f32⟩
  | .hbm, ⟨76, _⟩ => ⟨S_, .f32⟩
  | .hbm, ⟨77, _⟩ => ⟨S3072, .f32⟩
  | .hbm, ⟨78, _⟩ => ⟨S1x3072, .f32⟩
  | .hbm, ⟨79, _⟩ => ⟨S4096x3072, .f32⟩
  | .hbm, ⟨80, _⟩ => ⟨S4096x3072, .f32⟩
  | .hbm, ⟨81, _⟩ => ⟨S_, .f32⟩
  | .hbm, ⟨82, _⟩ => ⟨S3072, .f32⟩
  | .hbm, ⟨83, _⟩ => ⟨S1x3072, .f32⟩
  | .hbm, ⟨84, _⟩ => ⟨S_, .f32⟩
  | .hbm, ⟨85, _⟩ => ⟨S4x3072, .f32⟩
  | .hbm, ⟨86, _⟩ => ⟨S4x3072, .f32⟩
  | .hbm, ⟨87, _⟩ => ⟨S_, .f32⟩
  | .hbm, ⟨88, _⟩ => ⟨S4099x3072, .f32⟩
  | .hbm, ⟨89, _⟩ => ⟨S4099x3072, .f32⟩
  | .hbm, ⟨90, _⟩ => ⟨S4096x3072, .f32⟩
  | .hbm, ⟨91, _⟩ => ⟨S_, .f32⟩
  | .hbm, ⟨92, _⟩ => ⟨S3072, .f32⟩
  | .hbm, ⟨93, _⟩ => ⟨S1x3072, .f32⟩
  | .hbm, ⟨94, _⟩ => ⟨S4096x3072, .f32⟩
  | .hbm, ⟨95, _⟩ => ⟨S4096x3072, .f32⟩
  | .hbm, ⟨96, _⟩ => ⟨S_, .f32⟩
  | .hbm, ⟨97, _⟩ => ⟨S3072, .f32⟩
  | .hbm, ⟨98, _⟩ => ⟨S1x3072, .f32⟩
  | .hbm, ⟨99, _⟩ => ⟨S_, .f32⟩
  | .hbm, ⟨100, _⟩ => ⟨S4x3072, .f32⟩
  | .hbm, ⟨101, _⟩ => ⟨S4x3072, .f32⟩
  | .hbm, ⟨102, _⟩ => ⟨S_, .f32⟩
  | .hbm, ⟨103, _⟩ => ⟨S4099x3072, .f32⟩
  | .hbm, ⟨104, _⟩ => ⟨S4099x3072, .f32⟩
  | .hbm, ⟨105, _⟩ => ⟨S3x3072, .f32⟩
  | .hbm, ⟨106, _⟩ => ⟨S4096x3072, .f32⟩
  | .hbm, ⟨107, _⟩ => ⟨S1x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_16 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_17 : Ref sig .tc := ⟨.hbm, 96, rfl⟩
abbrev main_v75 : Ref sig .tc := ⟨.hbm, 97, rfl⟩
abbrev main_v76 : Ref sig .tc := ⟨.hbm, 98, rfl⟩
abbrev main_cst_18 : Ref sig .tc := ⟨.hbm, 99, rfl⟩
abbrev main_v77 : Ref sig .tc := ⟨.hbm, 100, rfl⟩
abbrev main_v78 : Ref sig .tc := ⟨.hbm, 101, rfl⟩
abbrev main_cst_19 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩

abbrev nD : Nat := 1
abbrev τ : Topo := Topo.v7x

variable {F : FTy → Type} [FloatOps F]
-- ==== Proof.MergeBwdValue.lean ====
/-
  The gated merge, backward: each of the four result arrays of the tiled kernel as one function of the argument
  arrays, read at an index.
-/
module

public import proofs.«01_k».proof.Proof.Gen.MergeBwdIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeBwdIdeal.Merge

open Cert.MergeBwdIdeal Cert.MergeBwdIdeal.Gen

variable (m : (ℓ : Loc nD τ sig) → Buf (Elt Ideal) ℓ)

/-- The logistic function of one number. -/
def sg (x : EReal) : EReal := Ideal.div 1 (1 + Ideal.exp (-x))

/-- The GDN gate's column of the projection that lies over column `j` of the merged array. -/
def colG (i : S4096x2048.Idx) : S4096x10752.Idx := ix2 (i 0) ⟨6144 + (i 1).val, by have : (i 1).val < 2048 := (i 1).isLt; omega⟩
/-- The LRU gate's column. -/
def colL (i : S4096x2048.Idx) : S4096x10752.Idx := ix2 (i 0) ⟨8192 + (i 1).val, by have : (i 1).val < 2048 := (i 1).isLt; omega⟩

/-- The gradient of a gate, read at an index: `dm · b · σ · (1 − σ)`. -/
def dGate (p : FVec Ideal S4096x10752 .f32) (col : S4096x2048.Idx → S4096x10752.Idx) (b dm : FVec Ideal S4096x2048 .f32) :
    FVec Ideal S4096x2048 .bf16 :=
  fun i => dm i * b i * sg (p (col i)) * (1 - sg (p (col i)))
/-- The gradient of a branch: `dm · σ`. -/
def dBranch (p : FVec Ideal S4096x10752 .f32) (col : S4096x2048.Idx → S4096x10752.Idx) (dm : FVec Ideal S4096x2048 .f32) :
    FVec Ideal S4096x2048 .bf16 :=
  fun i => dm i * sg (p (col i))

/-- Every window's block index at every grid point. -/
theorem idx : ∀ t : Fin cfg0.N, win0_0.index t = ![t.val / 2, 6 + t.val % 2] ∧ win0_1.index t = ![t.val / 2, 8 + t.val % 2]
    ∧ win0_2.index t = ![t.val / 2, t.val % 2] ∧ win0_3.index t = ![t.val / 2, t.val % 2] ∧ win0_4.index t = ![t.val / 2, t.val % 2]
    ∧ win0_5.index t = ![t.val / 2, t.val % 2] ∧ win0_6.index t = ![t.val / 2, t.val % 2] ∧ win0_7.index t = ![t.val / 2, t.val % 2]
    ∧ win0_8.index t = ![t.val / 2, t.val % 2] :=
  (by decide +kernel : ∀ t : Fin grid0.N, _)

/-- The first gate's staged block, read at an index: the projection at the block's place. -/
theorem gate0 (c : Dev nD) (t : Fin cfg0.N) (y : (cfg0.win 0).block.Idx) (j : S4096x10752.Idx)
    (h0 : (j 0 : ℕ) = t.val / 2 * 256 + (y 0).val) (h1 : (j 1 : ℕ) = (6 + t.val % 2) * 1024 + (y 1).val) :
    X0_0 m c t y = m ((c : Thread nD τ).loc main_arg0) j := by
  unfold X0_0
  refine (dif_pos (moved0_0 t y)).trans ?_
  blk_ext [iblk, V, idx t]

/-- The second gate's staged block. -/
theorem gate1 (c : Dev nD) (t : Fin cfg0.N) (y : (cfg0.win 1).block.Idx) (j : S4096x10752.Idx)
    (h0 : (j 0 : ℕ) = t.val / 2 * 256 + (y 0).val) (h1 : (j 1 : ℕ) = (8 + t.val % 2) * 1024 + (y 1).val) :
    X0_1 m c t y = m ((c : Thread nD τ).loc main_arg0) j := by
  unfold X0_1
  refine (dif_pos (moved0_1 t y)).trans ?_
  blk_ext [iblk, V, idx t]

/-- Result array 0. -/
theorem final5 (c : Dev nD) : (dats m 0 c).arrAt 5 (cfgs 0).N
    = dGate (m ((c : Thread nD τ).loc main_arg0)) colG (m ((c : Thread nD τ).loc main_arg1)) (m ((c : Thread nD τ).loc main_arg3)) := by
  refine (dats m 0 c).arrAt_eq_of_covers 5 _ (by decide +kernel) fun t _ y => ?_
  blk_simp
  rw [after0_5]
  unfold outsAt0
  frame_out
  pointwise [k0_pay5, k0_pay3, dGate, sg]
  rw [zero_sub, gate0 m c t y (colG (((cfg0.win 5).blk t).view.emb y)) (by unfold colG; blk_simp [idx t]) (by unfold colG; blk_simp [idx t]; dsimp only; omega)]
  blk_point [iblk, V, idx t]

/-- Result array 1. -/
theorem final6 (c : Dev nD) : (dats m 0 c).arrAt 6 (cfgs 0).N
    = dGate (m ((c : Thread nD τ).loc main_arg0)) colL (m ((c : Thread nD τ).loc main_arg2)) (m ((c : Thread nD τ).loc main_arg3)) := by
  refine (dats m 0 c).arrAt_eq_of_covers 6 _ (by decide +kernel) fun t _ y => ?_
  blk_simp
  rw [after0_6]
  unfold outsAt0
  frame_out
  pointwise [k0_pay6, k0_pay4, dGate, sg]
  rw [zero_sub, gate1 m c t y (colL (((cfg0.win 6).blk t).view.emb y)) (by unfold colL; blk_simp [idx t]) (by unfold colL; blk_simp [idx t]; dsimp only; omega)]
  blk_point [iblk, V, idx t]

/-- Result array 2. -/
theorem final7 (c : Dev nD) : (dats m 0 c).arrAt 7 (cfgs 0).N
    = dBranch (m ((c : Thread nD τ).loc main_arg0)) colG (m ((c : Thread nD τ).loc main_arg3)) := by
  refine (dats m 0 c).arrAt_eq_of_covers 7 _ (by decide +kernel) fun t _ y => ?_
  blk_simp
  rw [after0_7]
  unfold outsAt0
  frame_out
  pointwise [k0_pay1, k0_pay7, k0_pay3, dBranch, sg]
  rw [zero_sub, gate0 m c t y (colG (((cfg0.win 7).blk t).view.emb y)) (by unfold colG; blk_simp [idx t]) (by unfold colG; blk_simp [idx t]; dsimp only; omega)]
  blk_point [iblk, V, idx t]

/-- Result array 3. -/
theorem final8 (c : Dev nD) : (dats m 0 c).arrAt 8 (cfgs 0).N
    = dBranch (m ((c : Thread nD τ).loc main_arg0)) colL (m ((c : Thread nD τ).loc main_arg3)) := by
  refine (dats m 0 c).arrAt_eq_of_covers 8 _ (by decide +kernel) fun t _ y => ?_
  blk_simp
  rw [after0_8]
  unfold outsAt0
  frame_out
  pointwise [k0_pay2, k0_pay4, dBranch, sg]
  rw [zero_sub, gate1 m c t y (colL (((cfg0.win 8).blk t).view.emb y)) (by unfold colL; blk_simp [idx t]) (by unfold colL; blk_simp [idx t]; dsimp only; omega)]
  blk_point [iblk, V, idx t]

end Cert.MergeBwdIdeal.Merge

end
-- ==== Proof.MergeBwdClaim.lean ====
/-
  The gated merge, backward: the reference's four gradients are the kernel's, number for number.
-/
module

public import proofs.«01_k».proof.Defs
public import proofs.«01_k».proof.Proof.MergeBwdValue
public import proofs.«01_k».proof.Proof.Gen.MergeBwdRefIdeal.Run
public import Idealize.ShloMosaic.Lib.Quiescent

@[expose] public section

set_option maxRecDepth 16384

noncomputable section

open Idealize.ShloMosaic Idealize.ShloMosaic.TcCoe Idealize.SL.Sem

namespace Cert.Proof.MergeBwdClaim

open Cert.MergeBwdIdeal.Merge

/-- The reference leaves its arguments as they were. -/
theorem frame_ref : Cert.quiescent_MergeBwdRefIdeal := fun m ρ _ =>
  (θ_run Cert.MergeBwdRefIdeal.defs _ _).mono (fun r h => ⟨fun c => (h c).2.2.2.2,
      Idealize.ShloMosaic.sem_eq_zero_of_no_sems (by decide) r.2⟩)
    (Cert.MergeBwdRefIdeal.Value.run (F := Ideal) m ρ)

/-- The kernel's gradients of the merge are those of the reference. -/
theorem algebraic : Cert.algebraic_MergeBwdIdeal_MergeBwdRefIdeal := by
  intro m ρ m' ρ' _ hag
  refine ⟨fun c => dGate (m ((c.tc : Thread _ _).loc Cert.MergeBwdIdeal.main_arg0)) colG (m ((c.tc : Thread _ _).loc Cert.MergeBwdIdeal.main_arg1)) (m ((c.tc : Thread _ _).loc Cert.MergeBwdIdeal.main_arg3)),
    fun c => dGate (m ((c.tc : Thread _ _).loc Cert.MergeBwdIdeal.main_arg0)) colL (m ((c.tc : Thread _ _).loc Cert.MergeBwdIdeal.main_arg2)) (m ((c.tc : Thread _ _).loc Cert.MergeBwdIdeal.main_arg3)),
    fun c => dBranch (m ((c.tc : Thread _ _).loc Cert.MergeBwdIdeal.main_arg0)) colG (m ((c.tc : Thread _ _).loc Cert.MergeBwdIdeal.main_arg3)),
    fun c => dBranch (m ((c.tc : Thread _ _).loc Cert.MergeBwdIdeal.main_arg0)) colL (m ((c.tc : Thread _ _).loc Cert.MergeBwdIdeal.main_arg3)), ?_, ?_⟩
  · exact (θ_run Cert.MergeBwdIdeal.defs _ _).mono (fun _ h c =>
        ⟨(h c).1.trans (final5 m c), (h c).2.1.trans (final6 m c), (h c).2.2.1.trans (final7 m c), (h c).2.2.2.1.trans (final8 m c), (h c).2.2.2.2⟩)
      (Cert.MergeBwdIdeal.Value.run_blocks (F := Ideal) m ρ)
  · refine (θ_run Cert.MergeBwdRefIdeal.defs _ _).mono (fun _ h c => ⟨(h c).1.trans ?_, (h c).2.1.trans ?_, (h c).2.2.1.trans ?_, (h c).2.2.2.1.trans ?_, (h c).2.2.2.2⟩)
      (Cert.MergeBwdRefIdeal.Value.run (F := Ideal) m' ρ')
    · rw [(hag c).1, (hag c).2.1, (hag c).2.2.2]
      funext i
      pointwise! [dGate, sg, colG]
    · rw [(hag c).1, (hag c).2.2.1, (hag c).2.2.2]
      funext i
      pointwise! [dGate, sg, colL]
    · rw [(hag c).1, (hag c).2.2.2]
      funext i
      pointwise! [dBranch, sg, colG]
    · rw [(hag c).1, (hag c).2.2.2]
      funext i
      pointwise! [dBranch, sg, colL]

end Cert.Proof.MergeBwdClaim

end
-- ==== Proof.DMlpActClaim.lean ====
/-
  The squared-ReLU MLP, backward: the gradient at the hidden layer, tile by tile in the kernel and whole in the reference.
-/
module

public import proofs.«01_k».proof.Defs
public import proofs.«01_k».proof.Proof.Gen.DMlpActIdeal.Value
public import proofs.«01_k».proof.Proof.Gen.DMlpActRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DMlpActIdeal.Hidden

open Cert.DMlpActIdeal Cert.DMlpActIdeal.Gen

variable (m : (ℓ : Loc nD τ sig) → Buf (Elt Ideal) ℓ)

/-- The gradient at the hidden layer: the product with the down-projection, times twice the positive part of `u`. -/
def dHidden (dx : FVec Ideal S4096x2048 .bf16) (w : FVec Ideal S8192x2048 .bf16) (u : FVec Ideal S4096x8192 .f32) :
    FVec Ideal S4096x8192 .bf16 :=
  fun i => (∑ k : Fin 2048, dx (ix2 (i 0) k) * w (ix2 (i 1) k)) * Ideal.ofBits .f32 0x40000000#32 * max (u i) 0

/-- Every window's block index at every grid point. -/
theorem idx : ∀ t : Fin cfg0.N, win0_0.index t = ![t.val % 8, 0] ∧ win0_1.index t = ![t.val / 8, 0]
    ∧ win0_2.index t = ![t.val % 8, t.val / 8] ∧ win0_3.index t = ![t.val % 8, t.val / 8] :=
  (by decide +kernel : ∀ t : Fin grid0.N, _)

/-- The last window's array at entry: the positive part of `u`. -/
theorem entry_relu (c : Dev nD) (j : S4096x8192.Idx) :
    V m c main_v2 j = max (show EReal from m ((c : Thread nD τ).loc main_arg2) j) (0 : EReal) := by
  entry_read
  pointwise

/-- The result array. -/
theorem final (c : Dev nD) : (dats m 0 c).arrAt 3 (cfgs 0).N
    = dHidden (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, dHidden]
  blk_point [iblk, V, idx t]
  refine congrArg (fun z : EReal => _ * z) ((entry_relu m c _).trans ?_)
  refine congrArg (fun z : EReal => max z 0) ?_
  blk_ext [idx t]

end Cert.DMlpActIdeal.Hidden

namespace Cert.Proof.DMlpActClaim

open Cert.DMlpActIdeal.Hidden

/-- The reference leaves its arguments as they were. -/
theorem frame_ref : Cert.quiescent_DMlpActRefIdeal := fun m ρ _ =>
  (θ_run Cert.DMlpActRefIdeal.defs _ _).mono (fun r h => ⟨fun c => (h c).2,
      Idealize.ShloMosaic.sem_eq_zero_of_no_sems (by decide) r.2⟩)
    (Cert.DMlpActRefIdeal.Value.run (F := Ideal) m ρ)

/-- The derivative of the squared ReLU: where `u` is positive twice `u`, elsewhere zero. -/
theorem relu_sq (p k u : EReal) : p * k * max u 0 = if 0 < u then p * (k * max u 0) else 0 := by
  split
  · exact mul_assoc _ _ _
  · rename_i h
    rw [max_eq_right (not_lt.mp h), mul_zero]

/-- The kernel's gradient at the hidden layer is that of the reference. -/
theorem algebraic : Cert.algebraic_DMlpActIdeal_DMlpActRefIdeal := by
  intro m ρ m' ρ' _ hag
  refine ⟨fun c => dHidden (m ((c.tc : Thread _ _).loc Cert.DMlpActIdeal.main_arg0)) (m ((c.tc : Thread _ _).loc Cert.DMlpActIdeal.main_arg1)) (m ((c.tc : Thread _ _).loc Cert.DMlpActIdeal.main_arg2)), ?_, ?_⟩
  · exact (θ_run Cert.DMlpActIdeal.defs _ _).mono (fun _ h c => ⟨(h c).1.trans (final m c), (h c).2⟩)
      (Cert.DMlpActIdeal.Value.run_blocks (F := Ideal) m ρ)
  · refine (θ_run Cert.DMlpActRefIdeal.defs _ _).mono (fun _ h c => ⟨(h c).1.trans ?_, (h c).2⟩)
      (Cert.DMlpActRefIdeal.Value.run (F := Ideal) m' ρ')
    rw [(hag c).1, (hag c).2.1, (hag c).2.2]
    funext i
    pointwise [dHidden]
    exact (relu_sq _ _ _).symm

end Cert.Proof.DMlpActClaim

end
-- ==== Proof.Sums.lean ====
/-
  Sums kept in a carried buffer over a run of grid points, and a sum over a long axis split into equal parts.
-/
module

public import Idealize.ShloMosaic.Lib.Pipeline.ValueKit

@[expose] public section

noncomputable section

namespace Cert.Sums

/-- A buffer set at the first point of every run of `J` and added into at the later ones but the last holds, before
    the last point, the sum of the addends so far. -/
theorem carried {N : ℕ} (J : ℕ) (f : (n : ℕ) → n < N → EReal) (part : (n : ℕ) → n < N → EReal)
    (h0 : ∀ n (h : n < N), n % J = 0 → f n h = part n h)
    (hs : ∀ n (h : n < N), n % J ≠ 0 → n % J ≠ J - 1 → f n h = f (n - 1) (by omega) + part n h) :
    ∀ (s : ℕ) (b : ℕ) (hb : b % J = 0) (hsJ : s + 1 < J) (h : b + s < N),
      f (b + s) h = ∑ i : Fin (s + 1), part (b + i.val) (by have := i.isLt; omega)
  | 0, b, hb, hsJ, h => by
    rw [Fin.sum_univ_one]
    exact h0 _ _ hb
  | s + 1, b, hb, hsJ, h => by
    have e : (b + (s + 1)) % J = s + 1 := by
      rw [Nat.add_mod, hb, Nat.zero_add, Nat.mod_mod, Nat.mod_eq_of_lt (by omega)]
    rw [hs (b + (s + 1)) h (by omega) (by omega), Fin.sum_univ_castSucc]
    refine congrArg₂ (fun x y : EReal => x + y) ?_ rfl
    exact carried J f part h0 hs s b hb (by omega) (by omega)

/-- At a run's last point: what the buffer held, with the last addend, is the sum over the run. -/
theorem run_total_at {N : ℕ} (s : ℕ) (f : (n : ℕ) → n < N → EReal) (part : (n : ℕ) → n < N → EReal)
    (h0 : ∀ n (h : n < N), n % (s + 2) = 0 → f n h = part n h)
    (hs : ∀ n (h : n < N), n % (s + 2) ≠ 0 → n % (s + 2) ≠ s + 2 - 1 → f n h = f (n - 1) (by omega) + part n h)
    (b t : ℕ) (h : t < N) (hb : b % (s + 2) = 0) (e : t = b + (s + 1)) :
    f (t - 1) (by omega) + part t h
      = ∑ i : Fin (s + 2), part (b + i.val) (by have := i.isLt; omega) := by
  subst e
  rw [Fin.sum_univ_castSucc]
  refine congrArg₂ (fun x y : EReal => x + y) ?_ ?_
  · exact carried (s + 2) f part h0 hs s b hb (by omega) (by omega)
  · rfl

/-- The same with the run's first point written by division. -/
theorem run_total {N : ℕ} (J : ℕ) (hJ : 2 ≤ J) (f : (n : ℕ) → n < N → EReal) (part : (n : ℕ) → n < N → EReal)
    (h0 : ∀ n (h : n < N), n % J = 0 → f n h = part n h)
    (hs : ∀ n (h : n < N), n % J ≠ 0 → n % J ≠ J - 1 → f n h = f (n - 1) (by omega) + part n h)
    (t : ℕ) (h : t < N) (ht : t % J = J - 1) :
    f (t - 1) (by omega) + part t h
      = ∑ i : Fin J, part (J * (t / J) + i.val) (by have := i.isLt; have := Nat.div_add_mod t J; omega) := by
  obtain ⟨s, rfl⟩ : ∃ s, J = s + 2 := ⟨J - 2, by omega⟩
  exact run_total_at s f part h0 hs _ t h (Nat.mul_mod_right _ _) (by have := Nat.div_add_mod t (s + 2); omega)

end Cert.Sums

end
-- ==== Proof.DwDownClaim.lean ====
/-
  The squared-ReLU MLP, backward: the gradient of the down-projection, summed over two halves of the tokens in the
  kernel and at once in the reference.
-/
module

public import proofs.«01_k».proof.Defs
public import proofs.«01_k».proof.Proof.Sums
public import proofs.«01_k».proof.Proof.Gen.DwDownIdeal.Value
public import proofs.«01_k».proof.Proof.Gen.DwDownRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DwDownIdeal.Product

open Cert.DwDownIdeal Cert.DwDownIdeal.Gen

variable (m : (ℓ : Loc nD τ sig) → Buf (Elt Ideal) ℓ)

/-- The gradient of the weight, its rows cut into four chips' shares of two halves: `aᵀ · dx`. -/
def dW (a : FVec Ideal S4096x8192 .bf16) (dx : FVec Ideal S4096x2048 .bf16) : FVec Ideal S2x4x1024x2048 .bf16 :=
  fun i => ∑ k : Fin 4096, a (ix2 k ⟨(i 1).val * 2048 + (i 0).val * 1024 + (i 2).val, by
      have h0 : (i 0).val < 2 := (i 0).isLt
      have h1 : (i 1).val < 4 := (i 1).isLt
      have h2 : (i 2).val < 1024 := (i 2).isLt
      omega⟩) * dx (ix2 k (i 3))

/-- Every window's block index at every grid point. -/
theorem idx : ∀ t : Fin cfg0.N, win0_0.index t = ![t.val % 2, t.val / 4] ∧ win0_1.index t = ![t.val % 2, t.val / 2 % 2]
    ∧ win0_2.index t = ![t.val / 8 % 2, t.val / 16, t.val / 4 % 2, t.val / 2 % 2] :=
  (by decide +kernel : ∀ t : Fin grid0.N, _)

/-- What one point adds, read at an index of the block. -/
def part (c : Dev nD) (j : S512x1024.Idx) (n : ℕ) (h : n < cfg0.N) : EReal :=
  ∑ k : Fin 2048, (show FVec Ideal S2048x512 .bf16 from iblk m c 0 ⟨n, h⟩) (ix2 k (j 0)) * (show FVec Ideal S2048x1024 .bf16 from iblk m c 1 ⟨n, h⟩) (ix2 k (j 1))

theorem hpay1 (a : FVec Ideal S2048x512 .bf16) (b : FVec Ideal S2048x1024 .bf16) (j : S512x1024.Idx) :
    k0_pay2 (F := Ideal) a b j = ∑ k : Fin 2048, a (ix2 k (j 0)) * b (ix2 k (j 1)) := by
  pointwise [k0_pay2, k0_pay1]

theorem hpay3 (a : FVec Ideal S2048x512 .bf16) (b : FVec Ideal S2048x1024 .bf16) (acc : FVec Ideal S512x1024 .f32) (j : S512x1024.Idx) :
    k0_pay3 (F := Ideal) a b acc j = acc j + ∑ k : Fin 2048, a (ix2 k (j 0)) * b (ix2 k (j 1)) := by
  pointwise [k0_pay3, k0_pay1]

theorem hpay4 (a : FVec Ideal S2048x512 .bf16) (b : FVec Ideal S2048x1024 .bf16) (acc : FVec Ideal S512x1024 .f32) (j : S1x1x512x1024.Idx) :
    k0_pay4 (F := Ideal) a b acc j = acc (ix2 (j 2) (j 3)) + ∑ k : Fin 2048, a (ix2 k (j 2)) * b (ix2 k (j 3)) := by
  pointwise [k0_pay4, k0_pay1]

/-- At a run's last point the carried buffer and the last product are the sum over the run. -/
theorem total (c : Dev nD) (j : S512x1024.Idx) (t : ℕ) (h : t < cfg0.N) (ht : t % 2 = 2 - 1) :
    (outsAt0 m c (t - 1) (by omega)).2 j + part m c j t h
      = ∑ i : Fin 2, part m c j (2 * (t / 2) + i.val) (by have := i.isLt; have := Nat.div_add_mod t 2; omega) :=
  Cert.Sums.run_total 2 (by decide) (fun n h => (outsAt0 m c n h).2 j) (part m c j)
    (fun n h h0 => by
      show (outsAt0 m c n h).2 j = _
      rw [outsAt0_A m c ⟨n, h⟩ h0 (by dsimp only; omega)]
      frame_out
      exact hpay1 _ _ _)
    (fun n h h0 h1 => by omega) t h ht

/-- The result array. -/
theorem final (c : Dev nD) : (dats m 0 c).arrAt 2 (cfgs 0).N
    = dW (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hN : t.val < 64 := lt_of_lt_of_eq t.isLt N_0
  blk_simp
  rw [after0_2, outsAt0_B m c t (by omega) ht]
  frame_out
  refine (hpay4 _ _ _ _).trans ?_
  rw [read_unread_whole]
  refine (total m c (ix2 (y 2) (y 3)) t.val t.isLt ht).trans ?_
  refine Fin.sum_mul_add_congr fun s k hl => ?_
  blk_point [iblk, V, idx t, idx ⟨_, Pipeline.run_point_lt_of_flush t ht s⟩]

end Cert.DwDownIdeal.Product

namespace Cert.Proof.DwDownClaim

open Cert.DwDownIdeal.Product

/-- The reference leaves its arguments as they were. -/
theorem frame_ref : Cert.quiescent_DwDownRefIdeal := fun m ρ _ =>
  (θ_run Cert.DwDownRefIdeal.defs _ _).mono (fun r h => ⟨fun c => (h c).2,
      Idealize.ShloMosaic.sem_eq_zero_of_no_sems (by decide) r.2⟩)
    (Cert.DwDownRefIdeal.Value.run (F := Ideal) m ρ)

/-- The kernel's gradient of the weight is that of the reference. -/
theorem algebraic : Cert.algebraic_DwDownIdeal_DwDownRefIdeal := by
  intro m ρ m' ρ' _ hag
  refine ⟨fun c => dW (m ((c.tc : Thread _ _).loc Cert.DwDownIdeal.main_arg0)) (m ((c.tc : Thread _ _).loc Cert.DwDownIdeal.main_arg1)), ?_, ?_⟩
  · exact (θ_run Cert.DwDownIdeal.defs _ _).mono (fun _ h c => ⟨(h c).1.trans (final m c), (h c).2⟩)
      (Cert.DwDownIdeal.Value.run_blocks (F := Ideal) m ρ)
  · refine (θ_run Cert.DwDownRefIdeal.defs _ _).mono (fun _ h c => ⟨(h c).1.trans ?_, (h c).2⟩)
      (Cert.DwDownRefIdeal.Value.run (F := Ideal) m' ρ')
    rw [(hag c).1, (hag c).2]
    funext i
    pointwise! [dW]

end Cert.Proof.DwDownClaim

end
-- ==== Proof.DwUpClaim.lean ====
/-
  The squared-ReLU MLP, backward: the gradient of the up-projection, summed over two halves of the tokens in the
  kernel and at once in the reference.
-/
module

public import proofs.«01_k».proof.Defs
public import proofs.«01_k».proof.Proof.Sums
public import proofs.«01_k».proof.Proof.Gen.DwUpIdeal.Value
public import proofs.«01_k».proof.Proof.Gen.DwUpRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DwUpIdeal.Product

open Cert.DwUpIdeal Cert.DwUpIdeal.Gen

variable (m : (ℓ : Loc nD τ sig) → Buf (Elt Ideal) ℓ)

/-- The gradient of the weight, cut into two halves of its rows and four parts of its columns. -/
def result (a : FVec Ideal S4096x2048 .bf16) (b : FVec Ideal S4096x8192 .bf16) : FVec Ideal S2x4x1024x2048 .bf16 :=
  fun i => ∑ k : Fin 4096, a (ix2 k ⟨(i 0).val * 1024 + (i 2).val, by
      have h0 : (i 0).val < 2 := (i 0).isLt
      have h1 : (i 1).val < 4 := (i 1).isLt
      have h2 : (i 2).val < 1024 := (i 2).isLt
      have h3 : (i 3).val < 2048 := (i 3).isLt
      omega⟩) * b (ix2 k ⟨(i 1).val * 2048 + (i 3).val, by
      have h0 : (i 0).val < 2 := (i 0).isLt
      have h1 : (i 1).val < 4 := (i 1).isLt
      have h2 : (i 2).val < 1024 := (i 2).isLt
      have h3 : (i 3).val < 2048 := (i 3).isLt
      omega⟩)

/-- Every window's block index at every grid point. -/
theorem idx : ∀ t : Fin cfg0.N, win0_0.index t = ![t.val % 2, t.val / 16]
    ∧ win0_1.index t = ![t.val % 2, t.val / 2 % 8]
    ∧ win0_2.index t = ![(t.val / 16) / 2, (t.val / 2 % 8) / 2, (t.val / 16) % 2, (t.val / 2 % 8) % 2] :=
  (by decide +kernel : ∀ t : Fin grid0.N, _)

/-- What one point adds, read at an index of the block. -/
def part (c : Dev nD) (j : S512x1024.Idx) (n : ℕ) (h : n < cfg0.N) : EReal :=
  ∑ k : Fin 2048, (show FVec Ideal S2048x512 .bf16 from iblk m c 0 ⟨n, h⟩) (ix2 k (j 0)) * (show FVec Ideal S2048x1024 .bf16 from iblk m c 1 ⟨n, h⟩) (ix2 k (j 1))

theorem hpay2 (a : FVec Ideal S2048x512 .bf16) (b : FVec Ideal S2048x1024 .bf16) (j : S512x1024.Idx) :
    k0_pay2 (F := Ideal) a b j = ∑ k : Fin 2048, a (ix2 k (j 0)) * b (ix2 k (j 1)) := by
  pointwise [k0_pay2, k0_pay1]

theorem hpay3 (a : FVec Ideal S2048x512 .bf16) (b : FVec Ideal S2048x1024 .bf16) (acc : FVec Ideal S512x1024 .f32) (j : S512x1024.Idx) :
    k0_pay3 (F := Ideal) a b acc j = acc j + ∑ k : Fin 2048, a (ix2 k (j 0)) * b (ix2 k (j 1)) := by
  pointwise [k0_pay3, k0_pay1]

theorem hpay4 (a : FVec Ideal S2048x512 .bf16) (b : FVec Ideal S2048x1024 .bf16) (acc : FVec Ideal S512x1024 .f32) (j : S1x1x512x1024.Idx) :
    k0_pay4 (F := Ideal) a b acc j = acc (ix2 (j 2) (j 3)) + ∑ k : Fin 2048, a (ix2 k (j 2)) * b (ix2 k (j 3)) := by
  pointwise [k0_pay4, k0_pay1]

/-- At a run's last point the carried buffer and the last product are the sum over the run. -/
theorem total (c : Dev nD) (j : S512x1024.Idx) (t : ℕ) (h : t < cfg0.N) (ht : t % 2 = 2 - 1) :
    (outsAt0 m c (t - 1) (by omega)).2 j + part m c j t h
      = ∑ i : Fin 2, part m c j (2 * (t / 2) + i.val) (by have := i.isLt; have := Nat.div_add_mod t 2; omega) :=
  Cert.Sums.run_total 2 (by decide) (fun n h => (outsAt0 m c n h).2 j) (part m c j)
    (fun n h h0 => by
      show (outsAt0 m c n h).2 j = _
      rw [outsAt0_A m c ⟨n, h⟩ h0 (by dsimp only; omega)]
      frame_out
      exact hpay2 _ _ _)
    (fun n h h0 h1 => by omega) t h ht

/-- The array of the result after the run. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hN : t.val < 64 := lt_of_lt_of_eq t.isLt N_0
  blk_simp
  rw [after0_2, outsAt0_B m c t (by omega) ht]
  frame_out
  refine (hpay4 _ _ _ _).trans ?_
  rw [read_unread_whole]
  refine (total m c (ix2 (y 2) (y 3)) t.val t.isLt ht).trans ?_
  refine Fin.sum_mul_add_congr fun s k hl => ?_
  blk_point [iblk, V, idx t, idx ⟨_, Pipeline.run_point_lt_of_flush t ht s⟩]

end Cert.DwUpIdeal.Product

namespace Cert.Proof.DwUpClaim

open Cert.DwUpIdeal.Product

/-- The reference leaves its arguments as they were. -/
theorem frame_ref : Cert.quiescent_DwUpRefIdeal := fun m ρ _ =>
  (θ_run Cert.DwUpRefIdeal.defs _ _).mono (fun r h => ⟨fun c => (h c).2,
      Idealize.ShloMosaic.sem_eq_zero_of_no_sems (by decide) r.2⟩)
    (Cert.DwUpRefIdeal.Value.run (F := Ideal) m ρ)

/-- The kernel's result is that of the reference. -/
theorem algebraic : Cert.algebraic_DwUpIdeal_DwUpRefIdeal := by
  intro m ρ m' ρ' _ hag
  refine ⟨fun c => result (m ((c.tc : Thread _ _).loc Cert.DwUpIdeal.main_arg0)) (m ((c.tc : Thread _ _).loc Cert.DwUpIdeal.main_arg1)), ?_, ?_⟩
  · exact (θ_run Cert.DwUpIdeal.defs _ _).mono (fun _ h c => ⟨(h c).1.trans (final m c), (h c).2⟩)
      (Cert.DwUpIdeal.Value.run_blocks (F := Ideal) m ρ)
  · refine (θ_run Cert.DwUpRefIdeal.defs _ _).mono (fun _ h c => ⟨(h c).1.trans ?_, (h c).2⟩)
      (Cert.DwUpRefIdeal.Value.run (F := Ideal) m' ρ')
    rw [(hag c).1, (hag c).2]
    funext i
    pointwise! [result]

end Cert.Proof.DwUpClaim

end
-- ==== Proof.DH2Claim.lean ====
/-
  The squared-ReLU MLP, backward: the gradient at the MLP's input, summed over four parts of the hidden layer.
-/
module

public import proofs.«01_k».proof.Defs
public import proofs.«01_k».proof.Proof.Sums
public import proofs.«01_k».proof.Proof.Gen.DH2Ideal.Value
public import proofs.«01_k».proof.Proof.Gen.DH2RefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DH2Ideal.Product

open Cert.DH2Ideal Cert.DH2Ideal.Gen

variable (m : (ℓ : Loc nD τ sig) → Buf (Elt Ideal) ℓ)

/-- The gradient at the MLP's input. -/
def result (a : FVec Ideal S4096x8192 .bf16) (b : FVec Ideal S2048x8192 .bf16) : FVec Ideal S4096x2048 .f32 :=
  fun i => ∑ k : Fin 8192, a (ix2 (i 0) k) * b (ix2 (i 1) k)

/-- Every window's block index at every grid point. -/
theorem idx : ∀ t : Fin cfg0.N, win0_0.index t = ![t.val / 8, t.val % 4]
    ∧ win0_1.index t = ![t.val / 4 % 2, t.val % 4]
    ∧ win0_2.index t = ![t.val / 8, t.val / 4 % 2] :=
  (by decide +kernel : ∀ t : Fin grid0.N, _)

/-- What one point adds, read at an index of the block. -/
def part (c : Dev nD) (j : S512x1024.Idx) (n : ℕ) (h : n < cfg0.N) : EReal :=
  ∑ k : Fin 2048, (show FVec Ideal S512x2048 .bf16 from iblk m c 0 ⟨n, h⟩) (ix2 (j 0) k) * (show FVec Ideal S1024x2048 .bf16 from iblk m c 1 ⟨n, h⟩) (ix2 (j 1) k)

theorem hpay2 (a : FVec Ideal S512x2048 .bf16) (b : FVec Ideal S1024x2048 .bf16) (j : S512x1024.Idx) :
    k0_pay2 (F := Ideal) a b j = ∑ k : Fin 2048, a (ix2 (j 0) k) * b (ix2 (j 1) k) := by
  pointwise [k0_pay2, k0_pay1]

theorem hpay3 (a : FVec Ideal S512x2048 .bf16) (b : FVec Ideal S1024x2048 .bf16) (acc : FVec Ideal S512x1024 .f32) (j : S512x1024.Idx) :
    k0_pay3 (F := Ideal) a b acc j = acc j + ∑ k : Fin 2048, a (ix2 (j 0) k) * b (ix2 (j 1) k) := by
  pointwise [k0_pay3, k0_pay1]

theorem hpay4 (a : FVec Ideal S512x2048 .bf16) (b : FVec Ideal S1024x2048 .bf16) (acc : FVec Ideal S512x1024 .f32) (j : S512x1024.Idx) :
    k0_pay4 (F := Ideal) a b acc j = acc j + ∑ k : Fin 2048, a (ix2 (j 0) k) * b (ix2 (j 1) k) := by
  pointwise [k0_pay4, k0_pay1]

/-- At a run's last point the carried buffer and the last product are the sum over the run. -/
theorem total (c : Dev nD) (j : S512x1024.Idx) (t : ℕ) (h : t < cfg0.N) (ht : t % 4 = 4 - 1) :
    (outsAt0 m c (t - 1) (by omega)).2 j + part m c j t h
      = ∑ i : Fin 4, part m c j (4 * (t / 4) + i.val) (by have := i.isLt; have := Nat.div_add_mod t 4; omega) :=
  Cert.Sums.run_total 4 (by decide) (fun n h => (outsAt0 m c n h).2 j) (part m c j)
    (fun n h h0 => by
      show (outsAt0 m c n h).2 j = _
      rw [outsAt0_A m c ⟨n, h⟩ h0 (by dsimp only; omega) (by dsimp only; omega)]
      frame_out
      exact hpay2 _ _ _)
    (fun n h h0 h1 => by
      show (outsAt0 m c n h).2 j = _
      rw [outsAt0_B m c ⟨n, h⟩ h0 (by dsimp only; omega) (by dsimp only; omega)]
      frame_out
      refine (hpay3 _ _ _ _).trans ?_
      rw [read_unread_whole]
      rfl) t h ht

/-- The array of the result after the run. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have hN : t.val < 64 := lt_of_lt_of_eq t.isLt N_0
  blk_simp
  rw [after0_2, outsAt0_C m c t (by omega) (by omega) ht]
  frame_out
  refine (hpay4 _ _ _ _).trans ?_
  rw [read_unread_whole]
  refine (total m c y t.val t.isLt ht).trans ?_
  refine Fin.sum_mul_add_congr fun s k hl => ?_
  blk_point [iblk, V, idx t, idx ⟨_, Pipeline.run_point_lt_of_flush t ht s⟩]

end Cert.DH2Ideal.Product

namespace Cert.Proof.DH2Claim

open Cert.DH2Ideal.Product

/-- The reference leaves its arguments as they were. -/
theorem frame_ref : Cert.quiescent_DH2RefIdeal := fun m ρ _ =>
  (θ_run Cert.DH2RefIdeal.defs _ _).mono (fun r h => ⟨fun c => (h c).2,
      Idealize.ShloMosaic.sem_eq_zero_of_no_sems (by decide) r.2⟩)
    (Cert.DH2RefIdeal.Value.run (F := Ideal) m ρ)

/-- The kernel's result is that of the reference. -/
theorem algebraic : Cert.algebraic_DH2Ideal_DH2RefIdeal := by
  intro m ρ m' ρ' _ hag
  refine ⟨fun c => result (m ((c.tc : Thread _ _).loc Cert.DH2Ideal.main_arg0)) (m ((c.tc : Thread _ _).loc Cert.DH2Ideal.main_arg1)), ?_, ?_⟩
  · exact (θ_run Cert.DH2Ideal.defs _ _).mono (fun _ h c => ⟨(h c).1.trans (final m c), (h c).2⟩)
      (Cert.DH2Ideal.Value.run_blocks (F := Ideal) m ρ)
  · refine (θ_run Cert.DH2RefIdeal.defs _ _).mono (fun _ h c => ⟨(h c).1.trans ?_, (h c).2⟩)
      (Cert.DH2RefIdeal.Value.run (F := Ideal) m' ρ')
    rw [(hag c).1, (hag c).2]
    funext i
    pointwise! [result]

end Cert.Proof.DH2Claim

end
-- ==== Proof.MlpUpClaim.lean ====
/-
  The squared-ReLU MLP, forward: the positive part of the up-projection and its square.
-/
module

public import proofs.«01_k».proof.Defs
public import proofs.«01_k».proof.Proof.Sums
public import proofs.«01_k».proof.Proof.Gen.MlpUpIdeal.Value
public import proofs.«01_k».proof.Proof.Gen.MlpUpRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlpUpIdeal.Product

open Cert.MlpUpIdeal Cert.MlpUpIdeal.Gen

variable (m : (ℓ : Loc nD τ sig) → Buf (Elt Ideal) ℓ)

/-- The positive part of the product. -/
def positive (a : FVec Ideal S4096x2048 .bf16) (b : FVec Ideal S2048x8192 .bf16) : FVec Ideal S4096x8192 .bf16 :=
  fun i => max (∑ k : Fin 2048, a (ix2 (i 0) k) * b (ix2 k (i 1))) 0

/-- Its square. -/
def squared (a : FVec Ideal S4096x2048 .bf16) (b : FVec Ideal S2048x8192 .bf16) : FVec Ideal S4096x8192 .bf16 :=
  fun i => max (∑ k : Fin 2048, a (ix2 (i 0) k) * b (ix2 k (i 1))) 0 * max (∑ k : Fin 2048, a (ix2 (i 0) k) * b (ix2 k (i 1))) 0

/-- Every window's block index at every grid point. -/
theorem idx : ∀ t : Fin cfg0.N, win0_0.index t = ![t.val % 8, 0]
    ∧ win0_1.index t = ![0, t.val / 8]
    ∧ win0_2.index t = ![t.val % 8, t.val / 8]
    ∧ win0_3.index t = ![t.val % 8, t.val / 8] :=
  (by decide +kernel : ∀ t : Fin grid0.N, _)

/-- The array of window 2 after the run. -/
theorem final2 (c : Dev nD) : (dats m 0 c).arrAt 2 (cfgs 0).N
    = positive (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, k0_pay2, k0_pay3, positive]
  refine congrArg (fun p : EReal => max p 0) (Finset.sum_congr rfl fun k _ => ?_)
  blk_point [iblk, V, idx t]

/-- The array of window 3 after the run. -/
theorem final3 (c : Dev nD) : (dats m 0 c).arrAt 3 (cfgs 0).N
    = squared (m ((c : Thread nD τ).loc main_arg0)) (m ((c : Thread nD τ).loc main_arg1)) := by
  refine (dats m 0 c).arrAt_eq_of_covers 3 _ (by decide +kernel) fun t _ y => ?_
  blk_simp
  rw [after0_3]
  frame_out
  pointwise [k0_pay1, k0_pay2, k0_pay3, squared]
  refine congrArg (fun p : EReal => max p 0 * max p 0) (Finset.sum_congr rfl fun k _ => ?_)
  blk_point [iblk, V, idx t]

end Cert.MlpUpIdeal.Product

namespace Cert.Proof.MlpUpClaim

open Cert.MlpUpIdeal.Product

/-- The reference leaves its arguments as they were. -/
theorem frame_ref : Cert.quiescent_MlpUpRefIdeal := fun m ρ _ =>
  (θ_run Cert.MlpUpRefIdeal.defs _ _).mono (fun r h => ⟨fun c => (h c).2.2,
      Idealize.ShloMosaic.sem_eq_zero_of_no_sems (by decide) r.2⟩)
    (Cert.MlpUpRefIdeal.Value.run (F := Ideal) m ρ)

/-- The kernel's results are those of the reference. -/
theorem algebraic : Cert.algebraic_MlpUpIdeal_MlpUpRefIdeal := by
  intro m ρ m' ρ' _ hag
  refine ⟨fun c => positive (m ((c.tc : Thread _ _).loc Cert.MlpUpIdeal.main_arg0)) (m ((c.tc : Thread _ _).loc Cert.MlpUpIdeal.main_arg1)), fun c => squared (m ((c.tc : Thread _ _).loc Cert.MlpUpIdeal.main_arg0)) (m ((c.tc : Thread _ _).loc Cert.MlpUpIdeal.main_arg1)), ?_, ?_⟩
  · exact (θ_run Cert.MlpUpIdeal.defs _ _).mono (fun _ h c => ⟨(h c).1.trans (final2 m c), (h c).2.1.trans (final3 m c), (h c).2.2⟩)
      (Cert.MlpUpIdeal.Value.run_blocks (F := Ideal) m ρ)
  · refine (θ_run Cert.MlpUpRefIdeal.defs _ _).mono (fun _ h c => ⟨(h c).1.trans ?_, (h c).2.1.trans ?_, (h c).2.2⟩)
      (Cert.MlpUpRefIdeal.Value.run (F := Ideal) m' ρ')
    · rw [(hag c).1, (hag c).2]
      funext i
      pointwise! [positive]
    · rw [(hag c).1, (hag c).2]
      funext i
      pointwise! [squared]

end Cert.Proof.MlpUpClaim

end
-- ==== Proof.MlpDownClaim.lean ====
/-
  The squared-ReLU MLP, forward: the down-projection onto the residual, summed over four parts of the hidden layer.
-/
module

public import proofs.«01_k».proof.Defs
public import proofs.«01_k».proof.Proof.Sums
public import proofs.«01_k».proof.Proof.Gen.MlpDownIdeal.Value
public import proofs.«01_k».proof.Proof.Gen.MlpDownRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlpDownIdeal.Product

open Cert.MlpDownIdeal Cert.MlpDownIdeal.Gen

variable (m : (ℓ : Loc nD τ sig) → Buf (Elt Ideal) ℓ)

/-- The down-projection added to the residual. -/
def result (a : FVec Ideal S4096x8192 .bf16) (b : FVec Ideal S8192x2048 .bf16) (x : FVec Ideal S4096x2048 .f32) : FVec Ideal S4096x2048 .f32 :=
  fun i => (∑ k : Fin 8192, a (ix2 (i 0) k) * b (ix2 k (i 1))) + x i

/-- Every window's block index at every grid point. -/
theorem idx : ∀ t : Fin cfg0.N, win0_0.index t = ![t.val / 8, t.val % 4]
    ∧ win0_1.index t = ![t.val % 4, t.val / 4 % 2]
    ∧ win0_2.index t = ![t.val / 8, t.val / 4 % 2]
    ∧ win0_3.index t = ![t.val / 8, t.val / 4 % 2] :=
  (by decide +kernel : ∀ t : Fin grid0.N, _)

/-- What one point adds, read at an index of the block. -/
def part (c : Dev nD) (j : S512x1024.Idx) (n : ℕ) (h : n < cfg0.N) : EReal :=
  ∑ k : Fin 2048, (show FVec Ideal S512x2048 .bf16 from iblk m c 0 ⟨n, h⟩) (ix2 (j 0) k) * (show FVec Ideal S2048x1024 .bf16 from iblk m c 1 ⟨n, h⟩) (ix2 k (j 1))

theorem hpay2 (a : FVec Ideal S512x2048 .bf16) (b : FVec Ideal S2048x1024 .bf16) (j : S512x1024.Idx) :
    k0_pay2 (F := Ideal) a b j = ∑ k : Fin 2048, a (ix2 (j 0) k) * b (ix2 k (j 1)) := by
  pointwise [k0_pay2, k0_pay1]

theorem hpay3 (a : FVec Ideal S512x2048 .bf16) (b : FVec Ideal S2048x1024 .bf16) (acc : FVec Ideal S512x1024 .f32) (j : S512x1024.Idx) :
    k0_pay3 (F := Ideal) a b acc j = acc j + ∑ k : Fin 2048, a (ix2 (j 0) k) * b (ix2 k (j 1)) := by
  pointwise [k0_pay3, k0_pay1]

theorem hpay4 (a : FVec Ideal S512x2048 .bf16) (b : FVec Ideal S2048x1024 .bf16) (acc : FVec Ideal S512x1024 .f32) (x : FVec Ideal S512x1024 .f32) (j : S512x1024.Idx) :
    k0_pay4 (F := Ideal) a b acc x j = (acc j + ∑ k : Fin 2048, a (ix2 (j 0) k) * b (ix2 k (j 1))) + x j := by
  pointwise [k0_pay4, k0_pay1]

/-- At a run's last point the carried buffer and the last product are the sum over the run. -/
theorem total (c : Dev nD) (j : S512x1024.Idx) (t : ℕ) (h : t < cfg0.N) (ht : t % 4 = 4 - 1) :
    (outsAt0 m c (t - 1) (by omega)).2 j + part m c j t h
      = ∑ i : Fin 4, part m c j (4 * (t / 4) + i.val) (by have := i.isLt; have := Nat.div_add_mod t 4; omega) :=
  Cert.Sums.run_total 4 (by decide) (fun n h => (outsAt0 m c n h).2 j) (part m c j)
    (fun n h h0 => by
      show (outsAt0 m c n h).2 j = _
      rw [outsAt0_A m c ⟨n, h⟩ h0 (by dsimp only; omega) (by dsimp only; omega)]
      frame_out
      exact hpay2 _ _ _)
    (fun n h h0 h1 => by
      show (outsAt0 m c n h).2 j = _
      rw [outsAt0_B m c ⟨n, h⟩ h0 (by dsimp only; omega) (by dsimp only; omega)]
      frame_out
      refine (hpay3 _ _ _ _).trans ?_
      rw [read_unread_whole]
      rfl) t h ht

/-- The array of the result after the run. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val % 4 = 3 := (flush0_3 t).mp hf
  have hN : t.val < 64 := lt_of_lt_of_eq t.isLt N_0
  blk_simp
  rw [after0_3, outsAt0_C m c t (by omega) (by omega) ht]
  frame_out
  refine (hpay4 _ _ _ _ _).trans ?_
  rw [read_unread_whole]
  refine congrArg₂ (fun p q : EReal => p + q) ?_ ?_
  · refine (total m c y t.val t.isLt ht).trans ?_
    refine Fin.sum_mul_add_congr fun s k hl => ?_
    blk_point [iblk, V, idx t, idx ⟨_, Pipeline.run_point_lt_of_flush t ht s⟩]
  · blk_point [iblk, V, idx t]

end Cert.MlpDownIdeal.Product

namespace Cert.Proof.MlpDownClaim

open Cert.MlpDownIdeal.Product

/-- The reference leaves its arguments as they were. -/
theorem frame_ref : Cert.quiescent_MlpDownRefIdeal := fun m ρ _ =>
  (θ_run Cert.MlpDownRefIdeal.defs _ _).mono (fun r h => ⟨fun c => (h c).2,
      Idealize.ShloMosaic.sem_eq_zero_of_no_sems (by decide) r.2⟩)
    (Cert.MlpDownRefIdeal.Value.run (F := Ideal) m ρ)

/-- The kernel's result is that of the reference. -/
theorem algebraic : Cert.algebraic_MlpDownIdeal_MlpDownRefIdeal := by
  intro m ρ m' ρ' _ hag
  refine ⟨fun c => result (m ((c.tc : Thread _ _).loc Cert.MlpDownIdeal.main_arg0)) (m ((c.tc : Thread _ _).loc Cert.MlpDownIdeal.main_arg1)) (m ((c.tc : Thread _ _).loc Cert.MlpDownIdeal.main_arg2)), ?_, ?_⟩
  · exact (θ_run Cert.MlpDownIdeal.defs _ _).mono (fun _ h c => ⟨(h c).1.trans (final m c), (h c).2⟩)
      (Cert.MlpDownIdeal.Value.run_blocks (F := Ideal) m ρ)
  · refine (θ_run Cert.MlpDownRefIdeal.defs _ _).mono (fun _ h c => ⟨(h c).1.trans ?_, (h c).2⟩)
      (Cert.MlpDownRefIdeal.Value.run (F := Ideal) m' ρ')
    rw [(hag c).1, (hag c).2.1, (hag c).2.2]
    funext i
    pointwise! [result]

end Cert.Proof.MlpDownClaim

end
-- ==== Proof.DMergedClaim.lean ====
/-
  The output projection, backward: the gradient at the merged branches.
-/
module

public import proofs.«01_k».proof.Defs
public import proofs.«01_k».proof.Proof.Sums
public import proofs.«01_k».proof.Proof.Gen.DMergedIdeal.Value
public import proofs.«01_k».proof.Proof.Gen.DMergedRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DMergedIdeal.Product

open Cert.DMergedIdeal Cert.DMergedIdeal.Gen

variable (m : (ℓ : Loc nD τ sig) → Buf (Elt Ideal) ℓ)

/-- The gradient at the merged branches. -/
def result (a : FVec Ideal S4096x2048 .bf16) (b : FVec Ideal S2048x2048 .bf16) : FVec Ideal S4096x2048 .f32 :=
  fun i => ∑ k : Fin 2048, a (ix2 (i 0) k) * b (ix2 (i 1) k)

/-- Every window's block index at every grid point. -/
theorem idx : ∀ t : Fin cfg0.N, win0_0.index t = ![t.val % 8, 0]
    ∧ win0_1.index t = ![t.val / 8, 0]
    ∧ win0_2.index t = ![t.val % 8, t.val / 8] :=
  (by decide +kernel : ∀ t : Fin grid0.N, _)

/-- The array of the result after the run. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, result]
  blk_point [iblk, V, idx t]

end Cert.DMergedIdeal.Product

namespace Cert.Proof.DMergedClaim

open Cert.DMergedIdeal.Product

/-- The reference leaves its arguments as they were. -/
theorem frame_ref : Cert.quiescent_DMergedRefIdeal := fun m ρ _ =>
  (θ_run Cert.DMergedRefIdeal.defs _ _).mono (fun r h => ⟨fun c => (h c).2,
      Idealize.ShloMosaic.sem_eq_zero_of_no_sems (by decide) r.2⟩)
    (Cert.DMergedRefIdeal.Value.run (F := Ideal) m ρ)

/-- The kernel's result is that of the reference. -/
theorem algebraic : Cert.algebraic_DMergedIdeal_DMergedRefIdeal := by
  intro m ρ m' ρ' _ hag
  refine ⟨fun c => result (m ((c.tc : Thread _ _).loc Cert.DMergedIdeal.main_arg0)) (m ((c.tc : Thread _ _).loc Cert.DMergedIdeal.main_arg1)), ?_, ?_⟩
  · exact (θ_run Cert.DMergedIdeal.defs _ _).mono (fun _ h c => ⟨(h c).1.trans (final m c), (h c).2⟩)
      (Cert.DMergedIdeal.Value.run_blocks (F := Ideal) m ρ)
  · refine (θ_run Cert.DMergedRefIdeal.defs _ _).mono (fun _ h c => ⟨(h c).1.trans ?_, (h c).2⟩)
      (Cert.DMergedRefIdeal.Value.run (F := Ideal) m' ρ')
    rw [(hag c).1, (hag c).2]
    funext i
    pointwise! [result]

end Cert.Proof.DMergedClaim

end
-- ==== Proof.DwOutClaim.lean ====
/-
  The output projection, backward: the gradient of its weight, summed over two halves of the tokens.
-/
module

public import proofs.«01_k».proof.Defs
public import proofs.«01_k».proof.Proof.Sums
public import proofs.«01_k».proof.Proof.Gen.DwOutIdeal.Value
public import proofs.«01_k».proof.Proof.Gen.DwOutRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DwOutIdeal.Product

open Cert.DwOutIdeal Cert.DwOutIdeal.Gen

variable (m : (ℓ : Loc nD τ sig) → Buf (Elt Ideal) ℓ)

/-- The gradient of the weight, its rows cut into four parts of two halves. -/
def result (a : FVec Ideal S4096x2048 .bf16) (b : FVec Ideal S4096x2048 .bf16) : FVec Ideal S2x4x256x2048 .bf16 :=
  fun i => ∑ k : Fin 4096, a (ix2 k ⟨(i 1).val * 512 + (i 0).val * 256 + (i 2).val, by
      have h0 : (i 0).val < 2 := (i 0).isLt
      have h1 : (i 1).val < 4 := (i 1).isLt
      have h2 : (i 2).val < 256 := (i 2).isLt
      have h3 : (i 3).val < 2048 := (i 3).isLt
      omega⟩) * b (ix2 k (i 3))

/-- Every window's block index at every grid point. -/
theorem idx : ∀ t : Fin cfg0.N, win0_0.index t = ![t.val % 2, t.val / 4]
    ∧ win0_1.index t = ![t.val % 2, t.val / 2 % 2]
    ∧ win0_2.index t = ![(t.val / 4) % 2 / 1, (t.val / 4) / 2, (t.val / 4) % 1, t.val / 2 % 2] :=
  (by decide +kernel : ∀ t : Fin grid0.N, _)

/-- What one point adds, read at an index of the block. -/
def part (c : Dev nD) (j : S256x1024.Idx) (n : ℕ) (h : n < cfg0.N) : EReal :=
  ∑ k : Fin 2048, (show FVec Ideal S2048x256 .bf16 from iblk m c 0 ⟨n, h⟩) (ix2 k (j 0)) * (show FVec Ideal S2048x1024 .bf16 from iblk m c 1 ⟨n, h⟩) (ix2 k (j 1))

theorem hpay2 (a : FVec Ideal S2048x256 .bf16) (b : FVec Ideal S2048x1024 .bf16) (j : S256x1024.Idx) :
    k0_pay2 (F := Ideal) a b j = ∑ k : Fin 2048, a (ix2 k (j 0)) * b (ix2 k (j 1)) := by
  pointwise [k0_pay2, k0_pay1]

theorem hpay3 (a : FVec Ideal S2048x256 .bf16) (b : FVec Ideal S2048x1024 .bf16) (acc : FVec Ideal S256x1024 .f32) (j : S256x1024.Idx) :
    k0_pay3 (F := Ideal) a b acc j = acc j + ∑ k : Fin 2048, a (ix2 k (j 0)) * b (ix2 k (j 1)) := by
  pointwise [k0_pay3, k0_pay1]

theorem hpay4 (a : FVec Ideal S2048x256 .bf16) (b : FVec Ideal S2048x1024 .bf16) (acc : FVec Ideal S256x1024 .f32) (j : S1x1x256x1024.Idx) :
    k0_pay4 (F := Ideal) a b acc j = acc (ix2 (j 2) (j 3)) + ∑ k : Fin 2048, a (ix2 k (j 2)) * b (ix2 k (j 3)) := by
  pointwise [k0_pay4, k0_pay1]

/-- At a run's last point the carried buffer and the last product are the sum over the run. -/
theorem total (c : Dev nD) (j : S256x1024.Idx) (t : ℕ) (h : t < cfg0.N) (ht : t % 2 = 2 - 1) :
    (outsAt0 m c (t - 1) (by omega)).2 j + part m c j t h
      = ∑ i : Fin 2, part m c j (2 * (t / 2) + i.val) (by have := i.isLt; have := Nat.div_add_mod t 2; omega) :=
  Cert.Sums.run_total 2 (by decide) (fun n h => (outsAt0 m c n h).2 j) (part m c j)
    (fun n h h0 => by
      show (outsAt0 m c n h).2 j = _
      rw [outsAt0_A m c ⟨n, h⟩ h0 (by dsimp only; omega)]
      frame_out
      exact hpay2 _ _ _)
    (fun n h h0 h1 => by omega) t h ht

/-- The array of the result after the run. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hN : t.val < 32 := lt_of_lt_of_eq t.isLt N_0
  blk_simp
  rw [after0_2, outsAt0_B m c t (by omega) ht]
  frame_out
  refine (hpay4 _ _ _ _).trans ?_
  rw [read_unread_whole]
  refine (total m c (ix2 (y 2) (y 3)) t.val t.isLt ht).trans ?_
  refine Fin.sum_mul_add_congr fun s k hl => ?_
  blk_point [iblk, V, idx t, idx ⟨_, Pipeline.run_point_lt_of_flush t ht s⟩]

end Cert.DwOutIdeal.Product

namespace Cert.Proof.DwOutClaim

open Cert.DwOutIdeal.Product

/-- The reference leaves its arguments as they were. -/
theorem frame_ref : Cert.quiescent_DwOutRefIdeal := fun m ρ _ =>
  (θ_run Cert.DwOutRefIdeal.defs _ _).mono (fun r h => ⟨fun c => (h c).2,
      Idealize.ShloMosaic.sem_eq_zero_of_no_sems (by decide) r.2⟩)
    (Cert.DwOutRefIdeal.Value.run (F := Ideal) m ρ)

/-- The kernel's result is that of the reference. -/
theorem algebraic : Cert.algebraic_DwOutIdeal_DwOutRefIdeal := by
  intro m ρ m' ρ' _ hag
  refine ⟨fun c => result (m ((c.tc : Thread _ _).loc Cert.DwOutIdeal.main_arg0)) (m ((c.tc : Thread _ _).loc Cert.DwOutIdeal.main_arg1)), ?_, ?_⟩
  · exact (θ_run Cert.DwOutIdeal.defs _ _).mono (fun _ h c => ⟨(h c).1.trans (final m c), (h c).2⟩)
      (Cert.DwOutIdeal.Value.run_blocks (F := Ideal) m ρ)
  · refine (θ_run Cert.DwOutRefIdeal.defs _ _).mono (fun _ h c => ⟨(h c).1.trans ?_, (h c).2⟩)
      (Cert.DwOutRefIdeal.Value.run (F := Ideal) m' ρ')
    rw [(hag c).1, (hag c).2]
    funext i
    pointwise! [result]

end Cert.Proof.DwOutClaim

end
-- ==== Proof.OutProjClaim.lean ====
/-
  The output projection of the merged branches onto the residual.
-/
module

public import proofs.«01_k».proof.Defs
public import proofs.«01_k».proof.Proof.Sums
public import proofs.«01_k».proof.Proof.Gen.OutProjIdeal.Value
public import proofs.«01_k».proof.Proof.Gen.OutProjRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutProjIdeal.Product

open Cert.OutProjIdeal Cert.OutProjIdeal.Gen

variable (m : (ℓ : Loc nD τ sig) → Buf (Elt Ideal) ℓ)

/-- The product added to the residual. -/
def result (a : FVec Ideal S4096x2048 .bf16) (b : FVec Ideal S2048x2048 .bf16) (x : FVec Ideal S4096x2048 .f32) : FVec Ideal S4096x2048 .f32 :=
  fun i => (∑ k : Fin 2048, a (ix2 (i 0) k) * b (ix2 k (i 1))) + x i

/-- Every window's block index at every grid point. -/
theorem idx : ∀ t : Fin cfg0.N, win0_0.index t = ![t.val % 8, 0]
    ∧ win0_1.index t = ![0, t.val / 8]
    ∧ win0_2.index t = ![t.val % 8, t.val / 8]
    ∧ win0_3.index t = ![t.val % 8, t.val / 8] :=
  (by decide +kernel : ∀ t : Fin grid0.N, _)

/-- The array of the result after the run. -/
theorem final (c : Dev nD) : (dats m 0 c).arrAt 3 (cfgs 0).N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, result]
  refine congrArg₂ (fun p q : EReal => p + q) ?_ ?_
  · refine Finset.sum_congr rfl fun k _ => ?_
    blk_point [iblk, V, idx t]
  · blk_point [iblk, V, idx t]

end Cert.OutProjIdeal.Product

namespace Cert.Proof.OutProjClaim

open Cert.OutProjIdeal.Product

/-- The reference leaves its arguments as they were. -/
theorem frame_ref : Cert.quiescent_OutProjRefIdeal := fun m ρ _ =>
  (θ_run Cert.OutProjRefIdeal.defs _ _).mono (fun r h => ⟨fun c => (h c).2,
      Idealize.ShloMosaic.sem_eq_zero_of_no_sems (by decide) r.2⟩)
    (Cert.OutProjRefIdeal.Value.run (F := Ideal) m ρ)

/-- The kernel's result is that of the reference. -/
theorem algebraic : Cert.algebraic_OutProjIdeal_OutProjRefIdeal := by
  intro m ρ m' ρ' _ hag
  refine ⟨fun c => result (m ((c.tc : Thread _ _).loc Cert.OutProjIdeal.main_arg0)) (m ((c.tc : Thread _ _).loc Cert.OutProjIdeal.main_arg1)) (m ((c.tc : Thread _ _).loc Cert.OutProjIdeal.main_arg2)), ?_, ?_⟩
  · exact (θ_run Cert.OutProjIdeal.defs _ _).mono (fun _ h c => ⟨(h c).1.trans (final m c), (h c).2⟩)
      (Cert.OutProjIdeal.Value.run_blocks (F := Ideal) m ρ)
  · refine (θ_run Cert.OutProjRefIdeal.defs _ _).mono (fun _ h c => ⟨(h c).1.trans ?_, (h c).2⟩)
      (Cert.OutProjRefIdeal.Value.run (F := Ideal) m' ρ')
    rw [(hag c).1, (hag c).2.1, (hag c).2.2]
    funext i
    pointwise! [result]

end Cert.Proof.OutProjClaim

end
-- ==== Proof.DBranchClaim.lean ====
/-
  A branch's projection, backward: the gradient at the branch's output.
-/
module

public import proofs.«01_k».proof.Defs
public import proofs.«01_k».proof.Proof.Sums
public import proofs.«01_k».proof.Proof.Gen.DBranchIdeal.Value
public import proofs.«01_k».proof.Proof.Gen.DBranchRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DBranchIdeal.Product

open Cert.DBranchIdeal Cert.DBranchIdeal.Gen

variable (m : (ℓ : Loc nD τ sig) → Buf (Elt Ideal) ℓ)

/-- The gradient at the branch's output. -/
def result (a : FVec Ideal S4096x2048 .bf16) (b : FVec Ideal S1024x2048 .bf16) : FVec Ideal S4096x1024 .f32 :=
  fun i => ∑ k : Fin 2048, a (ix2 (i 0) k) * b (ix2 (i 1) k)

/-- Every window's block index at every grid point. -/
theorem idx : ∀ t : Fin cfg0.N, win0_0.index t = ![t.val % 8, 0]
    ∧ win0_1.index t = ![t.val / 8, 0]
    ∧ win0_2.index t = ![t.val % 8, t.val / 8] :=
  (by decide +kernel : ∀ t : Fin grid0.N, _)

/-- The array of the result after the run. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, result]
  blk_point [iblk, V, idx t]

end Cert.DBranchIdeal.Product

namespace Cert.Proof.DBranchClaim

open Cert.DBranchIdeal.Product

/-- The reference leaves its arguments as they were. -/
theorem frame_ref : Cert.quiescent_DBranchRefIdeal := fun m ρ _ =>
  (θ_run Cert.DBranchRefIdeal.defs _ _).mono (fun r h => ⟨fun c => (h c).2,
      Idealize.ShloMosaic.sem_eq_zero_of_no_sems (by decide) r.2⟩)
    (Cert.DBranchRefIdeal.Value.run (F := Ideal) m ρ)

/-- The kernel's result is that of the reference. -/
theorem algebraic : Cert.algebraic_DBranchIdeal_DBranchRefIdeal := by
  intro m ρ m' ρ' _ hag
  refine ⟨fun c => result (m ((c.tc : Thread _ _).loc Cert.DBranchIdeal.main_arg0)) (m ((c.tc : Thread _ _).loc Cert.DBranchIdeal.main_arg1)), ?_, ?_⟩
  · exact (θ_run Cert.DBranchIdeal.defs _ _).mono (fun _ h c => ⟨(h c).1.trans (final m c), (h c).2⟩)
      (Cert.DBranchIdeal.Value.run_blocks (F := Ideal) m ρ)
  · refine (θ_run Cert.DBranchRefIdeal.defs _ _).mono (fun _ h c => ⟨(h c).1.trans ?_, (h c).2⟩)
      (Cert.DBranchRefIdeal.Value.run (F := Ideal) m' ρ')
    rw [(hag c).1, (hag c).2]
    funext i
    pointwise! [result]

end Cert.Proof.DBranchClaim

end
-- ==== Proof.DwBranchClaim.lean ====
/-
  A branch's projection, backward: the gradient of its weight, summed over two halves of the tokens.
-/
module

public import proofs.«01_k».proof.Defs
public import proofs.«01_k».proof.Proof.Sums
public import proofs.«01_k».proof.Proof.Gen.DwBranchIdeal.Value
public import proofs.«01_k».proof.Proof.Gen.DwBranchRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DwBranchIdeal.Product

open Cert.DwBranchIdeal Cert.DwBranchIdeal.Gen

variable (m : (ℓ : Loc nD τ sig) → Buf (Elt Ideal) ℓ)

/-- The gradient of the weight, cut into two halves of its rows and four parts of its columns. -/
def result (a : FVec Ideal S4096x1024 .bf16) (b : FVec Ideal S4096x2048 .bf16) : FVec Ideal S2x4x512x512 .bf16 :=
  fun i => ∑ k : Fin 4096, a (ix2 k ⟨(i 0).val * 512 + (i 2).val, by
      have h0 : (i 0).val < 2 := (i 0).isLt
      have h1 : (i 1).val < 4 := (i 1).isLt
      have h2 : (i 2).val < 512 := (i 2).isLt
      have h3 : (i 3).val < 512 := (i 3).isLt
      omega⟩) * b (ix2 k ⟨(i 1).val * 512 + (i 3).val, by
      have h0 : (i 0).val < 2 := (i 0).isLt
      have h1 : (i 1).val < 4 := (i 1).isLt
      have h2 : (i 2).val < 512 := (i 2).isLt
      have h3 : (i 3).val < 512 := (i 3).isLt
      omega⟩)

/-- Every window's block index at every grid point. -/
theorem idx : ∀ t : Fin cfg0.N, win0_0.index t = ![t.val % 2, t.val / 8]
    ∧ win0_1.index t = ![t.val % 2, t.val / 2 % 4]
    ∧ win0_2.index t = ![(t.val / 8) / 1, (t.val / 2 % 4) / 1, (t.val / 8) % 1, (t.val / 2 % 4) % 1] :=
  (by decide +kernel : ∀ t : Fin grid0.N, _)

/-- What one point adds, read at an index of the block. -/
def part (c : Dev nD) (j : S512x512.Idx) (n : ℕ) (h : n < cfg0.N) : EReal :=
  ∑ k : Fin 2048, (show FVec Ideal S2048x512 .bf16 from iblk m c 0 ⟨n, h⟩) (ix2 k (j 0)) * (show FVec Ideal S2048x512 .bf16 from iblk m c 1 ⟨n, h⟩) (ix2 k (j 1))

theorem hpay2 (a : FVec Ideal S2048x512 .bf16) (b : FVec Ideal S2048x512 .bf16) (j : S512x512.Idx) :
    k0_pay2 (F := Ideal) a b j = ∑ k : Fin 2048, a (ix2 k (j 0)) * b (ix2 k (j 1)) := by
  pointwise [k0_pay2, k0_pay1]

theorem hpay3 (a : FVec Ideal S2048x512 .bf16) (b : FVec Ideal S2048x512 .bf16) (acc : FVec Ideal S512x512 .f32) (j : S512x512.Idx) :
    k0_pay3 (F := Ideal) a b acc j = acc j + ∑ k : Fin 2048, a (ix2 k (j 0)) * b (ix2 k (j 1)) := by
  pointwise [k0_pay3, k0_pay1]

theorem hpay4 (a : FVec Ideal S2048x512 .bf16) (b : FVec Ideal S2048x512 .bf16) (acc : FVec Ideal S512x512 .f32) (j : S1x1x512x512.Idx) :
    k0_pay4 (F := Ideal) a b acc j = acc (ix2 (j 2) (j 3)) + ∑ k : Fin 2048, a (ix2 k (j 2)) * b (ix2 k (j 3)) := by
  pointwise [k0_pay4, k0_pay1]

/-- At a run's last point the carried buffer and the last product are the sum over the run. -/
theorem total (c : Dev nD) (j : S512x512.Idx) (t : ℕ) (h : t < cfg0.N) (ht : t % 2 = 2 - 1) :
    (outsAt0 m c (t - 1) (by omega)).2 j + part m c j t h
      = ∑ i : Fin 2, part m c j (2 * (t / 2) + i.val) (by have := i.isLt; have := Nat.div_add_mod t 2; omega) :=
  Cert.Sums.run_total 2 (by decide) (fun n h => (outsAt0 m c n h).2 j) (part m c j)
    (fun n h h0 => by
      show (outsAt0 m c n h).2 j = _
      rw [outsAt0_A m c ⟨n, h⟩ h0 (by dsimp only; omega)]
      frame_out
      exact hpay2 _ _ _)
    (fun n h h0 h1 => by omega) t h ht

/-- The array of the result after the run. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hN : t.val < 16 := lt_of_lt_of_eq t.isLt N_0
  blk_simp
  rw [after0_2, outsAt0_B m c t (by omega) ht]
  frame_out
  refine (hpay4 _ _ _ _).trans ?_
  rw [read_unread_whole]
  refine (total m c (ix2 (y 2) (y 3)) t.val t.isLt ht).trans ?_
  refine Fin.sum_mul_add_congr fun s k hl => ?_
  blk_point [iblk, V, idx t, idx ⟨_, Pipeline.run_point_lt_of_flush t ht s⟩]

end Cert.DwBranchIdeal.Product

namespace Cert.Proof.DwBranchClaim

open Cert.DwBranchIdeal.Product

/-- The reference leaves its arguments as they were. -/
theorem frame_ref : Cert.quiescent_DwBranchRefIdeal := fun m ρ _ =>
  (θ_run Cert.DwBranchRefIdeal.defs _ _).mono (fun r h => ⟨fun c => (h c).2,
      Idealize.ShloMosaic.sem_eq_zero_of_no_sems (by decide) r.2⟩)
    (Cert.DwBranchRefIdeal.Value.run (F := Ideal) m ρ)

/-- The kernel's result is that of the reference. -/
theorem algebraic : Cert.algebraic_DwBranchIdeal_DwBranchRefIdeal := by
  intro m ρ m' ρ' _ hag
  refine ⟨fun c => result (m ((c.tc : Thread _ _).loc Cert.DwBranchIdeal.main_arg0)) (m ((c.tc : Thread _ _).loc Cert.DwBranchIdeal.main_arg1)), ?_, ?_⟩
  · exact (θ_run Cert.DwBranchIdeal.defs _ _).mono (fun _ h c => ⟨(h c).1.trans (final m c), (h c).2⟩)
      (Cert.DwBranchIdeal.Value.run_blocks (F := Ideal) m ρ)
  · refine (θ_run Cert.DwBranchRefIdeal.defs _ _).mono (fun _ h c => ⟨(h c).1.trans ?_, (h c).2⟩)
      (Cert.DwBranchRefIdeal.Value.run (F := Ideal) m' ρ')
    rw [(hag c).1, (hag c).2]
    funext i
    pointwise! [result]

end Cert.Proof.DwBranchClaim

end
-- ==== Proof.BranchClaim.lean ====
/-
  A branch's projection to the width of the model.
-/
module

public import proofs.«01_k».proof.Defs
public import proofs.«01_k».proof.Proof.Sums
public import proofs.«01_k».proof.Proof.Gen.BranchIdeal.Value
public import proofs.«01_k».proof.Proof.Gen.BranchRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.BranchIdeal.Product

open Cert.BranchIdeal Cert.BranchIdeal.Gen

variable (m : (ℓ : Loc nD τ sig) → Buf (Elt Ideal) ℓ)

/-- The product. -/
def result (a : FVec Ideal S4096x1024 .bf16) (b : FVec Ideal S1024x2048 .bf16) : FVec Ideal S4096x2048 .f32 :=
  fun i => ∑ k : Fin 1024, a (ix2 (i 0) k) * b (ix2 k (i 1))

/-- Every window's block index at every grid point. -/
theorem idx : ∀ t : Fin cfg0.N, win0_0.index t = ![t.val % 8, 0]
    ∧ win0_1.index t = ![0, t.val / 8]
    ∧ win0_2.index t = ![t.val % 8, t.val / 8] :=
  (by decide +kernel : ∀ t : Fin grid0.N, _)

/-- The array of the result after the run. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, result]
  blk_point [iblk, V, idx t]

end Cert.BranchIdeal.Product

namespace Cert.Proof.BranchClaim

open Cert.BranchIdeal.Product

/-- The reference leaves its arguments as they were. -/
theorem frame_ref : Cert.quiescent_BranchRefIdeal := fun m ρ _ =>
  (θ_run Cert.BranchRefIdeal.defs _ _).mono (fun r h => ⟨fun c => (h c).2,
      Idealize.ShloMosaic.sem_eq_zero_of_no_sems (by decide) r.2⟩)
    (Cert.BranchRefIdeal.Value.run (F := Ideal) m ρ)

/-- The kernel's result is that of the reference. -/
theorem algebraic : Cert.algebraic_BranchIdeal_BranchRefIdeal := by
  intro m ρ m' ρ' _ hag
  refine ⟨fun c => result (m ((c.tc : Thread _ _).loc Cert.BranchIdeal.main_arg0)) (m ((c.tc : Thread _ _).loc Cert.BranchIdeal.main_arg1)), ?_, ?_⟩
  · exact (θ_run Cert.BranchIdeal.defs _ _).mono (fun _ h c => ⟨(h c).1.trans (final m c), (h c).2⟩)
      (Cert.BranchIdeal.Value.run_blocks (F := Ideal) m ρ)
  · refine (θ_run Cert.BranchRefIdeal.defs _ _).mono (fun _ h c => ⟨(h c).1.trans ?_, (h c).2⟩)
      (Cert.BranchRefIdeal.Value.run (F := Ideal) m' ρ')
    rw [(hag c).1, (hag c).2]
    funext i
    pointwise! [result]

end Cert.Proof.BranchClaim

end
-- ==== Proof.DHClaim.lean ====
/-
  The combined input projection, backward: the gradient at its input, summed over six parts of its columns.
-/
module

public import proofs.«01_k».proof.Defs
public import proofs.«01_k».proof.Proof.Sums
public import proofs.«01_k».proof.Proof.Gen.DHIdeal.Value
public import proofs.«01_k».proof.Proof.Gen.DHRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DHIdeal.Product

open Cert.DHIdeal Cert.DHIdeal.Gen

variable (m : (ℓ : Loc nD τ sig) → Buf (Elt Ideal) ℓ)

/-- The gradient at the projection's input. -/
def result (a : FVec Ideal S4096x10752 .bf16) (b : FVec Ideal S2048x10752 .bf16) : FVec Ideal S4096x2048 .f32 :=
  fun i => ∑ k : Fin 10752, a (ix2 (i 0) k) * b (ix2 (i 1) k)

/-- Every window's block index at every grid point. -/
theorem idx : ∀ t : Fin cfg0.N, win0_0.index t = ![t.val / 12, t.val % 6]
    ∧ win0_1.index t = ![t.val / 6 % 2, t.val % 6]
    ∧ win0_2.index t = ![t.val / 12, t.val / 6 % 2] :=
  (by decide +kernel : ∀ t : Fin grid0.N, _)

/-- What one point adds, read at an index of the block. -/
def part (c : Dev nD) (j : S512x1024.Idx) (n : ℕ) (h : n < cfg0.N) : EReal :=
  ∑ k : Fin 1792, (show FVec Ideal S512x1792 .bf16 from iblk m c 0 ⟨n, h⟩) (ix2 (j 0) k) * (show FVec Ideal S1024x1792 .bf16 from iblk m c 1 ⟨n, h⟩) (ix2 (j 1) k)

theorem hpay2 (a : FVec Ideal S512x1792 .bf16) (b : FVec Ideal S1024x1792 .bf16) (j : S512x1024.Idx) :
    k0_pay2 (F := Ideal) a b j = ∑ k : Fin 1792, a (ix2 (j 0) k) * b (ix2 (j 1) k) := by
  pointwise [k0_pay2, k0_pay1]

theorem hpay3 (a : FVec Ideal S512x1792 .bf16) (b : FVec Ideal S1024x1792 .bf16) (acc : FVec Ideal S512x1024 .f32) (j : S512x1024.Idx) :
    k0_pay3 (F := Ideal) a b acc j = acc j + ∑ k : Fin 1792, a (ix2 (j 0) k) * b (ix2 (j 1) k) := by
  pointwise [k0_pay3, k0_pay1]

theorem hpay4 (a : FVec Ideal S512x1792 .bf16) (b : FVec Ideal S1024x1792 .bf16) (acc : FVec Ideal S512x1024 .f32) (j : S512x1024.Idx) :
    k0_pay4 (F := Ideal) a b acc j = acc j + ∑ k : Fin 1792, a (ix2 (j 0) k) * b (ix2 (j 1) k) := by
  pointwise [k0_pay4, k0_pay1]

/-- At a run's last point the carried buffer and the last product are the sum over the run. -/
theorem total (c : Dev nD) (j : S512x1024.Idx) (t : ℕ) (h : t < cfg0.N) (ht : t % 6 = 6 - 1) :
    (outsAt0 m c (t - 1) (by omega)).2 j + part m c j t h
      = ∑ i : Fin 6, part m c j (6 * (t / 6) + i.val) (by have := i.isLt; have := Nat.div_add_mod t 6; omega) :=
  Cert.Sums.run_total 6 (by decide) (fun n h => (outsAt0 m c n h).2 j) (part m c j)
    (fun n h h0 => by
      show (outsAt0 m c n h).2 j = _
      rw [outsAt0_A m c ⟨n, h⟩ h0 (by dsimp only; omega) (by dsimp only; omega)]
      frame_out
      exact hpay2 _ _ _)
    (fun n h h0 h1 => by
      show (outsAt0 m c n h).2 j = _
      rw [outsAt0_B m c ⟨n, h⟩ h0 (by dsimp only; omega) (by dsimp only; omega)]
      frame_out
      refine (hpay3 _ _ _ _).trans ?_
      rw [read_unread_whole]
      rfl) t h ht

/-- The array of the result after the run. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have ht : t.val % 6 = 5 := (flush0_2 t).mp hf
  have hN : t.val < 96 := lt_of_lt_of_eq t.isLt N_0
  blk_simp
  rw [after0_2, outsAt0_C m c t (by omega) (by omega) ht]
  frame_out
  refine (hpay4 _ _ _ _).trans ?_
  rw [read_unread_whole]
  refine (total m c y t.val t.isLt ht).trans ?_
  refine Fin.sum_mul_add_congr fun s k hl => ?_
  blk_point [iblk, V, idx t, idx ⟨_, Pipeline.run_point_lt_of_flush t ht s⟩]

end Cert.DHIdeal.Product

namespace Cert.Proof.DHClaim

open Cert.DHIdeal.Product

/-- The reference leaves its arguments as they were. -/
theorem frame_ref : Cert.quiescent_DHRefIdeal := fun m ρ _ =>
  (θ_run Cert.DHRefIdeal.defs _ _).mono (fun r h => ⟨fun c => (h c).2,
      Idealize.ShloMosaic.sem_eq_zero_of_no_sems (by decide) r.2⟩)
    (Cert.DHRefIdeal.Value.run (F := Ideal) m ρ)

/-- The kernel's result is that of the reference. -/
theorem algebraic : Cert.algebraic_DHIdeal_DHRefIdeal := by
  intro m ρ m' ρ' _ hag
  refine ⟨fun c => result (m ((c.tc : Thread _ _).loc Cert.DHIdeal.main_arg0)) (m ((c.tc : Thread _ _).loc Cert.DHIdeal.main_arg1)), ?_, ?_⟩
  · exact (θ_run Cert.DHIdeal.defs _ _).mono (fun _ h c => ⟨(h c).1.trans (final m c), (h c).2⟩)
      (Cert.DHIdeal.Value.run_blocks (F := Ideal) m ρ)
  · refine (θ_run Cert.DHRefIdeal.defs _ _).mono (fun _ h c => ⟨(h c).1.trans ?_, (h c).2⟩)
      (Cert.DHRefIdeal.Value.run (F := Ideal) m' ρ')
    rw [(hag c).1, (hag c).2]
    funext i
    pointwise! [result]

end Cert.Proof.DHClaim

end
-- ==== Proof.DwInClaim.lean ====
/-
  The combined input projection, backward: the gradient of its weight, summed over two halves of the tokens.
-/
module

public import proofs.«01_k».proof.Defs
public import proofs.«01_k».proof.Proof.Sums
public import proofs.«01_k».proof.Proof.Gen.DwInIdeal.Value
public import proofs.«01_k».proof.Proof.Gen.DwInRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DwInIdeal.Product

open Cert.DwInIdeal Cert.DwInIdeal.Gen

variable (m : (ℓ : Loc nD τ sig) → Buf (Elt Ideal) ℓ)

/-- The gradient of the weight. -/
def result (a : FVec Ideal S4096x2048 .bf16) (b : FVec Ideal S4096x10752 .bf16) : FVec Ideal S2048x10752 .bf16 :=
  fun i => ∑ k : Fin 4096, a (ix2 k (i 0)) * b (ix2 k (i 1))

/-- Every window's block index at every grid point. -/
theorem idx : ∀ t : Fin cfg0.N, win0_0.index t = ![t.val % 2, t.val / 14]
    ∧ win0_1.index t = ![t.val % 2, t.val / 2 % 7]
    ∧ win0_2.index t = ![t.val / 14, t.val / 2 % 7] :=
  (by decide +kernel : ∀ t : Fin grid0.N, _)

/-- What one point adds, read at an index of the block. -/
def part (c : Dev nD) (j : S512x1536.Idx) (n : ℕ) (h : n < cfg0.N) : EReal :=
  ∑ k : Fin 2048, (show FVec Ideal S2048x512 .bf16 from iblk m c 0 ⟨n, h⟩) (ix2 k (j 0)) * (show FVec Ideal S2048x1536 .bf16 from iblk m c 1 ⟨n, h⟩) (ix2 k (j 1))

theorem hpay2 (a : FVec Ideal S2048x512 .bf16) (b : FVec Ideal S2048x1536 .bf16) (j : S512x1536.Idx) :
    k0_pay2 (F := Ideal) a b j = ∑ k : Fin 2048, a (ix2 k (j 0)) * b (ix2 k (j 1)) := by
  pointwise [k0_pay2, k0_pay1]

theorem hpay3 (a : FVec Ideal S2048x512 .bf16) (b : FVec Ideal S2048x1536 .bf16) (acc : FVec Ideal S512x1536 .f32) (j : S512x1536.Idx) :
    k0_pay3 (F := Ideal) a b acc j = acc j + ∑ k : Fin 2048, a (ix2 k (j 0)) * b (ix2 k (j 1)) := by
  pointwise [k0_pay3, k0_pay1]

theorem hpay4 (a : FVec Ideal S2048x512 .bf16) (b : FVec Ideal S2048x1536 .bf16) (acc : FVec Ideal S512x1536 .f32) (j : S512x1536.Idx) :
    k0_pay4 (F := Ideal) a b acc j = acc j + ∑ k : Fin 2048, a (ix2 k (j 0)) * b (ix2 k (j 1)) := by
  pointwise [k0_pay4, k0_pay1]

/-- At a run's last point the carried buffer and the last product are the sum over the run. -/
theorem total (c : Dev nD) (j : S512x1536.Idx) (t : ℕ) (h : t < cfg0.N) (ht : t % 2 = 2 - 1) :
    (outsAt0 m c (t - 1) (by omega)).2 j + part m c j t h
      = ∑ i : Fin 2, part m c j (2 * (t / 2) + i.val) (by have := i.isLt; have := Nat.div_add_mod t 2; omega) :=
  Cert.Sums.run_total 2 (by decide) (fun n h => (outsAt0 m c n h).2 j) (part m c j)
    (fun n h h0 => by
      show (outsAt0 m c n h).2 j = _
      rw [outsAt0_A m c ⟨n, h⟩ h0 (by dsimp only; omega)]
      frame_out
      exact hpay2 _ _ _)
    (fun n h h0 h1 => by omega) t h ht

/-- The array of the result after the run. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hN : t.val < 56 := lt_of_lt_of_eq t.isLt N_0
  blk_simp
  rw [after0_2, outsAt0_B m c t (by omega) ht]
  frame_out
  refine (hpay4 _ _ _ _).trans ?_
  rw [read_unread_whole]
  refine (total m c y t.val t.isLt ht).trans ?_
  refine Fin.sum_mul_add_congr fun s k hl => ?_
  blk_point [iblk, V, idx t, idx ⟨_, Pipeline.run_point_lt_of_flush t ht s⟩]

end Cert.DwInIdeal.Product

namespace Cert.Proof.DwInClaim

open Cert.DwInIdeal.Product

/-- The reference leaves its arguments as they were. -/
theorem frame_ref : Cert.quiescent_DwInRefIdeal := fun m ρ _ =>
  (θ_run Cert.DwInRefIdeal.defs _ _).mono (fun r h => ⟨fun c => (h c).2,
      Idealize.ShloMosaic.sem_eq_zero_of_no_sems (by decide) r.2⟩)
    (Cert.DwInRefIdeal.Value.run (F := Ideal) m ρ)

/-- The kernel's result is that of the reference. -/
theorem algebraic : Cert.algebraic_DwInIdeal_DwInRefIdeal := by
  intro m ρ m' ρ' _ hag
  refine ⟨fun c => result (m ((c.tc : Thread _ _).loc Cert.DwInIdeal.main_arg0)) (m ((c.tc : Thread _ _).loc Cert.DwInIdeal.main_arg1)), ?_, ?_⟩
  · exact (θ_run Cert.DwInIdeal.defs _ _).mono (fun _ h c => ⟨(h c).1.trans (final m c), (h c).2⟩)
      (Cert.DwInIdeal.Value.run_blocks (F := Ideal) m ρ)
  · refine (θ_run Cert.DwInRefIdeal.defs _ _).mono (fun _ h c => ⟨(h c).1.trans ?_, (h c).2⟩)
      (Cert.DwInRefIdeal.Value.run (F := Ideal) m' ρ')
    rw [(hag c).1, (hag c).2]
    funext i
    pointwise! [result]

end Cert.Proof.DwInClaim

end
-- ==== Proof.ProjClaim.lean ====
/-
  The combined input projection.
-/
module

public import proofs.«01_k».proof.Defs
public import proofs.«01_k».proof.Proof.Sums
public import proofs.«01_k».proof.Proof.Gen.ProjIdeal.Value
public import proofs.«01_k».proof.Proof.Gen.ProjRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ProjIdeal.Product

open Cert.ProjIdeal Cert.ProjIdeal.Gen

variable (m : (ℓ : Loc nD τ sig) → Buf (Elt Ideal) ℓ)

/-- The product. -/
def result (a : FVec Ideal S4096x2048 .bf16) (b : FVec Ideal S2048x10752 .bf16) : FVec Ideal S4096x10752 .f32 :=
  fun i => ∑ k : Fin 2048, a (ix2 (i 0) k) * b (ix2 k (i 1))

/-- Every window's block index at every grid point. -/
theorem idx : ∀ t : Fin cfg0.N, win0_0.index t = ![t.val % 8, 0]
    ∧ win0_1.index t = ![0, t.val / 8]
    ∧ win0_2.index t = ![t.val % 8, t.val / 8] :=
  (by decide +kernel : ∀ t : Fin grid0.N, _)

/-- The array of the result after the run. -/
theorem final (c : Dev nD) : (dats m 0 c).arrAt 2 (cfgs 0).N
    = result (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, result]
  blk_point [iblk, V, idx t]

end Cert.ProjIdeal.Product

namespace Cert.Proof.ProjClaim

open Cert.ProjIdeal.Product

/-- The reference leaves its arguments as they were. -/
theorem frame_ref : Cert.quiescent_ProjRefIdeal := fun m ρ _ =>
  (θ_run Cert.ProjRefIdeal.defs _ _).mono (fun r h => ⟨fun c => (h c).2,
      Idealize.ShloMosaic.sem_eq_zero_of_no_sems (by decide) r.2⟩)
    (Cert.ProjRefIdeal.Value.run (F := Ideal) m ρ)

/-- The kernel's result is that of the reference. -/
theorem algebraic : Cert.algebraic_ProjIdeal_ProjRefIdeal := by
  intro m ρ m' ρ' _ hag
  refine ⟨fun c => result (m ((c.tc : Thread _ _).loc Cert.ProjIdeal.main_arg0)) (m ((c.tc : Thread _ _).loc Cert.ProjIdeal.main_arg1)), ?_, ?_⟩
  · exact (θ_run Cert.ProjIdeal.defs _ _).mono (fun _ h c => ⟨(h c).1.trans (final m c), (h c).2⟩)
      (Cert.ProjIdeal.Value.run_blocks (F := Ideal) m ρ)
  · refine (θ_run Cert.ProjRefIdeal.defs _ _).mono (fun _ h c => ⟨(h c).1.trans ?_, (h c).2⟩)
      (Cert.ProjRefIdeal.Value.run (F := Ideal) m' ρ')
    rw [(hag c).1, (hag c).2]
    funext i
    pointwise! [result]

end Cert.Proof.ProjClaim

end
-- ==== Proof.SumSmallClaim.lean ====
/-
  The sum of the eight devices' shares of the packed gradients.
-/
module

public import proofs.«01_k».proof.Defs
public import proofs.«01_k».proof.Proof.Gen.SumSmallIdeal.Value
public import proofs.«01_k».proof.Proof.Gen.SumSmallRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SumSmallIdeal.Slots

open Cert.SumSmallIdeal Cert.SumSmallIdeal.Gen

variable (m : (ℓ : Loc nD τ sig) → Buf (Elt Ideal) ℓ)

/-- The sum over the eight devices. -/
def total (g : FVec Ideal S8x512x128 .f32) : FVec Ideal S512x128 .f32 :=
  fun i => ∑ q : Fin 8, g (ix3 q (i 0) (i 1))

/-- Every window's block index at every grid point. -/
theorem idx : ∀ t : Fin cfg0.N, win0_0.index t = ![0, t.val, 0] ∧ win0_1.index t = ![t.val, 0] :=
  (by decide +kernel : ∀ t : Fin grid0.N, _)

/-- The array of the result after the run. -/
theorem final (c : Dev nD) : (dats m 0 c).arrAt 1 (cfgs 0).N = total (m ((c : Thread nD τ).loc main_arg0)) := by
  refine (dats m 0 c).arrAt_eq_of_covers 1 _ (by decide +kernel) fun t _ y => ?_
  blk_simp
  rw [after0_1]
  frame_out
  pointwise [k0_pay1, total]
  rw [Fin.sum_univ_eight]
  blk_point [iblk, V, idx t]

end Cert.SumSmallIdeal.Slots

namespace Cert.Proof.SumSmallClaim

open Cert.SumSmallIdeal.Slots

/-- The reference leaves its arguments as they were. -/
theorem frame_ref : Cert.quiescent_SumSmallRefIdeal := fun m ρ _ =>
  (θ_run Cert.SumSmallRefIdeal.defs _ _).mono (fun r h => ⟨fun c => (h c).2,
      Idealize.ShloMosaic.sem_eq_zero_of_no_sems (by decide) r.2⟩)
    (Cert.SumSmallRefIdeal.Value.run (F := Ideal) m ρ)

/-- The kernel's results are those of the reference. -/
theorem algebraic : Cert.algebraic_SumSmallIdeal_SumSmallRefIdeal := by
  intro m ρ m' ρ' _ hag
  refine ⟨fun c => total (m ((c.tc : Thread _ _).loc Cert.SumSmallIdeal.main_arg0)), ?_, ?_⟩
  · exact (θ_run Cert.SumSmallIdeal.defs _ _).mono (fun _ h c => ⟨(h c).1.trans (final m c), (h c).2⟩)
      (Cert.SumSmallIdeal.Value.run_blocks (F := Ideal) m ρ)
  · refine (θ_run Cert.SumSmallRefIdeal.defs _ _).mono (fun _ h c => ⟨(h c).1.trans ?_, (h c).2⟩)
      (Cert.SumSmallRefIdeal.Value.run (F := Ideal) m' ρ')
    · rw [hag c]
      funext i
      pointwise! [total]

end Cert.Proof.SumSmallClaim

end
-- ==== Proof.SumMidClaim.lean ====
/-
  The sum of the eight devices' shares of the packed gradients.
-/
module

public import proofs.«01_k».proof.Defs
public import proofs.«01_k».proof.Proof.Gen.SumMidIdeal.Value
public import proofs.«01_k».proof.Proof.Gen.SumMidRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SumMidIdeal.Slots

open Cert.SumMidIdeal Cert.SumMidIdeal.Gen

variable (m : (ℓ : Loc nD τ sig) → Buf (Elt Ideal) ℓ)

/-- The sum over the eight devices. -/
def total (g : FVec Ideal S8x2048x128 .f32) : FVec Ideal S2048x128 .f32 :=
  fun i => ∑ q : Fin 8, g (ix3 q (i 0) (i 1))

/-- Every window's block index at every grid point. -/
theorem idx : ∀ t : Fin cfg0.N, win0_0.index t = ![0, t.val, 0] ∧ win0_1.index t = ![t.val, 0] :=
  (by decide +kernel : ∀ t : Fin grid0.N, _)

/-- The array of the result after the run. -/
theorem final (c : Dev nD) : (dats m 0 c).arrAt 1 (cfgs 0).N = total (m ((c : Thread nD τ).loc main_arg0)) := by
  refine (dats m 0 c).arrAt_eq_of_covers 1 _ (by decide +kernel) fun t _ y => ?_
  blk_simp
  rw [after0_1]
  frame_out
  pointwise [k0_pay1, total]
  rw [Fin.sum_univ_eight]
  blk_point [iblk, V, idx t]

end Cert.SumMidIdeal.Slots

namespace Cert.Proof.SumMidClaim

open Cert.SumMidIdeal.Slots

/-- The reference leaves its arguments as they were. -/
theorem frame_ref : Cert.quiescent_SumMidRefIdeal := fun m ρ _ =>
  (θ_run Cert.SumMidRefIdeal.defs _ _).mono (fun r h => ⟨fun c => (h c).2,
      Idealize.ShloMosaic.sem_eq_zero_of_no_sems (by decide) r.2⟩)
    (Cert.SumMidRefIdeal.Value.run (F := Ideal) m ρ)

/-- The kernel's results are those of the reference. -/
theorem algebraic : Cert.algebraic_SumMidIdeal_SumMidRefIdeal := by
  intro m ρ m' ρ' _ hag
  refine ⟨fun c => total (m ((c.tc : Thread _ _).loc Cert.SumMidIdeal.main_arg0)), ?_, ?_⟩
  · exact (θ_run Cert.SumMidIdeal.defs _ _).mono (fun _ h c => ⟨(h c).1.trans (final m c), (h c).2⟩)
      (Cert.SumMidIdeal.Value.run_blocks (F := Ideal) m ρ)
  · refine (θ_run Cert.SumMidRefIdeal.defs _ _).mono (fun _ h c => ⟨(h c).1.trans ?_, (h c).2⟩)
      (Cert.SumMidRefIdeal.Value.run (F := Ideal) m' ρ')
    · rw [hag c]
      funext i
      pointwise! [total]

end Cert.Proof.SumMidClaim

end
-- ==== Proof.AdamSmallClaim.lean ====
/-
  One step of AdamW on packed weights: the gradient handed on, the update, the new first and second moments.
-/
module

public import proofs.«01_k».proof.Defs
public import proofs.«01_k».proof.Proof.Gen.AdamSmallIdeal.Value
public import proofs.«01_k».proof.Proof.Gen.AdamSmallRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamSmallIdeal.Step

open Cert.AdamSmallIdeal Cert.AdamSmallIdeal.Gen

variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The gradient, handed on. -/
def grad (g : FVec Ideal S512x128 .f32) : FVec Ideal S512x128 .f32 := fun i => g i

/-- The new first moment. -/
def newM (g m : FVec Ideal S512x128 .f32) : FVec Ideal S512x128 .f32 := fun i => (Ideal.ofBits .f32 0x3F666666#32 : EReal) * m i + (Ideal.ofBits .f32 0x3DCCCCCD#32 : EReal) * g i

/-- The new second moment. -/
def newV (g v : FVec Ideal S512x128 .f32) : FVec Ideal S512x128 .f32 := fun i => (Ideal.ofBits .f32 0x3F7FBE77#32 : EReal) * v i + (Ideal.ofBits .f32 0x3A83126F#32 : EReal) * (g i * g i)

/-- The update: the first moment over the root of the second, both with their corrections, and the weight decay. -/
def delta (w g m v : FVec Ideal S512x128 .f32) : FVec Ideal S512x128 .f32 := fun i =>
  (Ideal.ofBits .f32 0xBA83126F#32 : EReal) * (Ideal.div (Ideal.div (newM g m i) (Ideal.ofBits .f32 0x3F26BD02#32 : EReal))
    (Ideal.sqrt (Ideal.div (newV g v i) (Ideal.ofBits .f32 0x3C231ACC#32 : EReal)) + (Ideal.ofBits .f32 0x322BCC77#32 : EReal)) + (Ideal.ofBits .f32 0x3C23D70A#32 : EReal) * w i)

/-- The array of result 0 after the run. -/
theorem final_grad (c : Dev nD) : (dats m 0 c).arrAt 4 (cfgs 0).N = grad (m ((c : Thread nD τ).loc main_arg1)) := by
  refine (dats m 0 c).arrAt_eq_of_covers 4 _ (by decide +kernel) fun t _ y => ?_
  blk_simp
  rw [after0_4]
  frame_out
  pointwise [k0_pay1, k0_pay2, k0_pay3, grad]

  blk_point [iblk, V, idx t]

/-- The array of result 1 after the run. -/
theorem final_delta (c : Dev nD) : (dats m 0 c).arrAt 5 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay1, k0_pay2, k0_pay3, delta, newM, newV]

  blk_point [iblk, V, idx t]

/-- The array of result 2 after the run. -/
theorem final_newM (c : Dev nD) : (dats m 0 c).arrAt 6 (cfgs 0).N = newM (m ((c : Thread nD τ).loc main_arg1)) (m ((c : Thread nD τ).loc main_arg2)) := by
  refine (dats m 0 c).arrAt_eq_of_covers 6 _ (by decide +kernel) fun t _ y => ?_
  blk_simp
  rw [after0_6]
  frame_out
  pointwise [k0_pay1, k0_pay2, k0_pay3, newM]

  blk_point [iblk, V, idx t]

/-- The array of result 3 after the run. -/
theorem final_newV (c : Dev nD) : (dats m 0 c).arrAt 7 (cfgs 0).N = newV (m ((c : Thread nD τ).loc main_arg1)) (m ((c : Thread nD τ).loc main_arg3)) := by
  refine (dats m 0 c).arrAt_eq_of_covers 7 _ (by decide +kernel) fun t _ y => ?_
  blk_simp
  rw [after0_7]
  frame_out
  pointwise [k0_pay1, k0_pay2, k0_pay3, newV]

  blk_point [iblk, V, idx t]

end Cert.AdamSmallIdeal.Step

namespace Cert.Proof.AdamSmallClaim

open Cert.AdamSmallIdeal.Step

/-- The reference leaves its arguments as they were. -/
theorem frame_ref : Cert.quiescent_AdamSmallRefIdeal := fun m ρ _ =>
  (θ_run Cert.AdamSmallRefIdeal.defs _ _).mono (fun r h => ⟨fun c => (h c).2.2.2.2,
      Idealize.ShloMosaic.sem_eq_zero_of_no_sems (by decide) r.2⟩)
    (Cert.AdamSmallRefIdeal.Value.run (F := Ideal) m ρ)

/-- The kernel's results are those of the reference. -/
theorem algebraic : Cert.algebraic_AdamSmallIdeal_AdamSmallRefIdeal := by
  intro m ρ m' ρ' _ hag
  refine ⟨fun c => grad (m ((c.tc : Thread _ _).loc Cert.AdamSmallIdeal.main_arg1)), fun c => delta (m ((c.tc : Thread _ _).loc Cert.AdamSmallIdeal.main_arg0)) (m ((c.tc : Thread _ _).loc Cert.AdamSmallIdeal.main_arg1)) (m ((c.tc : Thread _ _).loc Cert.AdamSmallIdeal.main_arg2)) (m ((c.tc : Thread _ _).loc Cert.AdamSmallIdeal.main_arg3)), fun c => newM (m ((c.tc : Thread _ _).loc Cert.AdamSmallIdeal.main_arg1)) (m ((c.tc : Thread _ _).loc Cert.AdamSmallIdeal.main_arg2)), fun c => newV (m ((c.tc : Thread _ _).loc Cert.AdamSmallIdeal.main_arg1)) (m ((c.tc : Thread _ _).loc Cert.AdamSmallIdeal.main_arg3)), ?_, ?_⟩
  · exact (θ_run Cert.AdamSmallIdeal.defs _ _).mono (fun _ h c => ⟨(h c).1.trans (final_grad m c), (h c).2.1.trans (final_delta m c), (h c).2.2.1.trans (final_newM m c), (h c).2.2.2.1.trans (final_newV m c), (h c).2.2.2.2⟩)
      (Cert.AdamSmallIdeal.Value.run_blocks (F := Ideal) m ρ)
  · refine (θ_run Cert.AdamSmallRefIdeal.defs _ _).mono (fun _ h c => ⟨(h c).1.trans ?_, (h c).2.1.trans ?_, (h c).2.2.1.trans ?_, (h c).2.2.2.1.trans ?_, (h c).2.2.2.2⟩)
      (Cert.AdamSmallRefIdeal.Value.run (F := Ideal) m' ρ')
    · rw [(hag c).2.1]
      funext i
      pointwise! [grad, newM, newV, delta]
    · rw [(hag c).1, (hag c).2.1, (hag c).2.2.1, (hag c).2.2.2]
      funext i
      pointwise! [grad, newM, newV, delta]
    · rw [(hag c).2.1, (hag c).2.2.1]
      funext i
      pointwise! [grad, newM, newV, delta]
    · rw [(hag c).2.1, (hag c).2.2.2]
      funext i
      pointwise! [grad, newM, newV, delta]

end Cert.Proof.AdamSmallClaim

end
-- ==== Proof.AdamMidClaim.lean ====
/-
  One step of AdamW on packed weights: the gradient handed on, the update, the new first and second moments.
-/
module

public import proofs.«01_k».proof.Defs
public import proofs.«01_k».proof.Proof.Gen.AdamMidIdeal.Value
public import proofs.«01_k».proof.Proof.Gen.AdamMidRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamMidIdeal.Step

open Cert.AdamMidIdeal Cert.AdamMidIdeal.Gen

variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The gradient, handed on. -/
def grad (g : FVec Ideal S2048x128 .f32) : FVec Ideal S2048x128 .f32 := fun i => g i

/-- The new first moment. -/
def newM (g m : FVec Ideal S2048x128 .f32) : FVec Ideal S2048x128 .f32 := fun i => (Ideal.ofBits .f32 0x3F666666#32 : EReal) * m i + (Ideal.ofBits .f32 0x3DCCCCCD#32 : EReal) * g i

/-- The new second moment. -/
def newV (g v : FVec Ideal S2048x128 .f32) : FVec Ideal S2048x128 .f32 := fun i => (Ideal.ofBits .f32 0x3F7FBE77#32 : EReal) * v i + (Ideal.ofBits .f32 0x3A83126F#32 : EReal) * (g i * g i)

/-- The update: the first moment over the root of the second, both with their corrections, and the weight decay. -/
def delta (w g m v : FVec Ideal S2048x128 .f32) : FVec Ideal S2048x128 .f32 := fun i =>
  (Ideal.ofBits .f32 0xBA83126F#32 : EReal) * (Ideal.div (Ideal.div (newM g m i) (Ideal.ofBits .f32 0x3F26BD02#32 : EReal))
    (Ideal.sqrt (Ideal.div (newV g v i) (Ideal.ofBits .f32 0x3C231ACC#32 : EReal)) + (Ideal.ofBits .f32 0x322BCC77#32 : EReal)) + (Ideal.ofBits .f32 0x3C23D70A#32 : EReal) * w i)

/-- The array of result 0 after the run. -/
theorem final_grad (c : Dev nD) : (dats m 0 c).arrAt 4 (cfgs 0).N = grad (m ((c : Thread nD τ).loc main_arg1)) := by
  refine (dats m 0 c).arrAt_eq_of_covers 4 _ (by decide +kernel) fun t _ y => ?_
  blk_simp
  rw [after0_4]
  frame_out
  pointwise [k0_pay1, k0_pay2, k0_pay3, grad]

  blk_point [iblk, V, idx t]

/-- The array of result 1 after the run. -/
theorem final_delta (c : Dev nD) : (dats m 0 c).arrAt 5 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay1, k0_pay2, k0_pay3, delta, newM, newV]

  blk_point [iblk, V, idx t]

/-- The array of result 2 after the run. -/
theorem final_newM (c : Dev nD) : (dats m 0 c).arrAt 6 (cfgs 0).N = newM (m ((c : Thread nD τ).loc main_arg1)) (m ((c : Thread nD τ).loc main_arg2)) := by
  refine (dats m 0 c).arrAt_eq_of_covers 6 _ (by decide +kernel) fun t _ y => ?_
  blk_simp
  rw [after0_6]
  frame_out
  pointwise [k0_pay1, k0_pay2, k0_pay3, newM]

  blk_point [iblk, V, idx t]

/-- The array of result 3 after the run. -/
theorem final_newV (c : Dev nD) : (dats m 0 c).arrAt 7 (cfgs 0).N = newV (m ((c : Thread nD τ).loc main_arg1)) (m ((c : Thread nD τ).loc main_arg3)) := by
  refine (dats m 0 c).arrAt_eq_of_covers 7 _ (by decide +kernel) fun t _ y => ?_
  blk_simp
  rw [after0_7]
  frame_out
  pointwise [k0_pay1, k0_pay2, k0_pay3, newV]

  blk_point [iblk, V, idx t]

end Cert.AdamMidIdeal.Step

namespace Cert.Proof.AdamMidClaim

open Cert.AdamMidIdeal.Step

/-- The reference leaves its arguments as they were. -/
theorem frame_ref : Cert.quiescent_AdamMidRefIdeal := fun m ρ _ =>
  (θ_run Cert.AdamMidRefIdeal.defs _ _).mono (fun r h => ⟨fun c => (h c).2.2.2.2,
      Idealize.ShloMosaic.sem_eq_zero_of_no_sems (by decide) r.2⟩)
    (Cert.AdamMidRefIdeal.Value.run (F := Ideal) m ρ)

/-- The kernel's results are those of the reference. -/
theorem algebraic : Cert.algebraic_AdamMidIdeal_AdamMidRefIdeal := by
  intro m ρ m' ρ' _ hag
  refine ⟨fun c => grad (m ((c.tc : Thread _ _).loc Cert.AdamMidIdeal.main_arg1)), fun c => delta (m ((c.tc : Thread _ _).loc Cert.AdamMidIdeal.main_arg0)) (m ((c.tc : Thread _ _).loc Cert.AdamMidIdeal.main_arg1)) (m ((c.tc : Thread _ _).loc Cert.AdamMidIdeal.main_arg2)) (m ((c.tc : Thread _ _).loc Cert.AdamMidIdeal.main_arg3)), fun c => newM (m ((c.tc : Thread _ _).loc Cert.AdamMidIdeal.main_arg1)) (m ((c.tc : Thread _ _).loc Cert.AdamMidIdeal.main_arg2)), fun c => newV (m ((c.tc : Thread _ _).loc Cert.AdamMidIdeal.main_arg1)) (m ((c.tc : Thread _ _).loc Cert.AdamMidIdeal.main_arg3)), ?_, ?_⟩
  · exact (θ_run Cert.AdamMidIdeal.defs _ _).mono (fun _ h c => ⟨(h c).1.trans (final_grad m c), (h c).2.1.trans (final_delta m c), (h c).2.2.1.trans (final_newM m c), (h c).2.2.2.1.trans (final_newV m c), (h c).2.2.2.2⟩)
      (Cert.AdamMidIdeal.Value.run_blocks (F := Ideal) m ρ)
  · refine (θ_run Cert.AdamMidRefIdeal.defs _ _).mono (fun _ h c => ⟨(h c).1.trans ?_, (h c).2.1.trans ?_, (h c).2.2.1.trans ?_, (h c).2.2.2.1.trans ?_, (h c).2.2.2.2⟩)
      (Cert.AdamMidRefIdeal.Value.run (F := Ideal) m' ρ')
    · rw [(hag c).2.1]
      funext i
      pointwise! [grad, newM, newV, delta]
    · rw [(hag c).1, (hag c).2.1, (hag c).2.2.1, (hag c).2.2.2]
      funext i
      pointwise! [grad, newM, newV, delta]
    · rw [(hag c).2.1, (hag c).2.2.1]
      funext i
      pointwise! [grad, newM, newV, delta]
    · rw [(hag c).2.1, (hag c).2.2.2]
      funext i
      pointwise! [grad, newM, newV, delta]

end Cert.Proof.AdamMidClaim

end
-- ==== Proof.Rms.lean ====
/-
  The derivative of the root-mean-square normalisation: what the kernel computes with the normalised row is what
  the chain rule gives, whatever the entries are.
-/
module

public import proofs.«01_k».proof.Defs
public import Idealize.ShloMosaic.Lib.IdealHost

@[expose] public section

noncomputable section

open Idealize.ShloMosaic

namespace Cert.Rms

/-- The row length, 2048. -/
theorem len_val : (Ideal.ofBits .f32 0x45000000#32 : EReal) = ((2048 : ℝ) : EReal) := by
  simp [Ideal.ofBits, Ideal.ieee, -EReal.coe_mul]; norm_num

/-- Minus one half. -/
theorem neg_half : (Ideal.ofBits .f32 0xBF000000#32 : EReal) = ((-(1 / 2) : ℝ) : EReal) := by
  simp [Ideal.ofBits, Ideal.ieee, -EReal.coe_mul, -EReal.coe_neg]; norm_num

/-- The number added under the root. -/
theorem eps_val : (Ideal.ofBits .f32 0x358637BD#32 : EReal) = ((8796093 * (2 ^ 43)⁻¹ : ℝ) : EReal) := by
  simp [Ideal.ofBits, Ideal.ieee, -EReal.coe_mul, -EReal.coe_pow, zpow_neg]

/-- It is positive. -/
theorem eps_pos : (0 : EReal) < Ideal.ofBits .f32 0x358637BD#32 := by
  rw [eps_val]
  exact EReal.coe_pos.mpr (by positivity)

/-- A quotient by the row length is a product with a real. -/
theorem div_len (x : EReal) : Ideal.div x (Ideal.ofBits .f32 0x45000000#32 : EReal) = x * ((1 / 2048 : ℝ) : EReal) := by
  rw [len_val, Ideal.div, if_neg (by norm_cast), ← EReal.coe_inv, one_div]

theorem sq_nonneg (x : EReal) : 0 ≤ x * x := by
  induction x with
  | bot => simp
  | top => simp
  | coe r => exact_mod_cast mul_self_nonneg r

/-- A factor that is finite and not negative may be taken out of a sum. -/
theorem mul_sum {ι : Type} (s : Finset ι) (f : ι → EReal) {r : EReal} (h0 : 0 ≤ r) (ht : r ≠ ⊤) :
    r * ∑ l ∈ s, f l = ∑ l ∈ s, r * f l := by
  classical
  induction s using Finset.induction_on with
  | empty => simp
  | insert a s ha ih => rw [Finset.sum_insert ha, Finset.sum_insert ha, EReal.left_distrib_of_nonneg_of_ne_top h0 ht, ih]

/-- The mean square of a row, made positive. -/
def meanSq (x : Fin 2048 → EReal) : EReal :=
  Ideal.div (∑ l, x l * x l) (Ideal.ofBits .f32 0x45000000#32 : EReal) + (Ideal.ofBits .f32 0x358637BD#32 : EReal)

/-- The inverse root of a row's mean square. -/
def invRoot (x : Fin 2048 → EReal) : EReal := Ideal.rsqrt (meanSq x)

theorem meanSq_pos (x : Fin 2048 → EReal) : 0 < meanSq x := by
  unfold meanSq
  rw [div_len]
  refine lt_of_lt_of_le eps_pos ?_
  refine le_add_of_nonneg_left (mul_nonneg (Finset.sum_nonneg fun l _ => sq_nonneg _) ?_)
  exact_mod_cast (by norm_num)

/-- Either the mean square is infinite and its inverse root zero, or the inverse root is a positive real and its
    quotient by the mean square its cube. -/
theorem invRoot_cases (x : Fin 2048 → EReal) :
    (invRoot x = 0 ∧ Ideal.div (invRoot x) (meanSq x) = 0)
      ∨ ∃ r : ℝ, 0 < r ∧ invRoot x = (r : EReal) ∧ Ideal.div (invRoot x) (meanSq x) = ((r ^ 3 : ℝ) : EReal) := by
  have hp := meanSq_pos x
  unfold invRoot
  generalize meanSq x = a at hp ⊢
  induction a with
  | bot => simp at hp
  | top => left; simp [Ideal.div]
  | coe v =>
    right
    have hv : 0 < v := by exact_mod_cast hp
    have hs : 0 < Real.sqrt v := Real.sqrt_pos.mpr hv
    refine ⟨(Real.sqrt v)⁻¹, inv_pos.mpr hs, ?_, ?_⟩
    · rw [Ideal.rsqrt_coe, if_neg (not_lt.mpr hv.le), if_neg hv.ne']
    · rw [Ideal.rsqrt_coe, if_neg (not_lt.mpr hv.le), if_neg hv.ne', Ideal.div, if_neg (by exact_mod_cast hv.ne'),
        ← EReal.coe_inv, ← EReal.coe_mul]
      congr 1
      have h2 : v = Real.sqrt v * Real.sqrt v := (Real.mul_self_sqrt hv.le).symm
      rw [show v⁻¹ = (Real.sqrt v)⁻¹ * (Real.sqrt v)⁻¹ by rw [← mul_inv, ← h2]]
      ring

theorem invRoot_nonneg (x : Fin 2048 → EReal) : 0 ≤ invRoot x := by
  rcases invRoot_cases x with ⟨h, _⟩ | ⟨r, hr, h, _⟩ <;> rw [h]
  exact_mod_cast hr.le

theorem invRoot_ne_top (x : Fin 2048 → EReal) : invRoot x ≠ ⊤ := by
  rcases invRoot_cases x with ⟨h, _⟩ | ⟨r, hr, h, _⟩ <;> rw [h] <;> simp

/-- Twice half a negative multiple. -/
theorem twice_half (b : ℝ) (hb : 0 < b) (p : EReal) :
    p * ((-(b / 2) : ℝ) : EReal) + p * ((-(b / 2) : ℝ) : EReal) = -(p * (b : EReal)) := by
  induction p with
  | bot =>
    rw [EReal.bot_mul_coe_of_neg (by linarith), EReal.bot_mul_coe_of_pos hb]; simp
  | top =>
    rw [EReal.top_mul_coe_of_neg (by linarith), EReal.top_mul_coe_of_pos hb]; simp
  | coe v =>
    rw [← EReal.coe_mul, ← EReal.coe_mul, ← EReal.coe_add, ← EReal.coe_neg]
    congr 1; ring

/-- One entry of the gradient with respect to the row: the kernel's form and the chain rule's. -/
theorem grad_entry (x y : Fin 2048 → EReal) (p q : EReal) :
    invRoot x * (q - p * invRoot x * Ideal.div (∑ l, y l * (x l * invRoot x)) (Ideal.ofBits .f32 0x45000000#32 : EReal))
      = q * invRoot x
        + p * Ideal.div ((∑ l, x l * y l) * ((Ideal.ofBits .f32 0xBF000000#32 : EReal) * Ideal.div (invRoot x) (meanSq x))) (Ideal.ofBits .f32 0x45000000#32 : EReal)
        + Ideal.div ((∑ l, x l * y l) * ((Ideal.ofBits .f32 0xBF000000#32 : EReal) * Ideal.div (invRoot x) (meanSq x))) (Ideal.ofBits .f32 0x45000000#32 : EReal) * p := by
  have hs : (∑ l, y l * (x l * invRoot x)) = invRoot x * ∑ l, x l * y l := by
    rw [mul_sum _ _ (invRoot_nonneg x) (invRoot_ne_top x)]
    exact Finset.sum_congr rfl fun l _ => by rw [← mul_assoc, mul_comm, mul_comm (y l)]
  rw [hs, div_len, div_len, neg_half]
  generalize (∑ l, x l * y l) = s
  rcases invRoot_cases x with ⟨h, h'⟩ | ⟨r, hr, h, h'⟩
  · rw [h', h]; simp
  · rw [h', h, ← EReal.coe_mul]
    have h1 : p * (s * ((-(1 / 2) * r ^ 3 : ℝ) : EReal) * ((1 / 2048 : ℝ) : EReal)) = p * s * ((-((r ^ 3 / 2048) / 2) : ℝ) : EReal) := by
      rw [mul_assoc s, ← EReal.coe_mul, ← mul_assoc]
      congr 2; ring
    rw [add_assoc, mul_comm _ p, h1, twice_half _ (by positivity), sub_eq_add_neg,
      EReal.left_distrib_of_nonneg_of_ne_top (by exact_mod_cast hr.le) (EReal.coe_ne_top _), mul_comm (r : EReal) q,
      mul_neg]
    congr 2
    calc (r : EReal) * (p * r * (r * s * ((1 / 2048 : ℝ) : EReal)))
        = p * s * ((r : EReal) * (r : EReal) * (r : EReal) * ((1 / 2048 : ℝ) : EReal)) := by
          simp only [mul_comm, mul_left_comm, mul_assoc]
      _ = _ := by
          rw [← EReal.coe_mul, ← EReal.coe_mul, ← EReal.coe_mul]
          congr 2; ring

end Cert.Rms

end
-- ==== Proof.RmsFwdClaim.lean ====
/-
  The root-mean-square normalisation of the rows.
-/
module

public import proofs.«01_k».proof.Defs
public import proofs.«01_k».proof.Proof.Rms
public import proofs.«01_k».proof.Proof.Gen.RmsFwdIdeal.Value
public import proofs.«01_k».proof.Proof.Gen.RmsFwdRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.RmsFwdIdeal.Norm

open Cert.RmsFwdIdeal Cert.RmsFwdIdeal.Gen Cert.Rms

variable (m : (ℓ : Loc nD τ sig) → Buf (Elt Ideal) ℓ)

/-- The normalised rows, times the gain. -/
def norm (x : FVec Ideal S4096x2048 .f32) (g : FVec Ideal S2048 .f32) : FVec Ideal S4096x2048 .bf16 :=
  fun i => x i * invRoot (fun l => x (ix2 (i 0) l)) * g (ix1 (i 1))

/-- Every window's block index at every grid point. -/
theorem idx : ∀ t : Fin cfg0.N, win0_0.index t = ![t.val, 0] ∧ win0_1.index t = ![0, 0] ∧ win0_2.index t = ![t.val, 0] :=
  (by decide +kernel : ∀ t : Fin grid0.N, _)

/-- The gain's window at entry is the gain as one row. -/
theorem entry_gain (c : Dev nD) (j : S1x2048.Idx) :
    V m c main_v0 j = m ((c : Thread nD τ).loc main_arg1) (ix1 (j 1)) := by
  entry_read
  pointwise

/-- The array of the result after the run. -/
theorem final (c : Dev nD) : (dats m 0 c).arrAt 2 (cfgs 0).N = norm (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, norm, invRoot, meanSq]
  refine congrArg₂ (fun p q : EReal => p * q) ?_ ?_
  · blk_point [iblk, V, idx t]
  · blk_point [iblk, idx t]

end Cert.RmsFwdIdeal.Norm

namespace Cert.Proof.RmsFwdClaim

open Cert.RmsFwdIdeal.Norm

/-- The reference leaves its arguments as they were. -/
theorem frame_ref : Cert.quiescent_RmsFwdRefIdeal := fun m ρ _ =>
  (θ_run Cert.RmsFwdRefIdeal.defs _ _).mono (fun r h => ⟨fun c => (h c).2,
      Idealize.ShloMosaic.sem_eq_zero_of_no_sems (by decide) r.2⟩)
    (Cert.RmsFwdRefIdeal.Value.run (F := Ideal) m ρ)

/-- The kernel's results are those of the reference. -/
theorem algebraic : Cert.algebraic_RmsFwdIdeal_RmsFwdRefIdeal := by
  intro m ρ m' ρ' _ hag
  refine ⟨fun c => norm (m ((c.tc : Thread _ _).loc Cert.RmsFwdIdeal.main_arg0)) (m ((c.tc : Thread _ _).loc Cert.RmsFwdIdeal.main_arg1)), ?_, ?_⟩
  · exact (θ_run Cert.RmsFwdIdeal.defs _ _).mono (fun _ h c => ⟨(h c).1.trans (final m c), (h c).2⟩)
      (Cert.RmsFwdIdeal.Value.run_blocks (F := Ideal) m ρ)
  · refine (θ_run Cert.RmsFwdRefIdeal.defs _ _).mono (fun _ h c => ⟨(h c).1.trans ?_, (h c).2⟩)
      (Cert.RmsFwdRefIdeal.Value.run (F := Ideal) m' ρ')
    · rw [(hag c).1, (hag c).2]
      funext i
      pointwise! [Norm.norm, Cert.Rms.invRoot, Cert.Rms.meanSq]

end Cert.Proof.RmsFwdClaim

end
-- ==== Proof.RmsBwdClaim.lean ====
/-
  The gradient of the root-mean-square normalisation, with the residual's gradient added.
-/
module

public import proofs.«01_k».proof.Defs
public import proofs.«01_k».proof.Proof.Rms
public import proofs.«01_k».proof.Proof.Sums
public import proofs.«01_k».proof.Proof.Gen.RmsBwdIdeal.Value
public import proofs.«01_k».proof.Proof.Gen.RmsBwdRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.RmsBwdIdeal.Norm

open Cert.RmsBwdIdeal Cert.RmsBwdIdeal.Gen Cert.Rms

variable (m : (ℓ : Loc nD τ sig) → Buf (Elt Ideal) ℓ)

/-- The gradient at the normalised row's input, the residual's gradient added. -/
def dRow (x : FVec Ideal S4096x2048 .f32) (g : FVec Ideal S2048 .f32) (dh dres : FVec Ideal S4096x2048 .f32) : FVec Ideal S4096x2048 .f32 := fun i =>
  dres i + invRoot (fun l => x (ix2 (i 0) l)) * (dh i * g (ix1 (i 1)) - x i * invRoot (fun l => x (ix2 (i 0) l))
    * Ideal.div (∑ l : Fin 2048, dh (ix2 (i 0) l) * g (ix1 l) * (x (ix2 (i 0) l) * invRoot (fun l => x (ix2 (i 0) l)))) (Ideal.ofBits .f32 0x45000000#32 : EReal))

/-- The same, stored in sixteen bits. -/
def dRowShort (x : FVec Ideal S4096x2048 .f32) (g : FVec Ideal S2048 .f32) (dh dres : FVec Ideal S4096x2048 .f32) : FVec Ideal S4096x2048 .bf16 := fun i =>
  dRow x g dh dres i

/-- The gradient of the gain. -/
def dGain (x dh : FVec Ideal S4096x2048 .f32) : FVec Ideal S1x2048 .f32 := fun i =>
  ∑ k : Fin 4096, dh (ix2 k (i 1)) * (x (ix2 k (i 1)) * invRoot (fun l => x (ix2 k l)))

/-- Every window's block index at every grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- The gain's window at entry is the gain as one row. -/
theorem entry_gain (c : Dev nD) (j : S1x2048.Idx) :
    V m c main_v0 j = m ((c : Thread nD τ).loc main_arg1) (ix1 (j 1)) := by
  entry_read
  pointwise

theorem hpay4 (x dh : FVec Ideal S64x2048 .f32) (g : FVec Ideal S1x2048 .f32) (dres : FVec Ideal S64x2048 .f32) (j : S64x2048.Idx) :
    k0_pay4 (F := Ideal) x dh g dres j = dres j + invRoot (fun l => x (ix2 (j 0) l)) * (dh j * g (ix2 0 (j 1)) - x j * invRoot (fun l => x (ix2 (j 0) l))
    * Ideal.div (∑ l : Fin 2048, dh (ix2 (j 0) l) * g (ix2 0 l) * (x (ix2 (j 0) l) * invRoot (fun l => x (ix2 (j 0) l)))) (Ideal.ofBits .f32 0x45000000#32 : EReal)) := by
  pointwise [k0_pay4, k0_pay3, k0_pay2, invRoot, meanSq]

/-- The block of the gradient, read in the arrays. -/
theorem block (c : Dev nD) (t : Fin cfg0.N) (j : S64x2048.Idx) (i : S4096x2048.Idx) (hi : i = ix2 ⟨t.val * 64 + (j 0).val, by
      have h0 : (j 0).val < 64 := (j 0).isLt
      have hN : t.val < 64 := lt_of_lt_of_eq t.isLt N_0
      omega⟩ (j 1)) :
    k0_pay4 (F := Ideal) (iblk m c 0 t) (iblk m c 2 t) (iblk m c 1 t) (iblk m c 3 t) j = dRow (m ((c : Thread nD τ).loc main_arg0)) (m ((c : Thread nD τ).loc main_arg1)) (m ((c : Thread nD τ).loc main_arg2)) (m ((c : Thread nD τ).loc main_arg3)) i := by
  subst hi
  refine (hpay4 _ _ _ _ _).trans ?_
  unfold dRow
  blk_point [iblk, V, idx t]

/-- The array of result 0 after the run. -/
theorem final_dRow (c : Dev nD) : (dats m 0 c).arrAt 4 (cfgs 0).N = dRow (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h0 : t.val % 64 = 0
  · rw [outsAt0_A m c t h0]
    frame_out

    exact block m c t _ _ (by blk_ext [idx t])
  · rw [outsAt0_B m c t h0]
    frame_out
    exact block m c t _ _ (by blk_ext [idx t])

/-- The array of result 1 after the run. -/
theorem final_dRowShort (c : Dev nD) : (dats m 0 c).arrAt 5 (cfgs 0).N = dRowShort (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  by_cases h0 : t.val % 64 = 0
  · rw [outsAt0_A m c t h0]
    frame_out

    exact block m c t _ _ (by blk_ext [idx t])
  · rw [outsAt0_B m c t h0]
    frame_out
    exact block m c t _ _ (by blk_ext [idx t])

/-- What one point adds to the gain's gradient. -/
def part (c : Dev nD) (j : S1x2048.Idx) (n : ℕ) (h : n < cfg0.N) : EReal :=
  ∑ k : Fin 64, (show FVec Ideal S64x2048 .f32 from iblk m c 2 ⟨n, h⟩) (ix2 k (j 1)) * ((show FVec Ideal S64x2048 .f32 from iblk m c 0 ⟨n, h⟩) (ix2 k (j 1)) * invRoot (fun l => (show FVec Ideal S64x2048 .f32 from iblk m c 0 ⟨n, h⟩) (ix2 k l)))

theorem hpay1 (x dh : FVec Ideal S64x2048 .f32) (acc : FVec Ideal S1x2048 .f32) (j : S1x2048.Idx) :
    k0_pay1 (F := Ideal) (k0_pay3 (F := Ideal) x) dh acc j = acc j + ∑ k : Fin 64, dh (ix2 k (j 1)) * (x (ix2 k (j 1)) * invRoot (fun l => x (ix2 k l))) := by
  pointwise [k0_pay1, k0_pay3, k0_pay2, invRoot, meanSq]

/-- At the last point the buffer and the last part are the sum over all points. -/
theorem total (c : Dev nD) (j : S1x2048.Idx) (t : ℕ) (h : t < cfg0.N) (ht : t % 64 = 64 - 1) :
    (outsAt0 m c (t - 1) (by omega)).2.2 j + part m c j t h
      = ∑ i : Fin 64, part m c j (64 * (t / 64) + i.val) (by have := i.isLt; have := Nat.div_add_mod t 64; omega) :=
  Cert.Sums.run_total 64 (by decide) (fun n h => (outsAt0 m c n h).2.2 j) (part m c j)
    (fun n h h0 => by
      show (outsAt0 m c n h).2.2 j = _
      rw [outsAt0_A m c ⟨n, h⟩ h0]
      frame_out

      refine (hpay1 _ _ _ _).trans ?_
      pointwise [k0_pay6, part])
    (fun n h h0 h1 => by
      show (outsAt0 m c n h).2.2 j = _
      rw [outsAt0_B m c ⟨n, h⟩ h0]
      frame_out
      refine (hpay1 _ _ _ _).trans ?_
      rfl) t h ht

/-- The array of the gain's gradient after the run. -/
theorem final_dGain (c : Dev nD) : (dats m 0 c).arrAt 6 (cfgs 0).N = dGain (m ((c : Thread nD τ).loc main_arg0)) (m ((c : Thread nD τ).loc main_arg2)) := by
  refine (dats m 0 c).arrAt_eq_of_covers 6 _ (by decide +kernel) fun t hf y => ?_
  have ht : t.val % 64 = 63 := (flush0_6 t).mp hf
  have hN : t.val < 64 := lt_of_lt_of_eq t.isLt N_0
  blk_simp
  rw [after0_6, outsAt0_B m c t (by omega)]
  frame_out
  refine (hpay1 _ _ _ _).trans ?_
  refine (total m c y t.val t.isLt ht).trans ?_
  refine Fin.sum_mul_add_congr fun s k hl => ?_
  dsimp only [part]
  blk_point [iblk, V, idx t, idx ⟨_, Pipeline.run_point_lt_of_flush t ht s⟩, hl]

end Cert.RmsBwdIdeal.Norm

namespace Cert.Proof.RmsBwdClaim

open Cert.RmsBwdIdeal.Norm

/-- The reference leaves its arguments as they were. -/
theorem frame_ref : Cert.quiescent_RmsBwdRefIdeal := fun m ρ _ =>
  (θ_run Cert.RmsBwdRefIdeal.defs _ _).mono (fun r h => ⟨fun c => (h c).2.2.2,
      Idealize.ShloMosaic.sem_eq_zero_of_no_sems (by decide) r.2⟩)
    (Cert.RmsBwdRefIdeal.Value.run (F := Ideal) m ρ)

/-- The kernel's results are those of the reference. -/
theorem algebraic : Cert.algebraic_RmsBwdIdeal_RmsBwdRefIdeal := by
  intro m ρ m' ρ' _ hag
  refine ⟨fun c => dRow (m ((c.tc : Thread _ _).loc Cert.RmsBwdIdeal.main_arg0)) (m ((c.tc : Thread _ _).loc Cert.RmsBwdIdeal.main_arg1)) (m ((c.tc : Thread _ _).loc Cert.RmsBwdIdeal.main_arg2)) (m ((c.tc : Thread _ _).loc Cert.RmsBwdIdeal.main_arg3)), fun c => dRowShort (m ((c.tc : Thread _ _).loc Cert.RmsBwdIdeal.main_arg0)) (m ((c.tc : Thread _ _).loc Cert.RmsBwdIdeal.main_arg1)) (m ((c.tc : Thread _ _).loc Cert.RmsBwdIdeal.main_arg2)) (m ((c.tc : Thread _ _).loc Cert.RmsBwdIdeal.main_arg3)), fun c => dGain (m ((c.tc : Thread _ _).loc Cert.RmsBwdIdeal.main_arg0)) (m ((c.tc : Thread _ _).loc Cert.RmsBwdIdeal.main_arg2)), ?_, ?_⟩
  · exact (θ_run Cert.RmsBwdIdeal.defs _ _).mono (fun _ h c => ⟨(h c).1.trans (final_dRow m c), (h c).2.1.trans (final_dRowShort m c), (h c).2.2.1.trans (final_dGain m c), (h c).2.2.2⟩)
      (Cert.RmsBwdIdeal.Value.run_blocks (F := Ideal) m ρ)
  · refine (θ_run Cert.RmsBwdRefIdeal.defs _ _).mono (fun _ h c => ⟨(h c).1.trans ?_, (h c).2.1.trans ?_, (h c).2.2.1.trans ?_, (h c).2.2.2⟩)
      (Cert.RmsBwdRefIdeal.Value.run (F := Ideal) m' ρ')
    · rw [(hag c).1, (hag c).2.1, (hag c).2.2.1, (hag c).2.2.2]
      funext i
      clear h hag
      pointwise
      simp only [Fin.sum_univ_one]
      exact congrArg (fun z : EReal => (show EReal from (m (c.tc.loc Cert.RmsBwdIdeal.main_arg3)) i) + z) (Cert.Rms.grad_entry (fun l => (show EReal from (m (c.tc.loc Cert.RmsBwdIdeal.main_arg0)) (ix2 (i 0) l))) (fun l => (show EReal from (m (c.tc.loc Cert.RmsBwdIdeal.main_arg2)) (ix2 (i 0) l)) * (show EReal from (m (c.tc.loc Cert.RmsBwdIdeal.main_arg1)) (ix1 l))) _ _).symm
    · rw [(hag c).1, (hag c).2.1, (hag c).2.2.1, (hag c).2.2.2]
      funext i
      clear h hag
      pointwise
      simp only [Fin.sum_univ_one]
      exact congrArg (fun z : EReal => (show EReal from (m (c.tc.loc Cert.RmsBwdIdeal.main_arg3)) i) + z) (Cert.Rms.grad_entry (fun l => (show EReal from (m (c.tc.loc Cert.RmsBwdIdeal.main_arg0)) (ix2 (i 0) l))) (fun l => (show EReal from (m (c.tc.loc Cert.RmsBwdIdeal.main_arg2)) (ix2 (i 0) l)) * (show EReal from (m (c.tc.loc Cert.RmsBwdIdeal.main_arg1)) (ix1 l))) _ _).symm
    · rw [(hag c).1, (hag c).2.2.1]
      funext i
      clear h hag
      pointwise
      simp only [Fin.sum_univ_one]
      exact Finset.sum_congr rfl fun k _ => mul_comm _ _

end Cert.Proof.RmsBwdClaim

end
-- ==== Proof.LossHeadClaim.lean ====
/-
  The loss of one device and its gradients at the last layer's output and at the last gain.
-/
module

public import proofs.«01_k».proof.Defs
public import proofs.«01_k».proof.Proof.Rms
public import proofs.«01_k».proof.Proof.Sums
public import proofs.«01_k».proof.Proof.Gen.LossHeadIdeal.Value
public import proofs.«01_k».proof.Proof.Gen.LossHeadRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.LossHeadIdeal.Loss

open Cert.LossHeadIdeal Cert.LossHeadIdeal.Gen Cert.Rms

variable (m : (ℓ : Loc nD τ sig) → Buf (Elt Ideal) ℓ)

/-- The difference of a normalised entry and its target. -/
def err (x : Fin 2048 → EReal) (g t : EReal) (p : EReal) : EReal := p * invRoot x * g - t

/-- One entry of the gradient at the row. -/
def dEntry (x g t : Fin 2048 → EReal) (p h u : EReal) : EReal :=
  invRoot x * (err x h u p * (Ideal.ofBits .f32 0x3A000000#32 : EReal) * h - p * invRoot x
    * Ideal.div (∑ l : Fin 2048, err x (g l) (t l) (x l) * (Ideal.ofBits .f32 0x3A000000#32 : EReal) * g l * (x l * invRoot x)) (Ideal.ofBits .f32 0x45000000#32 : EReal))

/-- The loss, in every place of a small block. -/
def loss (x : FVec Ideal S4096x2048 .f32) (g : FVec Ideal S2048 .f32) (t : FVec Ideal S4096x2048 .f32) : FVec Ideal S8x128 .f32 := fun i =>
  ∑ k : Fin 64, (∑ a : Fin 64, ∑ l : Fin 2048,
    err (fun l => x (ix2 ⟨k.val * 64 + a.val, by omega⟩ l)) (g (ix1 l)) (t (ix2 ⟨k.val * 64 + a.val, by omega⟩ l)) (x (ix2 ⟨k.val * 64 + a.val, by omega⟩ l))
    * err (fun l => x (ix2 ⟨k.val * 64 + a.val, by omega⟩ l)) (g (ix1 l)) (t (ix2 ⟨k.val * 64 + a.val, by omega⟩ l)) (x (ix2 ⟨k.val * 64 + a.val, by omega⟩ l))) * (Ideal.ofBits .f32 0x39800000#32 : EReal)

/-- The gradient at the row. -/
def dRow (x : FVec Ideal S4096x2048 .f32) (g : FVec Ideal S2048 .f32) (t : FVec Ideal S4096x2048 .f32) : FVec Ideal S4096x2048 .f32 := fun i =>
  dEntry (fun l => x (ix2 (i 0) l)) (fun l => g (ix1 l)) (fun l => t (ix2 (i 0) l)) (x i) (g (ix1 (i 1))) (t i)

/-- The same, stored in sixteen bits. -/
def dRowShort (x : FVec Ideal S4096x2048 .f32) (g : FVec Ideal S2048 .f32) (t : FVec Ideal S4096x2048 .f32) : FVec Ideal S4096x2048 .bf16 := fun i => dRow x g t i

/-- The gradient of the gain. -/
def dGain (x : FVec Ideal S4096x2048 .f32) (g : FVec Ideal S2048 .f32) (t : FVec Ideal S4096x2048 .f32) : FVec Ideal S1x2048 .f32 := fun i =>
  ∑ k : Fin 4096, err (fun l => x (ix2 k l)) (g (ix1 (i 1))) (t (ix2 k (i 1))) (x (ix2 k (i 1))) * (Ideal.ofBits .f32 0x3A000000#32 : EReal) * (x (ix2 k (i 1)) * invRoot (fun l => x (ix2 k l)))

/-- Every window's block index at every grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem hpay8 (x t : FVec Ideal S64x2048 .f32) (g : FVec Ideal S1x2048 .f32) (j : S64x2048.Idx) :
    k0_pay8 (F := Ideal) x g t j = dEntry (fun l => x (ix2 (j 0) l)) (fun l => g (ix2 0 l)) (fun l => t (ix2 (j 0) l)) (x j) (g (ix2 0 (j 1))) (t j) := by
  pointwise [k0_pay8, k0_pay7, k0_pay6, k0_pay5, k0_pay4, k0_pay3, dEntry, err, invRoot, meanSq]

theorem rowLt (t : Fin cfg0.N) (a : Fin 64) : t.val * 64 + a.val < 4096 := by
  have hN : t.val < 64 := lt_of_lt_of_eq t.isLt N_0
  omega

theorem blk0 (c : Dev nD) (t : Fin cfg0.N) (a : Fin 64) (l : Fin 2048) :
    (show FVec Ideal S64x2048 .f32 from iblk m c 0 t) (ix2 a l) = (m ((c : Thread nD τ).loc main_arg0)) (ix2 ⟨t.val * 64 + a.val, rowLt t a⟩ l) := by
  blk_point [iblk, V, idx t]

theorem blk1 (c : Dev nD) (t : Fin cfg0.N) (l : Fin 2048) :
    (show FVec Ideal S1x2048 .f32 from iblk m c 1 t) (ix2 0 l) = (m ((c : Thread nD τ).loc main_arg1)) (ix1 l) := by
  blk_point [iblk, V, idx t]

theorem blk2 (c : Dev nD) (t : Fin cfg0.N) (a : Fin 64) (l : Fin 2048) :
    (show FVec Ideal S64x2048 .f32 from iblk m c 2 t) (ix2 a l) = (m ((c : Thread nD τ).loc main_arg2)) (ix2 ⟨t.val * 64 + a.val, rowLt t a⟩ l) := by
  blk_point [iblk, V, idx t]

/-- The block of the gradient, read in the arrays. -/
theorem block (c : Dev nD) (t : Fin cfg0.N) (j : S64x2048.Idx) (i : S4096x2048.Idx) (hi : i = ix2 ⟨t.val * 64 + (j 0).val, by
      have h0 : (j 0).val < 64 := (j 0).isLt
      have hN : t.val < 64 := lt_of_lt_of_eq t.isLt N_0
      omega⟩ (j 1)) :
    k0_pay8 (F := Ideal) (iblk m c 0 t) (iblk m c 1 t) (iblk m c 2 t) j = dRow (m ((c : Thread nD τ).loc main_arg0)) (m ((c : Thread nD τ).loc main_arg1)) (m ((c : Thread nD τ).loc main_arg2)) i := by
  subst hi
  refine (hpay8 _ _ _ _).trans ?_
  have e0 : (show FVec Ideal S64x2048 .f32 from iblk m c 0 t) j = (m ((c : Thread nD τ).loc main_arg0)) (ix2 ⟨t.val * 64 + (j 0).val, rowLt t (j 0)⟩ (j 1)) := by blk_point [iblk, V, idx t]
  have e2 : (show FVec Ideal S64x2048 .f32 from iblk m c 2 t) j = (m ((c : Thread nD τ).loc main_arg2)) (ix2 ⟨t.val * 64 + (j 0).val, rowLt t (j 0)⟩ (j 1)) := by blk_point [iblk, V, idx t]
  rw [show (iblk m c 0 t : FVec Ideal S64x2048 .f32) j = _ from e0, show (iblk m c 2 t : FVec Ideal S64x2048 .f32) j = _ from e2]
  unfold dRow
  congr 1
  · funext l; exact blk0 m c t _ l
  · funext l; exact blk1 m c t l
  · funext l; exact blk2 m c t _ l
  · exact blk1 m c t _

/-- The array of result 1 after the run. -/
theorem final_dRow (c : Dev nD) : (dats m 0 c).arrAt 4 (cfgs 0).N = dRow (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  by_cases h0 : t.val % 64 = 0
  · rw [outsAt0_A m c t h0]
    frame_out
    exact block m c t _ _ (by blk_ext [idx t])
  · rw [outsAt0_B m c t h0]
    frame_out
    exact block m c t _ _ (by blk_ext [idx t])

/-- The array of result 2 after the run. -/
theorem final_dRowShort (c : Dev nD) : (dats m 0 c).arrAt 5 (cfgs 0).N = dRowShort (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  by_cases h0 : t.val % 64 = 0
  · rw [outsAt0_A m c t h0]
    frame_out
    exact block m c t _ _ (by blk_ext [idx t])
  · rw [outsAt0_B m c t h0]
    frame_out
    exact block m c t _ _ (by blk_ext [idx t])

/-- What one point adds to the gain's gradient. -/
def partGain (c : Dev nD) (j : S1x2048.Idx) (n : ℕ) (h : n < cfg0.N) : EReal :=
  ∑ k : Fin 64, err (fun l => (show FVec Ideal S64x2048 .f32 from iblk m c 0 ⟨n, h⟩) (ix2 k l)) ((show FVec Ideal S1x2048 .f32 from iblk m c 1 ⟨n, h⟩) (ix2 0 (j 1))) ((show FVec Ideal S64x2048 .f32 from iblk m c 2 ⟨n, h⟩) (ix2 k (j 1))) ((show FVec Ideal S64x2048 .f32 from iblk m c 0 ⟨n, h⟩) (ix2 k (j 1))) * (Ideal.ofBits .f32 0x3A000000#32 : EReal) * ((show FVec Ideal S64x2048 .f32 from iblk m c 0 ⟨n, h⟩) (ix2 k (j 1)) * invRoot (fun l => (show FVec Ideal S64x2048 .f32 from iblk m c 0 ⟨n, h⟩) (ix2 k l)))

theorem hpay1 (x t : FVec Ideal S64x2048 .f32) (g acc : FVec Ideal S1x2048 .f32) (j : S1x2048.Idx) :
    k0_pay1 (F := Ideal) (k0_pay4 (F := Ideal) x) (k0_pay7 (F := Ideal) x g t) acc j = acc j + ∑ k : Fin 64, err (fun l => x (ix2 k l)) (g (ix2 0 (j 1))) (t (ix2 k (j 1))) (x (ix2 k (j 1))) * (Ideal.ofBits .f32 0x3A000000#32 : EReal) * (x (ix2 k (j 1)) * invRoot (fun l => x (ix2 k l))) := by
  pointwise [k0_pay1, k0_pay7, k0_pay6, k0_pay5, k0_pay4, k0_pay3, err, invRoot, meanSq]

/-- What one point adds to the loss. -/
def partLoss (c : Dev nD) (n : ℕ) (h : n < cfg0.N) : EReal :=
  (∑ k : Fin 64, ∑ l : Fin 2048, err (fun l => (show FVec Ideal S64x2048 .f32 from iblk m c 0 ⟨n, h⟩) (ix2 k l)) ((show FVec Ideal S1x2048 .f32 from iblk m c 1 ⟨n, h⟩) (ix2 0 l)) ((show FVec Ideal S64x2048 .f32 from iblk m c 2 ⟨n, h⟩) (ix2 k l)) ((show FVec Ideal S64x2048 .f32 from iblk m c 0 ⟨n, h⟩) (ix2 k l))
    * err (fun l => (show FVec Ideal S64x2048 .f32 from iblk m c 0 ⟨n, h⟩) (ix2 k l)) ((show FVec Ideal S1x2048 .f32 from iblk m c 1 ⟨n, h⟩) (ix2 0 l)) ((show FVec Ideal S64x2048 .f32 from iblk m c 2 ⟨n, h⟩) (ix2 k l)) ((show FVec Ideal S64x2048 .f32 from iblk m c 0 ⟨n, h⟩) (ix2 k l))) * (Ideal.ofBits .f32 0x39800000#32 : EReal)

theorem hpay2 (x t : FVec Ideal S64x2048 .f32) (g : FVec Ideal S1x2048 .f32) (acc : FVec Ideal S8x128 .f32) (j : S8x128.Idx) :
    k0_pay2 (F := Ideal) (k0_pay6 (F := Ideal) x g t) acc j = acc j + (∑ k : Fin 64, ∑ l : Fin 2048, err (fun l => x (ix2 k l)) (g (ix2 0 l)) (t (ix2 k l)) (x (ix2 k l))
    * err (fun l => x (ix2 k l)) (g (ix2 0 l)) (t (ix2 k l)) (x (ix2 k l))) * (Ideal.ofBits .f32 0x39800000#32 : EReal) := by
  pointwise [k0_pay2, k0_pay6, k0_pay5, k0_pay4, k0_pay3, err, invRoot, meanSq]

/-- At the last point the buffer and the last part are the sum over all points. -/
theorem totalGain (c : Dev nD) (j : S1x2048.Idx) (t : ℕ) (h : t < cfg0.N) (ht : t % 64 = 64 - 1) :
    (outsAt0 m c (t - 1) (by omega)).2.2.2 j + partGain m c j t h
      = ∑ i : Fin 64, partGain m c j (64 * (t / 64) + i.val) (by have := i.isLt; have := Nat.div_add_mod t 64; omega) :=
  Cert.Sums.run_total 64 (by decide) (fun n h => (outsAt0 m c n h).2.2.2 j) (partGain m c j)
    (fun n h h0 => by
      show (outsAt0 m c n h).2.2.2 j = _
      rw [outsAt0_A m c ⟨n, h⟩ h0]
      frame_out
      refine (hpay1 _ _ _ _ _).trans ?_
      pointwise [k0_pay10, partGain])
    (fun n h h0 h1 => by
      show (outsAt0 m c n h).2.2.2 j = _
      rw [outsAt0_B m c ⟨n, h⟩ h0]
      frame_out
      refine (hpay1 _ _ _ _ _).trans ?_
      rfl) t h ht

/-- At the last point the buffer and the last part are the sum over all points. -/
theorem totalLoss (c : Dev nD) (j : S8x128.Idx) (t : ℕ) (h : t < cfg0.N) (ht : t % 64 = 64 - 1) :
    (outsAt0 m c (t - 1) (by omega)).1 j + partLoss m c t h
      = ∑ i : Fin 64, partLoss m c (64 * (t / 64) + i.val) (by have := i.isLt; have := Nat.div_add_mod t 64; omega) :=
  Cert.Sums.run_total 64 (by decide) (fun n h => (outsAt0 m c n h).1 j) (partLoss m c)
    (fun n h h0 => by
      show (outsAt0 m c n h).1 j = _
      rw [outsAt0_A m c ⟨n, h⟩ h0]
      frame_out
      refine (hpay2 _ _ _ _ _).trans ?_
      pointwise [k0_pay11, partLoss])
    (fun n h h0 h1 => by
      show (outsAt0 m c n h).1 j = _
      rw [outsAt0_B m c ⟨n, h⟩ h0]
      frame_out
      refine (hpay2 _ _ _ _ _).trans ?_
      rfl) t h ht

/-- The array of the gain's gradient after the run. -/
theorem final_dGain (c : Dev nD) : (dats m 0 c).arrAt 6 (cfgs 0).N = dGain (m ((c : Thread nD τ).loc main_arg0)) (m ((c : Thread nD τ).loc main_arg1)) (m ((c : Thread nD τ).loc main_arg2)) := by
  refine (dats m 0 c).arrAt_eq_of_covers 6 _ (by decide +kernel) fun t hf y => ?_
  have ht : t.val % 64 = 63 := (flush0_6 t).mp hf
  have hN : t.val < 64 := lt_of_lt_of_eq t.isLt N_0
  blk_simp
  rw [after0_6, outsAt0_B m c t (by omega)]
  frame_out
  refine (hpay1 _ _ _ _ _).trans ?_
  refine (totalGain m c y t.val t.isLt ht).trans ?_
  refine Fin.sum_mul_add_congr fun s k hl => ?_
  dsimp only [err]
  blk_point [iblk, V, idx t, idx ⟨_, Pipeline.run_point_lt_of_flush t ht s⟩, hl]

/-- The array of the loss after the run. -/
theorem final_loss (c : Dev nD) : (dats m 0 c).arrAt 3 (cfgs 0).N = loss (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val % 64 = 63 := (flush0_3 t).mp hf
  have hN : t.val < 64 := lt_of_lt_of_eq t.isLt N_0
  blk_simp
  rw [after0_3, outsAt0_B m c t (by omega)]
  frame_out
  refine (hpay2 _ _ _ _ _).trans ?_
  refine (totalLoss m c y t.val t.isLt ht).trans ?_
  refine Finset.sum_congr rfl fun s _ => ?_
  refine congrArg (fun z : EReal => z * (Ideal.ofBits .f32 0x39800000#32 : EReal)) ?_
  refine Finset.sum_congr rfl fun a _ => ?_
  refine Finset.sum_congr rfl fun l _ => ?_
  dsimp only [err]
  blk_point [iblk, V, idx t, idx ⟨_, Pipeline.run_point_lt_of_flush t ht s⟩]

end Cert.LossHeadIdeal.Loss

namespace Cert.Proof.LossHeadClaim

open Cert.LossHeadIdeal.Loss

/-- The reference leaves its arguments as they were. -/
theorem frame_ref : Cert.quiescent_LossHeadRefIdeal := fun m ρ _ =>
  (θ_run Cert.LossHeadRefIdeal.defs _ _).mono (fun r h => ⟨fun c => (h c).2.2.2.2,
      Idealize.ShloMosaic.sem_eq_zero_of_no_sems (by decide) r.2⟩)
    (Cert.LossHeadRefIdeal.Value.run (F := Ideal) m ρ)

/-- The factor one half. -/
theorem half_val : (Ideal.ofBits .f32 0x3F000000#32 : EReal) = ((1 / 2 : ℝ) : EReal) := by
  simp [Ideal.ofBits, Ideal.ieee, -EReal.coe_mul]; norm_num

/-- The factor two. -/
theorem two_val : (Ideal.ofBits .f32 0x40000000#32 : EReal) = ((2 : ℝ) : EReal) := by
  simp [Ideal.ofBits, Ideal.ieee, -EReal.coe_mul]; norm_num

/-- One over the row length. -/
theorem inv_len : (Ideal.ofBits .f32 0x3A000000#32 : EReal) = ((1 / 2048 : ℝ) : EReal) := by
  simp [Ideal.ofBits, Ideal.ieee, -EReal.coe_mul]; norm_num

/-- One half over the row length. -/
theorem half_inv_len : (Ideal.ofBits .f32 0x39800000#32 : EReal) = ((1 / 4096 : ℝ) : EReal) := by
  simp [Ideal.ofBits, Ideal.ieee, -EReal.coe_mul]; norm_num

/-- The derivative of half the mean of a square. -/
theorem half_two (e : EReal) : Ideal.div (Ideal.ofBits .f32 0x3F000000#32 : EReal) (Ideal.ofBits .f32 0x45000000#32 : EReal) * ((Ideal.ofBits .f32 0x40000000#32 : EReal) * e) = e * (Ideal.ofBits .f32 0x3A000000#32 : EReal) := by
  rw [Cert.Rms.div_len, half_val, two_val, inv_len, ← mul_assoc, ← EReal.coe_mul, ← EReal.coe_mul, mul_comm e]
  congr 2; norm_num

/-- The loss summed by blocks of rows, each block's sum times its factor. -/
theorem half_sum (f : Fin 4096 → EReal) :
    (Ideal.ofBits .f32 0x3F000000#32 : EReal) * ∑ x, Ideal.div (f x) (Ideal.ofBits .f32 0x45000000#32 : EReal)
      = ∑ k : Fin 64, (∑ a : Fin 64, f ⟨k.val * 64 + a.val, by omega⟩) * (Ideal.ofBits .f32 0x39800000#32 : EReal) := by
  simp only [Cert.Rms.div_len]
  rw [half_val, half_inv_len, Cert.Rms.mul_sum _ _ (by exact_mod_cast (by norm_num)) (EReal.coe_ne_top _)]
  refine Eq.trans ?_ (Finset.sum_congr rfl fun k _ => (Cert.Rms.mul_sum Finset.univ (fun a : Fin 64 => f ⟨k.val * 64 + a.val, by omega⟩) (r := ((1 / 4096 : ℝ) : EReal)) (by exact_mod_cast (by norm_num)) (EReal.coe_ne_top _)).symm.trans (mul_comm _ _))
  refine (Fin.sum_mul_add_congr fun s k hl => ?_).symm
  rw [mul_comm (f _), ← mul_assoc, ← EReal.coe_mul]
  congr 2; norm_num

/-- The kernel's results are those of the reference. -/
theorem algebraic : Cert.algebraic_LossHeadIdeal_LossHeadRefIdeal := by
  intro m ρ m' ρ' _ hag
  refine ⟨fun c => loss (m ((c.tc : Thread _ _).loc Cert.LossHeadIdeal.main_arg0)) (m ((c.tc : Thread _ _).loc Cert.LossHeadIdeal.main_arg1)) (m ((c.tc : Thread _ _).loc Cert.LossHeadIdeal.main_arg2)), fun c => dRow (m ((c.tc : Thread _ _).loc Cert.LossHeadIdeal.main_arg0)) (m ((c.tc : Thread _ _).loc Cert.LossHeadIdeal.main_arg1)) (m ((c.tc : Thread _ _).loc Cert.LossHeadIdeal.main_arg2)), fun c => dRowShort (m ((c.tc : Thread _ _).loc Cert.LossHeadIdeal.main_arg0)) (m ((c.tc : Thread _ _).loc Cert.LossHeadIdeal.main_arg1)) (m ((c.tc : Thread _ _).loc Cert.LossHeadIdeal.main_arg2)), fun c => dGain (m ((c.tc : Thread _ _).loc Cert.LossHeadIdeal.main_arg0)) (m ((c.tc : Thread _ _).loc Cert.LossHeadIdeal.main_arg1)) (m ((c.tc : Thread _ _).loc Cert.LossHeadIdeal.main_arg2)), ?_, ?_⟩
  · exact (θ_run Cert.LossHeadIdeal.defs _ _).mono (fun _ h c => ⟨(h c).1.trans (final_loss m c), (h c).2.1.trans (final_dRow m c), (h c).2.2.1.trans (final_dRowShort m c), (h c).2.2.2.1.trans (final_dGain m c), (h c).2.2.2.2⟩)
      (Cert.LossHeadIdeal.Value.run_blocks (F := Ideal) m ρ)
  · refine (θ_run Cert.LossHeadRefIdeal.defs _ _).mono (fun _ h c => ⟨(h c).1.trans ?_, (h c).2.1.trans ?_, (h c).2.2.1.trans ?_, (h c).2.2.2.1.trans ?_, (h c).2.2.2.2⟩)
      (Cert.LossHeadRefIdeal.Value.run (F := Ideal) m' ρ')
    · rw [(hag c).1, (hag c).2.1, (hag c).2.2]
      funext i
      clear h hag
      pointwise
      exact half_sum _
    · unfold Cert.LossHeadRefIdeal.Value.res_main_v50
      rw [(hag c).1, (hag c).2.1, (hag c).2.2]
      funext i
      clear h hag
      pointwise
      simp only [Fin.sum_univ_one, half_two]
      exact (Cert.Rms.grad_entry (fun l => (show EReal from (m (c.tc.loc Cert.LossHeadIdeal.main_arg0)) (ix2 (i 0) l))) (fun l => (err (fun l => (show EReal from (m (c.tc.loc Cert.LossHeadIdeal.main_arg0)) (ix2 (i 0) l))) (show EReal from (m (c.tc.loc Cert.LossHeadIdeal.main_arg1)) (ix1 l)) (show EReal from (m (c.tc.loc Cert.LossHeadIdeal.main_arg2)) (ix2 (i 0) l)) (show EReal from (m (c.tc.loc Cert.LossHeadIdeal.main_arg0)) (ix2 (i 0) l))) * (Ideal.ofBits .f32 0x3A000000#32 : EReal) * (show EReal from (m (c.tc.loc Cert.LossHeadIdeal.main_arg1)) (ix1 l))) _ _).symm
    · unfold Cert.LossHeadRefIdeal.Value.res_main_v52
      rw [(hag c).1, (hag c).2.1, (hag c).2.2]
      funext i
      clear h hag
      pointwise
      simp only [Fin.sum_univ_one, half_two]
      exact (Cert.Rms.grad_entry (fun l => (show EReal from (m (c.tc.loc Cert.LossHeadIdeal.main_arg0)) (ix2 (i 0) l))) (fun l => (err (fun l => (show EReal from (m (c.tc.loc Cert.LossHeadIdeal.main_arg0)) (ix2 (i 0) l))) (show EReal from (m (c.tc.loc Cert.LossHeadIdeal.main_arg1)) (ix1 l)) (show EReal from (m (c.tc.loc Cert.LossHeadIdeal.main_arg2)) (ix2 (i 0) l)) (show EReal from (m (c.tc.loc Cert.LossHeadIdeal.main_arg0)) (ix2 (i 0) l))) * (Ideal.ofBits .f32 0x3A000000#32 : EReal) * (show EReal from (m (c.tc.loc Cert.LossHeadIdeal.main_arg1)) (ix1 l))) _ _).symm
    · rw [(hag c).1, (hag c).2.1, (hag c).2.2]
      funext i
      clear h hag
      pointwise
      simp only [Fin.sum_univ_one, half_two]
      exact Finset.sum_congr rfl fun k _ => mul_comm _ _

end Cert.Proof.LossHeadClaim

end
-- ==== Proof.Pick.lean ====
/-
  A choice between four values by two words, as a kernel writes it and as plain conditions.
-/
module

public import Idealize.ShloMosaic.Lib.Pipeline.ValueKit

@[expose] public section

namespace Cert.Pick

open Idealize.ShloMosaic

/-- A selection by the comparison of two words. -/
theorem select_word {α : Type} (a b : BitVec 32) (x y : α) :
    Scalar.select (Scalar.cmpi .eq a b) x y = if a = b then x else y := by
  by_cases h : a = b
  · simp [Scalar.select, Scalar.cmpi, IntOp.cmpi, h]
  · have hb : (a == b) = false := by simp [h]
    simp [Scalar.select, Scalar.cmpi, IntOp.cmpi, h, hb]

/-- The choice by half and then by layer is the choice by layer and then by half. -/
theorem half_layer {α : Type} (l : ℕ) (hl : l < 2) (q k : BitVec 32) (a b e d : α) :
    Scalar.select (IntOp.cmpi .eq q k) (if _h : l < 1 then a else b) (if _h : l < 1 then e else d)
      = Scalar.select (Scalar.cmpi .eq (BitVec.ofNat 32 l) 1#32) (Scalar.select (Scalar.cmpi .eq q k) b d)
          (Scalar.select (Scalar.cmpi .eq q k) a e) := by
  rw [show IntOp.cmpi .eq q k = Scalar.cmpi .eq q k from rfl]
  simp only [select_word]
  obtain rfl | rfl : l = 0 ∨ l = 1 := by omega
  · simp
  · simp

end Cert.Pick

end
-- ==== Proof.AdamInClaim.lean ====
/-
  One step of AdamW on a quarter-wise laid out weight: the gradient picked by layer and half, the update, the new first and
  second moments.
-/
module

public import proofs.«01_k».proof.Defs
public import proofs.«01_k».proof.Proof.Pick
public import Idealize.ShloMosaic.Lib.Pipeline.Covers
public import proofs.«01_k».proof.Proof.Gen.AdamInIdeal.Frame
public import proofs.«01_k».proof.Proof.Gen.AdamInRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamInIdeal.Step

open Cert.AdamInIdeal Cert.AdamInIdeal.Gen

variable (m : (ℓ : Loc nD τ sig) → Buf (Elt Ideal) ℓ)

/-- No window's place depends on the table of words. -/
theorem free : Ok m := trivial

/-- The place of a weight's block: its layer, its half and its band of rows. -/
theorem spot : ∀ t : Fin grid0.N, cc0_transform_0 (grid0.coords t) = ![t.val / 64, t.val / 32 % 2, t.val % 32, 0] ∧ cc0_transform_1 (grid0.coords t) = ![t.val % 32, 0]
    ∧ (grid0.coords t 0).val = t.val / 64 ∧ (grid0.coords t 1).val = t.val / 32 % 2 := by decide +kernel

/-- Every window's block index at every grid point. -/
theorem idx (t : Fin (cfgM m (free m)).N) : ((cfgM m (free m)).win 0).index t = ![t.val / 64, t.val / 32 % 2, t.val % 32, 0]
    ∧ ((cfgM m (free m)).win 1).index t = ![t.val % 32, 0] ∧ ((cfgM m (free m)).win 2).index t = ![t.val % 32, 0]
    ∧ ((cfgM m (free m)).win 3).index t = ![t.val % 32, 0] ∧ ((cfgM m (free m)).win 4).index t = ![t.val % 32, 0]
    ∧ ((cfgM m (free m)).win 5).index t = ![t.val / 64, t.val / 32 % 2, t.val % 32, 0] ∧ ((cfgM m (free m)).win 6).index t = ![t.val / 64, t.val / 32 % 2, t.val % 32, 0]
    ∧ ((cfgM m (free m)).win 7).index t = ![t.val / 64, t.val / 32 % 2, t.val % 32, 0] ∧ ((cfgM m (free m)).win 8).index t = ![t.val / 64, t.val / 32 % 2, t.val % 32, 0]
    ∧ ((cfgM m (free m)).win 9).index t = ![t.val / 64, t.val / 32 % 2, t.val % 32, 0] ∧ ((cfgM m (free m)).win 10).index t = ![t.val / 64, t.val / 32 % 2, t.val % 32, 0] :=
  ⟨(spot t).1, (spot t).2.1, (spot t).2.1, (spot t).2.1, (spot t).2.1, (spot t).1, (spot t).1, (spot t).1, (spot t).1, (spot t).1, (spot t).1⟩

/-- The gradient of the whole weight: a half from this core's own two arrays, the other from the neighbour's. -/
def grad (k : Vec Ideal S1 .i32) (a b e d : FVec Ideal S1024x2564 .f32) : FVec Ideal S2x2x1024x2564 .f32 := fun i =>
  Scalar.select (Scalar.cmpi .eq (BitVec.ofNat 32 (i 0).val) 1#32) (Scalar.select (Scalar.cmpi .eq (BitVec.ofNat 32 (i 1).val) (k (ix1 0))) (b (ix2 (i 2) (i 3))) (d (ix2 (i 2) (i 3))))
    (Scalar.select (Scalar.cmpi .eq (BitVec.ofNat 32 (i 1).val) (k (ix1 0))) (a (ix2 (i 2) (i 3))) (e (ix2 (i 2) (i 3))))

/-- The new first moment. -/
def newM (g m : FVec Ideal S2x2x1024x2564 .f32) : FVec Ideal S2x2x1024x2564 .f32 := fun i => (Ideal.ofBits .f32 0x3F666666#32 : EReal) * m i + (Ideal.ofBits .f32 0x3DCCCCCD#32 : EReal) * g i

/-- The new second moment. -/
def newV (g v : FVec Ideal S2x2x1024x2564 .f32) : FVec Ideal S2x2x1024x2564 .f32 := fun i => (Ideal.ofBits .f32 0x3F7FBE77#32 : EReal) * v i + (Ideal.ofBits .f32 0x3A83126F#32 : EReal) * (g i * g i)

/-- The update: the first moment over the root of the second, both with their corrections, and the weight decay. -/
def delta (w g m v : FVec Ideal S2x2x1024x2564 .f32) : FVec Ideal S2x2x1024x2564 .f32 := fun i =>
  (Ideal.ofBits .f32 0xBA83126F#32 : EReal) * (Ideal.div (Ideal.div (newM g m i) (Ideal.ofBits .f32 0x3F26BD02#32 : EReal))
    (Ideal.sqrt (Ideal.div (newV g v i) (Ideal.ofBits .f32 0x3C231ACC#32 : EReal)) + (Ideal.ofBits .f32 0x322BCC77#32 : EReal)) + (Ideal.ofBits .f32 0x3C23D70A#32 : EReal) * w i)

/-- The gradient of the whole weight, of the arrays the run starts from. -/
abbrev gradOf (c : Dev nD) : FVec Ideal S2x2x1024x2564 .f32 := grad (m ((c : Thread nD τ).loc main_arg0)) (m ((c : Thread nD τ).loc main_arg2)) (m ((c : Thread nD τ).loc main_arg3)) (m ((c : Thread nD τ).loc main_arg4)) (m ((c : Thread nD τ).loc main_arg5))

/-- The word the body reads is the table's one word. -/
theorem word (c : Dev nD) (x : S1.Idx) : View.readAt (Elt Ideal) (View.whole main_arg0) (Rect.unit (s := S1) ![0] ![1] inb_S1_S1_0).toLoadRect (tbl m 0) x
    = (show Vec Ideal S1 .i32 from m ((c : Thread nD τ).loc main_arg0)) (ix1 0) := by
  obtain rfl : c = 0 := Subsingleton.elim _ _
  exact congrArg (m (((0 : Dev nD) : Thread nD τ).loc main_arg0)) (funext fun a => by match a with | 0 => exact Subsingleton.elim (α := Fin 1) _ _)

/-- Every block of a weight is some point's. -/
theorem onto (β : (a : Fin 4) → Fin (((![2, 2, 1024, 2564] : Fin 4 → ℕ) a + (![1, 1, 32, 2564] : Fin 4 → ℕ) a - 1) / (![1, 1, 32, 2564] : Fin 4 → ℕ) a)) :
    ∃ t : Fin grid0.N, ∀ a, (![t.val / 64, t.val / 32 % 2, t.val % 32, 0] : Fin 4 → ℕ) a = (β a).val := by
  have h0 : (β 0).val < 2 := (β 0).isLt
  have h1 : (β 1).val < 2 := (β 1).isLt
  have h2 : (β 2).val < 32 := (β 2).isLt
  have h3 : (β 3).val < 1 := (β 3).isLt
  refine ⟨⟨(β 0).val * 64 + (β 1).val * 32 + (β 2).val, show _ < 128 by omega⟩, fun a => ?_⟩
  match a with
  | 0 => show ((β 0).val * 64 + (β 1).val * 32 + (β 2).val) / 64 = (β 0).val; omega
  | 1 => show ((β 0).val * 64 + (β 1).val * 32 + (β 2).val) / 32 % 2 = (β 1).val; omega
  | 2 => show ((β 0).val * 64 + (β 1).val * 32 + (β 2).val) % 32 = (β 2).val; omega
  | 3 => show 0 = (β 3).val; omega

/-- Input window 0's buffer, read back. -/
theorem rd0 (c : Dev nD) (t : Fin (cfgM m (free m)).N) : View.read (Elt Ideal) (ms0_0 m (free m) t).view ((hs0_0 m (free m) t).unread (iblk m (free m) c 0 t))
    = (show Vec Ideal S1x1x32x2564 .f32 from iblk m (free m) c 0 t) :=
  (hs0_0 m (free m) t).read_unread _

/-- Input window 1's buffer, read back. -/
theorem rd1 (c : Dev nD) (t : Fin (cfgM m (free m)).N) : View.read (Elt Ideal) (ms0_1 m (free m) t).view ((hs0_1 m (free m) t).unread (iblk m (free m) c 1 t))
    = (show Vec Ideal S32x2564 .f32 from iblk m (free m) c 1 t) :=
  (hs0_1 m (free m) t).read_unread _

/-- Input window 2's buffer, read back. -/
theorem rd2 (c : Dev nD) (t : Fin (cfgM m (free m)).N) : View.read (Elt Ideal) (ms0_2 m (free m) t).view ((hs0_2 m (free m) t).unread (iblk m (free m) c 2 t))
    = (show Vec Ideal S32x2564 .f32 from iblk m (free m) c 2 t) :=
  (hs0_2 m (free m) t).read_unread _

/-- Input window 3's buffer, read back. -/
theorem rd3 (c : Dev nD) (t : Fin (cfgM m (free m)).N) : View.read (Elt Ideal) (ms0_3 m (free m) t).view ((hs0_3 m (free m) t).unread (iblk m (free m) c 3 t))
    = (show Vec Ideal S32x2564 .f32 from iblk m (free m) c 3 t) :=
  (hs0_3 m (free m) t).read_unread _

/-- Input window 4's buffer, read back. -/
theorem rd4 (c : Dev nD) (t : Fin (cfgM m (free m)).N) : View.read (Elt Ideal) (ms0_4 m (free m) t).view ((hs0_4 m (free m) t).unread (iblk m (free m) c 4 t))
    = (show Vec Ideal S32x2564 .f32 from iblk m (free m) c 4 t) :=
  (hs0_4 m (free m) t).read_unread _

/-- Input window 5's buffer, read back. -/
theorem rd5 (c : Dev nD) (t : Fin (cfgM m (free m)).N) : View.read (Elt Ideal) (ms0_5 m (free m) t).view ((hs0_5 m (free m) t).unread (iblk m (free m) c 5 t))
    = (show Vec Ideal S1x1x32x2564 .f32 from iblk m (free m) c 5 t) :=
  (hs0_5 m (free m) t).read_unread _

/-- Input window 6's buffer, read back. -/
theorem rd6 (c : Dev nD) (t : Fin (cfgM m (free m)).N) : View.read (Elt Ideal) (ms0_6 m (free m) t).view ((hs0_6 m (free m) t).unread (iblk m (free m) c 6 t))
    = (show Vec Ideal S1x1x32x2564 .f32 from iblk m (free m) c 6 t) :=
  (hs0_6 m (free m) t).read_unread _

/-- The blocks of result 0 fill its array. -/
theorem covers_7 : ((cfgM m (free m)).win 7).Covers :=
  Pipeline.Window.covers_of_index_surj _ rfl (show ∀ a : Fin 4, 0 < (![1, 1, 32, 2564] : Fin 4 → ℕ) a by decide) fun β => by
    obtain ⟨t, ht⟩ := onto β
    exact ⟨t, fun a => (congrFun ((idx m _).2.2.2.2.2.2.2.1) a).trans (ht a)⟩

set_option maxHeartbeats 2000000 in
/-- The array of result 0 after the run. -/
theorem final_grad (c : Dev nD) : (dats m (free m) 0 c).arrAt 7 (cfgM m (free m)).N = gradOf m c := by
  refine (dats m (free m) 0 c).arrAt_eq_of_covers 7 _ (covers_7 m) fun t _ y => ?_
  blk_simp
  rw [after0_7]
  unfold outsAt0
  frame_out
  pointwise [k0_pay1, k0_pay2, k0_pay3, k0_pay4, k0_pay5, k0_pay6, k0_pay7, gradOf, grad]
  try rw [(spot t).2.2.1, (spot t).2.2.2]
  blk_point [iblk, V, idx m t]
  all_goals first
    | exact word m c _
    | (refine (congrFun (rd0 m c t) _).trans ?_; blk_point [iblk, V, idx m t]; done)
    | (refine (congrFun (rd1 m c t) _).trans ?_; blk_point [iblk, V, idx m t]; done)
    | (refine (congrFun (rd2 m c t) _).trans ?_; blk_point [iblk, V, idx m t]; done)
    | (refine (congrFun (rd3 m c t) _).trans ?_; blk_point [iblk, V, idx m t]; done)
    | (refine (congrFun (rd4 m c t) _).trans ?_; blk_point [iblk, V, idx m t]; done)
    | (refine (congrFun (rd5 m c t) _).trans ?_; blk_point [iblk, V, idx m t]; done)
    | (refine (congrFun (rd6 m c t) _).trans ?_; blk_point [iblk, V, idx m t]; done)

/-- The blocks of result 1 fill its array. -/
theorem covers_8 : ((cfgM m (free m)).win 8).Covers :=
  Pipeline.Window.covers_of_index_surj _ rfl (show ∀ a : Fin 4, 0 < (![1, 1, 32, 2564] : Fin 4 → ℕ) a by decide) fun β => by
    obtain ⟨t, ht⟩ := onto β
    exact ⟨t, fun a => (congrFun ((idx m _).2.2.2.2.2.2.2.2.1) a).trans (ht a)⟩

set_option maxHeartbeats 2000000 in
/-- The array of result 1 after the run. -/
theorem final_delta (c : Dev nD) : (dats m (free m) 0 c).arrAt 8 (cfgM m (free m)).N = delta (m ((c : Thread nD τ).loc main_arg1)) (gradOf m c) (m ((c : Thread nD τ).loc main_arg6)) (m ((c : Thread nD τ).loc main_arg7)) := by
  refine (dats m (free m) 0 c).arrAt_eq_of_covers 8 _ (covers_8 m) fun t _ y => ?_
  blk_simp
  rw [after0_8]
  unfold outsAt0
  frame_out
  pointwise [k0_pay1, k0_pay2, k0_pay3, k0_pay4, k0_pay5, k0_pay6, k0_pay7, gradOf, grad, delta, newM, newV]
  try rw [(spot t).2.2.1, (spot t).2.2.2]
  blk_point [iblk, V, idx m t]
  all_goals first
    | exact word m c _
    | (refine (congrFun (rd0 m c t) _).trans ?_; blk_point [iblk, V, idx m t]; done)
    | (refine (congrFun (rd1 m c t) _).trans ?_; blk_point [iblk, V, idx m t]; done)
    | (refine (congrFun (rd2 m c t) _).trans ?_; blk_point [iblk, V, idx m t]; done)
    | (refine (congrFun (rd3 m c t) _).trans ?_; blk_point [iblk, V, idx m t]; done)
    | (refine (congrFun (rd4 m c t) _).trans ?_; blk_point [iblk, V, idx m t]; done)
    | (refine (congrFun (rd5 m c t) _).trans ?_; blk_point [iblk, V, idx m t]; done)
    | (refine (congrFun (rd6 m c t) _).trans ?_; blk_point [iblk, V, idx m t]; done)

/-- The blocks of result 2 fill its array. -/
theorem covers_9 : ((cfgM m (free m)).win 9).Covers :=
  Pipeline.Window.covers_of_index_surj _ rfl (show ∀ a : Fin 4, 0 < (![1, 1, 32, 2564] : Fin 4 → ℕ) a by decide) fun β => by
    obtain ⟨t, ht⟩ := onto β
    exact ⟨t, fun a => (congrFun ((idx m _).2.2.2.2.2.2.2.2.2.1) a).trans (ht a)⟩

set_option maxHeartbeats 2000000 in
/-- The array of result 2 after the run. -/
theorem final_newM (c : Dev nD) : (dats m (free m) 0 c).arrAt 9 (cfgM m (free m)).N = newM (gradOf m c) (m ((c : Thread nD τ).loc main_arg6)) := by
  refine (dats m (free m) 0 c).arrAt_eq_of_covers 9 _ (covers_9 m) fun t _ y => ?_
  blk_simp
  rw [after0_9]
  unfold outsAt0
  frame_out
  pointwise [k0_pay1, k0_pay2, k0_pay3, k0_pay4, k0_pay5, k0_pay6, k0_pay7, gradOf, grad, newM]
  try rw [(spot t).2.2.1, (spot t).2.2.2]
  blk_point [iblk, V, idx m t]
  all_goals first
    | exact word m c _
    | (refine (congrFun (rd0 m c t) _).trans ?_; blk_point [iblk, V, idx m t]; done)
    | (refine (congrFun (rd1 m c t) _).trans ?_; blk_point [iblk, V, idx m t]; done)
    | (refine (congrFun (rd2 m c t) _).trans ?_; blk_point [iblk, V, idx m t]; done)
    | (refine (congrFun (rd3 m c t) _).trans ?_; blk_point [iblk, V, idx m t]; done)
    | (refine (congrFun (rd4 m c t) _).trans ?_; blk_point [iblk, V, idx m t]; done)
    | (refine (congrFun (rd5 m c t) _).trans ?_; blk_point [iblk, V, idx m t]; done)
    | (refine (congrFun (rd6 m c t) _).trans ?_; blk_point [iblk, V, idx m t]; done)

/-- The blocks of result 3 fill its array. -/
theorem covers_10 : ((cfgM m (free m)).win 10).Covers :=
  Pipeline.Window.covers_of_index_surj _ rfl (show ∀ a : Fin 4, 0 < (![1, 1, 32, 2564] : Fin 4 → ℕ) a by decide) fun β => by
    obtain ⟨t, ht⟩ := onto β
    exact ⟨t, fun a => (congrFun ((idx m _).2.2.2.2.2.2.2.2.2.2) a).trans (ht a)⟩

set_option maxHeartbeats 2000000 in
/-- The array of result 3 after the run. -/
theorem final_newV (c : Dev nD) : (dats m (free m) 0 c).arrAt 10 (cfgM m (free m)).N = newV (gradOf m c) (m ((c : Thread nD τ).loc main_arg7)) := by
  refine (dats m (free m) 0 c).arrAt_eq_of_covers 10 _ (covers_10 m) fun t _ y => ?_
  blk_simp
  rw [after0_10]
  unfold outsAt0
  frame_out
  pointwise [k0_pay1, k0_pay2, k0_pay3, k0_pay4, k0_pay5, k0_pay6, k0_pay7, gradOf, grad, newV]
  try rw [(spot t).2.2.1, (spot t).2.2.2]
  blk_point [iblk, V, idx m t]
  all_goals first
    | exact word m c _
    | (refine (congrFun (rd0 m c t) _).trans ?_; blk_point [iblk, V, idx m t]; done)
    | (refine (congrFun (rd1 m c t) _).trans ?_; blk_point [iblk, V, idx m t]; done)
    | (refine (congrFun (rd2 m c t) _).trans ?_; blk_point [iblk, V, idx m t]; done)
    | (refine (congrFun (rd3 m c t) _).trans ?_; blk_point [iblk, V, idx m t]; done)
    | (refine (congrFun (rd4 m c t) _).trans ?_; blk_point [iblk, V, idx m t]; done)
    | (refine (congrFun (rd5 m c t) _).trans ?_; blk_point [iblk, V, idx m t]; done)
    | (refine (congrFun (rd6 m c t) _).trans ?_; blk_point [iblk, V, idx m t]; done)

/-- After the run the four results are these, and the arguments are as they were. -/
theorem run_results (ρ : Dev nD → PrngReg) : θ_run defs (onTc (τ := τ) (main (F := Ideal))) ⟨m, fun _ => 0, ρ⟩ (fun r => ∀ c : Dev nD,
      r.2.mem ((c.tc : Thread nD τ).loc main_v0_0) = gradOf m c
      ∧ r.2.mem ((c.tc : Thread nD τ).loc main_v0_1) = delta (m ((c : Thread nD τ).loc main_arg1)) (gradOf m c) (m ((c : Thread nD τ).loc main_arg6)) (m ((c : Thread nD τ).loc main_arg7))
      ∧ r.2.mem ((c.tc : Thread nD τ).loc main_v0_2) = newM (gradOf m c) (m ((c : Thread nD τ).loc main_arg6))
      ∧ r.2.mem ((c.tc : Thread nD τ).loc main_v0_3) = newV (gradOf m c) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1 7).trans (final_grad m c), ((h c).1 8).trans (final_delta m c), ((h c).1 9).trans (final_newM m c), ((h c).1 10).trans (final_newV m c),
      (h c).2 main_arg0 (by decide : main_arg0 ∈ Pipeline.restRefs sig spec0),
      ((h c).1 0).trans (((dats m (free m) 0 c).arrAt_in 0 rfl _).trans (A_eq m (free m) c 0)),
      ((h c).1 1).trans (((dats m (free m) 0 c).arrAt_in 1 rfl _).trans (A_eq m (free m) c 1)),
      ((h c).1 2).trans (((dats m (free m) 0 c).arrAt_in 2 rfl _).trans (A_eq m (free m) c 2)),
      ((h c).1 3).trans (((dats m (free m) 0 c).arrAt_in 3 rfl _).trans (A_eq m (free m) c 3)),
      ((h c).1 4).trans (((dats m (free m) 0 c).arrAt_in 4 rfl _).trans (A_eq m (free m) c 4)),
      ((h c).1 5).trans (((dats m (free m) 0 c).arrAt_in 5 rfl _).trans (A_eq m (free m) c 5)),
      ((h c).1 6).trans (((dats m (free m) 0 c).arrAt_in 6 rfl _).trans (A_eq m (free m) c 6)),
      (h c).2 main_arg8 (by decide : main_arg8 ∈ Pipeline.restRefs sig spec0)⟩) (run_main m ρ (free m))

end Cert.AdamInIdeal.Step

namespace Cert.Proof.AdamInClaim

open Cert.AdamInIdeal.Step

/-- The reference leaves its arguments as they were. -/
theorem frame_ref : Cert.quiescent_AdamInRefIdeal := fun m ρ _ =>
  (θ_run Cert.AdamInRefIdeal.defs _ _).mono (fun r h => ⟨fun c => (h c).2.2.2.2,
      Idealize.ShloMosaic.sem_eq_zero_of_no_sems (by decide) r.2⟩)
    (Cert.AdamInRefIdeal.Value.run (F := Ideal) m ρ)

set_option maxHeartbeats 4000000 in
/-- The kernel's results are those of the reference. -/
theorem algebraic : Cert.algebraic_AdamInIdeal_AdamInRefIdeal := by
  intro m ρ m' ρ' _ hag
  refine ⟨_, _, _, _, run_results m ρ, ?_⟩
  refine (θ_run Cert.AdamInRefIdeal.defs _ _).mono (fun _ h c => ⟨(h c).1.trans ?_, (h c).2.1.trans ?_, (h c).2.2.1.trans ?_, (h c).2.2.2.1.trans ?_, (h c).2.2.2.2⟩)
    (Cert.AdamInRefIdeal.Value.run (F := Ideal) m' ρ')
  · clear h
    rw [(hag c).1, (hag c).2.2.1, (hag c).2.2.2.1, (hag c).2.2.2.2.1, (hag c).2.2.2.2.2.1]
    clear hag
    funext i
    pointwise! [gradOf, grad]
    simp only [Cert.Pick.half_layer (i 0).val (i 0).isLt]
  · clear h
    unfold Cert.AdamInRefIdeal.Value.res_main_v37
    rw [(hag c).2.1, (hag c).2.2.2.2.2.2.1, (hag c).2.2.2.2.2.2.2.1, (hag c).1, (hag c).2.2.1, (hag c).2.2.2.1, (hag c).2.2.2.2.1, (hag c).2.2.2.2.2.1]
    clear hag
    funext i
    pointwise! [delta, newM, newV, gradOf, grad]
    simp only [Cert.Pick.half_layer (i 0).val (i 0).isLt]
  · clear h
    rw [(hag c).2.2.2.2.2.2.1, (hag c).1, (hag c).2.2.1, (hag c).2.2.2.1, (hag c).2.2.2.2.1, (hag c).2.2.2.2.2.1]
    clear hag
    funext i
    pointwise! [newM, gradOf, grad]
    simp only [Cert.Pick.half_layer (i 0).val (i 0).isLt]
  · clear h
    rw [(hag c).2.2.2.2.2.2.2.1, (hag c).1, (hag c).2.2.1, (hag c).2.2.2.1, (hag c).2.2.2.2.1, (hag c).2.2.2.2.2.1]
    clear hag
    funext i
    pointwise! [newV, gradOf, grad]
    simp only [Cert.Pick.half_layer (i 0).val (i 0).isLt]

end Cert.Proof.AdamInClaim

end
-- ==== Proof.AdamBranchClaim.lean ====
/-
  One step of AdamW on a quarter-wise laid out weight: the gradient picked by layer and half, the update, the new first and
  second moments.
-/
module

public import proofs.«01_k».proof.Defs
public import proofs.«01_k».proof.Proof.Pick
public import Idealize.ShloMosaic.Lib.Pipeline.Covers
public import proofs.«01_k».proof.Proof.Gen.AdamBranchIdeal.Frame
public import proofs.«01_k».proof.Proof.Gen.AdamBranchRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamBranchIdeal.Step

open Cert.AdamBranchIdeal Cert.AdamBranchIdeal.Gen

variable (m : (ℓ : Loc nD τ sig) → Buf (Elt Ideal) ℓ)

/-- No window's place depends on the table of words. -/
theorem free : Ok m := trivial

/-- The place of a weight's block: its layer, its half and its band of rows. -/
theorem spot : ∀ t : Fin grid0.N, cc0_transform_0 (grid0.coords t) = ![t.val / 4, t.val / 2 % 2, t.val % 2, 0] ∧ cc0_transform_1 (grid0.coords t) = ![t.val % 2, 0]
    ∧ (grid0.coords t 0).val = t.val / 4 ∧ (grid0.coords t 1).val = t.val / 2 % 2 := by decide +kernel

/-- Every window's block index at every grid point. -/
theorem idx (t : Fin (cfgM m (free m)).N) : ((cfgM m (free m)).win 0).index t = ![t.val / 4, t.val / 2 % 2, t.val % 2, 0]
    ∧ ((cfgM m (free m)).win 1).index t = ![t.val % 2, 0] ∧ ((cfgM m (free m)).win 2).index t = ![t.val % 2, 0]
    ∧ ((cfgM m (free m)).win 3).index t = ![t.val % 2, 0] ∧ ((cfgM m (free m)).win 4).index t = ![t.val % 2, 0]
    ∧ ((cfgM m (free m)).win 5).index t = ![t.val / 4, t.val / 2 % 2, t.val % 2, 0] ∧ ((cfgM m (free m)).win 6).index t = ![t.val / 4, t.val / 2 % 2, t.val % 2, 0]
    ∧ ((cfgM m (free m)).win 7).index t = ![t.val / 4, t.val / 2 % 2, t.val % 2, 0] ∧ ((cfgM m (free m)).win 8).index t = ![t.val / 4, t.val / 2 % 2, t.val % 2, 0]
    ∧ ((cfgM m (free m)).win 9).index t = ![t.val / 4, t.val / 2 % 2, t.val % 2, 0] ∧ ((cfgM m (free m)).win 10).index t = ![t.val / 4, t.val / 2 % 2, t.val % 2, 0] :=
  ⟨(spot t).1, (spot t).2.1, (spot t).2.1, (spot t).2.1, (spot t).2.1, (spot t).1, (spot t).1, (spot t).1, (spot t).1, (spot t).1, (spot t).1⟩

/-- The gradient of the whole weight: a half from this core's own two arrays, the other from the neighbour's. -/
def grad (k : Vec Ideal S1 .i32) (a b e d : FVec Ideal S512x512 .f32) : FVec Ideal S2x2x512x512 .f32 := fun i =>
  Scalar.select (Scalar.cmpi .eq (BitVec.ofNat 32 (i 0).val) 1#32) (Scalar.select (Scalar.cmpi .eq (BitVec.ofNat 32 (i 1).val) (k (ix1 0))) (b (ix2 (i 2) (i 3))) (d (ix2 (i 2) (i 3))))
    (Scalar.select (Scalar.cmpi .eq (BitVec.ofNat 32 (i 1).val) (k (ix1 0))) (a (ix2 (i 2) (i 3))) (e (ix2 (i 2) (i 3))))

/-- The new first moment. -/
def newM (g m : FVec Ideal S2x2x512x512 .f32) : FVec Ideal S2x2x512x512 .f32 := fun i => (Ideal.ofBits .f32 0x3F666666#32 : EReal) * m i + (Ideal.ofBits .f32 0x3DCCCCCD#32 : EReal) * g i

/-- The new second moment. -/
def newV (g v : FVec Ideal S2x2x512x512 .f32) : FVec Ideal S2x2x512x512 .f32 := fun i => (Ideal.ofBits .f32 0x3F7FBE77#32 : EReal) * v i + (Ideal.ofBits .f32 0x3A83126F#32 : EReal) * (g i * g i)

/-- The update: the first moment over the root of the second, both with their corrections, and the weight decay. -/
def delta (w g m v : FVec Ideal S2x2x512x512 .f32) : FVec Ideal S2x2x512x512 .f32 := fun i =>
  (Ideal.ofBits .f32 0xBA83126F#32 : EReal) * (Ideal.div (Ideal.div (newM g m i) (Ideal.ofBits .f32 0x3F26BD02#32 : EReal))
    (Ideal.sqrt (Ideal.div (newV g v i) (Ideal.ofBits .f32 0x3C231ACC#32 : EReal)) + (Ideal.ofBits .f32 0x322BCC77#32 : EReal)) + (Ideal.ofBits .f32 0x3C23D70A#32 : EReal) * w i)

/-- The gradient of the whole weight, of the arrays the run starts from. -/
abbrev gradOf (c : Dev nD) : FVec Ideal S2x2x512x512 .f32 := grad (m ((c : Thread nD τ).loc main_arg0)) (m ((c : Thread nD τ).loc main_arg2)) (m ((c : Thread nD τ).loc main_arg3)) (m ((c : Thread nD τ).loc main_arg4)) (m ((c : Thread nD τ).loc main_arg5))

/-- The word the body reads is the table's one word. -/
theorem word (c : Dev nD) (x : S1.Idx) : View.readAt (Elt Ideal) (View.whole main_arg0) (Rect.unit (s := S1) ![0] ![1] inb_S1_S1_0).toLoadRect (tbl m 0) x
    = (show Vec Ideal S1 .i32 from m ((c : Thread nD τ).loc main_arg0)) (ix1 0) := by
  obtain rfl : c = 0 := Subsingleton.elim _ _
  exact congrArg (m (((0 : Dev nD) : Thread nD τ).loc main_arg0)) (funext fun a => by match a with | 0 => exact Subsingleton.elim (α := Fin 1) _ _)

/-- Every block of a weight is some point's. -/
theorem onto (β : (a : Fin 4) → Fin (((![2, 2, 512, 512] : Fin 4 → ℕ) a + (![1, 1, 256, 512] : Fin 4 → ℕ) a - 1) / (![1, 1, 256, 512] : Fin 4 → ℕ) a)) :
    ∃ t : Fin grid0.N, ∀ a, (![t.val / 4, t.val / 2 % 2, t.val % 2, 0] : Fin 4 → ℕ) a = (β a).val := by
  have h0 : (β 0).val < 2 := (β 0).isLt
  have h1 : (β 1).val < 2 := (β 1).isLt
  have h2 : (β 2).val < 2 := (β 2).isLt
  have h3 : (β 3).val < 1 := (β 3).isLt
  refine ⟨⟨(β 0).val * 4 + (β 1).val * 2 + (β 2).val, show _ < 8 by omega⟩, fun a => ?_⟩
  match a with
  | 0 => show ((β 0).val * 4 + (β 1).val * 2 + (β 2).val) / 4 = (β 0).val; omega
  | 1 => show ((β 0).val * 4 + (β 1).val * 2 + (β 2).val) / 2 % 2 = (β 1).val; omega
  | 2 => show ((β 0).val * 4 + (β 1).val * 2 + (β 2).val) % 2 = (β 2).val; omega
  | 3 => show 0 = (β 3).val; omega

/-- Input window 0's buffer, read back. -/
theorem rd0 (c : Dev nD) (t : Fin (cfgM m (free m)).N) : View.read (Elt Ideal) (ms0_0 m (free m) t).view ((hs0_0 m (free m) t).unread (iblk m (free m) c 0 t))
    = (show Vec Ideal S1x1x256x512 .f32 from iblk m (free m) c 0 t) :=
  (hs0_0 m (free m) t).read_unread _

/-- Input window 1's buffer, read back. -/
theorem rd1 (c : Dev nD) (t : Fin (cfgM m (free m)).N) : View.read (Elt Ideal) (ms0_1 m (free m) t).view ((hs0_1 m (free m) t).unread (iblk m (free m) c 1 t))
    = (show Vec Ideal S256x512 .f32 from iblk m (free m) c 1 t) :=
  (hs0_1 m (free m) t).read_unread _

/-- Input window 2's buffer, read back. -/
theorem rd2 (c : Dev nD) (t : Fin (cfgM m (free m)).N) : View.read (Elt Ideal) (ms0_2 m (free m) t).view ((hs0_2 m (free m) t).unread (iblk m (free m) c 2 t))
    = (show Vec Ideal S256x512 .f32 from iblk m (free m) c 2 t) :=
  (hs0_2 m (free m) t).read_unread _

/-- Input window 3's buffer, read back. -/
theorem rd3 (c : Dev nD) (t : Fin (cfgM m (free m)).N) : View.read (Elt Ideal) (ms0_3 m (free m) t).view ((hs0_3 m (free m) t).unread (iblk m (free m) c 3 t))
    = (show Vec Ideal S256x512 .f32 from iblk m (free m) c 3 t) :=
  (hs0_3 m (free m) t).read_unread _

/-- Input window 4's buffer, read back. -/
theorem rd4 (c : Dev nD) (t : Fin (cfgM m (free m)).N) : View.read (Elt Ideal) (ms0_4 m (free m) t).view ((hs0_4 m (free m) t).unread (iblk m (free m) c 4 t))
    = (show Vec Ideal S256x512 .f32 from iblk m (free m) c 4 t) :=
  (hs0_4 m (free m) t).read_unread _

/-- Input window 5's buffer, read back. -/
theorem rd5 (c : Dev nD) (t : Fin (cfgM m (free m)).N) : View.read (Elt Ideal) (ms0_5 m (free m) t).view ((hs0_5 m (free m) t).unread (iblk m (free m) c 5 t))
    = (show Vec Ideal S1x1x256x512 .f32 from iblk m (free m) c 5 t) :=
  (hs0_5 m (free m) t).read_unread _

/-- Input window 6's buffer, read back. -/
theorem rd6 (c : Dev nD) (t : Fin (cfgM m (free m)).N) : View.read (Elt Ideal) (ms0_6 m (free m) t).view ((hs0_6 m (free m) t).unread (iblk m (free m) c 6 t))
    = (show Vec Ideal S1x1x256x512 .f32 from iblk m (free m) c 6 t) :=
  (hs0_6 m (free m) t).read_unread _

/-- The blocks of result 0 fill its array. -/
theorem covers_7 : ((cfgM m (free m)).win 7).Covers :=
  Pipeline.Window.covers_of_index_surj _ rfl (show ∀ a : Fin 4, 0 < (![1, 1, 256, 512] : Fin 4 → ℕ) a by decide) fun β => by
    obtain ⟨t, ht⟩ := onto β
    exact ⟨t, fun a => (congrFun ((idx m _).2.2.2.2.2.2.2.1) a).trans (ht a)⟩

set_option maxHeartbeats 2000000 in
/-- The array of result 0 after the run. -/
theorem final_grad (c : Dev nD) : (dats m (free m) 0 c).arrAt 7 (cfgM m (free m)).N = gradOf m c := by
  refine (dats m (free m) 0 c).arrAt_eq_of_covers 7 _ (covers_7 m) fun t _ y => ?_
  blk_simp
  rw [after0_7]
  unfold outsAt0
  frame_out
  pointwise [k0_pay1, k0_pay2, k0_pay3, k0_pay4, k0_pay5, k0_pay6, k0_pay7, gradOf, grad]
  try rw [(spot t).2.2.1, (spot t).2.2.2]
  blk_point [iblk, V, idx m t]
  all_goals first
    | exact word m c _
    | (refine (congrFun (rd0 m c t) _).trans ?_; blk_point [iblk, V, idx m t]; done)
    | (refine (congrFun (rd1 m c t) _).trans ?_; blk_point [iblk, V, idx m t]; done)
    | (refine (congrFun (rd2 m c t) _).trans ?_; blk_point [iblk, V, idx m t]; done)
    | (refine (congrFun (rd3 m c t) _).trans ?_; blk_point [iblk, V, idx m t]; done)
    | (refine (congrFun (rd4 m c t) _).trans ?_; blk_point [iblk, V, idx m t]; done)
    | (refine (congrFun (rd5 m c t) _).trans ?_; blk_point [iblk, V, idx m t]; done)
    | (refine (congrFun (rd6 m c t) _).trans ?_; blk_point [iblk, V, idx m t]; done)

/-- The blocks of result 1 fill its array. -/
theorem covers_8 : ((cfgM m (free m)).win 8).Covers :=
  Pipeline.Window.covers_of_index_surj _ rfl (show ∀ a : Fin 4, 0 < (![1, 1, 256, 512] : Fin 4 → ℕ) a by decide) fun β => by
    obtain ⟨t, ht⟩ := onto β
    exact ⟨t, fun a => (congrFun ((idx m _).2.2.2.2.2.2.2.2.1) a).trans (ht a)⟩

set_option maxHeartbeats 2000000 in
/-- The array of result 1 after the run. -/
theorem final_delta (c : Dev nD) : (dats m (free m) 0 c).arrAt 8 (cfgM m (free m)).N = delta (m ((c : Thread nD τ).loc main_arg1)) (gradOf m c) (m ((c : Thread nD τ).loc main_arg6)) (m ((c : Thread nD τ).loc main_arg7)) := by
  refine (dats m (free m) 0 c).arrAt_eq_of_covers 8 _ (covers_8 m) fun t _ y => ?_
  blk_simp
  rw [after0_8]
  unfold outsAt0
  frame_out
  pointwise [k0_pay1, k0_pay2, k0_pay3, k0_pay4, k0_pay5, k0_pay6, k0_pay7, gradOf, grad, delta, newM, newV]
  try rw [(spot t).2.2.1, (spot t).2.2.2]
  blk_point [iblk, V, idx m t]
  all_goals first
    | exact word m c _
    | (refine (congrFun (rd0 m c t) _).trans ?_; blk_point [iblk, V, idx m t]; done)
    | (refine (congrFun (rd1 m c t) _).trans ?_; blk_point [iblk, V, idx m t]; done)
    | (refine (congrFun (rd2 m c t) _).trans ?_; blk_point [iblk, V, idx m t]; done)
    | (refine (congrFun (rd3 m c t) _).trans ?_; blk_point [iblk, V, idx m t]; done)
    | (refine (congrFun (rd4 m c t) _).trans ?_; blk_point [iblk, V, idx m t]; done)
    | (refine (congrFun (rd5 m c t) _).trans ?_; blk_point [iblk, V, idx m t]; done)
    | (refine (congrFun (rd6 m c t) _).trans ?_; blk_point [iblk, V, idx m t]; done)

/-- The blocks of result 2 fill its array. -/
theorem covers_9 : ((cfgM m (free m)).win 9).Covers :=
  Pipeline.Window.covers_of_index_surj _ rfl (show ∀ a : Fin 4, 0 < (![1, 1, 256, 512] : Fin 4 → ℕ) a by decide) fun β => by
    obtain ⟨t, ht⟩ := onto β
    exact ⟨t, fun a => (congrFun ((idx m _).2.2.2.2.2.2.2.2.2.1) a).trans (ht a)⟩

set_option maxHeartbeats 2000000 in
/-- The array of result 2 after the run. -/
theorem final_newM (c : Dev nD) : (dats m (free m) 0 c).arrAt 9 (cfgM m (free m)).N = newM (gradOf m c) (m ((c : Thread nD τ).loc main_arg6)) := by
  refine (dats m (free m) 0 c).arrAt_eq_of_covers 9 _ (covers_9 m) fun t _ y => ?_
  blk_simp
  rw [after0_9]
  unfold outsAt0
  frame_out
  pointwise [k0_pay1, k0_pay2, k0_pay3, k0_pay4, k0_pay5, k0_pay6, k0_pay7, gradOf, grad, newM]
  try rw [(spot t).2.2.1, (spot t).2.2.2]
  blk_point [iblk, V, idx m t]
  all_goals first
    | exact word m c _
    | (refine (congrFun (rd0 m c t) _).trans ?_; blk_point [iblk, V, idx m t]; done)
    | (refine (congrFun (rd1 m c t) _).trans ?_; blk_point [iblk, V, idx m t]; done)
    | (refine (congrFun (rd2 m c t) _).trans ?_; blk_point [iblk, V, idx m t]; done)
    | (refine (congrFun (rd3 m c t) _).trans ?_; blk_point [iblk, V, idx m t]; done)
    | (refine (congrFun (rd4 m c t) _).trans ?_; blk_point [iblk, V, idx m t]; done)
    | (refine (congrFun (rd5 m c t) _).trans ?_; blk_point [iblk, V, idx m t]; done)
    | (refine (congrFun (rd6 m c t) _).trans ?_; blk_point [iblk, V, idx m t]; done)

/-- The blocks of result 3 fill its array. -/
theorem covers_10 : ((cfgM m (free m)).win 10).Covers :=
  Pipeline.Window.covers_of_index_surj _ rfl (show ∀ a : Fin 4, 0 < (![1, 1, 256, 512] : Fin 4 → ℕ) a by decide) fun β => by
    obtain ⟨t, ht⟩ := onto β
    exact ⟨t, fun a => (congrFun ((idx m _).2.2.2.2.2.2.2.2.2.2) a).trans (ht a)⟩

set_option maxHeartbeats 2000000 in
/-- The array of result 3 after the run. -/
theorem final_newV (c : Dev nD) : (dats m (free m) 0 c).arrAt 10 (cfgM m (free m)).N = newV (gradOf m c) (m ((c : Thread nD τ).loc main_arg7)) := by
  refine (dats m (free m) 0 c).arrAt_eq_of_covers 10 _ (covers_10 m) fun t _ y => ?_
  blk_simp
  rw [after0_10]
  unfold outsAt0
  frame_out
  pointwise [k0_pay1, k0_pay2, k0_pay3, k0_pay4, k0_pay5, k0_pay6, k0_pay7, gradOf, grad, newV]
  try rw [(spot t).2.2.1, (spot t).2.2.2]
  blk_point [iblk, V, idx m t]
  all_goals first
    | exact word m c _
    | (refine (congrFun (rd0 m c t) _).trans ?_; blk_point [iblk, V, idx m t]; done)
    | (refine (congrFun (rd1 m c t) _).trans ?_; blk_point [iblk, V, idx m t]; done)
    | (refine (congrFun (rd2 m c t) _).trans ?_; blk_point [iblk, V, idx m t]; done)
    | (refine (congrFun (rd3 m c t) _).trans ?_; blk_point [iblk, V, idx m t]; done)
    | (refine (congrFun (rd4 m c t) _).trans ?_; blk_point [iblk, V, idx m t]; done)
    | (refine (congrFun (rd5 m c t) _).trans ?_; blk_point [iblk, V, idx m t]; done)
    | (refine (congrFun (rd6 m c t) _).trans ?_; blk_point [iblk, V, idx m t]; done)

/-- After the run the four results are these, and the arguments are as they were. -/
theorem run_results (ρ : Dev nD → PrngReg) : θ_run defs (onTc (τ := τ) (main (F := Ideal))) ⟨m, fun _ => 0, ρ⟩ (fun r => ∀ c : Dev nD,
      r.2.mem ((c.tc : Thread nD τ).loc main_v0_0) = gradOf m c
      ∧ r.2.mem ((c.tc : Thread nD τ).loc main_v0_1) = delta (m ((c : Thread nD τ).loc main_arg1)) (gradOf m c) (m ((c : Thread nD τ).loc main_arg6)) (m ((c : Thread nD τ).loc main_arg7))
      ∧ r.2.mem ((c.tc : Thread nD τ).loc main_v0_2) = newM (gradOf m c) (m ((c : Thread nD τ).loc main_arg6))
      ∧ r.2.mem ((c.tc : Thread nD τ).loc main_v0_3) = newV (gradOf m c) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1 7).trans (final_grad m c), ((h c).1 8).trans (final_delta m c), ((h c).1 9).trans (final_newM m c), ((h c).1 10).trans (final_newV m c),
      (h c).2 main_arg0 (by decide : main_arg0 ∈ Pipeline.restRefs sig spec0),
      ((h c).1 0).trans (((dats m (free m) 0 c).arrAt_in 0 rfl _).trans (A_eq m (free m) c 0)),
      ((h c).1 1).trans (((dats m (free m) 0 c).arrAt_in 1 rfl _).trans (A_eq m (free m) c 1)),
      ((h c).1 2).trans (((dats m (free m) 0 c).arrAt_in 2 rfl _).trans (A_eq m (free m) c 2)),
      ((h c).1 3).trans (((dats m (free m) 0 c).arrAt_in 3 rfl _).trans (A_eq m (free m) c 3)),
      ((h c).1 4).trans (((dats m (free m) 0 c).arrAt_in 4 rfl _).trans (A_eq m (free m) c 4)),
      ((h c).1 5).trans (((dats m (free m) 0 c).arrAt_in 5 rfl _).trans (A_eq m (free m) c 5)),
      ((h c).1 6).trans (((dats m (free m) 0 c).arrAt_in 6 rfl _).trans (A_eq m (free m) c 6)),
      (h c).2 main_arg8 (by decide : main_arg8 ∈ Pipeline.restRefs sig spec0)⟩) (run_main m ρ (free m))

end Cert.AdamBranchIdeal.Step

namespace Cert.Proof.AdamBranchClaim

open Cert.AdamBranchIdeal.Step

/-- The reference leaves its arguments as they were. -/
theorem frame_ref : Cert.quiescent_AdamBranchRefIdeal := fun m ρ _ =>
  (θ_run Cert.AdamBranchRefIdeal.defs _ _).mono (fun r h => ⟨fun c => (h c).2.2.2.2,
      Idealize.ShloMosaic.sem_eq_zero_of_no_sems (by decide) r.2⟩)
    (Cert.AdamBranchRefIdeal.Value.run (F := Ideal) m ρ)

set_option maxHeartbeats 4000000 in
/-- The kernel's results are those of the reference. -/
theorem algebraic : Cert.algebraic_AdamBranchIdeal_AdamBranchRefIdeal := by
  intro m ρ m' ρ' _ hag
  refine ⟨_, _, _, _, run_results m ρ, ?_⟩
  refine (θ_run Cert.AdamBranchRefIdeal.defs _ _).mono (fun _ h c => ⟨(h c).1.trans ?_, (h c).2.1.trans ?_, (h c).2.2.1.trans ?_, (h c).2.2.2.1.trans ?_, (h c).2.2.2.2⟩)
    (Cert.AdamBranchRefIdeal.Value.run (F := Ideal) m' ρ')
  · clear h
    rw [(hag c).1, (hag c).2.2.1, (hag c).2.2.2.1, (hag c).2.2.2.2.1, (hag c).2.2.2.2.2.1]
    clear hag
    funext i
    pointwise! [gradOf, grad]
    simp only [Cert.Pick.half_layer (i 0).val (i 0).isLt]
  · clear h
    unfold Cert.AdamBranchRefIdeal.Value.res_main_v37
    rw [(hag c).2.1, (hag c).2.2.2.2.2.2.1, (hag c).2.2.2.2.2.2.2.1, (hag c).1, (hag c).2.2.1, (hag c).2.2.2.1, (hag c).2.2.2.2.1, (hag c).2.2.2.2.2.1]
    clear hag
    funext i
    pointwise! [delta, newM, newV, gradOf, grad]
    simp only [Cert.Pick.half_layer (i 0).val (i 0).isLt]
  · clear h
    rw [(hag c).2.2.2.2.2.2.1, (hag c).1, (hag c).2.2.1, (hag c).2.2.2.1, (hag c).2.2.2.2.1, (hag c).2.2.2.2.2.1]
    clear hag
    funext i
    pointwise! [newM, gradOf, grad]
    simp only [Cert.Pick.half_layer (i 0).val (i 0).isLt]
  · clear h
    rw [(hag c).2.2.2.2.2.2.2.1, (hag c).1, (hag c).2.2.1, (hag c).2.2.2.1, (hag c).2.2.2.2.1, (hag c).2.2.2.2.2.1]
    clear hag
    funext i
    pointwise! [newV, gradOf, grad]
    simp only [Cert.Pick.half_layer (i 0).val (i 0).isLt]

end Cert.Proof.AdamBranchClaim

end
-- ==== Proof.AdamOutClaim.lean ====
/-
  One step of AdamW on a quarter-wise laid out weight: the gradient picked by layer and half, the update, the new first and
  second moments.
-/
module

public import proofs.«01_k».proof.Defs
public import proofs.«01_k».proof.Proof.Pick
public import Idealize.ShloMosaic.Lib.Pipeline.Covers
public import proofs.«01_k».proof.Proof.Gen.AdamOutIdeal.Frame
public import proofs.«01_k».proof.Proof.Gen.AdamOutRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamOutIdeal.Step

open Cert.AdamOutIdeal Cert.AdamOutIdeal.Gen

variable (m : (ℓ : Loc nD τ sig) → Buf (Elt Ideal) ℓ)

/-- No window's place depends on the table of words. -/
theorem free : Ok m := trivial

/-- The place of a weight's block: its layer, its half and its band of rows. -/
theorem spot : ∀ t : Fin grid0.N, cc0_transform_0 (grid0.coords t) = ![t.val / 8, t.val / 4 % 2, t.val % 4, 0] ∧ cc0_transform_1 (grid0.coords t) = ![t.val % 4, 0]
    ∧ (grid0.coords t 0).val = t.val / 8 ∧ (grid0.coords t 1).val = t.val / 4 % 2 := by decide +kernel

/-- Every window's block index at every grid point. -/
theorem idx (t : Fin (cfgM m (free m)).N) : ((cfgM m (free m)).win 0).index t = ![t.val / 8, t.val / 4 % 2, t.val % 4, 0]
    ∧ ((cfgM m (free m)).win 1).index t = ![t.val % 4, 0] ∧ ((cfgM m (free m)).win 2).index t = ![t.val % 4, 0]
    ∧ ((cfgM m (free m)).win 3).index t = ![t.val % 4, 0] ∧ ((cfgM m (free m)).win 4).index t = ![t.val % 4, 0]
    ∧ ((cfgM m (free m)).win 5).index t = ![t.val / 8, t.val / 4 % 2, t.val % 4, 0] ∧ ((cfgM m (free m)).win 6).index t = ![t.val / 8, t.val / 4 % 2, t.val % 4, 0]
    ∧ ((cfgM m (free m)).win 7).index t = ![t.val / 8, t.val / 4 % 2, t.val % 4, 0] ∧ ((cfgM m (free m)).win 8).index t = ![t.val / 8, t.val / 4 % 2, t.val % 4, 0]
    ∧ ((cfgM m (free m)).win 9).index t = ![t.val / 8, t.val / 4 % 2, t.val % 4, 0] ∧ ((cfgM m (free m)).win 10).index t = ![t.val / 8, t.val / 4 % 2, t.val % 4, 0] :=
  ⟨(spot t).1, (spot t).2.1, (spot t).2.1, (spot t).2.1, (spot t).2.1, (spot t).1, (spot t).1, (spot t).1, (spot t).1, (spot t).1, (spot t).1⟩

/-- The gradient of the whole weight: a half from this core's own two arrays, the other from the neighbour's. -/
def grad (k : Vec Ideal S1 .i32) (a b e d : FVec Ideal S256x2048 .f32) : FVec Ideal S2x2x256x2048 .f32 := fun i =>
  Scalar.select (Scalar.cmpi .eq (BitVec.ofNat 32 (i 0).val) 1#32) (Scalar.select (Scalar.cmpi .eq (BitVec.ofNat 32 (i 1).val) (k (ix1 0))) (b (ix2 (i 2) (i 3))) (d (ix2 (i 2) (i 3))))
    (Scalar.select (Scalar.cmpi .eq (BitVec.ofNat 32 (i 1).val) (k (ix1 0))) (a (ix2 (i 2) (i 3))) (e (ix2 (i 2) (i 3))))

/-- The new first moment. -/
def newM (g m : FVec Ideal S2x2x256x2048 .f32) : FVec Ideal S2x2x256x2048 .f32 := fun i => (Ideal.ofBits .f32 0x3F666666#32 : EReal) * m i + (Ideal.ofBits .f32 0x3DCCCCCD#32 : EReal) * g i

/-- The new second moment. -/
def newV (g v : FVec Ideal S2x2x256x2048 .f32) : FVec Ideal S2x2x256x2048 .f32 := fun i => (Ideal.ofBits .f32 0x3F7FBE77#32 : EReal) * v i + (Ideal.ofBits .f32 0x3A83126F#32 : EReal) * (g i * g i)

/-- The update: the first moment over the root of the second, both with their corrections, and the weight decay. -/
def delta (w g m v : FVec Ideal S2x2x256x2048 .f32) : FVec Ideal S2x2x256x2048 .f32 := fun i =>
  (Ideal.ofBits .f32 0xBA83126F#32 : EReal) * (Ideal.div (Ideal.div (newM g m i) (Ideal.ofBits .f32 0x3F26BD02#32 : EReal))
    (Ideal.sqrt (Ideal.div (newV g v i) (Ideal.ofBits .f32 0x3C231ACC#32 : EReal)) + (Ideal.ofBits .f32 0x322BCC77#32 : EReal)) + (Ideal.ofBits .f32 0x3C23D70A#32 : EReal) * w i)

/-- The gradient of the whole weight, of the arrays the run starts from. -/
abbrev gradOf (c : Dev nD) : FVec Ideal S2x2x256x2048 .f32 := grad (m ((c : Thread nD τ).loc main_arg0)) (m ((c : Thread nD τ).loc main_arg2)) (m ((c : Thread nD τ).loc main_arg3)) (m ((c : Thread nD τ).loc main_arg4)) (m ((c : Thread nD τ).loc main_arg5))

/-- The word the body reads is the table's one word. -/
theorem word (c : Dev nD) (x : S1.Idx) : View.readAt (Elt Ideal) (View.whole main_arg0) (Rect.unit (s := S1) ![0] ![1] inb_S1_S1_0).toLoadRect (tbl m 0) x
    = (show Vec Ideal S1 .i32 from m ((c : Thread nD τ).loc main_arg0)) (ix1 0) := by
  obtain rfl : c = 0 := Subsingleton.elim _ _
  exact congrArg (m (((0 : Dev nD) : Thread nD τ).loc main_arg0)) (funext fun a => by match a with | 0 => exact Subsingleton.elim (α := Fin 1) _ _)

/-- Every block of a weight is some point's. -/
theorem onto (β : (a : Fin 4) → Fin (((![2, 2, 256, 2048] : Fin 4 → ℕ) a + (![1, 1, 64, 2048] : Fin 4 → ℕ) a - 1) / (![1, 1, 64, 2048] : Fin 4 → ℕ) a)) :
    ∃ t : Fin grid0.N, ∀ a, (![t.val / 8, t.val / 4 % 2, t.val % 4, 0] : Fin 4 → ℕ) a = (β a).val := by
  have h0 : (β 0).val < 2 := (β 0).isLt
  have h1 : (β 1).val < 2 := (β 1).isLt
  have h2 : (β 2).val < 4 := (β 2).isLt
  have h3 : (β 3).val < 1 := (β 3).isLt
  refine ⟨⟨(β 0).val * 8 + (β 1).val * 4 + (β 2).val, show _ < 16 by omega⟩, fun a => ?_⟩
  match a with
  | 0 => show ((β 0).val * 8 + (β 1).val * 4 + (β 2).val) / 8 = (β 0).val; omega
  | 1 => show ((β 0).val * 8 + (β 1).val * 4 + (β 2).val) / 4 % 2 = (β 1).val; omega
  | 2 => show ((β 0).val * 8 + (β 1).val * 4 + (β 2).val) % 4 = (β 2).val; omega
  | 3 => show 0 = (β 3).val; omega

/-- Input window 0's buffer, read back. -/
theorem rd0 (c : Dev nD) (t : Fin (cfgM m (free m)).N) : View.read (Elt Ideal) (ms0_0 m (free m) t).view ((hs0_0 m (free m) t).unread (iblk m (free m) c 0 t))
    = (show Vec Ideal S1x1x64x2048 .f32 from iblk m (free m) c 0 t) :=
  (hs0_0 m (free m) t).read_unread _

/-- Input window 1's buffer, read back. -/
theorem rd1 (c : Dev nD) (t : Fin (cfgM m (free m)).N) : View.read (Elt Ideal) (ms0_1 m (free m) t).view ((hs0_1 m (free m) t).unread (iblk m (free m) c 1 t))
    = (show Vec Ideal S64x2048 .f32 from iblk m (free m) c 1 t) :=
  (hs0_1 m (free m) t).read_unread _

/-- Input window 2's buffer, read back. -/
theorem rd2 (c : Dev nD) (t : Fin (cfgM m (free m)).N) : View.read (Elt Ideal) (ms0_2 m (free m) t).view ((hs0_2 m (free m) t).unread (iblk m (free m) c 2 t))
    = (show Vec Ideal S64x2048 .f32 from iblk m (free m) c 2 t) :=
  (hs0_2 m (free m) t).read_unread _

/-- Input window 3's buffer, read back. -/
theorem rd3 (c : Dev nD) (t : Fin (cfgM m (free m)).N) : View.read (Elt Ideal) (ms0_3 m (free m) t).view ((hs0_3 m (free m) t).unread (iblk m (free m) c 3 t))
    = (show Vec Ideal S64x2048 .f32 from iblk m (free m) c 3 t) :=
  (hs0_3 m (free m) t).read_unread _

/-- Input window 4's buffer, read back. -/
theorem rd4 (c : Dev nD) (t : Fin (cfgM m (free m)).N) : View.read (Elt Ideal) (ms0_4 m (free m) t).view ((hs0_4 m (free m) t).unread (iblk m (free m) c 4 t))
    = (show Vec Ideal S64x2048 .f32 from iblk m (free m) c 4 t) :=
  (hs0_4 m (free m) t).read_unread _

/-- Input window 5's buffer, read back. -/
theorem rd5 (c : Dev nD) (t : Fin (cfgM m (free m)).N) : View.read (Elt Ideal) (ms0_5 m (free m) t).view ((hs0_5 m (free m) t).unread (iblk m (free m) c 5 t))
    = (show Vec Ideal S1x1x64x2048 .f32 from iblk m (free m) c 5 t) :=
  (hs0_5 m (free m) t).read_unread _

/-- Input window 6's buffer, read back. -/
theorem rd6 (c : Dev nD) (t : Fin (cfgM m (free m)).N) : View.read (Elt Ideal) (ms0_6 m (free m) t).view ((hs0_6 m (free m) t).unread (iblk m (free m) c 6 t))
    = (show Vec Ideal S1x1x64x2048 .f32 from iblk m (free m) c 6 t) :=
  (hs0_6 m (free m) t).read_unread _

/-- The blocks of result 0 fill its array. -/
theorem covers_7 : ((cfgM m (free m)).win 7).Covers :=
  Pipeline.Window.covers_of_index_surj _ rfl (show ∀ a : Fin 4, 0 < (![1, 1, 64, 2048] : Fin 4 → ℕ) a by decide) fun β => by
    obtain ⟨t, ht⟩ := onto β
    exact ⟨t, fun a => (congrFun ((idx m _).2.2.2.2.2.2.2.1) a).trans (ht a)⟩

set_option maxHeartbeats 2000000 in
/-- The array of result 0 after the run. -/
theorem final_grad (c : Dev nD) : (dats m (free m) 0 c).arrAt 7 (cfgM m (free m)).N = gradOf m c := by
  refine (dats m (free m) 0 c).arrAt_eq_of_covers 7 _ (covers_7 m) fun t _ y => ?_
  blk_simp
  rw [after0_7]
  unfold outsAt0
  frame_out
  pointwise [k0_pay1, k0_pay2, k0_pay3, k0_pay4, k0_pay5, k0_pay6, k0_pay7, gradOf, grad]
  try rw [(spot t).2.2.1, (spot t).2.2.2]
  blk_point [iblk, V, idx m t]
  all_goals first
    | exact word m c _
    | (refine (congrFun (rd0 m c t) _).trans ?_; blk_point [iblk, V, idx m t]; done)
    | (refine (congrFun (rd1 m c t) _).trans ?_; blk_point [iblk, V, idx m t]; done)
    | (refine (congrFun (rd2 m c t) _).trans ?_; blk_point [iblk, V, idx m t]; done)
    | (refine (congrFun (rd3 m c t) _).trans ?_; blk_point [iblk, V, idx m t]; done)
    | (refine (congrFun (rd4 m c t) _).trans ?_; blk_point [iblk, V, idx m t]; done)
    | (refine (congrFun (rd5 m c t) _).trans ?_; blk_point [iblk, V, idx m t]; done)
    | (refine (congrFun (rd6 m c t) _).trans ?_; blk_point [iblk, V, idx m t]; done)

/-- The blocks of result 1 fill its array. -/
theorem covers_8 : ((cfgM m (free m)).win 8).Covers :=
  Pipeline.Window.covers_of_index_surj _ rfl (show ∀ a : Fin 4, 0 < (![1, 1, 64, 2048] : Fin 4 → ℕ) a by decide) fun β => by
    obtain ⟨t, ht⟩ := onto β
    exact ⟨t, fun a => (congrFun ((idx m _).2.2.2.2.2.2.2.2.1) a).trans (ht a)⟩

set_option maxHeartbeats 2000000 in
/-- The array of result 1 after the run. -/
theorem final_delta (c : Dev nD) : (dats m (free m) 0 c).arrAt 8 (cfgM m (free m)).N = delta (m ((c : Thread nD τ).loc main_arg1)) (gradOf m c) (m ((c : Thread nD τ).loc main_arg6)) (m ((c : Thread nD τ).loc main_arg7)) := by
  refine (dats m (free m) 0 c).arrAt_eq_of_covers 8 _ (covers_8 m) fun t _ y => ?_
  blk_simp
  rw [after0_8]
  unfold outsAt0
  frame_out
  pointwise [k0_pay1, k0_pay2, k0_pay3, k0_pay4, k0_pay5, k0_pay6, k0_pay7, gradOf, grad, delta, newM, newV]
  try rw [(spot t).2.2.1, (spot t).2.2.2]
  blk_point [iblk, V, idx m t]
  all_goals first
    | exact word m c _
    | (refine (congrFun (rd0 m c t) _).trans ?_; blk_point [iblk, V, idx m t]; done)
    | (refine (congrFun (rd1 m c t) _).trans ?_; blk_point [iblk, V, idx m t]; done)
    | (refine (congrFun (rd2 m c t) _).trans ?_; blk_point [iblk, V, idx m t]; done)
    | (refine (congrFun (rd3 m c t) _).trans ?_; blk_point [iblk, V, idx m t]; done)
    | (refine (congrFun (rd4 m c t) _).trans ?_; blk_point [iblk, V, idx m t]; done)
    | (refine (congrFun (rd5 m c t) _).trans ?_; blk_point [iblk, V, idx m t]; done)
    | (refine (congrFun (rd6 m c t) _).trans ?_; blk_point [iblk, V, idx m t]; done)

/-- The blocks of result 2 fill its array. -/
theorem covers_9 : ((cfgM m (free m)).win 9).Covers :=
  Pipeline.Window.covers_of_index_surj _ rfl (show ∀ a : Fin 4, 0 < (![1, 1, 64, 2048] : Fin 4 → ℕ) a by decide) fun β => by
    obtain ⟨t, ht⟩ := onto β
    exact ⟨t, fun a => (congrFun ((idx m _).2.2.2.2.2.2.2.2.2.1) a).trans (ht a)⟩

set_option maxHeartbeats 2000000 in
/-- The array of result 2 after the run. -/
theorem final_newM (c : Dev nD) : (dats m (free m) 0 c).arrAt 9 (cfgM m (free m)).N = newM (gradOf m c) (m ((c : Thread nD τ).loc main_arg6)) := by
  refine (dats m (free m) 0 c).arrAt_eq_of_covers 9 _ (covers_9 m) fun t _ y => ?_
  blk_simp
  rw [after0_9]
  unfold outsAt0
  frame_out
  pointwise [k0_pay1, k0_pay2, k0_pay3, k0_pay4, k0_pay5, k0_pay6, k0_pay7, gradOf, grad, newM]
  try rw [(spot t).2.2.1, (spot t).2.2.2]
  blk_point [iblk, V, idx m t]
  all_goals first
    | exact word m c _
    | (refine (congrFun (rd0 m c t) _).trans ?_; blk_point [iblk, V, idx m t]; done)
    | (refine (congrFun (rd1 m c t) _).trans ?_; blk_point [iblk, V, idx m t]; done)
    | (refine (congrFun (rd2 m c t) _).trans ?_; blk_point [iblk, V, idx m t]; done)
    | (refine (congrFun (rd3 m c t) _).trans ?_; blk_point [iblk, V, idx m t]; done)
    | (refine (congrFun (rd4 m c t) _).trans ?_; blk_point [iblk, V, idx m t]; done)
    | (refine (congrFun (rd5 m c t) _).trans ?_; blk_point [iblk, V, idx m t]; done)
    | (refine (congrFun (rd6 m c t) _).trans ?_; blk_point [iblk, V, idx m t]; done)

/-- The blocks of result 3 fill its array. -/
theorem covers_10 : ((cfgM m (free m)).win 10).Covers :=
  Pipeline.Window.covers_of_index_surj _ rfl (show ∀ a : Fin 4, 0 < (![1, 1, 64, 2048] : Fin 4 → ℕ) a by decide) fun β => by
    obtain ⟨t, ht⟩ := onto β
    exact ⟨t, fun a => (congrFun ((idx m _).2.2.2.2.2.2.2.2.2.2) a).trans (ht a)⟩

set_option maxHeartbeats 2000000 in
/-- The array of result 3 after the run. -/
theorem final_newV (c : Dev nD) : (dats m (free m) 0 c).arrAt 10 (cfgM m (free m)).N = newV (gradOf m c) (m ((c : Thread nD τ).loc main_arg7)) := by
  refine (dats m (free m) 0 c).arrAt_eq_of_covers 10 _ (covers_10 m) fun t _ y => ?_
  blk_simp
  rw [after0_10]
  unfold outsAt0
  frame_out
  pointwise [k0_pay1, k0_pay2, k0_pay3, k0_pay4, k0_pay5, k0_pay6, k0_pay7, gradOf, grad, newV]
  try rw [(spot t).2.2.1, (spot t).2.2.2]
  blk_point [iblk, V, idx m t]
  all_goals first
    | exact word m c _
    | (refine (congrFun (rd0 m c t) _).trans ?_; blk_point [iblk, V, idx m t]; done)
    | (refine (congrFun (rd1 m c t) _).trans ?_; blk_point [iblk, V, idx m t]; done)
    | (refine (congrFun (rd2 m c t) _).trans ?_; blk_point [iblk, V, idx m t]; done)
    | (refine (congrFun (rd3 m c t) _).trans ?_; blk_point [iblk, V, idx m t]; done)
    | (refine (congrFun (rd4 m c t) _).trans ?_; blk_point [iblk, V, idx m t]; done)
    | (refine (congrFun (rd5 m c t) _).trans ?_; blk_point [iblk, V, idx m t]; done)
    | (refine (congrFun (rd6 m c t) _).trans ?_; blk_point [iblk, V, idx m t]; done)

/-- After the run the four results are these, and the arguments are as they were. -/
theorem run_results (ρ : Dev nD → PrngReg) : θ_run defs (onTc (τ := τ) (main (F := Ideal))) ⟨m, fun _ => 0, ρ⟩ (fun r => ∀ c : Dev nD,
      r.2.mem ((c.tc : Thread nD τ).loc main_v0_0) = gradOf m c
      ∧ r.2.mem ((c.tc : Thread nD τ).loc main_v0_1) = delta (m ((c : Thread nD τ).loc main_arg1)) (gradOf m c) (m ((c : Thread nD τ).loc main_arg6)) (m ((c : Thread nD τ).loc main_arg7))
      ∧ r.2.mem ((c.tc : Thread nD τ).loc main_v0_2) = newM (gradOf m c) (m ((c : Thread nD τ).loc main_arg6))
      ∧ r.2.mem ((c.tc : Thread nD τ).loc main_v0_3) = newV (gradOf m c) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1 7).trans (final_grad m c), ((h c).1 8).trans (final_delta m c), ((h c).1 9).trans (final_newM m c), ((h c).1 10).trans (final_newV m c),
      (h c).2 main_arg0 (by decide : main_arg0 ∈ Pipeline.restRefs sig spec0),
      ((h c).1 0).trans (((dats m (free m) 0 c).arrAt_in 0 rfl _).trans (A_eq m (free m) c 0)),
      ((h c).1 1).trans (((dats m (free m) 0 c).arrAt_in 1 rfl _).trans (A_eq m (free m) c 1)),
      ((h c).1 2).trans (((dats m (free m) 0 c).arrAt_in 2 rfl _).trans (A_eq m (free m) c 2)),
      ((h c).1 3).trans (((dats m (free m) 0 c).arrAt_in 3 rfl _).trans (A_eq m (free m) c 3)),
      ((h c).1 4).trans (((dats m (free m) 0 c).arrAt_in 4 rfl _).trans (A_eq m (free m) c 4)),
      ((h c).1 5).trans (((dats m (free m) 0 c).arrAt_in 5 rfl _).trans (A_eq m (free m) c 5)),
      ((h c).1 6).trans (((dats m (free m) 0 c).arrAt_in 6 rfl _).trans (A_eq m (free m) c 6)),
      (h c).2 main_arg8 (by decide : main_arg8 ∈ Pipeline.restRefs sig spec0)⟩) (run_main m ρ (free m))

end Cert.AdamOutIdeal.Step

namespace Cert.Proof.AdamOutClaim

open Cert.AdamOutIdeal.Step

/-- The reference leaves its arguments as they were. -/
theorem frame_ref : Cert.quiescent_AdamOutRefIdeal := fun m ρ _ =>
  (θ_run Cert.AdamOutRefIdeal.defs _ _).mono (fun r h => ⟨fun c => (h c).2.2.2.2,
      Idealize.ShloMosaic.sem_eq_zero_of_no_sems (by decide) r.2⟩)
    (Cert.AdamOutRefIdeal.Value.run (F := Ideal) m ρ)

set_option maxHeartbeats 4000000 in
/-- The kernel's results are those of the reference. -/
theorem algebraic : Cert.algebraic_AdamOutIdeal_AdamOutRefIdeal := by
  intro m ρ m' ρ' _ hag
  refine ⟨_, _, _, _, run_results m ρ, ?_⟩
  refine (θ_run Cert.AdamOutRefIdeal.defs _ _).mono (fun _ h c => ⟨(h c).1.trans ?_, (h c).2.1.trans ?_, (h c).2.2.1.trans ?_, (h c).2.2.2.1.trans ?_, (h c).2.2.2.2⟩)
    (Cert.AdamOutRefIdeal.Value.run (F := Ideal) m' ρ')
  · clear h
    rw [(hag c).1, (hag c).2.2.1, (hag c).2.2.2.1, (hag c).2.2.2.2.1, (hag c).2.2.2.2.2.1]
    clear hag
    funext i
    pointwise! [gradOf, grad]
    simp only [Cert.Pick.half_layer (i 0).val (i 0).isLt]
  · clear h
    unfold Cert.AdamOutRefIdeal.Value.res_main_v37
    rw [(hag c).2.1, (hag c).2.2.2.2.2.2.1, (hag c).2.2.2.2.2.2.2.1, (hag c).1, (hag c).2.2.1, (hag c).2.2.2.1, (hag c).2.2.2.2.1, (hag c).2.2.2.2.2.1]
    clear hag
    funext i
    pointwise! [delta, newM, newV, gradOf, grad]
    simp only [Cert.Pick.half_layer (i 0).val (i 0).isLt]
  · clear h
    rw [(hag c).2.2.2.2.2.2.1, (hag c).1, (hag c).2.2.1, (hag c).2.2.2.1, (hag c).2.2.2.2.1, (hag c).2.2.2.2.2.1]
    clear hag
    funext i
    pointwise! [newM, gradOf, grad]
    simp only [Cert.Pick.half_layer (i 0).val (i 0).isLt]
  · clear h
    rw [(hag c).2.2.2.2.2.2.2.1, (hag c).1, (hag c).2.2.1, (hag c).2.2.2.1, (hag c).2.2.2.2.1, (hag c).2.2.2.2.2.1]
    clear hag
    funext i
    pointwise! [newV, gradOf, grad]
    simp only [Cert.Pick.half_layer (i 0).val (i 0).isLt]

end Cert.Proof.AdamOutClaim

end
-- ==== Proof.AdamMlpClaim.lean ====
/-
  One step of AdamW on a quarter-wise laid out weight: the gradient picked by layer and half, the update, the new first and
  second moments.
-/
module

public import proofs.«01_k».proof.Defs
public import proofs.«01_k».proof.Proof.Pick
public import Idealize.ShloMosaic.Lib.Pipeline.Covers
public import proofs.«01_k».proof.Proof.Gen.AdamMlpIdeal.Frame
public import proofs.«01_k».proof.Proof.Gen.AdamMlpRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamMlpIdeal.Step

open Cert.AdamMlpIdeal Cert.AdamMlpIdeal.Gen

variable (m : (ℓ : Loc nD τ sig) → Buf (Elt Ideal) ℓ)

/-- No window's place depends on the table of words. -/
theorem free : Ok m := trivial

/-- The place of a weight's block: its layer, its half and its band of rows. -/
theorem spot : ∀ t : Fin grid0.N, cc0_transform_0 (grid0.coords t) = ![t.val / 32, t.val / 16 % 2, t.val % 16, 0] ∧ cc0_transform_1 (grid0.coords t) = ![t.val % 16, 0]
    ∧ (grid0.coords t 0).val = t.val / 32 ∧ (grid0.coords t 1).val = t.val / 16 % 2 := by decide +kernel

/-- Every window's block index at every grid point. -/
theorem idx (t : Fin (cfgM m (free m)).N) : ((cfgM m (free m)).win 0).index t = ![t.val / 32, t.val / 16 % 2, t.val % 16, 0]
    ∧ ((cfgM m (free m)).win 1).index t = ![t.val % 16, 0] ∧ ((cfgM m (free m)).win 2).index t = ![t.val % 16, 0]
    ∧ ((cfgM m (free m)).win 3).index t = ![t.val % 16, 0] ∧ ((cfgM m (free m)).win 4).index t = ![t.val % 16, 0]
    ∧ ((cfgM m (free m)).win 5).index t = ![t.val / 32, t.val / 16 % 2, t.val % 16, 0] ∧ ((cfgM m (free m)).win 6).index t = ![t.val / 32, t.val / 16 % 2, t.val % 16, 0]
    ∧ ((cfgM m (free m)).win 7).index t = ![t.val / 32, t.val / 16 % 2, t.val % 16, 0] ∧ ((cfgM m (free m)).win 8).index t = ![t.val / 32, t.val / 16 % 2, t.val % 16, 0]
    ∧ ((cfgM m (free m)).win 9).index t = ![t.val / 32, t.val / 16 % 2, t.val % 16, 0] ∧ ((cfgM m (free m)).win 10).index t = ![t.val / 32, t.val / 16 % 2, t.val % 16, 0] :=
  ⟨(spot t).1, (spot t).2.1, (spot t).2.1, (spot t).2.1, (spot t).2.1, (spot t).1, (spot t).1, (spot t).1, (spot t).1, (spot t).1, (spot t).1⟩

/-- The gradient of the whole weight: a half from this core's own two arrays, the other from the neighbour's. -/
def grad (k : Vec Ideal S1 .i32) (a b e d : FVec Ideal S1024x2048 .f32) : FVec Ideal S2x2x1024x2048 .f32 := fun i =>
  Scalar.select (Scalar.cmpi .eq (BitVec.ofNat 32 (i 0).val) 1#32) (Scalar.select (Scalar.cmpi .eq (BitVec.ofNat 32 (i 1).val) (k (ix1 0))) (b (ix2 (i 2) (i 3))) (d (ix2 (i 2) (i 3))))
    (Scalar.select (Scalar.cmpi .eq (BitVec.ofNat 32 (i 1).val) (k (ix1 0))) (a (ix2 (i 2) (i 3))) (e (ix2 (i 2) (i 3))))

/-- The new first moment. -/
def newM (g m : FVec Ideal S2x2x1024x2048 .f32) : FVec Ideal S2x2x1024x2048 .f32 := fun i => (Ideal.ofBits .f32 0x3F666666#32 : EReal) * m i + (Ideal.ofBits .f32 0x3DCCCCCD#32 : EReal) * g i

/-- The new second moment. -/
def newV (g v : FVec Ideal S2x2x1024x2048 .f32) : FVec Ideal S2x2x1024x2048 .f32 := fun i => (Ideal.ofBits .f32 0x3F7FBE77#32 : EReal) * v i + (Ideal.ofBits .f32 0x3A83126F#32 : EReal) * (g i * g i)

/-- The update: the first moment over the root of the second, both with their corrections, and the weight decay. -/
def delta (w g m v : FVec Ideal S2x2x1024x2048 .f32) : FVec Ideal S2x2x1024x2048 .f32 := fun i =>
  (Ideal.ofBits .f32 0xBA83126F#32 : EReal) * (Ideal.div (Ideal.div (newM g m i) (Ideal.ofBits .f32 0x3F26BD02#32 : EReal))
    (Ideal.sqrt (Ideal.div (newV g v i) (Ideal.ofBits .f32 0x3C231ACC#32 : EReal)) + (Ideal.ofBits .f32 0x322BCC77#32 : EReal)) + (Ideal.ofBits .f32 0x3C23D70A#32 : EReal) * w i)

/-- The gradient of the whole weight, of the arrays the run starts from. -/
abbrev gradOf (c : Dev nD) : FVec Ideal S2x2x1024x2048 .f32 := grad (m ((c : Thread nD τ).loc main_arg0)) (m ((c : Thread nD τ).loc main_arg2)) (m ((c : Thread nD τ).loc main_arg3)) (m ((c : Thread nD τ).loc main_arg4)) (m ((c : Thread nD τ).loc main_arg5))

/-- The word the body reads is the table's one word. -/
theorem word (c : Dev nD) (x : S1.Idx) : View.readAt (Elt Ideal) (View.whole main_arg0) (Rect.unit (s := S1) ![0] ![1] inb_S1_S1_0).toLoadRect (tbl m 0) x
    = (show Vec Ideal S1 .i32 from m ((c : Thread nD τ).loc main_arg0)) (ix1 0) := by
  obtain rfl : c = 0 := Subsingleton.elim _ _
  exact congrArg (m (((0 : Dev nD) : Thread nD τ).loc main_arg0)) (funext fun a => by match a with | 0 => exact Subsingleton.elim (α := Fin 1) _ _)

/-- Every block of a weight is some point's. -/
theorem onto (β : (a : Fin 4) → Fin (((![2, 2, 1024, 2048] : Fin 4 → ℕ) a + (![1, 1, 64, 2048] : Fin 4 → ℕ) a - 1) / (![1, 1, 64, 2048] : Fin 4 → ℕ) a)) :
    ∃ t : Fin grid0.N, ∀ a, (![t.val / 32, t.val / 16 % 2, t.val % 16, 0] : Fin 4 → ℕ) a = (β a).val := by
  have h0 : (β 0).val < 2 := (β 0).isLt
  have h1 : (β 1).val < 2 := (β 1).isLt
  have h2 : (β 2).val < 16 := (β 2).isLt
  have h3 : (β 3).val < 1 := (β 3).isLt
  refine ⟨⟨(β 0).val * 32 + (β 1).val * 16 + (β 2).val, show _ < 64 by omega⟩, fun a => ?_⟩
  match a with
  | 0 => show ((β 0).val * 32 + (β 1).val * 16 + (β 2).val) / 32 = (β 0).val; omega
  | 1 => show ((β 0).val * 32 + (β 1).val * 16 + (β 2).val) / 16 % 2 = (β 1).val; omega
  | 2 => show ((β 0).val * 32 + (β 1).val * 16 + (β 2).val) % 16 = (β 2).val; omega
  | 3 => show 0 = (β 3).val; omega

/-- Input window 0's buffer, read back. -/
theorem rd0 (c : Dev nD) (t : Fin (cfgM m (free m)).N) : View.read (Elt Ideal) (ms0_0 m (free m) t).view ((hs0_0 m (free m) t).unread (iblk m (free m) c 0 t))
    = (show Vec Ideal S1x1x64x2048 .f32 from iblk m (free m) c 0 t) :=
  (hs0_0 m (free m) t).read_unread _

/-- Input window 1's buffer, read back. -/
theorem rd1 (c : Dev nD) (t : Fin (cfgM m (free m)).N) : View.read (Elt Ideal) (ms0_1 m (free m) t).view ((hs0_1 m (free m) t).unread (iblk m (free m) c 1 t))
    = (show Vec Ideal S64x2048 .f32 from iblk m (free m) c 1 t) :=
  (hs0_1 m (free m) t).read_unread _

/-- Input window 2's buffer, read back. -/
theorem rd2 (c : Dev nD) (t : Fin (cfgM m (free m)).N) : View.read (Elt Ideal) (ms0_2 m (free m) t).view ((hs0_2 m (free m) t).unread (iblk m (free m) c 2 t))
    = (show Vec Ideal S64x2048 .f32 from iblk m (free m) c 2 t) :=
  (hs0_2 m (free m) t).read_unread _

/-- Input window 3's buffer, read back. -/
theorem rd3 (c : Dev nD) (t : Fin (cfgM m (free m)).N) : View.read (Elt Ideal) (ms0_3 m (free m) t).view ((hs0_3 m (free m) t).unread (iblk m (free m) c 3 t))
    = (show Vec Ideal S64x2048 .f32 from iblk m (free m) c 3 t) :=
  (hs0_3 m (free m) t).read_unread _

/-- Input window 4's buffer, read back. -/
theorem rd4 (c : Dev nD) (t : Fin (cfgM m (free m)).N) : View.read (Elt Ideal) (ms0_4 m (free m) t).view ((hs0_4 m (free m) t).unread (iblk m (free m) c 4 t))
    = (show Vec Ideal S64x2048 .f32 from iblk m (free m) c 4 t) :=
  (hs0_4 m (free m) t).read_unread _

/-- Input window 5's buffer, read back. -/
theorem rd5 (c : Dev nD) (t : Fin (cfgM m (free m)).N) : View.read (Elt Ideal) (ms0_5 m (free m) t).view ((hs0_5 m (free m) t).unread (iblk m (free m) c 5 t))
    = (show Vec Ideal S1x1x64x2048 .f32 from iblk m (free m) c 5 t) :=
  (hs0_5 m (free m) t).read_unread _

/-- Input window 6's buffer, read back. -/
theorem rd6 (c : Dev nD) (t : Fin (cfgM m (free m)).N) : View.read (Elt Ideal) (ms0_6 m (free m) t).view ((hs0_6 m (free m) t).unread (iblk m (free m) c 6 t))
    = (show Vec Ideal S1x1x64x2048 .f32 from iblk m (free m) c 6 t) :=
  (hs0_6 m (free m) t).read_unread _

/-- The blocks of result 0 fill its array. -/
theorem covers_7 : ((cfgM m (free m)).win 7).Covers :=
  Pipeline.Window.covers_of_index_surj _ rfl (show ∀ a : Fin 4, 0 < (![1, 1, 64, 2048] : Fin 4 → ℕ) a by decide) fun β => by
    obtain ⟨t, ht⟩ := onto β
    exact ⟨t, fun a => (congrFun ((idx m _).2.2.2.2.2.2.2.1) a).trans (ht a)⟩

set_option maxHeartbeats 2000000 in
/-- The array of result 0 after the run. -/
theorem final_grad (c : Dev nD) : (dats m (free m) 0 c).arrAt 7 (cfgM m (free m)).N = gradOf m c := by
  refine (dats m (free m) 0 c).arrAt_eq_of_covers 7 _ (covers_7 m) fun t _ y => ?_
  blk_simp
  rw [after0_7]
  unfold outsAt0
  frame_out
  pointwise [k0_pay1, k0_pay2, k0_pay3, k0_pay4, k0_pay5, k0_pay6, k0_pay7, gradOf, grad]
  try rw [(spot t).2.2.1, (spot t).2.2.2]
  blk_point [iblk, V, idx m t]
  all_goals first
    | exact word m c _
    | (refine (congrFun (rd0 m c t) _).trans ?_; blk_point [iblk, V, idx m t]; done)
    | (refine (congrFun (rd1 m c t) _).trans ?_; blk_point [iblk, V, idx m t]; done)
    | (refine (congrFun (rd2 m c t) _).trans ?_; blk_point [iblk, V, idx m t]; done)
    | (refine (congrFun (rd3 m c t) _).trans ?_; blk_point [iblk, V, idx m t]; done)
    | (refine (congrFun (rd4 m c t) _).trans ?_; blk_point [iblk, V, idx m t]; done)
    | (refine (congrFun (rd5 m c t) _).trans ?_; blk_point [iblk, V, idx m t]; done)
    | (refine (congrFun (rd6 m c t) _).trans ?_; blk_point [iblk, V, idx m t]; done)

/-- The blocks of result 1 fill its array. -/
theorem covers_8 : ((cfgM m (free m)).win 8).Covers :=
  Pipeline.Window.covers_of_index_surj _ rfl (show ∀ a : Fin 4, 0 < (![1, 1, 64, 2048] : Fin 4 → ℕ) a by decide) fun β => by
    obtain ⟨t, ht⟩ := onto β
    exact ⟨t, fun a => (congrFun ((idx m _).2.2.2.2.2.2.2.2.1) a).trans (ht a)⟩

set_option maxHeartbeats 2000000 in
/-- The array of result 1 after the run. -/
theorem final_delta (c : Dev nD) : (dats m (free m) 0 c).arrAt 8 (cfgM m (free m)).N = delta (m ((c : Thread nD τ).loc main_arg1)) (gradOf m c) (m ((c : Thread nD τ).loc main_arg6)) (m ((c : Thread nD τ).loc main_arg7)) := by
  refine (dats m (free m) 0 c).arrAt_eq_of_covers 8 _ (covers_8 m) fun t _ y => ?_
  blk_simp
  rw [after0_8]
  unfold outsAt0
  frame_out
  pointwise [k0_pay1, k0_pay2, k0_pay3, k0_pay4, k0_pay5, k0_pay6, k0_pay7, gradOf, grad, delta, newM, newV]
  try rw [(spot t).2.2.1, (spot t).2.2.2]
  blk_point [iblk, V, idx m t]
  all_goals first
    | exact word m c _
    | (refine (congrFun (rd0 m c t) _).trans ?_; blk_point [iblk, V, idx m t]; done)
    | (refine (congrFun (rd1 m c t) _).trans ?_; blk_point [iblk, V, idx m t]; done)
    | (refine (congrFun (rd2 m c t) _).trans ?_; blk_point [iblk, V, idx m t]; done)
    | (refine (congrFun (rd3 m c t) _).trans ?_; blk_point [iblk, V, idx m t]; done)
    | (refine (congrFun (rd4 m c t) _).trans ?_; blk_point [iblk, V, idx m t]; done)
    | (refine (congrFun (rd5 m c t) _).trans ?_; blk_point [iblk, V, idx m t]; done)
    | (refine (congrFun (rd6 m c t) _).trans ?_; blk_point [iblk, V, idx m t]; done)

/-- The blocks of result 2 fill its array. -/
theorem covers_9 : ((cfgM m (free m)).win 9).Covers :=
  Pipeline.Window.covers_of_index_surj _ rfl (show ∀ a : Fin 4, 0 < (![1, 1, 64, 2048] : Fin 4 → ℕ) a by decide) fun β => by
    obtain ⟨t, ht⟩ := onto β
    exact ⟨t, fun a => (congrFun ((idx m _).2.2.2.2.2.2.2.2.2.1) a).trans (ht a)⟩

set_option maxHeartbeats 2000000 in
/-- The array of result 2 after the run. -/
theorem final_newM (c : Dev nD) : (dats m (free m) 0 c).arrAt 9 (cfgM m (free m)).N = newM (gradOf m c) (m ((c : Thread nD τ).loc main_arg6)) := by
  refine (dats m (free m) 0 c).arrAt_eq_of_covers 9 _ (covers_9 m) fun t _ y => ?_
  blk_simp
  rw [after0_9]
  unfold outsAt0
  frame_out
  pointwise [k0_pay1, k0_pay2, k0_pay3, k0_pay4, k0_pay5, k0_pay6, k0_pay7, gradOf, grad, newM]
  try rw [(spot t).2.2.1, (spot t).2.2.2]
  blk_point [iblk, V, idx m t]
  all_goals first
    | exact word m c _
    | (refine (congrFun (rd0 m c t) _).trans ?_; blk_point [iblk, V, idx m t]; done)
    | (refine (congrFun (rd1 m c t) _).trans ?_; blk_point [iblk, V, idx m t]; done)
    | (refine (congrFun (rd2 m c t) _).trans ?_; blk_point [iblk, V, idx m t]; done)
    | (refine (congrFun (rd3 m c t) _).trans ?_; blk_point [iblk, V, idx m t]; done)
    | (refine (congrFun (rd4 m c t) _).trans ?_; blk_point [iblk, V, idx m t]; done)
    | (refine (congrFun (rd5 m c t) _).trans ?_; blk_point [iblk, V, idx m t]; done)
    | (refine (congrFun (rd6 m c t) _).trans ?_; blk_point [iblk, V, idx m t]; done)

/-- The blocks of result 3 fill its array. -/
theorem covers_10 : ((cfgM m (free m)).win 10).Covers :=
  Pipeline.Window.covers_of_index_surj _ rfl (show ∀ a : Fin 4, 0 < (![1, 1, 64, 2048] : Fin 4 → ℕ) a by decide) fun β => by
    obtain ⟨t, ht⟩ := onto β
    exact ⟨t, fun a => (congrFun ((idx m _).2.2.2.2.2.2.2.2.2.2) a).trans (ht a)⟩

set_option maxHeartbeats 2000000 in
/-- The array of result 3 after the run. -/
theorem final_newV (c : Dev nD) : (dats m (free m) 0 c).arrAt 10 (cfgM m (free m)).N = newV (gradOf m c) (m ((c : Thread nD τ).loc main_arg7)) := by
  refine (dats m (free m) 0 c).arrAt_eq_of_covers 10 _ (covers_10 m) fun t _ y => ?_
  blk_simp
  rw [after0_10]
  unfold outsAt0
  frame_out
  pointwise [k0_pay1, k0_pay2, k0_pay3, k0_pay4, k0_pay5, k0_pay6, k0_pay7, gradOf, grad, newV]
  try rw [(spot t).2.2.1, (spot t).2.2.2]
  blk_point [iblk, V, idx m t]
  all_goals first
    | exact word m c _
    | (refine (congrFun (rd0 m c t) _).trans ?_; blk_point [iblk, V, idx m t]; done)
    | (refine (congrFun (rd1 m c t) _).trans ?_; blk_point [iblk, V, idx m t]; done)
    | (refine (congrFun (rd2 m c t) _).trans ?_; blk_point [iblk, V, idx m t]; done)
    | (refine (congrFun (rd3 m c t) _).trans ?_; blk_point [iblk, V, idx m t]; done)
    | (refine (congrFun (rd4 m c t) _).trans ?_; blk_point [iblk, V, idx m t]; done)
    | (refine (congrFun (rd5 m c t) _).trans ?_; blk_point [iblk, V, idx m t]; done)
    | (refine (congrFun (rd6 m c t) _).trans ?_; blk_point [iblk, V, idx m t]; done)

/-- After the run the four results are these, and the arguments are as they were. -/
theorem run_results (ρ : Dev nD → PrngReg) : θ_run defs (onTc (τ := τ) (main (F := Ideal))) ⟨m, fun _ => 0, ρ⟩ (fun r => ∀ c : Dev nD,
      r.2.mem ((c.tc : Thread nD τ).loc main_v0_0) = gradOf m c
      ∧ r.2.mem ((c.tc : Thread nD τ).loc main_v0_1) = delta (m ((c : Thread nD τ).loc main_arg1)) (gradOf m c) (m ((c : Thread nD τ).loc main_arg6)) (m ((c : Thread nD τ).loc main_arg7))
      ∧ r.2.mem ((c.tc : Thread nD τ).loc main_v0_2) = newM (gradOf m c) (m ((c : Thread nD τ).loc main_arg6))
      ∧ r.2.mem ((c.tc : Thread nD τ).loc main_v0_3) = newV (gradOf m c) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1 7).trans (final_grad m c), ((h c).1 8).trans (final_delta m c), ((h c).1 9).trans (final_newM m c), ((h c).1 10).trans (final_newV m c),
      (h c).2 main_arg0 (by decide : main_arg0 ∈ Pipeline.restRefs sig spec0),
      ((h c).1 0).trans (((dats m (free m) 0 c).arrAt_in 0 rfl _).trans (A_eq m (free m) c 0)),
      ((h c).1 1).trans (((dats m (free m) 0 c).arrAt_in 1 rfl _).trans (A_eq m (free m) c 1)),
      ((h c).1 2).trans (((dats m (free m) 0 c).arrAt_in 2 rfl _).trans (A_eq m (free m) c 2)),
      ((h c).1 3).trans (((dats m (free m) 0 c).arrAt_in 3 rfl _).trans (A_eq m (free m) c 3)),
      ((h c).1 4).trans (((dats m (free m) 0 c).arrAt_in 4 rfl _).trans (A_eq m (free m) c 4)),
      ((h c).1 5).trans (((dats m (free m) 0 c).arrAt_in 5 rfl _).trans (A_eq m (free m) c 5)),
      ((h c).1 6).trans (((dats m (free m) 0 c).arrAt_in 6 rfl _).trans (A_eq m (free m) c 6)),
      (h c).2 main_arg8 (by decide : main_arg8 ∈ Pipeline.restRefs sig spec0)⟩) (run_main m ρ (free m))

end Cert.AdamMlpIdeal.Step

namespace Cert.Proof.AdamMlpClaim

open Cert.AdamMlpIdeal.Step

/-- The reference leaves its arguments as they were. -/
theorem frame_ref : Cert.quiescent_AdamMlpRefIdeal := fun m ρ _ =>
  (θ_run Cert.AdamMlpRefIdeal.defs _ _).mono (fun r h => ⟨fun c => (h c).2.2.2.2,
      Idealize.ShloMosaic.sem_eq_zero_of_no_sems (by decide) r.2⟩)
    (Cert.AdamMlpRefIdeal.Value.run (F := Ideal) m ρ)

set_option maxHeartbeats 4000000 in
/-- The kernel's results are those of the reference. -/
theorem algebraic : Cert.algebraic_AdamMlpIdeal_AdamMlpRefIdeal := by
  intro m ρ m' ρ' _ hag
  refine ⟨_, _, _, _, run_results m ρ, ?_⟩
  refine (θ_run Cert.AdamMlpRefIdeal.defs _ _).mono (fun _ h c => ⟨(h c).1.trans ?_, (h c).2.1.trans ?_, (h c).2.2.1.trans ?_, (h c).2.2.2.1.trans ?_, (h c).2.2.2.2⟩)
    (Cert.AdamMlpRefIdeal.Value.run (F := Ideal) m' ρ')
  · clear h
    rw [(hag c).1, (hag c).2.2.1, (hag c).2.2.2.1, (hag c).2.2.2.2.1, (hag c).2.2.2.2.2.1]
    clear hag
    funext i
    pointwise! [gradOf, grad]
    simp only [Cert.Pick.half_layer (i 0).val (i 0).isLt]
  · clear h
    unfold Cert.AdamMlpRefIdeal.Value.res_main_v37
    rw [(hag c).2.1, (hag c).2.2.2.2.2.2.1, (hag c).2.2.2.2.2.2.2.1, (hag c).1, (hag c).2.2.1, (hag c).2.2.2.1, (hag c).2.2.2.2.1, (hag c).2.2.2.2.2.1]
    clear hag
    funext i
    pointwise! [delta, newM, newV, gradOf, grad]
    simp only [Cert.Pick.half_layer (i 0).val (i 0).isLt]
  · clear h
    rw [(hag c).2.2.2.2.2.2.1, (hag c).1, (hag c).2.2.1, (hag c).2.2.2.1, (hag c).2.2.2.2.1, (hag c).2.2.2.2.2.1]
    clear hag
    funext i
    pointwise! [newM, gradOf, grad]
    simp only [Cert.Pick.half_layer (i 0).val (i 0).isLt]
  · clear h
    rw [(hag c).2.2.2.2.2.2.2.1, (hag c).1, (hag c).2.2.1, (hag c).2.2.2.1, (hag c).2.2.2.2.1, (hag c).2.2.2.2.2.1]
    clear hag
    funext i
    pointwise! [newV, gradOf, grad]
    simp only [Cert.Pick.half_layer (i 0).val (i 0).isLt]

end Cert.Proof.AdamMlpClaim

end
-- ==== Proof.MergeFwdClaim.lean ====
/-
  The gated merge, forward: the two branches under their gates, added and stored in sixteen bits.
-/
module

public import proofs.«01_k».proof.Defs
public import proofs.«01_k».proof.Proof.Gen.MergeFwdIdeal.Value
public import proofs.«01_k».proof.Proof.Gen.MergeFwdRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeFwdIdeal.Merge

open Cert.MergeFwdIdeal Cert.MergeFwdIdeal.Gen

variable (m : (ℓ : Loc nD τ sig) → Buf (Elt Ideal) ℓ)

/-- The logistic function of one number. -/
def sg (x : EReal) : EReal := Ideal.div 1 (1 + Ideal.exp (-x))

/-- The GDN gate's column of the projection over column `j` of the merged array. -/
def colG (i : S4096x2048.Idx) : S4096x10752.Idx := ix2 (i 0) ⟨6144 + (i 1).val, by have : (i 1).val < 2048 := (i 1).isLt; omega⟩
/-- The LRU gate's column. -/
def colL (i : S4096x2048.Idx) : S4096x10752.Idx := ix2 (i 0) ⟨8192 + (i 1).val, by have : (i 1).val < 2048 := (i 1).isLt; omega⟩

/-- The merged array. -/
def merged (p : FVec Ideal S4096x10752 .f32) (g l : FVec Ideal S4096x2048 .f32) : FVec Ideal S4096x2048 .bf16 :=
  fun i => sg (p (colG i)) * g i + sg (p (colL i)) * l i

/-- Every window's block index at every grid point. -/
theorem idx : ∀ t : Fin cfg0.N, win0_0.index t = ![t.val / 2, 6 + t.val % 2] ∧ win0_1.index t = ![t.val / 2, 8 + t.val % 2]
    ∧ win0_2.index t = ![t.val / 2, t.val % 2] ∧ win0_3.index t = ![t.val / 2, t.val % 2] ∧ win0_4.index t = ![t.val / 2, t.val % 2] :=
  (by decide +kernel : ∀ t : Fin grid0.N, _)

/-- The first gate's staged block, read at an index: the projection at the block's place. -/
theorem gate0 (c : Dev nD) (t : Fin cfg0.N) (y : (cfg0.win 0).block.Idx) (j : S4096x10752.Idx)
    (h0 : (j 0 : ℕ) = t.val / 2 * 256 + (y 0).val) (h1 : (j 1 : ℕ) = (6 + t.val % 2) * 1024 + (y 1).val) :
    X0_0 m c t y = m ((c : Thread nD τ).loc main_arg0) j := by
  unfold X0_0
  refine (dif_pos (moved0_0 t y)).trans ?_
  blk_ext [iblk, V, idx t]

/-- The second gate's staged block. -/
theorem gate1 (c : Dev nD) (t : Fin cfg0.N) (y : (cfg0.win 1).block.Idx) (j : S4096x10752.Idx)
    (h0 : (j 0 : ℕ) = t.val / 2 * 256 + (y 0).val) (h1 : (j 1 : ℕ) = (8 + t.val % 2) * 1024 + (y 1).val) :
    X0_1 m c t y = m ((c : Thread nD τ).loc main_arg0) j := by
  unfold X0_1
  refine (dif_pos (moved0_1 t y)).trans ?_
  blk_ext [iblk, V, idx t]

/-- The merged array after the run. -/
theorem final4 (c : Dev nD) : (dats m 0 c).arrAt 4 (cfgs 0).N = merged (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  unfold outsAt0
  frame_out
  pointwise [k0_pay1, merged, sg]
  simp only [zero_sub]
  rw [gate0 m c t y (colG (((cfg0.win 4).blk t).view.emb y)) (by unfold colG; blk_simp [idx t]) (by unfold colG; blk_simp [idx t]; dsimp only; omega),
    gate1 m c t y (colL (((cfg0.win 4).blk t).view.emb y)) (by unfold colL; blk_simp [idx t]) (by unfold colL; blk_simp [idx t]; dsimp only; omega)]
  blk_point [iblk, V, idx t]

end Cert.MergeFwdIdeal.Merge

namespace Cert.Proof.MergeFwdClaim

open Cert.MergeFwdIdeal.Merge

/-- The reference leaves its arguments as they were. -/
theorem frame_ref : Cert.quiescent_MergeFwdRefIdeal := fun m ρ _ =>
  (θ_run Cert.MergeFwdRefIdeal.defs _ _).mono (fun r h => ⟨fun c => (h c).2,
      Idealize.ShloMosaic.sem_eq_zero_of_no_sems (by decide) r.2⟩)
    (Cert.MergeFwdRefIdeal.Value.run (F := Ideal) m ρ)

/-- The kernel's results are those of the reference. -/
theorem algebraic : Cert.algebraic_MergeFwdIdeal_MergeFwdRefIdeal := by
  intro m ρ m' ρ' _ hag
  refine ⟨fun c => merged (m ((c.tc : Thread _ _).loc Cert.MergeFwdIdeal.main_arg0)) (m ((c.tc : Thread _ _).loc Cert.MergeFwdIdeal.main_arg1)) (m ((c.tc : Thread _ _).loc Cert.MergeFwdIdeal.main_arg2)), ?_, ?_⟩
  · exact (θ_run Cert.MergeFwdIdeal.defs _ _).mono (fun _ h c => ⟨(h c).1.trans (final4 m c), (h c).2⟩)
      (Cert.MergeFwdIdeal.Value.run_blocks (F := Ideal) m ρ)
  · refine (θ_run Cert.MergeFwdRefIdeal.defs _ _).mono (fun _ h c => ⟨(h c).1.trans ?_, (h c).2⟩)
      (Cert.MergeFwdRefIdeal.Value.run (F := Ideal) m' ρ')
    · rw [(hag c).1, (hag c).2.1, (hag c).2.2]
      funext i
      clear h hag
      pointwise! [merged, sg, colG, colL]

end Cert.Proof.MergeFwdClaim

end
-- ==== Proof.RmsHead.lean ====
/-
  The derivative of the root-mean-square normalisation: what the kernel computes with the normalised row is what
  the chain rule gives, whatever the entries are.
-/
module

public import proofs.«01_k».proof.Defs
public import Idealize.ShloMosaic.Lib.IdealHost

@[expose] public section

noncomputable section

open Idealize.ShloMosaic

namespace Cert.RmsHead

/-- The row length, 128. -/
theorem len_val : (Ideal.ofBits .f32 0x43000000#32 : EReal) = ((128 : ℝ) : EReal) := by
  simp [Ideal.ofBits, Ideal.ieee, -EReal.coe_mul]; norm_num

/-- Minus one half. -/
theorem neg_half : (Ideal.ofBits .f32 0xBF000000#32 : EReal) = ((-(1 / 2) : ℝ) : EReal) := by
  simp [Ideal.ofBits, Ideal.ieee, -EReal.coe_mul, -EReal.coe_neg]; norm_num

/-- The number added under the root. -/
theorem eps_val : (Ideal.ofBits .f32 0x358637BD#32 : EReal) = ((8796093 * (2 ^ 43)⁻¹ : ℝ) : EReal) := by
  simp [Ideal.ofBits, Ideal.ieee, -EReal.coe_mul, -EReal.coe_pow, zpow_neg]

/-- It is positive. -/
theorem eps_pos : (0 : EReal) < Ideal.ofBits .f32 0x358637BD#32 := by
  rw [eps_val]
  exact EReal.coe_pos.mpr (by positivity)

/-- A quotient by the row length is a product with a real. -/
theorem div_len (x : EReal) : Ideal.div x (Ideal.ofBits .f32 0x43000000#32 : EReal) = x * ((1 / 128 : ℝ) : EReal) := by
  rw [len_val, Ideal.div, if_neg (by norm_cast), ← EReal.coe_inv, one_div]

theorem sq_nonneg (x : EReal) : 0 ≤ x * x := by
  induction x with
  | bot => simp
  | top => simp
  | coe r => exact_mod_cast mul_self_nonneg r

/-- A factor that is finite and not negative may be taken out of a sum. -/
theorem mul_sum {ι : Type} (s : Finset ι) (f : ι → EReal) {r : EReal} (h0 : 0 ≤ r) (ht : r ≠ ⊤) :
    r * ∑ l ∈ s, f l = ∑ l ∈ s, r * f l := by
  classical
  induction s using Finset.induction_on with
  | empty => simp
  | insert a s ha ih => rw [Finset.sum_insert ha, Finset.sum_insert ha, EReal.left_distrib_of_nonneg_of_ne_top h0 ht, ih]

/-- The mean square of a row, made positive. -/
def meanSq (x : Fin 128 → EReal) : EReal :=
  Ideal.div (∑ l, x l * x l) (Ideal.ofBits .f32 0x43000000#32 : EReal) + (Ideal.ofBits .f32 0x358637BD#32 : EReal)

/-- The inverse root of a row's mean square. -/
def invRoot (x : Fin 128 → EReal) : EReal := Ideal.rsqrt (meanSq x)

theorem meanSq_pos (x : Fin 128 → EReal) : 0 < meanSq x := by
  unfold meanSq
  rw [div_len]
  refine lt_of_lt_of_le eps_pos ?_
  refine le_add_of_nonneg_left (mul_nonneg (Finset.sum_nonneg fun l _ => sq_nonneg _) ?_)
  exact_mod_cast (by norm_num)

/-- Either the mean square is infinite and its inverse root zero, or the inverse root is a positive real and its
    quotient by the mean square its cube. -/
theorem invRoot_cases (x : Fin 128 → EReal) :
    (invRoot x = 0 ∧ Ideal.div (invRoot x) (meanSq x) = 0)
      ∨ ∃ r : ℝ, 0 < r ∧ invRoot x = (r : EReal) ∧ Ideal.div (invRoot x) (meanSq x) = ((r ^ 3 : ℝ) : EReal) := by
  have hp := meanSq_pos x
  unfold invRoot
  generalize meanSq x = a at hp ⊢
  induction a with
  | bot => simp at hp
  | top => left; simp [Ideal.div]
  | coe v =>
    right
    have hv : 0 < v := by exact_mod_cast hp
    have hs : 0 < Real.sqrt v := Real.sqrt_pos.mpr hv
    refine ⟨(Real.sqrt v)⁻¹, inv_pos.mpr hs, ?_, ?_⟩
    · rw [Ideal.rsqrt_coe, if_neg (not_lt.mpr hv.le), if_neg hv.ne']
    · rw [Ideal.rsqrt_coe, if_neg (not_lt.mpr hv.le), if_neg hv.ne', Ideal.div, if_neg (by exact_mod_cast hv.ne'),
        ← EReal.coe_inv, ← EReal.coe_mul]
      congr 1
      have h2 : v = Real.sqrt v * Real.sqrt v := (Real.mul_self_sqrt hv.le).symm
      rw [show v⁻¹ = (Real.sqrt v)⁻¹ * (Real.sqrt v)⁻¹ by rw [← mul_inv, ← h2]]
      ring

theorem invRoot_nonneg (x : Fin 128 → EReal) : 0 ≤ invRoot x := by
  rcases invRoot_cases x with ⟨h, _⟩ | ⟨r, hr, h, _⟩ <;> rw [h]
  exact_mod_cast hr.le

theorem invRoot_ne_top (x : Fin 128 → EReal) : invRoot x ≠ ⊤ := by
  rcases invRoot_cases x with ⟨h, _⟩ | ⟨r, hr, h, _⟩ <;> rw [h] <;> simp

/-- Twice half a negative multiple. -/
theorem twice_half (b : ℝ) (hb : 0 < b) (p : EReal) :
    p * ((-(b / 2) : ℝ) : EReal) + p * ((-(b / 2) : ℝ) : EReal) = -(p * (b : EReal)) := by
  induction p with
  | bot =>
    rw [EReal.bot_mul_coe_of_neg (by linarith), EReal.bot_mul_coe_of_pos hb]; simp
  | top =>
    rw [EReal.top_mul_coe_of_neg (by linarith), EReal.top_mul_coe_of_pos hb]; simp
  | coe v =>
    rw [← EReal.coe_mul, ← EReal.coe_mul, ← EReal.coe_add, ← EReal.coe_neg]
    congr 1; ring

/-- One entry of the gradient with respect to the row: the kernel's form and the chain rule's. -/
theorem grad_entry (x y : Fin 128 → EReal) (p q : EReal) :
    invRoot x * (q - p * invRoot x * Ideal.div (∑ l, y l * (x l * invRoot x)) (Ideal.ofBits .f32 0x43000000#32 : EReal))
      = q * invRoot x
        + p * Ideal.div ((∑ l, x l * y l) * ((Ideal.ofBits .f32 0xBF000000#32 : EReal) * Ideal.div (invRoot x) (meanSq x))) (Ideal.ofBits .f32 0x43000000#32 : EReal)
        + Ideal.div ((∑ l, x l * y l) * ((Ideal.ofBits .f32 0xBF000000#32 : EReal) * Ideal.div (invRoot x) (meanSq x))) (Ideal.ofBits .f32 0x43000000#32 : EReal) * p := by
  have hs : (∑ l, y l * (x l * invRoot x)) = invRoot x * ∑ l, x l * y l := by
    rw [mul_sum _ _ (invRoot_nonneg x) (invRoot_ne_top x)]
    exact Finset.sum_congr rfl fun l _ => by rw [← mul_assoc, mul_comm, mul_comm (y l)]
  rw [hs, div_len, div_len, neg_half]
  generalize (∑ l, x l * y l) = s
  rcases invRoot_cases x with ⟨h, h'⟩ | ⟨r, hr, h, h'⟩
  · rw [h', h]; simp
  · rw [h', h, ← EReal.coe_mul]
    have h1 : p * (s * ((-(1 / 2) * r ^ 3 : ℝ) : EReal) * ((1 / 128 : ℝ) : EReal)) = p * s * ((-((r ^ 3 / 128) / 2) : ℝ) : EReal) := by
      rw [mul_assoc s, ← EReal.coe_mul, ← mul_assoc]
      congr 2; ring
    rw [add_assoc, mul_comm _ p, h1, twice_half _ (by positivity), sub_eq_add_neg,
      EReal.left_distrib_of_nonneg_of_ne_top (by exact_mod_cast hr.le) (EReal.coe_ne_top _), mul_comm (r : EReal) q,
      mul_neg]
    congr 2
    calc (r : EReal) * (p * r * (r * s * ((1 / 128 : ℝ) : EReal)))
        = p * s * ((r : EReal) * (r : EReal) * (r : EReal) * ((1 / 128 : ℝ) : EReal)) := by
          simp only [mul_comm, mul_left_comm, mul_assoc]
      _ = _ := by
          rw [← EReal.coe_mul, ← EReal.coe_mul, ← EReal.coe_mul]
          congr 2; ring

end Cert.RmsHead

end
-- ==== Proof.GdnPostFwdClaim.lean ====
/-
  A head's output, normalised over its lanes, times the gain and the gate.
-/
module

public import proofs.«01_k».proof.Defs
public import proofs.«01_k».proof.Proof.RmsHead
public import proofs.«01_k».proof.Proof.Gen.GdnPostFwdIdeal.Value
public import proofs.«01_k».proof.Proof.Gen.GdnPostFwdRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GdnPostFwdIdeal.Post

open Cert.GdnPostFwdIdeal Cert.GdnPostFwdIdeal.Gen Cert.RmsHead

variable (m : (ℓ : Loc nD τ sig) → Buf (Elt Ideal) ℓ)

/-- The logistic function of one number. -/
def sg (x : EReal) : EReal := Ideal.div 1 (1 + Ideal.exp (-x))

/-- Row `r`, lane `l` of the head that column `j` lies in. -/
def lane (i : S4096x1024.Idx) (l : Fin 128) : S4096x1024.Idx :=
  ix2 (i 0) ⟨(i 1).val / 128 * 128 + l.val, by have : (i 1).val < 1024 := (i 1).isLt; have := l.isLt; omega⟩

/-- The gate's column of the projection over column `j`. -/
def colZ (i : S4096x1024.Idx) : S4096x10752.Idx := ix2 (i 0) ⟨3072 + (i 1).val, by have : (i 1).val < 1024 := (i 1).isLt; omega⟩

/-- The gain's entry for column `j`. -/
def gainAt (i : S4096x1024.Idx) : S128.Idx := ix1 ⟨(i 1).val % 128, Nat.mod_lt _ (by decide)⟩

/-- The gated norm. -/
def gated (o : FVec Ideal S4096x1024 .f32) (p : FVec Ideal S4096x10752 .f32) (g : FVec Ideal S128 .f32) : FVec Ideal S4096x1024 .bf16 :=
  fun i => o i * invRoot (fun l => o (lane i l)) * g (gainAt i) * (p (colZ i) * sg (p (colZ i)))

/-- Every window's block index at every grid point. -/
theorem idx : ∀ t : Fin cfg0.N, win0_0.index t = ![t.val / 8, t.val % 8] ∧ win0_1.index t = ![t.val / 8, 24 + t.val % 8]
    ∧ win0_2.index t = ![0, 0] ∧ win0_3.index t = ![t.val / 8, t.val % 8] :=
  (by decide +kernel : ∀ t : Fin grid0.N, _)

/-- The gain's window at entry is the gain as one row. -/
theorem entry_gain (c : Dev nD) (j : S1x128.Idx) :
    V m c main_v0 j = m ((c : Thread nD τ).loc main_arg2) (ix1 (j 1)) := by
  entry_read
  pointwise

theorem hpay (o z : FVec Ideal S2048x128 .f32) (g : FVec Ideal S1x128 .f32) (j : S2048x128.Idx) :
    k0_pay1 (F := Ideal) o z g j = o j * invRoot (fun l => o (ix2 (j 0) l)) * g (ix2 0 (j 1)) * (z j * sg (z j)) := by
  pointwise [k0_pay1, invRoot, meanSq, sg]
  try simp only [zero_sub]

/-- A head's block, read in the array. -/
theorem blk0 (c : Dev nD) (t : Fin cfg0.N) (y : (cfg0.win 3).block.Idx) (l : Fin 128) :
    (show FVec Ideal S2048x128 .f32 from iblk m c 0 t) (ix2 (y 0) l) = (m ((c : Thread nD τ).loc main_arg0)) (lane (((cfg0.win 3).blk t).view.emb y) l) := by
  blk_point [iblk, V, idx t, lane]

/-- The gain's block. -/
theorem blkG (c : Dev nD) (t : Fin cfg0.N) (y : (cfg0.win 3).block.Idx) :
    (show FVec Ideal S1x128 .f32 from iblk m c 2 t) (ix2 0 (y 1)) = (m ((c : Thread nD τ).loc main_arg2)) (gainAt (((cfg0.win 3).blk t).view.emb y)) := by
  refine Eq.trans (b := (m ((c : Thread nD τ).loc main_arg2)) (ix1 (y 1))) ?_ (congrArg (m ((c : Thread nD τ).loc main_arg2)) (congrArg ix1 (Fin.ext ?_)))
  · blk_point [iblk, idx t]
  · have hy : (y 1).val < 128 := (y 1).isLt
    blk_simp [idx t]
    show (y 1).val = (t.val % 8 * 128 + (y 1).val) % 128
    omega

/-- The gate's block. -/
theorem blkZ (c : Dev nD) (t : Fin cfg0.N) (y : (cfg0.win 3).block.Idx) :
    (show FVec Ideal S2048x128 .f32 from iblk m c 1 t) y = (m ((c : Thread nD τ).loc main_arg1)) (colZ (((cfg0.win 3).blk t).view.emb y)) := by
  unfold colZ
  blk_point [iblk, V, idx t]

/-- The array after the run. -/
theorem final3 (c : Dev nD) : (dats m 0 c).arrAt 3 (cfgs 0).N = gated (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  refine (hpay _ _ _ _).trans ?_
  unfold gated
  refine congrArg₂ (fun p q : EReal => p * q) (congrArg₂ (fun p q : EReal => p * q) (congrArg₂ (fun p q : EReal => p * q) ?_ ?_) ?_) ?_
  · blk_point [iblk, V, idx t]
  · exact congrArg invRoot (funext fun l => blk0 m c t y l)
  · exact blkG m c t y
  · exact congrArg (fun z : EReal => z * sg z) (blkZ m c t y)

end Cert.GdnPostFwdIdeal.Post

namespace Cert.Proof.GdnPostFwdClaim

open Cert.GdnPostFwdIdeal.Post

/-- The reference leaves its arguments as they were. -/
theorem frame_ref : Cert.quiescent_GdnPostFwdRefIdeal := fun m ρ _ =>
  (θ_run Cert.GdnPostFwdRefIdeal.defs _ _).mono (fun r h => ⟨fun c => (h c).2,
      Idealize.ShloMosaic.sem_eq_zero_of_no_sems (by decide) r.2⟩)
    (Cert.GdnPostFwdRefIdeal.Value.run (F := Ideal) m ρ)

/-- The kernel's results are those of the reference. -/
theorem algebraic : Cert.algebraic_GdnPostFwdIdeal_GdnPostFwdRefIdeal := by
  intro m ρ m' ρ' _ hag
  refine ⟨fun c => gated (m ((c.tc : Thread _ _).loc Cert.GdnPostFwdIdeal.main_arg0)) (m ((c.tc : Thread _ _).loc Cert.GdnPostFwdIdeal.main_arg1)) (m ((c.tc : Thread _ _).loc Cert.GdnPostFwdIdeal.main_arg2)), ?_, ?_⟩
  · exact (θ_run Cert.GdnPostFwdIdeal.defs _ _).mono (fun _ h c => ⟨(h c).1.trans (final3 m c), (h c).2⟩)
      (Cert.GdnPostFwdIdeal.Value.run_blocks (F := Ideal) m ρ)
  · refine (θ_run Cert.GdnPostFwdRefIdeal.defs _ _).mono (fun _ h c => ⟨(h c).1.trans ?_, (h c).2⟩)
      (Cert.GdnPostFwdRefIdeal.Value.run (F := Ideal) m' ρ')
    · rw [(hag c).1, (hag c).2.1, (hag c).2.2]
      funext i
      clear h hag
      pointwise! [gated, sg, colZ, gainAt, lane, Cert.RmsHead.invRoot, Cert.RmsHead.meanSq]

end Cert.Proof.GdnPostFwdClaim

end
-- ==== Proof.DabReduceClaim.lean ====
/-
  The heads' partial gradients of the gates added up, and the sum of that over the rows.
-/
module

public import proofs.«01_k».proof.Defs
public import proofs.«01_k».proof.Proof.Sums
public import proofs.«01_k».proof.Proof.Gen.DabReduceIdeal.Value
public import proofs.«01_k».proof.Proof.Gen.DabReduceRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DabReduceIdeal.Heads

open Cert.DabReduceIdeal Cert.DabReduceIdeal.Gen

variable (m : (ℓ : Loc nD τ sig) → Buf (Elt Ideal) ℓ)

/-- The sum of one row's eight heads at lane `l`. -/
def heads (f : Fin 1024 → EReal) (l : Fin 128) : EReal :=
  f ⟨0 + l.val, by have := l.isLt; omega⟩ + f ⟨128 + l.val, by have := l.isLt; omega⟩ + f ⟨256 + l.val, by have := l.isLt; omega⟩ + f ⟨384 + l.val, by have := l.isLt; omega⟩ + f ⟨512 + l.val, by have := l.isLt; omega⟩ + f ⟨640 + l.val, by have := l.isLt; omega⟩ + f ⟨768 + l.val, by have := l.isLt; omega⟩ + f ⟨896 + l.val, by have := l.isLt; omega⟩

/-- Each row's sum over its heads. -/
def rowSum (d : FVec Ideal S4096x1024 .f32) : FVec Ideal S4096x128 .f32 := fun i => heads (fun q => d (ix2 (i 0) q)) (i 1)

/-- The same added over all rows. -/
def colSum (d : FVec Ideal S4096x1024 .f32) : FVec Ideal S1x128 .f32 := fun i => ∑ k : Fin 4096, heads (fun q => d (ix2 k q)) (i 1)

/-- Every window's block index at every grid point. -/
theorem idx : ∀ t : Fin cfg0.N, win0_0.index t = ![t.val, 0] ∧ win0_1.index t = ![t.val, 0] ∧ win0_2.index t = ![0, 0] :=
  (by decide +kernel : ∀ t : Fin grid0.N, _)

/-- The array of the rows' sums after the run. -/
theorem final1 (c : Dev nD) : (dats m 0 c).arrAt 1 (cfgs 0).N = rowSum (m ((c : Thread nD τ).loc main_arg0)) := by
  refine (dats m 0 c).arrAt_eq_of_covers 1 _ (by decide +kernel) fun t _ y => ?_
  blk_simp
  rw [after0_1]
  by_cases h0 : t.val % 8 = 0
  · rw [outsAt0_A m c t h0]
    frame_out
    pointwise [k0_pay1, rowSum, heads]
    blk_point [iblk, V, idx t]
  · rw [outsAt0_B m c t h0]
    frame_out
    pointwise [k0_pay1, rowSum, heads]
    blk_point [iblk, V, idx t]

/-- What one point adds. -/
def part (c : Dev nD) (j : S1x128.Idx) (n : ℕ) (h : n < cfg0.N) : EReal :=
  ∑ k : Fin 512, heads (fun q => (show FVec Ideal S512x1024 .f32 from iblk m c 0 ⟨n, h⟩) (ix2 k q)) (j 1)

/-- At the last point the buffer and the last part are the sum over all points. -/
theorem total (c : Dev nD) (j : S1x128.Idx) (t : ℕ) (h : t < cfg0.N) (ht : t % 8 = 8 - 1) :
    (outsAt0 m c (t - 1) (by omega)).2 j + part m c j t h
      = ∑ i : Fin 8, part m c j (8 * (t / 8) + i.val) (by have := i.isLt; have := Nat.div_add_mod t 8; omega) :=
  Cert.Sums.run_total 8 (by decide) (fun n h => (outsAt0 m c n h).2 j) (part m c j)
    (fun n h h0 => by
      show (outsAt0 m c n h).2 j = _
      rw [outsAt0_A m c ⟨n, h⟩ h0]
      frame_out
      pointwise [k0_pay3, k0_pay1, k0_pay2, part, heads])
    (fun n h h0 h1 => by
      show (outsAt0 m c n h).2 j = _
      rw [outsAt0_B m c ⟨n, h⟩ h0]
      frame_out
      pointwise [k0_pay3, k0_pay1, part, heads]) t h ht

/-- The array of the whole sum after the run. -/
theorem final2 (c : Dev nD) : (dats m 0 c).arrAt 2 (cfgs 0).N = colSum (m ((c : Thread nD τ).loc main_arg0)) := by
  refine (dats m 0 c).arrAt_eq_of_covers 2 _ (by decide +kernel) fun t hf y => ?_
  have ht : t.val % 8 = 7 := (flush0_2 t).mp hf
  have hN : t.val < 8 := lt_of_lt_of_eq t.isLt N_0
  blk_simp
  rw [after0_2, outsAt0_B m c t (by omega)]
  frame_out
  refine Eq.trans (b := (outsAt0 m c (t.val - 1) (lt_of_le_of_lt (Nat.sub_le _ _) t.isLt)).2 y + part m c y t.val t.isLt) (by pointwise [k0_pay3, k0_pay1, part, heads]) ?_
  refine (total m c y t.val t.isLt ht).trans ?_
  refine Fin.sum_mul_add_congr fun s k hl => ?_
  dsimp only [heads]
  blk_point [iblk, V, idx t, idx ⟨_, Pipeline.run_point_lt_of_flush t ht s⟩, hl]

end Cert.DabReduceIdeal.Heads

namespace Cert.Proof.DabReduceClaim

open Cert.DabReduceIdeal.Heads

/-- The reference leaves its arguments as they were. -/
theorem frame_ref : Cert.quiescent_DabReduceRefIdeal := fun m ρ _ =>
  (θ_run Cert.DabReduceRefIdeal.defs _ _).mono (fun r h => ⟨fun c => (h c).2.2,
      Idealize.ShloMosaic.sem_eq_zero_of_no_sems (by decide) r.2⟩)
    (Cert.DabReduceRefIdeal.Value.run (F := Ideal) m ρ)

/-- The kernel's results are those of the reference. -/
theorem algebraic : Cert.algebraic_DabReduceIdeal_DabReduceRefIdeal := by
  intro m ρ m' ρ' _ hag
  refine ⟨fun c => rowSum (m ((c.tc : Thread _ _).loc Cert.DabReduceIdeal.main_arg0)), fun c => colSum (m ((c.tc : Thread _ _).loc Cert.DabReduceIdeal.main_arg0)), ?_, ?_⟩
  · exact (θ_run Cert.DabReduceIdeal.defs _ _).mono (fun _ h c => ⟨(h c).1.trans (final1 m c), (h c).2.1.trans (final2 m c), (h c).2.2⟩)
      (Cert.DabReduceIdeal.Value.run_blocks (F := Ideal) m ρ)
  · refine (θ_run Cert.DabReduceRefIdeal.defs _ _).mono (fun _ h c => ⟨(h c).1.trans ?_, (h c).2.1.trans ?_, (h c).2.2⟩)
      (Cert.DabReduceRefIdeal.Value.run (F := Ideal) m' ρ')
    · rw [hag c]
      funext i
      clear h hag
      pointwise [rowSum, heads]
      simp only [Fin.sum_univ_eight]
      pointwise
    · rw [hag c]
      funext i
      clear h hag
      pointwise [colSum, heads]
      simp only [Fin.sum_univ_eight]
      pointwise

end Cert.Proof.DabReduceClaim

end
-- ==== Proof.LruConvFwdClaim.lean ====
/-
  The causal convolution of the recurrent branch, four taps and the bias.
-/
module

public import proofs.«01_k».proof.Defs
public import proofs.«01_k».proof.Proof.Gen.LruConvFwdIdeal.Value
public import proofs.«01_k».proof.Proof.Gen.LruConvFwdRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.LruConvFwdIdeal.Conv

open Cert.LruConvFwdIdeal Cert.LruConvFwdIdeal.Gen

variable (m : (ℓ : Loc nD τ sig) → Buf (Elt Ideal) ℓ)

/-- A block's rows moved down by `s`, the first `s` taken from the end of the eight rows before it. -/
def moved (s : ℕ) (x : FVec Ideal S2048x128 .f32) (p : FVec Ideal S8x128 .f32) (j : S2048x128.Idx) (hs : s < 8) : EReal :=
  if h : (j 0).val < s then p (ix2 ⟨8 - s + (j 0).val, by omega⟩ (j 1)) else x (ix2 ⟨(j 0).val - s, by have : (j 0).val < 2048 := (j 0).isLt; omega⟩ (j 1))

theorem pick1 (a : ℕ) (ha : a < 8) (u v : EReal) :
    Scalar.select (IntOp.cmpi CmpIPredicate.slt (BitVec.ofNat 32 a) 1#32) u v = if a < 1 then u else v := by
  interval_cases a <;> rfl

theorem down1 (x : FVec Ideal S2048x128 .f32) (p : FVec Ideal S8x128 .f32) (j : S2048x128.Idx) :
    concatenate S2048x128 0 [⟨S8x128, select (cmpi .slt (iota .tc S8x128 32 [0] iota_S8x128_d0_w32) (broadcast S8x128 1#32)) (dynamicRotate 0 1#32 none p rotates_S8x128_d0)
      (extractStridedSlice S8x128 ![0, 0] (dynamicRotate 0 1#32 none x rotates_S2048x128_d0) slices_S2048x128_o0_0_S8x128)⟩,
      ⟨S2040x128, extractStridedSlice S2040x128 ![8, 0] (dynamicRotate 0 1#32 none x rotates_S2048x128_d0) slices_S2048x128_o8_0_S2040x128⟩] concatenates_S8x128_S2040x128_S2048x128_d0 j = moved 1 x p j (by decide) := by
  have hj : (j 0).val < 2048 := (j 0).isLt
  pointwise [moved]
  by_cases h8 : (j 0).val < 8
  · rw [dif_pos h8, pick1 _ h8]
    by_cases hs : (j 0).val < 1
    · rw [if_pos hs, dif_pos hs]
      exact congrArg p (congrArg (fun r => ix2 r (j 1)) (Fin.ext (by dsimp only; omega)))
    · rw [if_neg hs, dif_neg hs]
      exact congrArg x (congrArg (fun r => ix2 r (j 1)) (Fin.ext (by dsimp only; omega)))
  · rw [dif_neg h8, dif_neg (by omega)]
    exact congrArg x (congrArg (fun r => ix2 r (j 1)) (Fin.ext (by dsimp only; omega)))

theorem pick2 (a : ℕ) (ha : a < 8) (u v : EReal) :
    Scalar.select (IntOp.cmpi CmpIPredicate.slt (BitVec.ofNat 32 a) 2#32) u v = if a < 2 then u else v := by
  interval_cases a <;> rfl

theorem down2 (x : FVec Ideal S2048x128 .f32) (p : FVec Ideal S8x128 .f32) (j : S2048x128.Idx) :
    concatenate S2048x128 0 [⟨S8x128, select (cmpi .slt (iota .tc S8x128 32 [0] iota_S8x128_d0_w32) (broadcast S8x128 2#32)) (dynamicRotate 0 2#32 none p rotates_S8x128_d0)
      (extractStridedSlice S8x128 ![0, 0] (dynamicRotate 0 2#32 none x rotates_S2048x128_d0) slices_S2048x128_o0_0_S8x128)⟩,
      ⟨S2040x128, extractStridedSlice S2040x128 ![8, 0] (dynamicRotate 0 2#32 none x rotates_S2048x128_d0) slices_S2048x128_o8_0_S2040x128⟩] concatenates_S8x128_S2040x128_S2048x128_d0 j = moved 2 x p j (by decide) := by
  have hj : (j 0).val < 2048 := (j 0).isLt
  pointwise [moved]
  by_cases h8 : (j 0).val < 8
  · rw [dif_pos h8, pick2 _ h8]
    by_cases hs : (j 0).val < 2
    · rw [if_pos hs, dif_pos hs]
      exact congrArg p (congrArg (fun r => ix2 r (j 1)) (Fin.ext (by dsimp only; omega)))
    · rw [if_neg hs, dif_neg hs]
      exact congrArg x (congrArg (fun r => ix2 r (j 1)) (Fin.ext (by dsimp only; omega)))
  · rw [dif_neg h8, dif_neg (by omega)]
    exact congrArg x (congrArg (fun r => ix2 r (j 1)) (Fin.ext (by dsimp only; omega)))

theorem pick3 (a : ℕ) (ha : a < 8) (u v : EReal) :
    Scalar.select (IntOp.cmpi CmpIPredicate.slt (BitVec.ofNat 32 a) 3#32) u v = if a < 3 then u else v := by
  interval_cases a <;> rfl

theorem down3 (x : FVec Ideal S2048x128 .f32) (p : FVec Ideal S8x128 .f32) (j : S2048x128.Idx) :
    concatenate S2048x128 0 [⟨S8x128, select (cmpi .slt (iota .tc S8x128 32 [0] iota_S8x128_d0_w32) (broadcast S8x128 3#32)) (dynamicRotate 0 3#32 none p rotates_S8x128_d0)
      (extractStridedSlice S8x128 ![0, 0] (dynamicRotate 0 3#32 none x rotates_S2048x128_d0) slices_S2048x128_o0_0_S8x128)⟩,
      ⟨S2040x128, extractStridedSlice S2040x128 ![8, 0] (dynamicRotate 0 3#32 none x rotates_S2048x128_d0) slices_S2048x128_o8_0_S2040x128⟩] concatenates_S8x128_S2040x128_S2048x128_d0 j = moved 3 x p j (by decide) := by
  have hj : (j 0).val < 2048 := (j 0).isLt
  pointwise [moved]
  by_cases h8 : (j 0).val < 8
  · rw [dif_pos h8, pick3 _ h8]
    by_cases hs : (j 0).val < 3
    · rw [if_pos hs, dif_pos hs]
      exact congrArg p (congrArg (fun r => ix2 r (j 1)) (Fin.ext (by dsimp only; omega)))
    · rw [if_neg hs, dif_neg hs]
      exact congrArg x (congrArg (fun r => ix2 r (j 1)) (Fin.ext (by dsimp only; omega)))
  · rw [dif_neg h8, dif_neg (by omega)]
    exact congrArg x (congrArg (fun r => ix2 r (j 1)) (Fin.ext (by dsimp only; omega)))

/-- The branch's column of the projection over column `j`. -/
def colX (j : Fin 1024) : Fin 10752 := ⟨4096 + j.val, by have := j.isLt; omega⟩

/-- The branch's input `s` rows earlier, zero before the first row. -/
def past (s : ℕ) (x : FVec Ideal S4096x10752 .f32) (i : S4096x1024.Idx) : EReal :=
  if h : (i 0).val < s then 0 else x (ix2 ⟨(i 0).val - s, by have : (i 0).val < 4096 := (i 0).isLt; omega⟩ (colX (i 1)))

/-- The convolution. -/
def conv (x : FVec Ideal S4096x10752 .f32) (w : FVec Ideal S4x1024 .f32) (b : FVec Ideal S1024 .f32) : FVec Ideal S4096x1024 .f32 := fun i =>
  x (ix2 (i 0) (colX (i 1))) * w (ix2 3 (i 1)) + past 1 x i * w (ix2 2 (i 1)) + past 2 x i * w (ix2 1 (i 1)) + past 3 x i * w (ix2 0 (i 1)) + b (ix1 (i 1))

/-- Every window's block index at every grid point. -/
theorem idx : ∀ t : Fin cfg0.N, win0_0.index t = ![t.val % 2, 32 + t.val / 2] ∧ win0_1.index t = ![t.val % 2 * 255, 32 + t.val / 2]
    ∧ win0_2.index t = ![0, t.val / 2] ∧ win0_3.index t = ![0, t.val / 2] ∧ win0_4.index t = ![t.val % 2, t.val / 2] :=
  (by decide +kernel : ∀ t : Fin grid0.N, _)

/-- The row of the grid a point lies in. -/
theorem rowOf : ∀ t : Fin cfg0.N, ((grid0.coords t) 1).val = t.val % 2 :=
  (by decide +kernel : ∀ t : Fin grid0.N, _)

/-- The rows before the block are made zero at the first block. -/
theorem before (i : grid0.Coords) (p : FVec Ideal S8x128 .f32) (j : S8x128.Idx) :
    k0_pay2 (F := Ideal) i p j = if (i 1).val = 0 then 0 else p j := by
  have hi : (i 1).val < 2 := (i 1).isLt
  pointwise [k0_pay2]
  generalize (i 1).val = a at hi
  interval_cases a
  · rw [show (Scalar.extui (Scalar.cmpi CmpIPredicate.sgt 0#32 0#32) : BitVec 32).toInt = 0 from rfl]; simp
  · rw [show (Scalar.extui (Scalar.cmpi CmpIPredicate.sgt 1#32 0#32) : BitVec 32).toInt = 1 from rfl]; simp

theorem hpay (i : grid0.Coords) (x : FVec Ideal S2048x128 .f32) (p : FVec Ideal S8x128 .f32) (w : FVec Ideal S4x128 .f32) (b : FVec Ideal S1x128 .f32) (j : S2048x128.Idx) :
    k0_pay1 (F := Ideal) w (k0_pay3 i p x w) (k0_pay4 x) (k0_pay5 i p) k0_pay6 b j
      = x j * w (ix2 3 (j 1)) + moved 1 x (k0_pay2 i p) j (by decide) * w (ix2 2 (j 1)) + moved 2 x (k0_pay2 i p) j (by decide) * w (ix2 1 (j 1))
        + moved 3 x (k0_pay2 i p) j (by decide) * w (ix2 0 (j 1)) + b (ix2 0 (j 1)) := by
  refine congrArg₂ (fun u v : EReal => u + v) (congrArg₂ (fun u v : EReal => u + v) (congrArg₂ (fun u v : EReal => u + v)
    (congrArg₂ (fun u v : EReal => u + v) (congrArg₂ (fun u v : EReal => u * v) rfl ?_) (congrArg₂ (fun u v : EReal => u * v) (down1 x (k0_pay2 i p) j) ?_))
    (congrArg₂ (fun u v : EReal => u * v) (down2 x (k0_pay2 i p) j) ?_)) (congrArg₂ (fun u v : EReal => u * v) (down3 x (k0_pay2 i p) j) ?_)) ?_
  · pointwise
  · pointwise
  · pointwise
  · pointwise
  · pointwise

/-- The input `s` rows earlier, from the block and the rows before it. -/
theorem pastBlk (c : Dev nD) (t : Fin cfg0.N) (y : (cfg0.win 4).block.Idx) (s : ℕ) (h0 : 0 < s) (hs : s < 8) :
    moved s (iblk m c 0 t) (k0_pay2 (F := Ideal) (grid0.coords t) (iblk m c 1 t)) y hs = past s (m ((c : Thread nD τ).loc main_arg0)) (((cfg0.win 4).blk t).view.emb y) := by
  have hN : t.val < 16 := lt_of_lt_of_eq t.isLt N_0
  have hy : (y 0).val < 2048 := (y 0).isLt
  have e0 : ((((cfg0.win 4).blk t).view.emb y) 0).val = t.val % 2 * 2048 + (y 0).val := by blk_simp [idx t]
  have e1 : ((((cfg0.win 4).blk t).view.emb y) 1).val = t.val / 2 * 128 + (y 1).val := by blk_simp [idx t]
  unfold moved past
  by_cases h : (y 0).val < s
  · rw [dif_pos h, before, rowOf]
    by_cases hb : t.val % 2 = 0
    · rw [if_pos hb, dif_pos (by omega)]
    · rw [if_neg hb, dif_neg (by omega)]
      blk_point [iblk, V, idx t, colX]
  · rw [dif_neg h, dif_neg (by omega)]
    blk_point [iblk, V, idx t, colX]

/-- The bias's block. -/
theorem blkB (c : Dev nD) (t : Fin cfg0.N) (y : (cfg0.win 4).block.Idx) :
    (show FVec Ideal S1x128 .f32 from iblk m c 3 t) (ix2 0 (y 1)) = (m ((c : Thread nD τ).loc main_arg2)) (ix1 ((((cfg0.win 4).blk t).view.emb y) 1)) := by
  blk_point [iblk, idx t]

/-- The array after the run. -/
theorem final4 (c : Dev nD) : (dats m 0 c).arrAt 4 (cfgs 0).N = conv (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  refine (hpay _ _ _ _ _ _).trans ?_
  rw [pastBlk m c t y 1 (by decide), pastBlk m c t y 2 (by decide), pastBlk m c t y 3 (by decide)]
  refine congrArg₂ (fun u v : EReal => u + v) (congrArg₂ (fun u v : EReal => u + v) (congrArg₂ (fun u v : EReal => u + v)
    (congrArg₂ (fun u v : EReal => u + v) (congrArg₂ (fun u v : EReal => u * v) ?_ ?_) (congrArg₂ (fun u v : EReal => u * v) rfl ?_))
    (congrArg₂ (fun u v : EReal => u * v) rfl ?_)) (congrArg₂ (fun u v : EReal => u * v) rfl ?_)) (blkB m c t y)
  · blk_point [iblk, V, idx t, colX]
  · blk_point [iblk, V, idx t]
  · blk_point [iblk, V, idx t]
  · blk_point [iblk, V, idx t]
  · blk_point [iblk, V, idx t]

end Cert.LruConvFwdIdeal.Conv

namespace Cert.Proof.LruConvFwdClaim

open Cert.LruConvFwdIdeal.Conv

/-- The reference leaves its arguments as they were. -/
theorem frame_ref : Cert.quiescent_LruConvFwdRefIdeal := fun m ρ _ =>
  (θ_run Cert.LruConvFwdRefIdeal.defs _ _).mono (fun r h => ⟨fun c => (h c).2,
      Idealize.ShloMosaic.sem_eq_zero_of_no_sems (by decide) r.2⟩)
    (Cert.LruConvFwdRefIdeal.Value.run (F := Ideal) m ρ)

/-- The kernel's results are those of the reference. -/
theorem algebraic : Cert.algebraic_LruConvFwdIdeal_LruConvFwdRefIdeal := by
  intro m ρ m' ρ' _ hag
  refine ⟨fun c => conv (m ((c.tc : Thread _ _).loc Cert.LruConvFwdIdeal.main_arg0)) (m ((c.tc : Thread _ _).loc Cert.LruConvFwdIdeal.main_arg1)) (m ((c.tc : Thread _ _).loc Cert.LruConvFwdIdeal.main_arg2)), ?_, ?_⟩
  · exact (θ_run Cert.LruConvFwdIdeal.defs _ _).mono (fun _ h c => ⟨(h c).1.trans (final4 m c), (h c).2⟩)
      (Cert.LruConvFwdIdeal.Value.run_blocks (F := Ideal) m ρ)
  · refine (θ_run Cert.LruConvFwdRefIdeal.defs _ _).mono (fun _ h c => ⟨(h c).1.trans ?_, (h c).2⟩)
      (Cert.LruConvFwdRefIdeal.Value.run (F := Ideal) m' ρ')
    · rw [(hag c).1, (hag c).2.1, (hag c).2.2]
      funext i
      clear h hag
      have sh : ∀ (A B C D A' B' C' : EReal), A = A' → B = B' → C = C' → A + B + C + D = D + C' + B' + A' := by
        intro A B C D A' B' C' ha hb hc
        rw [ha, hb, hc]; abel
      pointwise [conv, past, colX]
      refine congrArg₂ (fun u v : EReal => u + v) (sh _ _ _ _ _ _ _ rfl (congrArg₂ (fun u v : EReal => u * v) ?_ rfl) (congrArg₂ (fun u v : EReal => u * v) ?_ rfl)) rfl
      · by_cases h : (i 0).val < 2
        · rw [dif_pos h, dif_pos (by omega)]
        · rw [dif_neg h, dif_neg (by omega)]
          exact congrArg _ (congrArg (fun r => ix2 r _) (Fin.ext (by dsimp only; omega)))
      · by_cases h : (i 0).val < 1
        · rw [dif_pos h, dif_pos (by omega)]
        · rw [dif_neg h, dif_neg (by omega)]
          exact congrArg _ (congrArg (fun r => ix2 r _) (Fin.ext (by dsimp only; omega)))

end Cert.Proof.LruConvFwdClaim

end
-- ==== Proof.LruConvBwdClaim.lean ====
/-
  The gradient of a causal convolution of four taps: of its input, of its taps and of its bias.
-/
module

public import proofs.«01_k».proof.Defs
public import proofs.«01_k».proof.Proof.Sums
public import proofs.«01_k».proof.Proof.Gen.LruConvBwdIdeal.Value
public import proofs.«01_k».proof.Proof.Gen.LruConvBwdRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.LruConvBwdIdeal.Conv

open Cert.LruConvBwdIdeal Cert.LruConvBwdIdeal.Gen

variable (m : (ℓ : Loc nD τ sig) → Buf (Elt Ideal) ℓ)

/-- A block's rows moved down by `s`, the first `s` taken from the end of the eight rows before it. -/
def moved (s : ℕ) (x : FVec Ideal S2048x128 .f32) (p : FVec Ideal S8x128 .f32) (j : S2048x128.Idx) (hs : s < 8) : EReal :=
  if h : (j 0).val < s then p (ix2 ⟨8 - s + (j 0).val, by omega⟩ (j 1)) else x (ix2 ⟨(j 0).val - s, by have : (j 0).val < 2048 := (j 0).isLt; omega⟩ (j 1))

theorem pick1 (a : ℕ) (ha : a < 8) (u v : EReal) :
    Scalar.select (IntOp.cmpi CmpIPredicate.slt (BitVec.ofNat 32 a) 1#32) u v = if a < 1 then u else v := by
  interval_cases a <;> rfl

theorem down1 (x : FVec Ideal S2048x128 .f32) (p : FVec Ideal S8x128 .f32) (j : S2048x128.Idx) :
    concatenate S2048x128 0 [⟨S8x128, select (cmpi .slt (iota .tc S8x128 32 [0] iota_S8x128_d0_w32) (broadcast S8x128 1#32)) (dynamicRotate 0 1#32 none p rotates_S8x128_d0)
      (extractStridedSlice S8x128 ![0, 0] (dynamicRotate 0 1#32 none x rotates_S2048x128_d0) slices_S2048x128_o0_0_S8x128)⟩,
      ⟨S2040x128, extractStridedSlice S2040x128 ![8, 0] (dynamicRotate 0 1#32 none x rotates_S2048x128_d0) slices_S2048x128_o8_0_S2040x128⟩] concatenates_S8x128_S2040x128_S2048x128_d0 j = moved 1 x p j (by decide) := by
  have hj : (j 0).val < 2048 := (j 0).isLt
  pointwise [moved]
  by_cases h8 : (j 0).val < 8
  · rw [dif_pos h8, pick1 _ h8]
    by_cases hs : (j 0).val < 1
    · rw [if_pos hs, dif_pos hs]
      exact congrArg p (congrArg (fun r => ix2 r (j 1)) (Fin.ext (by dsimp only; omega)))
    · rw [if_neg hs, dif_neg hs]
      exact congrArg x (congrArg (fun r => ix2 r (j 1)) (Fin.ext (by dsimp only; omega)))
  · rw [dif_neg h8, dif_neg (by omega)]
    exact congrArg x (congrArg (fun r => ix2 r (j 1)) (Fin.ext (by dsimp only; omega)))

theorem pick2 (a : ℕ) (ha : a < 8) (u v : EReal) :
    Scalar.select (IntOp.cmpi CmpIPredicate.slt (BitVec.ofNat 32 a) 2#32) u v = if a < 2 then u else v := by
  interval_cases a <;> rfl

theorem down2 (x : FVec Ideal S2048x128 .f32) (p : FVec Ideal S8x128 .f32) (j : S2048x128.Idx) :
    concatenate S2048x128 0 [⟨S8x128, select (cmpi .slt (iota .tc S8x128 32 [0] iota_S8x128_d0_w32) (broadcast S8x128 2#32)) (dynamicRotate 0 2#32 none p rotates_S8x128_d0)
      (extractStridedSlice S8x128 ![0, 0] (dynamicRotate 0 2#32 none x rotates_S2048x128_d0) slices_S2048x128_o0_0_S8x128)⟩,
      ⟨S2040x128, extractStridedSlice S2040x128 ![8, 0] (dynamicRotate 0 2#32 none x rotates_S2048x128_d0) slices_S2048x128_o8_0_S2040x128⟩] concatenates_S8x128_S2040x128_S2048x128_d0 j = moved 2 x p j (by decide) := by
  have hj : (j 0).val < 2048 := (j 0).isLt
  pointwise [moved]
  by_cases h8 : (j 0).val < 8
  · rw [dif_pos h8, pick2 _ h8]
    by_cases hs : (j 0).val < 2
    · rw [if_pos hs, dif_pos hs]
      exact congrArg p (congrArg (fun r => ix2 r (j 1)) (Fin.ext (by dsimp only; omega)))
    · rw [if_neg hs, dif_neg hs]
      exact congrArg x (congrArg (fun r => ix2 r (j 1)) (Fin.ext (by dsimp only; omega)))
  · rw [dif_neg h8, dif_neg (by omega)]
    exact congrArg x (congrArg (fun r => ix2 r (j 1)) (Fin.ext (by dsimp only; omega)))

theorem pick3 (a : ℕ) (ha : a < 8) (u v : EReal) :
    Scalar.select (IntOp.cmpi CmpIPredicate.slt (BitVec.ofNat 32 a) 3#32) u v = if a < 3 then u else v := by
  interval_cases a <;> rfl

theorem down3 (x : FVec Ideal S2048x128 .f32) (p : FVec Ideal S8x128 .f32) (j : S2048x128.Idx) :
    concatenate S2048x128 0 [⟨S8x128, select (cmpi .slt (iota .tc S8x128 32 [0] iota_S8x128_d0_w32) (broadcast S8x128 3#32)) (dynamicRotate 0 3#32 none p rotates_S8x128_d0)
      (extractStridedSlice S8x128 ![0, 0] (dynamicRotate 0 3#32 none x rotates_S2048x128_d0) slices_S2048x128_o0_0_S8x128)⟩,
      ⟨S2040x128, extractStridedSlice S2040x128 ![8, 0] (dynamicRotate 0 3#32 none x rotates_S2048x128_d0) slices_S2048x128_o8_0_S2040x128⟩] concatenates_S8x128_S2040x128_S2048x128_d0 j = moved 3 x p j (by decide) := by
  have hj : (j 0).val < 2048 := (j 0).isLt
  pointwise [moved]
  by_cases h8 : (j 0).val < 8
  · rw [dif_pos h8, pick3 _ h8]
    by_cases hs : (j 0).val < 3
    · rw [if_pos hs, dif_pos hs]
      exact congrArg p (congrArg (fun r => ix2 r (j 1)) (Fin.ext (by dsimp only; omega)))
    · rw [if_neg hs, dif_neg hs]
      exact congrArg x (congrArg (fun r => ix2 r (j 1)) (Fin.ext (by dsimp only; omega)))
  · rw [dif_neg h8, dif_neg (by omega)]
    exact congrArg x (congrArg (fun r => ix2 r (j 1)) (Fin.ext (by dsimp only; omega)))

/-- A block's rows moved up by `s`, the last `s` taken from the eight rows after it. -/
def lifted (s : ℕ) (x : FVec Ideal S2048x128 .f32) (p : FVec Ideal S8x128 .f32) (j : S2048x128.Idx) (hs : s < 8) : EReal :=
  if h : (j 0).val + s < 2048 then x (ix2 ⟨(j 0).val + s, h⟩ (j 1))
  else p (ix2 ⟨(j 0).val + s - 2048, by have : (j 0).val < 2048 := (j 0).isLt; omega⟩ (j 1))

theorem pickUp1 (a : ℕ) (ha : a < 8) (u v : EReal) :
    Scalar.select (IntOp.cmpi CmpIPredicate.sge (BitVec.ofNat 32 a) 7#32) u v = if a < 7 then v else u := by
  interval_cases a <;> rfl

theorem up1 (x : FVec Ideal S2048x128 .f32) (p : FVec Ideal S8x128 .f32) (j : S2048x128.Idx) :
    concatenate S2048x128 0 [⟨S2040x128, extractStridedSlice S2040x128 ![0, 0] (dynamicRotate 0 2047#32 none x rotates_S2048x128_d0) slices_S2048x128_o0_0_S2040x128⟩,
      ⟨S8x128, select (cmpi .sge (iota .tc S8x128 32 [0] iota_S8x128_d0_w32) (broadcast S8x128 7#32)) (dynamicRotate 0 7#32 none p rotates_S8x128_d0)
      (extractStridedSlice S8x128 ![2040, 0] (dynamicRotate 0 2047#32 none x rotates_S2048x128_d0) slices_S2048x128_o2040_0_S8x128)⟩] concatenates_S2040x128_S8x128_S2048x128_d0 j = lifted 1 x p j (by decide) := by
  have hj : (j 0).val < 2048 := (j 0).isLt
  pointwise [lifted]
  by_cases h8 : (j 0).val < 2040
  · rw [dif_pos h8, dif_pos (by omega)]
    exact congrArg x (congrArg (fun r => ix2 r (j 1)) (Fin.ext (by dsimp only; omega)))
  · rw [dif_neg h8, pickUp1 _ (by omega)]
    by_cases hs : (j 0).val + 1 < 2048
    · rw [if_pos (by omega), dif_pos hs]
      exact congrArg x (congrArg (fun r => ix2 r (j 1)) (Fin.ext (by dsimp only; omega)))
    · rw [if_neg (by omega), dif_neg hs]
      exact congrArg p (congrArg (fun r => ix2 r (j 1)) (Fin.ext (by dsimp only; omega)))

theorem pickUp2 (a : ℕ) (ha : a < 8) (u v : EReal) :
    Scalar.select (IntOp.cmpi CmpIPredicate.sge (BitVec.ofNat 32 a) 6#32) u v = if a < 6 then v else u := by
  interval_cases a <;> rfl

theorem up2 (x : FVec Ideal S2048x128 .f32) (p : FVec Ideal S8x128 .f32) (j : S2048x128.Idx) :
    concatenate S2048x128 0 [⟨S2040x128, extractStridedSlice S2040x128 ![0, 0] (dynamicRotate 0 2046#32 none x rotates_S2048x128_d0) slices_S2048x128_o0_0_S2040x128⟩,
      ⟨S8x128, select (cmpi .sge (iota .tc S8x128 32 [0] iota_S8x128_d0_w32) (broadcast S8x128 6#32)) (dynamicRotate 0 6#32 none p rotates_S8x128_d0)
      (extractStridedSlice S8x128 ![2040, 0] (dynamicRotate 0 2046#32 none x rotates_S2048x128_d0) slices_S2048x128_o2040_0_S8x128)⟩] concatenates_S2040x128_S8x128_S2048x128_d0 j = lifted 2 x p j (by decide) := by
  have hj : (j 0).val < 2048 := (j 0).isLt
  pointwise [lifted]
  by_cases h8 : (j 0).val < 2040
  · rw [dif_pos h8, dif_pos (by omega)]
    exact congrArg x (congrArg (fun r => ix2 r (j 1)) (Fin.ext (by dsimp only; omega)))
  · rw [dif_neg h8, pickUp2 _ (by omega)]
    by_cases hs : (j 0).val + 2 < 2048
    · rw [if_pos (by omega), dif_pos hs]
      exact congrArg x (congrArg (fun r => ix2 r (j 1)) (Fin.ext (by dsimp only; omega)))
    · rw [if_neg (by omega), dif_neg hs]
      exact congrArg p (congrArg (fun r => ix2 r (j 1)) (Fin.ext (by dsimp only; omega)))

theorem pickUp3 (a : ℕ) (ha : a < 8) (u v : EReal) :
    Scalar.select (IntOp.cmpi CmpIPredicate.sge (BitVec.ofNat 32 a) 5#32) u v = if a < 5 then v else u := by
  interval_cases a <;> rfl

theorem up3 (x : FVec Ideal S2048x128 .f32) (p : FVec Ideal S8x128 .f32) (j : S2048x128.Idx) :
    concatenate S2048x128 0 [⟨S2040x128, extractStridedSlice S2040x128 ![0, 0] (dynamicRotate 0 2045#32 none x rotates_S2048x128_d0) slices_S2048x128_o0_0_S2040x128⟩,
      ⟨S8x128, select (cmpi .sge (iota .tc S8x128 32 [0] iota_S8x128_d0_w32) (broadcast S8x128 5#32)) (dynamicRotate 0 5#32 none p rotates_S8x128_d0)
      (extractStridedSlice S8x128 ![2040, 0] (dynamicRotate 0 2045#32 none x rotates_S2048x128_d0) slices_S2048x128_o2040_0_S8x128)⟩] concatenates_S2040x128_S8x128_S2048x128_d0 j = lifted 3 x p j (by decide) := by
  have hj : (j 0).val < 2048 := (j 0).isLt
  pointwise [lifted]
  by_cases h8 : (j 0).val < 2040
  · rw [dif_pos h8, dif_pos (by omega)]
    exact congrArg x (congrArg (fun r => ix2 r (j 1)) (Fin.ext (by dsimp only; omega)))
  · rw [dif_neg h8, pickUp3 _ (by omega)]
    by_cases hs : (j 0).val + 3 < 2048
    · rw [if_pos (by omega), dif_pos hs]
      exact congrArg x (congrArg (fun r => ix2 r (j 1)) (Fin.ext (by dsimp only; omega)))
    · rw [if_neg (by omega), dif_neg hs]
      exact congrArg p (congrArg (fun r => ix2 r (j 1)) (Fin.ext (by dsimp only; omega)))

/-- The branch's column of the projection over column `j`. -/
def colX (j : Fin 1024) : Fin 10752 := ⟨4096 + j.val, by have := j.isLt; omega⟩

/-- The convolution's input `s` rows earlier, zero before the first row. -/
def past (s : ℕ) (x : FVec Ideal S4096x10752 .f32) (i : S4096x1024.Idx) : EReal :=
  if h : (i 0).val < s then 0 else x (ix2 ⟨(i 0).val - s, by have : (i 0).val < 4096 := (i 0).isLt; omega⟩ (colX (i 1)))

/-- The upstream gradient `s` rows later, zero after the last row. -/
def later (s : ℕ) (d : FVec Ideal S4096x1024 .f32) (i : S4096x1024.Idx) : EReal :=
  if h : (i 0).val + s < 4096 then d (ix2 ⟨(i 0).val + s, h⟩ (i 1)) else 0

/-- The gradient of the input. -/
def dx (d : FVec Ideal S4096x1024 .f32) (w : FVec Ideal S4x1024 .f32) : FVec Ideal S4096x1024 .f32 := fun i =>
  d i * w (ix2 3 (i 1)) + later 1 d i * w (ix2 2 (i 1)) + later 2 d i * w (ix2 1 (i 1)) + later 3 d i * w (ix2 0 (i 1))

/-- The gradient of the taps. -/
def dw (d : FVec Ideal S4096x1024 .f32) (x : FVec Ideal S4096x10752 .f32) : FVec Ideal S4x1024 .f32 := fun i =>
  ∑ k : Fin 4096, d (ix2 k (i 1)) * past (3 - (i 0).val) x (ix2 k (i 1))

/-- The gradient of the bias. -/
def db (d : FVec Ideal S4096x1024 .f32) : FVec Ideal S1x1024 .f32 := fun i => ∑ k : Fin 4096, d (ix2 k (i 1))

/-- Every window's block index at every grid point. -/
theorem idx : ∀ t : Fin cfg0.N, win0_0.index t = ![t.val % 2, t.val / 2] ∧ win0_1.index t = ![256 + t.val % 2 * 255, t.val / 2]
    ∧ win0_2.index t = ![t.val % 2, 32 + t.val / 2] ∧ win0_3.index t = ![t.val % 2 * 255, 32 + t.val / 2]
    ∧ win0_4.index t = ![0, t.val / 2] ∧ win0_5.index t = ![t.val % 2, t.val / 2] ∧ win0_6.index t = ![0, t.val / 2] ∧ win0_7.index t = ![0, t.val / 2] :=
  (by decide +kernel : ∀ t : Fin grid0.N, _)

/-- The row of the grid a point lies in. -/
theorem rowOf : ∀ t : Fin cfg0.N, ((grid0.coords t) 1).val = t.val % 2 :=
  (by decide +kernel : ∀ t : Fin grid0.N, _)

/-- The rows after the block are made zero at the last block. -/
theorem after (i : grid0.Coords) (p : FVec Ideal S8x128 .f32) (j : S8x128.Idx) :
    k0_pay2 (F := Ideal) i p j = if (i 1).val = 1 then 0 else p j := by
  have hi : (i 1).val < 2 := (i 1).isLt
  pointwise [k0_pay2]
  generalize (i 1).val = a at hi
  interval_cases a
  · rw [show (Scalar.extui (Scalar.cmpi CmpIPredicate.slt 0#32 1#32) : BitVec 32).toInt = 1 from rfl]; simp
  · rw [show (Scalar.extui (Scalar.cmpi CmpIPredicate.slt 1#32 1#32) : BitVec 32).toInt = 0 from rfl]; simp

/-- The rows before the block are made zero at the first block. -/
theorem before (i : grid0.Coords) (p : FVec Ideal S8x128 .f32) (j : S8x128.Idx) :
    k0_pay3 (F := Ideal) i p j = if (i 1).val = 0 then 0 else p j := by
  have hi : (i 1).val < 2 := (i 1).isLt
  pointwise [k0_pay3]
  generalize (i 1).val = a at hi
  interval_cases a
  · rw [show (Scalar.extui (Scalar.cmpi CmpIPredicate.sgt 0#32 0#32) : BitVec 32).toInt = 0 from rfl]; simp
  · rw [show (Scalar.extui (Scalar.cmpi CmpIPredicate.sgt 1#32 0#32) : BitVec 32).toInt = 1 from rfl]; simp

/-- The input `s` rows earlier, from the block and the rows before it. -/
theorem pastBlk (c : Dev nD) (t : Fin cfg0.N) (y : (cfg0.win 5).block.Idx) (s : ℕ) (hs : s < 8) :
    moved s (iblk m c 2 t) (k0_pay3 (F := Ideal) (grid0.coords t) (iblk m c 3 t)) y hs = past s (m ((c : Thread nD τ).loc main_arg1)) (((cfg0.win 5).blk t).view.emb y) := by
  have hN : t.val < 16 := lt_of_lt_of_eq t.isLt N_0
  have hy : (y 0).val < 2048 := (y 0).isLt
  have e0 : ((((cfg0.win 5).blk t).view.emb y) 0).val = t.val % 2 * 2048 + (y 0).val := by blk_simp [idx t]
  have e1 : ((((cfg0.win 5).blk t).view.emb y) 1).val = t.val / 2 * 128 + (y 1).val := by blk_simp [idx t]
  unfold moved past
  by_cases h : (y 0).val < s
  · rw [dif_pos h, before, rowOf]
    by_cases hb : t.val % 2 = 0
    · rw [if_pos hb, dif_pos (by omega)]
    · rw [if_neg hb, dif_neg (by omega)]
      blk_point [iblk, V, idx t, colX]
  · rw [dif_neg h, dif_neg (by omega)]
    blk_point [iblk, V, idx t, colX]

/-- The upstream gradient `s` rows later, from the block and the rows after it. -/
theorem laterBlk (c : Dev nD) (t : Fin cfg0.N) (y : (cfg0.win 5).block.Idx) (s : ℕ) (hs : s < 8) :
    lifted s (iblk m c 0 t) (k0_pay2 (F := Ideal) (grid0.coords t) (iblk m c 1 t)) y hs = later s (m ((c : Thread nD τ).loc main_arg0)) (((cfg0.win 5).blk t).view.emb y) := by
  have hN : t.val < 16 := lt_of_lt_of_eq t.isLt N_0
  have hy : (y 0).val < 2048 := (y 0).isLt
  have e0 : ((((cfg0.win 5).blk t).view.emb y) 0).val = t.val % 2 * 2048 + (y 0).val := by blk_simp [idx t]
  have e1 : ((((cfg0.win 5).blk t).view.emb y) 1).val = t.val / 2 * 128 + (y 1).val := by blk_simp [idx t]
  unfold lifted later
  by_cases h : (y 0).val + s < 2048
  · rw [dif_pos h, dif_pos (by omega)]
    blk_point [iblk, V, idx t]
  · rw [dif_neg h, after, rowOf]
    by_cases hb : t.val % 2 = 1
    · rw [if_pos hb, dif_neg (by omega)]
    · rw [if_neg hb, dif_pos (by omega)]
      blk_point [iblk, V, idx t]

theorem hpay (i : grid0.Coords) (d : FVec Ideal S2048x128 .f32) (p : FVec Ideal S8x128 .f32) (w : FVec Ideal S4x128 .f32) (j : S2048x128.Idx) :
    k0_pay19 (F := Ideal) d (k0_pay2 i p) w (k0_pay13 d (k0_pay2 i p) w (k0_pay6 d w) (k0_pay8 d) (k0_pay9 i p) k0_pay10 (k0_pay11 d)) j
      = d j * w (ix2 3 (j 1)) + lifted 1 d (k0_pay2 i p) j (by decide) * w (ix2 2 (j 1)) + lifted 2 d (k0_pay2 i p) j (by decide) * w (ix2 1 (j 1))
        + lifted 3 d (k0_pay2 i p) j (by decide) * w (ix2 0 (j 1)) := by
  refine congrArg₂ (fun u v : EReal => u + v) (congrArg₂ (fun u v : EReal => u + v)
    (congrArg₂ (fun u v : EReal => u + v) (congrArg₂ (fun u v : EReal => u * v) rfl ?_) (congrArg₂ (fun u v : EReal => u * v) (up1 d (k0_pay2 i p) j) ?_))
    (congrArg₂ (fun u v : EReal => u * v) (up2 d (k0_pay2 i p) j) ?_)) (congrArg₂ (fun u v : EReal => u * v) (up3 d (k0_pay2 i p) j) ?_)
  · pointwise
  · pointwise
  · pointwise
  · pointwise

/-- What one point computes of the input's gradient. -/
theorem point5 (c : Dev nD) (t : Fin cfg0.N) (y : (cfg0.win 5).block.Idx) :
    k0_pay19 (F := Ideal) (iblk m c 0 t) (k0_pay2 (grid0.coords t) (iblk m c 1 t)) (iblk m c 4 t) (k0_pay13 (iblk m c 0 t) (k0_pay2 (grid0.coords t) (iblk m c 1 t)) (iblk m c 4 t)
      (k0_pay6 (iblk m c 0 t) (iblk m c 4 t)) (k0_pay8 (iblk m c 0 t)) (k0_pay9 (grid0.coords t) (iblk m c 1 t)) k0_pay10 (k0_pay11 (iblk m c 0 t))) y
      = dx (m ((c : Thread nD τ).loc main_arg0)) (m ((c : Thread nD τ).loc main_arg2)) (((cfg0.win 5).blk t).view.emb y) := by
  refine (hpay _ _ _ _ _).trans ?_
  rw [laterBlk m c t y 1 (by decide), laterBlk m c t y 2 (by decide), laterBlk m c t y 3 (by decide)]
  refine congrArg₂ (fun u v : EReal => u + v) (congrArg₂ (fun u v : EReal => u + v)
    (congrArg₂ (fun u v : EReal => u + v) (congrArg₂ (fun u v : EReal => u * v) ?_ ?_) (congrArg₂ (fun u v : EReal => u * v) rfl ?_))
    (congrArg₂ (fun u v : EReal => u * v) rfl ?_)) (congrArg₂ (fun u v : EReal => u * v) rfl ?_)
  · blk_point [iblk, V, idx t]
  · blk_point [iblk, V, idx t]
  · blk_point [iblk, V, idx t]
  · blk_point [iblk, V, idx t]
  · blk_point [iblk, V, idx t]

/-- The array of the input's gradient after the run. -/
theorem final5 (c : Dev nD) : (dats m 0 c).arrAt 5 (cfgs 0).N = dx (m ((c : Thread nD τ).loc main_arg0)) (m ((c : Thread nD τ).loc main_arg2)) := by
  refine (dats m 0 c).arrAt_eq_of_covers 5 _ (by decide +kernel) fun t _ y => ?_
  blk_simp
  rw [after0_5]
  by_cases h0 : t.val % 2 = 0
  · rw [outsAt0_A m c t h0]
    frame_out
    exact point5 m c t y
  · rw [outsAt0_B m c t h0]
    frame_out
    exact point5 m c t y

/-- What one point adds to the bias's gradient. -/
def part7 (c : Dev nD) (j : S1x128.Idx) (n : ℕ) (h : n < cfg0.N) : EReal :=
  ∑ k : Fin 2048, (show FVec Ideal S2048x128 .f32 from iblk m c 0 ⟨n, h⟩) (ix2 k (j 1))

theorem total7 (c : Dev nD) (j : S1x128.Idx) (t : ℕ) (h : t < cfg0.N) (ht : t % 2 = 2 - 1) :
    (outsAt0 m c (t - 1) (by omega)).2.2 j + part7 m c j t h
      = ∑ i : Fin 2, part7 m c j (2 * (t / 2) + i.val) (by have := i.isLt; have := Nat.div_add_mod t 2; omega) :=
  Cert.Sums.run_total 2 (by decide) (fun n h => (outsAt0 m c n h).2.2 j) (part7 m c j)
    (fun n h h0 => by
      show (outsAt0 m c n h).2.2 j = _
      rw [outsAt0_A m c ⟨n, h⟩ h0]
      frame_out
      pointwise [k0_pay1, k0_pay5, part7])
    (fun n h h0 h1 => by
      show (outsAt0 m c n h).2.2 j = _
      rw [outsAt0_B m c ⟨n, h⟩ h0]
      frame_out
      pointwise [k0_pay1, part7]) t h ht

/-- The array of the bias's gradient after the run. -/
theorem final7 (c : Dev nD) : (dats m 0 c).arrAt 7 (cfgs 0).N = db (m ((c : Thread nD τ).loc main_arg0)) := by
  refine (dats m 0 c).arrAt_eq_of_covers 7 _ (by decide +kernel) fun t hf y => ?_
  have ht : t.val % 2 = 1 := (flush0_7 t).mp hf
  have hN : t.val < 16 := lt_of_lt_of_eq t.isLt N_0
  blk_simp
  rw [after0_7, outsAt0_B m c t (by omega)]
  frame_out
  refine Eq.trans (b := (outsAt0 m c (t.val - 1) (lt_of_le_of_lt (Nat.sub_le _ _) t.isLt)).2.2 y + part7 m c y t.val t.isLt) (by pointwise [k0_pay1, part7]) ?_
  refine (total7 m c y t.val t.isLt ht).trans ?_
  refine Fin.sum_mul_add_congr fun s k hl => ?_
  blk_point [iblk, V, idx t, idx ⟨_, Pipeline.run_point_lt_of_flush t ht s⟩, hl]

/-- What one point adds to the taps' gradient. -/
def part6 (c : Dev nD) (j : S4x128.Idx) (n : ℕ) (h : n < cfg0.N) : EReal :=
  ∑ k : Fin 2048, (show FVec Ideal S2048x128 .f32 from iblk m c 0 ⟨n, h⟩) (ix2 k (j 1)) * past (3 - (j 0).val) (m ((c : Thread nD τ).loc main_arg1)) (((cfg0.win 5).blk ⟨n, h⟩).view.emb (ix2 k (j 1)))

/-- A row stored last is read back at its row. -/
theorem rowHit (o : ℕ) (inb : ∀ a, (![o, 0] : Fin 2 → ℕ) a + (![1, 128] : Fin 2 → ℕ) a ≤ S4x128.size a) (w : S1x128.Idx → Elt Ideal .f32)
    (L : List (View.Piece (Elt Ideal) S4x128 .f32)) (j : S4x128.Idx) (h : (j 0).val = o) :
    View.canon ((⟨Rect.unit (s := S4x128) ![o, 0] ![1, 128] inb, w⟩ : View.Piece (Elt Ideal) S4x128 .f32) :: L) j = w (ix2 0 (j 1)) := by
  have e : (Rect.unit (s := S4x128) ![o, 0] ![1, 128] inb).emb (ix2 0 (j 1)) = j := by
    funext x; apply Fin.ext
    fin_cases x
    · show o + 1 * 0 = (j 0).val; omega
    · show 0 + 1 * (j 1).val = (j 1).val; omega
  have hh := View.canon_cons_emb (Val := Elt Ideal) (e := .f32) (Rect.unit (s := S4x128) ![o, 0] ![1, 128] inb) w L (ix2 0 (j 1))
  rw [e] at hh
  exact hh

/-- A row stored last does not change the other rows. -/
theorem rowMiss (o : ℕ) (inb : ∀ a, (![o, 0] : Fin 2 → ℕ) a + (![1, 128] : Fin 2 → ℕ) a ≤ S4x128.size a) (w : S1x128.Idx → Elt Ideal .f32)
    (L : List (View.Piece (Elt Ideal) S4x128 .f32)) (j : S4x128.Idx) (h : (j 0).val ≠ o) :
    View.canon ((⟨Rect.unit (s := S4x128) ![o, 0] ![1, 128] inb, w⟩ : View.Piece (Elt Ideal) S4x128 .f32) :: L) j = View.canon L j := by
  refine View.canon_cons_of_not_mem _ L ?_
  intro hm
  obtain ⟨i, hi, he⟩ := (LoadRect.mem_set _).mp hm (0 : Fin 2)
  have hi1 : i < 1 := hi
  have he' : (j 0).val = o + 1 * i := he
  omega

/-- A row read back from what was stored. -/
theorem rowRead {κ : Kind} {sp : Space} (v : View sig κ sp S4x128 .f32) (o : ℕ) (ho : o < 4) (inb : ∀ a, (![o, 0] : Fin 2 → ℕ) a + (![1, 128] : Fin 2 → ℕ) a ≤ S4x128.size a)
    (L : List (View.Piece (Elt Ideal) S4x128 .f32)) (z : S1x128.Idx) :
    v.readCov L (Rect.unit (s := S4x128) ![o, 0] ![1, 128] inb).toLoadRect z = View.canon L (ix2 ⟨o, ho⟩ (z 1)) := by
  have hz : (z 0).val < 1 := (z 0).isLt
  rw [View.readCov_eq_canon']
  refine congrArg (View.canon L) ?_
  funext x; apply Fin.ext
  fin_cases x
  · show o + 1 * (z 0).val = o; omega
  · show 0 + 1 * (z 1).val = (z 1).val; omega

/-- The zeros the taps' gradient begins with. -/
theorem zeros (inb : ∀ a, (![0, 0] : Fin 2 → ℕ) a + (![4, 128] : Fin 2 → ℕ) a ≤ S4x128.size a) (j : S4x128.Idx) :
    View.canon [(⟨Rect.unit (s := S4x128) ![0, 0] ![4, 128] inb, k0_pay4 (F := Ideal)⟩ : View.Piece (Elt Ideal) S4x128 .f32)] j = 0 := by
  refine (congrFun (View.canon_cons_unit_lit (Val := Elt Ideal) (e := .f32) (S := S4x128) inb (k0_pay4 (F := Ideal)) [] (by decide)) j).trans ?_
  pointwise [k0_pay4]

/-- A block added up over its rows. -/
theorem sumRows (u : FVec Ideal S2048x128 .f32) (z : S1x128.Idx) :
    shapeCast S1x128 (multiReduction .add [0] S128 u 0x00000000#32 reduces_S2048x128_S128 (.inl rfl) rfl) shapeCasts_S128_S1x128 z
      = ∑ k : Fin 2048, u (ix2 k (z 1)) := by
  pointwise

theorem same (v : FVec Ideal S1x128 .f32) (z : S1x128.Idx) : shapeCast S1x128 v shapeCasts_S1x128_S1x128 z = v z := by
  pointwise

theorem add0 (d x : FVec Ideal S2048x128 .f32) (q : FVec Ideal S8x128 .f32) (v : FVec Ideal S1x128 .f32) (z : S1x128.Idx) :
    k0_pay7 (F := Ideal) d x v z = v z + ∑ k : Fin 2048, d (ix2 k (z 1)) * moved 0 x q (ix2 k (z 1)) (by decide) := by
  refine congrArg₂ (fun a b : EReal => a + b) (same v z) ((sumRows _ z).trans (Finset.sum_congr rfl fun k _ => congrArg (fun b : EReal => d (ix2 k (z 1)) * b) ?_))
  unfold moved
  rw [dif_neg (by omega)]
  rfl

theorem add1 (d x : FVec Ideal S2048x128 .f32) (q : FVec Ideal S8x128 .f32) (v : FVec Ideal S1x128 .f32) (z : S1x128.Idx) :
    k0_pay12 (F := Ideal) d x q v z = v z + ∑ k : Fin 2048, d (ix2 k (z 1)) * moved 1 x q (ix2 k (z 1)) (by decide) :=
  congrArg₂ (fun a b : EReal => a + b) (same v z) ((sumRows _ z).trans (Finset.sum_congr rfl fun k _ => congrArg (fun b : EReal => d (ix2 k (z 1)) * b) (down1 x q (ix2 k (z 1)))))

theorem add2 (d x : FVec Ideal S2048x128 .f32) (q : FVec Ideal S8x128 .f32) (v : FVec Ideal S1x128 .f32) (z : S1x128.Idx) :
    k0_pay18 (F := Ideal) d (k0_pay14 v) (k0_pay15 x) (k0_pay16 q) k0_pay17 z = v z + ∑ k : Fin 2048, d (ix2 k (z 1)) * moved 2 x q (ix2 k (z 1)) (by decide) :=
  congrArg₂ (fun a b : EReal => a + b) (same v z) ((sumRows _ z).trans (Finset.sum_congr rfl fun k _ => congrArg (fun b : EReal => d (ix2 k (z 1)) * b) (down2 x q (ix2 k (z 1)))))

theorem add3 (d x : FVec Ideal S2048x128 .f32) (q : FVec Ideal S8x128 .f32) (v : FVec Ideal S1x128 .f32) (z : S1x128.Idx) :
    k0_pay20 (F := Ideal) d x q v z = v z + ∑ k : Fin 2048, d (ix2 k (z 1)) * moved 3 x q (ix2 k (z 1)) (by decide) :=
  congrArg₂ (fun a b : EReal => a + b) (same v z) ((sumRows _ z).trans (Finset.sum_congr rfl fun k _ => congrArg (fun b : EReal => d (ix2 k (z 1)) * b) (down3 x q (ix2 k (z 1)))))

/-- One tap's addend of one point, from the blocks. -/
theorem addend (c : Dev nD) (n : ℕ) (h : n < cfg0.N) (l : Fin 128) (s : ℕ) (hs : s < 8) :
    ∑ k : Fin 2048, (show FVec Ideal S2048x128 .f32 from iblk m c 0 ⟨n, h⟩) (ix2 k l) * moved s (iblk m c 2 ⟨n, h⟩) (k0_pay3 (F := Ideal) (grid0.coords ⟨n, h⟩) (iblk m c 3 ⟨n, h⟩)) (ix2 k l) hs
      = ∑ k : Fin 2048, (show FVec Ideal S2048x128 .f32 from iblk m c 0 ⟨n, h⟩) (ix2 k l) * past s (m ((c : Thread nD τ).loc main_arg1)) (((cfg0.win 5).blk ⟨n, h⟩).view.emb (ix2 k l)) :=
  Finset.sum_congr rfl fun k _ => congrArg (fun b : EReal => (show FVec Ideal S2048x128 .f32 from iblk m c 0 ⟨n, h⟩) (ix2 k l) * b) (pastBlk m c ⟨n, h⟩ (ix2 k l) s hs)

theorem first6 (c : Dev nD) (j : S4x128.Idx) (n : ℕ) (h : n < cfg0.N) (h0 : n % 2 = 0) : (outsAt0 m c n h).2.1 j = part6 m c j n h := by
  rw [outsAt0_A m c ⟨n, h⟩ h0]
  frame_out
  have hj : (j 0).val < 4 := (j 0).isLt
  obtain e | e | e | e : (j 0).val = 0 ∨ (j 0).val = 1 ∨ (j 0).val = 2 ∨ (j 0).val = 3 := by omega
  · rw [rowHit 0 _ _ _ j e]
    refine (add3 _ _ _ _ _).trans ?_
    rw [rowRead _ 0 (by decide), rowMiss 1 _ _ _ _ (show (0 : ℕ) ≠ 1 by decide), rowMiss 2 _ _ _ _ (show (0 : ℕ) ≠ 2 by decide), rowMiss 3 _ _ _ _ (show (0 : ℕ) ≠ 3 by decide), zeros, zero_add]
    unfold part6
    rw [e]
    exact addend m c n h (j 1) 3 (by decide)
  · rw [rowMiss 0 _ _ _ j (by omega), rowHit 1 _ _ _ j e]
    refine (add2 _ _ _ _ _).trans ?_
    rw [rowRead _ 1 (by decide), rowMiss 2 _ _ _ _ (show (1 : ℕ) ≠ 2 by decide), rowMiss 3 _ _ _ _ (show (1 : ℕ) ≠ 3 by decide), zeros, zero_add]
    unfold part6
    rw [e]
    exact addend m c n h (j 1) 2 (by decide)
  · rw [rowMiss 0 _ _ _ j (by omega), rowMiss 1 _ _ _ j (by omega), rowHit 2 _ _ _ j e]
    refine (add1 _ _ _ _ _).trans ?_
    rw [rowRead _ 2 (by decide), rowMiss 3 _ _ _ _ (show (2 : ℕ) ≠ 3 by decide), zeros, zero_add]
    unfold part6
    rw [e]
    exact addend m c n h (j 1) 1 (by decide)
  · rw [rowMiss 0 _ _ _ j (by omega), rowMiss 1 _ _ _ j (by omega), rowMiss 2 _ _ _ j (by omega), rowHit 3 _ _ _ j e]
    refine (add0 _ _ (k0_pay3 (F := Ideal) (grid0.coords ⟨n, h⟩) (iblk m c 3 ⟨n, h⟩)) _ _).trans ?_
    rw [rowRead _ 3 (by decide), zeros, zero_add]
    unfold part6
    rw [e]
    exact addend m c n h (j 1) 0 (by decide)

theorem next6 (c : Dev nD) (j : S4x128.Idx) (n : ℕ) (h : n < cfg0.N) (h0 : n % 2 ≠ 0) :
    (outsAt0 m c n h).2.1 j = (outsAt0 m c (n - 1) (lt_of_le_of_lt (Nat.sub_le _ _) h)).2.1 j + part6 m c j n h := by
  rw [outsAt0_B m c ⟨n, h⟩ h0]
  frame_out
  have hj : (j 0).val < 4 := (j 0).isLt
  obtain e | e | e | e : (j 0).val = 0 ∨ (j 0).val = 1 ∨ (j 0).val = 2 ∨ (j 0).val = 3 := by omega
  · rw [rowHit 0 _ _ _ j e]
    refine (add3 _ _ _ _ _).trans ?_
    refine congrArg₂ (fun a b : EReal => a + b) ?_ ?_
    · refine congrArg (outsAt0 m c (n - 1) (lt_of_le_of_lt (Nat.sub_le _ _) h)).2.1 ?_
      funext x; apply Fin.ext
      fin_cases x
      · show 0 + 1 * 0 = (j 0).val; omega
      · show 0 + 1 * (j 1).val = (j 1).val; omega
    · unfold part6
      rw [e]
      exact addend m c n h (j 1) 3 (by decide)
  · rw [rowMiss 0 _ _ _ j (by omega), rowHit 1 _ _ _ j e]
    refine (add2 _ _ _ _ _).trans ?_
    refine congrArg₂ (fun a b : EReal => a + b) ?_ ?_
    · refine congrArg (outsAt0 m c (n - 1) (lt_of_le_of_lt (Nat.sub_le _ _) h)).2.1 ?_
      funext x; apply Fin.ext
      fin_cases x
      · show 1 + 1 * 0 = (j 0).val; omega
      · show 0 + 1 * (j 1).val = (j 1).val; omega
    · unfold part6
      rw [e]
      exact addend m c n h (j 1) 2 (by decide)
  · rw [rowMiss 0 _ _ _ j (by omega), rowMiss 1 _ _ _ j (by omega), rowHit 2 _ _ _ j e]
    refine (add1 _ _ _ _ _).trans ?_
    refine congrArg₂ (fun a b : EReal => a + b) ?_ ?_
    · refine congrArg (outsAt0 m c (n - 1) (lt_of_le_of_lt (Nat.sub_le _ _) h)).2.1 ?_
      funext x; apply Fin.ext
      fin_cases x
      · show 2 + 1 * 0 = (j 0).val; omega
      · show 0 + 1 * (j 1).val = (j 1).val; omega
    · unfold part6
      rw [e]
      exact addend m c n h (j 1) 1 (by decide)
  · rw [rowMiss 0 _ _ _ j (by omega), rowMiss 1 _ _ _ j (by omega), rowMiss 2 _ _ _ j (by omega), rowHit 3 _ _ _ j e]
    refine (add0 _ _ (k0_pay3 (F := Ideal) (grid0.coords ⟨n, h⟩) (iblk m c 3 ⟨n, h⟩)) _ _).trans ?_
    refine congrArg₂ (fun a b : EReal => a + b) ?_ ?_
    · refine congrArg (outsAt0 m c (n - 1) (lt_of_le_of_lt (Nat.sub_le _ _) h)).2.1 ?_
      funext x; apply Fin.ext
      fin_cases x
      · show 3 + 1 * 0 = (j 0).val; omega
      · show 0 + 1 * (j 1).val = (j 1).val; omega
    · unfold part6
      rw [e]
      exact addend m c n h (j 1) 0 (by decide)

/-- A sum over the rows, the first three apart. -/
theorem split3 (f : Fin 4096 → EReal) : ∑ k, f k = ∑ k : Fin 3, f ⟨k.val, by have := k.isLt; omega⟩ + ∑ k : Fin 4093, f ⟨3 + k.val, by have := k.isLt; omega⟩ :=
  Fin.sum_univ_add (a := 3) (b := 4093) f

theorem total6 (c : Dev nD) (j : S4x128.Idx) (t : ℕ) (h : t < cfg0.N) (ht : t % 2 = 2 - 1) :
    (outsAt0 m c (t - 1) (by omega)).2.1 j + part6 m c j t h
      = ∑ i : Fin 2, part6 m c j (2 * (t / 2) + i.val) (by have := i.isLt; have := Nat.div_add_mod t 2; omega) :=
  Cert.Sums.run_total 2 (by decide) (fun n h => (outsAt0 m c n h).2.1 j) (part6 m c j)
    (fun n h h0 => first6 m c j n h h0)
    (fun n h h0 h1 => next6 m c j n h h0) t h ht

/-- The array of the taps' gradient after the run. -/
theorem final6 (c : Dev nD) : (dats m 0 c).arrAt 6 (cfgs 0).N = dw (m ((c : Thread nD τ).loc main_arg0)) (m ((c : Thread nD τ).loc main_arg1)) := by
  refine (dats m 0 c).arrAt_eq_of_covers 6 _ (by decide +kernel) fun t hf y => ?_
  have ht : t.val % 2 = 1 := (flush0_6 t).mp hf
  have hN : t.val < 16 := lt_of_lt_of_eq t.isLt N_0
  blk_simp
  rw [after0_6]
  refine (next6 m c y t.val t.isLt (by omega)).trans ?_
  refine (total6 m c y t.val t.isLt ht).trans ?_
  refine Fin.sum_mul_add_congr fun s k hl => ?_
  refine congrArg₂ (fun u v : EReal => u * v) ?_ ?_
  · blk_point [iblk, V, idx t, idx ⟨_, Pipeline.run_point_lt_of_flush t ht s⟩, hl]
  · have e0 : ((win0_6.blk t).view.emb y 0).val = (y 0).val := by blk_simp [idx t]
    have hs : s.val < 2 := s.isLt
    rw [e0]
    refine congrArg (past (3 - (y 0).val) _) ?_
    funext a; apply Fin.ext
    fin_cases a
    · blk_simp [idx t, idx ⟨_, Pipeline.run_point_lt_of_flush t ht s⟩]
      show (2 * (t.val / 2) + s.val) % 2 * 2048 + k.val = s.val * 2048 + k.val
      omega
    · have e1 : ((win0_6.blk t).view.emb y 1).val = t.val / 2 * 128 + (y 1).val := by blk_simp [idx t]
      blk_simp [idx t, idx ⟨_, Pipeline.run_point_lt_of_flush t ht s⟩]
      show (2 * (t.val / 2) + s.val) / 2 * 128 + (y 1).val = ((win0_6.blk t).view.emb y 1).val
      rw [e1]
      omega

end Cert.LruConvBwdIdeal.Conv

namespace Cert.Proof.LruConvBwdClaim

open Cert.LruConvBwdIdeal.Conv

/-- The reference leaves its arguments as they were. -/
theorem frame_ref : Cert.quiescent_LruConvBwdRefIdeal := fun m ρ _ =>
  (θ_run Cert.LruConvBwdRefIdeal.defs _ _).mono (fun r h => ⟨fun c => (h c).2.2.2,
      Idealize.ShloMosaic.sem_eq_zero_of_no_sems (by decide) r.2⟩)
    (Cert.LruConvBwdRefIdeal.Value.run (F := Ideal) m ρ)

/-- The kernel's results are those of the reference. -/
theorem algebraic : Cert.algebraic_LruConvBwdIdeal_LruConvBwdRefIdeal := by
  intro m ρ m' ρ' _ hag
  refine ⟨fun c => dx (m ((c.tc : Thread _ _).loc Cert.LruConvBwdIdeal.main_arg0)) (m ((c.tc : Thread _ _).loc Cert.LruConvBwdIdeal.main_arg2)), fun c => dw (m ((c.tc : Thread _ _).loc Cert.LruConvBwdIdeal.main_arg0)) (m ((c.tc : Thread _ _).loc Cert.LruConvBwdIdeal.main_arg1)), fun c => db (m ((c.tc : Thread _ _).loc Cert.LruConvBwdIdeal.main_arg0)), ?_, ?_⟩
  · exact (θ_run Cert.LruConvBwdIdeal.defs _ _).mono (fun _ h c => ⟨(h c).1.trans (final5 m c), (h c).2.1.trans (final6 m c), (h c).2.2.1.trans (final7 m c), (h c).2.2.2⟩)
      (Cert.LruConvBwdIdeal.Value.run_blocks (F := Ideal) m ρ)
  · refine (θ_run Cert.LruConvBwdRefIdeal.defs _ _).mono (fun _ h c => ⟨(h c).1.trans ?_, (h c).2.1.trans ?_, (h c).2.2.1.trans ?_, (h c).2.2.2⟩)
      (Cert.LruConvBwdRefIdeal.Value.run (F := Ideal) m' ρ')
    · rw [(hag c).1, (hag c).2.2]
      funext i
      clear h hag
      have hi : (i 0).val < 4096 := (i 0).isLt
      pointwise [dx, later]
      refine congrArg₂ (fun u v : EReal => u + v) (congrArg₂ (fun u v : EReal => u + v) (congrArg₂ (fun u v : EReal => u + v) rfl ?_) ?_) ?_
      · by_cases h : (i 0).val + 1 < 4096
        · rw [dif_pos (by omega), dif_pos h]
          exact congrArg (fun u : EReal => u * _) (congrArg _ (congrArg (fun r => ix2 r _) (Fin.ext (by dsimp only; omega))))
        · rw [dif_neg (by omega), dif_neg h, zero_mul]
      · by_cases h : (i 0).val + 2 < 4096
        · rw [dif_pos (by omega), dif_pos h]
          exact congrArg (fun u : EReal => u * _) (congrArg _ (congrArg (fun r => ix2 r _) (Fin.ext (by dsimp only; omega))))
        · rw [dif_neg (by omega), dif_neg h, zero_mul]
      · by_cases h : (i 0).val + 3 < 4096
        · rw [dif_pos (by omega), dif_pos h]
          exact congrArg (fun u : EReal => u * _) (congrArg _ (congrArg (fun r => ix2 r _) (Fin.ext (by dsimp only; omega))))
        · rw [dif_neg (by omega), dif_neg h, zero_mul]
    · rw [(hag c).1, (hag c).2.1]
      funext i
      clear h hag
      have hi : (i 0).val < 4 := (i 0).isLt
      pointwise [dw, past, colX]
      obtain e | e | e | e : (i 0).val = 0 ∨ (i 0).val = 1 ∨ (i 0).val = 2 ∨ (i 0).val = 3 := by omega
      · refine (congrArg₂ (fun u v : EReal => u + v) (congrArg₂ (fun u v : EReal => u + v) (congrArg₂ (fun u v : EReal => u + v) (dif_neg (by omega)) (dif_neg (by omega))) (dif_neg (by omega))) (dif_pos (by omega))).trans ?_
        simp only [add_zero, zero_add, Finset.univ_unique, Finset.sum_singleton, zero_mul, Finset.sum_const_zero]
        rw [split3]
        refine Eq.trans ?_ (congrArg₂ (fun u v : EReal => u + v) (Finset.sum_eq_zero fun k _ => ?_).symm rfl)
        · rw [zero_add]
          refine Finset.sum_congr rfl fun k _ => ?_
          rw [mul_comm, dif_neg (by dsimp only; omega)]
          exact congrArg (fun u : EReal => _ * u) (congrArg _ (congrArg (fun r => ix2 r _) (Fin.ext (by dsimp only; omega))))
        · have := k.isLt
          rw [dif_pos (by dsimp only; omega), mul_zero]
      · refine (congrArg₂ (fun u v : EReal => u + v) (congrArg₂ (fun u v : EReal => u + v) (congrArg₂ (fun u v : EReal => u + v) (dif_neg (by omega)) (dif_neg (by omega))) (dif_pos (by omega))) (dif_neg (by omega))).trans ?_
        simp only [add_zero, zero_add, Finset.univ_unique, Finset.sum_singleton, zero_mul, Finset.sum_const_zero]
        refine Finset.sum_congr rfl fun k _ => ?_
        rw [mul_comm]
        refine congrArg (fun u : EReal => _ * u) ?_
        by_cases h : k.val < 2
        · rw [dif_pos (by omega), dif_pos (by omega)]
        · rw [dif_neg (by omega), dif_neg (by omega)]
          exact congrArg _ (congrArg (fun r => ix2 r _) (Fin.ext (by dsimp only; omega)))
      · refine (congrArg₂ (fun u v : EReal => u + v) (congrArg₂ (fun u v : EReal => u + v) (congrArg₂ (fun u v : EReal => u + v) (dif_neg (by omega)) (dif_pos (by omega))) (dif_neg (by omega))) (dif_neg (by omega))).trans ?_
        simp only [add_zero, zero_add, Finset.univ_unique, Finset.sum_singleton, zero_mul, Finset.sum_const_zero]
        refine Finset.sum_congr rfl fun k _ => ?_
        rw [mul_comm]
        refine congrArg (fun u : EReal => _ * u) ?_
        by_cases h : k.val < 1
        · rw [dif_pos (by omega), dif_pos (by omega)]
        · rw [dif_neg (by omega), dif_neg (by omega)]
          exact congrArg _ (congrArg (fun r => ix2 r _) (Fin.ext (by dsimp only; omega)))
      · refine (congrArg₂ (fun u v : EReal => u + v) (congrArg₂ (fun u v : EReal => u + v) (congrArg₂ (fun u v : EReal => u + v) (dif_pos (by omega)) (dif_neg (by omega))) (dif_neg (by omega))) (dif_neg (by omega))).trans ?_
        simp only [add_zero, zero_add, Finset.univ_unique, Finset.sum_singleton, zero_mul, Finset.sum_const_zero]
        refine Finset.sum_congr rfl fun k _ => ?_
        rw [mul_comm, dif_neg (by omega)]
        exact congrArg (fun u : EReal => _ * u) (congrArg _ (congrArg (fun r => ix2 r _) (Fin.ext (by dsimp only; omega))))
    · rw [(hag c).1]
      funext i
      clear h hag
      pointwise [db]
      simp only [Finset.univ_unique, Finset.sum_singleton]

end Cert.Proof.LruConvBwdClaim

end
-- ==== Proof.GdnConvBwdClaim.lean ====
/-
  The gradient of a causal convolution of four taps: of its input, of its taps and of its bias.
-/
module

public import proofs.«01_k».proof.Defs
public import proofs.«01_k».proof.Proof.Sums
public import proofs.«01_k».proof.Proof.Gen.GdnConvBwdIdeal.Value
public import proofs.«01_k».proof.Proof.Gen.GdnConvBwdRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GdnConvBwdIdeal.Conv

open Cert.GdnConvBwdIdeal Cert.GdnConvBwdIdeal.Gen

variable (m : (ℓ : Loc nD τ sig) → Buf (Elt Ideal) ℓ)

/-- A block's rows moved down by `s`, the first `s` taken from the end of the eight rows before it. -/
def moved (s : ℕ) (x : FVec Ideal S2048x128 .f32) (p : FVec Ideal S8x128 .f32) (j : S2048x128.Idx) (hs : s < 8) : EReal :=
  if h : (j 0).val < s then p (ix2 ⟨8 - s + (j 0).val, by omega⟩ (j 1)) else x (ix2 ⟨(j 0).val - s, by have : (j 0).val < 2048 := (j 0).isLt; omega⟩ (j 1))

theorem pick1 (a : ℕ) (ha : a < 8) (u v : EReal) :
    Scalar.select (IntOp.cmpi CmpIPredicate.slt (BitVec.ofNat 32 a) 1#32) u v = if a < 1 then u else v := by
  interval_cases a <;> rfl

theorem down1 (x : FVec Ideal S2048x128 .f32) (p : FVec Ideal S8x128 .f32) (j : S2048x128.Idx) :
    concatenate S2048x128 0 [⟨S8x128, select (cmpi .slt (iota .tc S8x128 32 [0] iota_S8x128_d0_w32) (broadcast S8x128 1#32)) (dynamicRotate 0 1#32 none p rotates_S8x128_d0)
      (extractStridedSlice S8x128 ![0, 0] (dynamicRotate 0 1#32 none x rotates_S2048x128_d0) slices_S2048x128_o0_0_S8x128)⟩,
      ⟨S2040x128, extractStridedSlice S2040x128 ![8, 0] (dynamicRotate 0 1#32 none x rotates_S2048x128_d0) slices_S2048x128_o8_0_S2040x128⟩] concatenates_S8x128_S2040x128_S2048x128_d0 j = moved 1 x p j (by decide) := by
  have hj : (j 0).val < 2048 := (j 0).isLt
  pointwise [moved]
  by_cases h8 : (j 0).val < 8
  · rw [dif_pos h8, pick1 _ h8]
    by_cases hs : (j 0).val < 1
    · rw [if_pos hs, dif_pos hs]
      exact congrArg p (congrArg (fun r => ix2 r (j 1)) (Fin.ext (by dsimp only; omega)))
    · rw [if_neg hs, dif_neg hs]
      exact congrArg x (congrArg (fun r => ix2 r (j 1)) (Fin.ext (by dsimp only; omega)))
  · rw [dif_neg h8, dif_neg (by omega)]
    exact congrArg x (congrArg (fun r => ix2 r (j 1)) (Fin.ext (by dsimp only; omega)))

theorem pick2 (a : ℕ) (ha : a < 8) (u v : EReal) :
    Scalar.select (IntOp.cmpi CmpIPredicate.slt (BitVec.ofNat 32 a) 2#32) u v = if a < 2 then u else v := by
  interval_cases a <;> rfl

theorem down2 (x : FVec Ideal S2048x128 .f32) (p : FVec Ideal S8x128 .f32) (j : S2048x128.Idx) :
    concatenate S2048x128 0 [⟨S8x128, select (cmpi .slt (iota .tc S8x128 32 [0] iota_S8x128_d0_w32) (broadcast S8x128 2#32)) (dynamicRotate 0 2#32 none p rotates_S8x128_d0)
      (extractStridedSlice S8x128 ![0, 0] (dynamicRotate 0 2#32 none x rotates_S2048x128_d0) slices_S2048x128_o0_0_S8x128)⟩,
      ⟨S2040x128, extractStridedSlice S2040x128 ![8, 0] (dynamicRotate 0 2#32 none x rotates_S2048x128_d0) slices_S2048x128_o8_0_S2040x128⟩] concatenates_S8x128_S2040x128_S2048x128_d0 j = moved 2 x p j (by decide) := by
  have hj : (j 0).val < 2048 := (j 0).isLt
  pointwise [moved]
  by_cases h8 : (j 0).val < 8
  · rw [dif_pos h8, pick2 _ h8]
    by_cases hs : (j 0).val < 2
    · rw [if_pos hs, dif_pos hs]
      exact congrArg p (congrArg (fun r => ix2 r (j 1)) (Fin.ext (by dsimp only; omega)))
    · rw [if_neg hs, dif_neg hs]
      exact congrArg x (congrArg (fun r => ix2 r (j 1)) (Fin.ext (by dsimp only; omega)))
  · rw [dif_neg h8, dif_neg (by omega)]
    exact congrArg x (congrArg (fun r => ix2 r (j 1)) (Fin.ext (by dsimp only; omega)))

theorem pick3 (a : ℕ) (ha : a < 8) (u v : EReal) :
    Scalar.select (IntOp.cmpi CmpIPredicate.slt (BitVec.ofNat 32 a) 3#32) u v = if a < 3 then u else v := by
  interval_cases a <;> rfl

theorem down3 (x : FVec Ideal S2048x128 .f32) (p : FVec Ideal S8x128 .f32) (j : S2048x128.Idx) :
    concatenate S2048x128 0 [⟨S8x128, select (cmpi .slt (iota .tc S8x128 32 [0] iota_S8x128_d0_w32) (broadcast S8x128 3#32)) (dynamicRotate 0 3#32 none p rotates_S8x128_d0)
      (extractStridedSlice S8x128 ![0, 0] (dynamicRotate 0 3#32 none x rotates_S2048x128_d0) slices_S2048x128_o0_0_S8x128)⟩,
      ⟨S2040x128, extractStridedSlice S2040x128 ![8, 0] (dynamicRotate 0 3#32 none x rotates_S2048x128_d0) slices_S2048x128_o8_0_S2040x128⟩] concatenates_S8x128_S2040x128_S2048x128_d0 j = moved 3 x p j (by decide) := by
  have hj : (j 0).val < 2048 := (j 0).isLt
  pointwise [moved]
  by_cases h8 : (j 0).val < 8
  · rw [dif_pos h8, pick3 _ h8]
    by_cases hs : (j 0).val < 3
    · rw [if_pos hs, dif_pos hs]
      exact congrArg p (congrArg (fun r => ix2 r (j 1)) (Fin.ext (by dsimp only; omega)))
    · rw [if_neg hs, dif_neg hs]
      exact congrArg x (congrArg (fun r => ix2 r (j 1)) (Fin.ext (by dsimp only; omega)))
  · rw [dif_neg h8, dif_neg (by omega)]
    exact congrArg x (congrArg (fun r => ix2 r (j 1)) (Fin.ext (by dsimp only; omega)))

/-- A block's rows moved up by `s`, the last `s` taken from the eight rows after it. -/
def lifted (s : ℕ) (x : FVec Ideal S2048x128 .f32) (p : FVec Ideal S8x128 .f32) (j : S2048x128.Idx) (hs : s < 8) : EReal :=
  if h : (j 0).val + s < 2048 then x (ix2 ⟨(j 0).val + s, h⟩ (j 1))
  else p (ix2 ⟨(j 0).val + s - 2048, by have : (j 0).val < 2048 := (j 0).isLt; omega⟩ (j 1))

theorem pickUp1 (a : ℕ) (ha : a < 8) (u v : EReal) :
    Scalar.select (IntOp.cmpi CmpIPredicate.sge (BitVec.ofNat 32 a) 7#32) u v = if a < 7 then v else u := by
  interval_cases a <;> rfl

theorem up1 (x : FVec Ideal S2048x128 .f32) (p : FVec Ideal S8x128 .f32) (j : S2048x128.Idx) :
    concatenate S2048x128 0 [⟨S2040x128, extractStridedSlice S2040x128 ![0, 0] (dynamicRotate 0 2047#32 none x rotates_S2048x128_d0) slices_S2048x128_o0_0_S2040x128⟩,
      ⟨S8x128, select (cmpi .sge (iota .tc S8x128 32 [0] iota_S8x128_d0_w32) (broadcast S8x128 7#32)) (dynamicRotate 0 7#32 none p rotates_S8x128_d0)
      (extractStridedSlice S8x128 ![2040, 0] (dynamicRotate 0 2047#32 none x rotates_S2048x128_d0) slices_S2048x128_o2040_0_S8x128)⟩] concatenates_S2040x128_S8x128_S2048x128_d0 j = lifted 1 x p j (by decide) := by
  have hj : (j 0).val < 2048 := (j 0).isLt
  pointwise [lifted]
  by_cases h8 : (j 0).val < 2040
  · rw [dif_pos h8, dif_pos (by omega)]
    exact congrArg x (congrArg (fun r => ix2 r (j 1)) (Fin.ext (by dsimp only; omega)))
  · rw [dif_neg h8, pickUp1 _ (by omega)]
    by_cases hs : (j 0).val + 1 < 2048
    · rw [if_pos (by omega), dif_pos hs]
      exact congrArg x (congrArg (fun r => ix2 r (j 1)) (Fin.ext (by dsimp only; omega)))
    · rw [if_neg (by omega), dif_neg hs]
      exact congrArg p (congrArg (fun r => ix2 r (j 1)) (Fin.ext (by dsimp only; omega)))

theorem pickUp2 (a : ℕ) (ha : a < 8) (u v : EReal) :
    Scalar.select (IntOp.cmpi CmpIPredicate.sge (BitVec.ofNat 32 a) 6#32) u v = if a < 6 then v else u := by
  interval_cases a <;> rfl

theorem up2 (x : FVec Ideal S2048x128 .f32) (p : FVec Ideal S8x128 .f32) (j : S2048x128.Idx) :
    concatenate S2048x128 0 [⟨S2040x128, extractStridedSlice S2040x128 ![0, 0] (dynamicRotate 0 2046#32 none x rotates_S2048x128_d0) slices_S2048x128_o0_0_S2040x128⟩,
      ⟨S8x128, select (cmpi .sge (iota .tc S8x128 32 [0] iota_S8x128_d0_w32) (broadcast S8x128 6#32)) (dynamicRotate 0 6#32 none p rotates_S8x128_d0)
      (extractStridedSlice S8x128 ![2040, 0] (dynamicRotate 0 2046#32 none x rotates_S2048x128_d0) slices_S2048x128_o2040_0_S8x128)⟩] concatenates_S2040x128_S8x128_S2048x128_d0 j = lifted 2 x p j (by decide) := by
  have hj : (j 0).val < 2048 := (j 0).isLt
  pointwise [lifted]
  by_cases h8 : (j 0).val < 2040
  · rw [dif_pos h8, dif_pos (by omega)]
    exact congrArg x (congrArg (fun r => ix2 r (j 1)) (Fin.ext (by dsimp only; omega)))
  · rw [dif_neg h8, pickUp2 _ (by omega)]
    by_cases hs : (j 0).val + 2 < 2048
    · rw [if_pos (by omega), dif_pos hs]
      exact congrArg x (congrArg (fun r => ix2 r (j 1)) (Fin.ext (by dsimp only; omega)))
    · rw [if_neg (by omega), dif_neg hs]
      exact congrArg p (congrArg (fun r => ix2 r (j 1)) (Fin.ext (by dsimp only; omega)))

theorem pickUp3 (a : ℕ) (ha : a < 8) (u v : EReal) :
    Scalar.select (IntOp.cmpi CmpIPredicate.sge (BitVec.ofNat 32 a) 5#32) u v = if a < 5 then v else u := by
  interval_cases a <;> rfl

theorem up3 (x : FVec Ideal S2048x128 .f32) (p : FVec Ideal S8x128 .f32) (j : S2048x128.Idx) :
    concatenate S2048x128 0 [⟨S2040x128, extractStridedSlice S2040x128 ![0, 0] (dynamicRotate 0 2045#32 none x rotates_S2048x128_d0) slices_S2048x128_o0_0_S2040x128⟩,
      ⟨S8x128, select (cmpi .sge (iota .tc S8x128 32 [0] iota_S8x128_d0_w32) (broadcast S8x128 5#32)) (dynamicRotate 0 5#32 none p rotates_S8x128_d0)
      (extractStridedSlice S8x128 ![2040, 0] (dynamicRotate 0 2045#32 none x rotates_S2048x128_d0) slices_S2048x128_o2040_0_S8x128)⟩] concatenates_S2040x128_S8x128_S2048x128_d0 j = lifted 3 x p j (by decide) := by
  have hj : (j 0).val < 2048 := (j 0).isLt
  pointwise [lifted]
  by_cases h8 : (j 0).val < 2040
  · rw [dif_pos h8, dif_pos (by omega)]
    exact congrArg x (congrArg (fun r => ix2 r (j 1)) (Fin.ext (by dsimp only; omega)))
  · rw [dif_neg h8, pickUp3 _ (by omega)]
    by_cases hs : (j 0).val + 3 < 2048
    · rw [if_pos (by omega), dif_pos hs]
      exact congrArg x (congrArg (fun r => ix2 r (j 1)) (Fin.ext (by dsimp only; omega)))
    · rw [if_neg (by omega), dif_neg hs]
      exact congrArg p (congrArg (fun r => ix2 r (j 1)) (Fin.ext (by dsimp only; omega)))

/-- The branch's column of the projection over column `j`. -/
def colX (j : Fin 3072) : Fin 10752 := ⟨j.val, by have := j.isLt; omega⟩

/-- The convolution's input `s` rows earlier, zero before the first row. -/
def past (s : ℕ) (x : FVec Ideal S4096x10752 .f32) (i : S4096x3072.Idx) : EReal :=
  if h : (i 0).val < s then 0 else x (ix2 ⟨(i 0).val - s, by have : (i 0).val < 4096 := (i 0).isLt; omega⟩ (colX (i 1)))

/-- The upstream gradient `s` rows later, zero after the last row. -/
def later (s : ℕ) (d : FVec Ideal S4096x3072 .f32) (i : S4096x3072.Idx) : EReal :=
  if h : (i 0).val + s < 4096 then d (ix2 ⟨(i 0).val + s, h⟩ (i 1)) else 0

/-- The gradient of the input. -/
def dx (d : FVec Ideal S4096x3072 .f32) (w : FVec Ideal S4x3072 .f32) : FVec Ideal S4096x3072 .f32 := fun i =>
  d i * w (ix2 3 (i 1)) + later 1 d i * w (ix2 2 (i 1)) + later 2 d i * w (ix2 1 (i 1)) + later 3 d i * w (ix2 0 (i 1))

/-- The gradient of the taps. -/
def dw (d : FVec Ideal S4096x3072 .f32) (x : FVec Ideal S4096x10752 .f32) : FVec Ideal S4x3072 .f32 := fun i =>
  ∑ k : Fin 4096, d (ix2 k (i 1)) * past (3 - (i 0).val) x (ix2 k (i 1))

/-- The gradient of the bias. -/
def db (d : FVec Ideal S4096x3072 .f32) : FVec Ideal S1x3072 .f32 := fun i => ∑ k : Fin 4096, d (ix2 k (i 1))

/-- Every window's block index at every grid point. -/
theorem idx : ∀ t : Fin cfg0.N, win0_0.index t = ![t.val % 2, t.val / 2] ∧ win0_1.index t = ![256 + t.val % 2 * 255, t.val / 2]
    ∧ win0_2.index t = ![t.val % 2, t.val / 2] ∧ win0_3.index t = ![t.val % 2 * 255, t.val / 2]
    ∧ win0_4.index t = ![0, t.val / 2] ∧ win0_5.index t = ![t.val % 2, t.val / 2] ∧ win0_6.index t = ![0, t.val / 2] ∧ win0_7.index t = ![0, t.val / 2] :=
  (by decide +kernel : ∀ t : Fin grid0.N, _)

/-- The row of the grid a point lies in. -/
theorem rowOf : ∀ t : Fin cfg0.N, ((grid0.coords t) 1).val = t.val % 2 :=
  (by decide +kernel : ∀ t : Fin grid0.N, _)

/-- The rows after the block are made zero at the last block. -/
theorem after (i : grid0.Coords) (p : FVec Ideal S8x128 .f32) (j : S8x128.Idx) :
    k0_pay2 (F := Ideal) i p j = if (i 1).val = 1 then 0 else p j := by
  have hi : (i 1).val < 2 := (i 1).isLt
  pointwise [k0_pay2]
  generalize (i 1).val = a at hi
  interval_cases a
  · rw [show (Scalar.extui (Scalar.cmpi CmpIPredicate.slt 0#32 1#32) : BitVec 32).toInt = 1 from rfl]; simp
  · rw [show (Scalar.extui (Scalar.cmpi CmpIPredicate.slt 1#32 1#32) : BitVec 32).toInt = 0 from rfl]; simp

/-- The rows before the block are made zero at the first block. -/
theorem before (i : grid0.Coords) (p : FVec Ideal S8x128 .f32) (j : S8x128.Idx) :
    k0_pay3 (F := Ideal) i p j = if (i 1).val = 0 then 0 else p j := by
  have hi : (i 1).val < 2 := (i 1).isLt
  pointwise [k0_pay3]
  generalize (i 1).val = a at hi
  interval_cases a
  · rw [show (Scalar.extui (Scalar.cmpi CmpIPredicate.sgt 0#32 0#32) : BitVec 32).toInt = 0 from rfl]; simp
  · rw [show (Scalar.extui (Scalar.cmpi CmpIPredicate.sgt 1#32 0#32) : BitVec 32).toInt = 1 from rfl]; simp

/-- The input `s` rows earlier, from the block and the rows before it. -/
theorem pastBlk (c : Dev nD) (t : Fin cfg0.N) (y : (cfg0.win 5).block.Idx) (s : ℕ) (hs : s < 8) :
    moved s (iblk m c 2 t) (k0_pay3 (F := Ideal) (grid0.coords t) (iblk m c 3 t)) y hs = past s (m ((c : Thread nD τ).loc main_arg1)) (((cfg0.win 5).blk t).view.emb y) := by
  have hN : t.val < 48 := lt_of_lt_of_eq t.isLt N_0
  have hy : (y 0).val < 2048 := (y 0).isLt
  have e0 : ((((cfg0.win 5).blk t).view.emb y) 0).val = t.val % 2 * 2048 + (y 0).val := by blk_simp [idx t]
  have e1 : ((((cfg0.win 5).blk t).view.emb y) 1).val = t.val / 2 * 128 + (y 1).val := by blk_simp [idx t]
  unfold moved past
  by_cases h : (y 0).val < s
  · rw [dif_pos h, before, rowOf]
    by_cases hb : t.val % 2 = 0
    · rw [if_pos hb, dif_pos (by omega)]
    · rw [if_neg hb, dif_neg (by omega)]
      blk_point [iblk, V, idx t, colX]
  · rw [dif_neg h, dif_neg (by omega)]
    blk_point [iblk, V, idx t, colX]

/-- The upstream gradient `s` rows later, from the block and the rows after it. -/
theorem laterBlk (c : Dev nD) (t : Fin cfg0.N) (y : (cfg0.win 5).block.Idx) (s : ℕ) (hs : s < 8) :
    lifted s (iblk m c 0 t) (k0_pay2 (F := Ideal) (grid0.coords t) (iblk m c 1 t)) y hs = later s (m ((c : Thread nD τ).loc main_arg0)) (((cfg0.win 5).blk t).view.emb y) := by
  have hN : t.val < 48 := lt_of_lt_of_eq t.isLt N_0
  have hy : (y 0).val < 2048 := (y 0).isLt
  have e0 : ((((cfg0.win 5).blk t).view.emb y) 0).val = t.val % 2 * 2048 + (y 0).val := by blk_simp [idx t]
  have e1 : ((((cfg0.win 5).blk t).view.emb y) 1).val = t.val / 2 * 128 + (y 1).val := by blk_simp [idx t]
  unfold lifted later
  by_cases h : (y 0).val + s < 2048
  · rw [dif_pos h, dif_pos (by omega)]
    blk_point [iblk, V, idx t]
  · rw [dif_neg h, after, rowOf]
    by_cases hb : t.val % 2 = 1
    · rw [if_pos hb, dif_neg (by omega)]
    · rw [if_neg hb, dif_pos (by omega)]
      blk_point [iblk, V, idx t]

theorem hpay (i : grid0.Coords) (d : FVec Ideal S2048x128 .f32) (p : FVec Ideal S8x128 .f32) (w : FVec Ideal S4x128 .f32) (j : S2048x128.Idx) :
    k0_pay19 (F := Ideal) d (k0_pay2 i p) w (k0_pay13 d (k0_pay2 i p) w (k0_pay6 d w) (k0_pay8 d) (k0_pay9 i p) k0_pay10 (k0_pay11 d)) j
      = d j * w (ix2 3 (j 1)) + lifted 1 d (k0_pay2 i p) j (by decide) * w (ix2 2 (j 1)) + lifted 2 d (k0_pay2 i p) j (by decide) * w (ix2 1 (j 1))
        + lifted 3 d (k0_pay2 i p) j (by decide) * w (ix2 0 (j 1)) := by
  refine congrArg₂ (fun u v : EReal => u + v) (congrArg₂ (fun u v : EReal => u + v)
    (congrArg₂ (fun u v : EReal => u + v) (congrArg₂ (fun u v : EReal => u * v) rfl ?_) (congrArg₂ (fun u v : EReal => u * v) (up1 d (k0_pay2 i p) j) ?_))
    (congrArg₂ (fun u v : EReal => u * v) (up2 d (k0_pay2 i p) j) ?_)) (congrArg₂ (fun u v : EReal => u * v) (up3 d (k0_pay2 i p) j) ?_)
  · pointwise
  · pointwise
  · pointwise
  · pointwise

/-- What one point computes of the input's gradient. -/
theorem point5 (c : Dev nD) (t : Fin cfg0.N) (y : (cfg0.win 5).block.Idx) :
    k0_pay19 (F := Ideal) (iblk m c 0 t) (k0_pay2 (grid0.coords t) (iblk m c 1 t)) (iblk m c 4 t) (k0_pay13 (iblk m c 0 t) (k0_pay2 (grid0.coords t) (iblk m c 1 t)) (iblk m c 4 t)
      (k0_pay6 (iblk m c 0 t) (iblk m c 4 t)) (k0_pay8 (iblk m c 0 t)) (k0_pay9 (grid0.coords t) (iblk m c 1 t)) k0_pay10 (k0_pay11 (iblk m c 0 t))) y
      = dx (m ((c : Thread nD τ).loc main_arg0)) (m ((c : Thread nD τ).loc main_arg2)) (((cfg0.win 5).blk t).view.emb y) := by
  refine (hpay _ _ _ _ _).trans ?_
  rw [laterBlk m c t y 1 (by decide), laterBlk m c t y 2 (by decide), laterBlk m c t y 3 (by decide)]
  refine congrArg₂ (fun u v : EReal => u + v) (congrArg₂ (fun u v : EReal => u + v)
    (congrArg₂ (fun u v : EReal => u + v) (congrArg₂ (fun u v : EReal => u * v) ?_ ?_) (congrArg₂ (fun u v : EReal => u * v) rfl ?_))
    (congrArg₂ (fun u v : EReal => u * v) rfl ?_)) (congrArg₂ (fun u v : EReal => u * v) rfl ?_)
  · blk_point [iblk, V, idx t]
  · blk_point [iblk, V, idx t]
  · blk_point [iblk, V, idx t]
  · blk_point [iblk, V, idx t]
  · blk_point [iblk, V, idx t]

/-- The array of the input's gradient after the run. -/
theorem final5 (c : Dev nD) : (dats m 0 c).arrAt 5 (cfgs 0).N = dx (m ((c : Thread nD τ).loc main_arg0)) (m ((c : Thread nD τ).loc main_arg2)) := by
  refine (dats m 0 c).arrAt_eq_of_covers 5 _ (by decide +kernel) fun t _ y => ?_
  blk_simp
  rw [after0_5]
  by_cases h0 : t.val % 2 = 0
  · rw [outsAt0_A m c t h0]
    frame_out
    exact point5 m c t y
  · rw [outsAt0_B m c t h0]
    frame_out
    exact point5 m c t y

/-- What one point adds to the bias's gradient. -/
def part7 (c : Dev nD) (j : S1x128.Idx) (n : ℕ) (h : n < cfg0.N) : EReal :=
  ∑ k : Fin 2048, (show FVec Ideal S2048x128 .f32 from iblk m c 0 ⟨n, h⟩) (ix2 k (j 1))

theorem total7 (c : Dev nD) (j : S1x128.Idx) (t : ℕ) (h : t < cfg0.N) (ht : t % 2 = 2 - 1) :
    (outsAt0 m c (t - 1) (by omega)).2.2 j + part7 m c j t h
      = ∑ i : Fin 2, part7 m c j (2 * (t / 2) + i.val) (by have := i.isLt; have := Nat.div_add_mod t 2; omega) :=
  Cert.Sums.run_total 2 (by decide) (fun n h => (outsAt0 m c n h).2.2 j) (part7 m c j)
    (fun n h h0 => by
      show (outsAt0 m c n h).2.2 j = _
      rw [outsAt0_A m c ⟨n, h⟩ h0]
      frame_out
      pointwise [k0_pay1, k0_pay5, part7])
    (fun n h h0 h1 => by
      show (outsAt0 m c n h).2.2 j = _
      rw [outsAt0_B m c ⟨n, h⟩ h0]
      frame_out
      pointwise [k0_pay1, part7]) t h ht

/-- The array of the bias's gradient after the run. -/
theorem final7 (c : Dev nD) : (dats m 0 c).arrAt 7 (cfgs 0).N = db (m ((c : Thread nD τ).loc main_arg0)) := by
  refine (dats m 0 c).arrAt_eq_of_covers 7 _ (by decide +kernel) fun t hf y => ?_
  have ht : t.val % 2 = 1 := (flush0_7 t).mp hf
  have hN : t.val < 48 := lt_of_lt_of_eq t.isLt N_0
  blk_simp
  rw [after0_7, outsAt0_B m c t (by omega)]
  frame_out
  refine Eq.trans (b := (outsAt0 m c (t.val - 1) (lt_of_le_of_lt (Nat.sub_le _ _) t.isLt)).2.2 y + part7 m c y t.val t.isLt) (by pointwise [k0_pay1, part7]) ?_
  refine (total7 m c y t.val t.isLt ht).trans ?_
  refine Fin.sum_mul_add_congr fun s k hl => ?_
  blk_point [iblk, V, idx t, idx ⟨_, Pipeline.run_point_lt_of_flush t ht s⟩, hl]

/-- What one point adds to the taps' gradient. -/
def part6 (c : Dev nD) (j : S4x128.Idx) (n : ℕ) (h : n < cfg0.N) : EReal :=
  ∑ k : Fin 2048, (show FVec Ideal S2048x128 .f32 from iblk m c 0 ⟨n, h⟩) (ix2 k (j 1)) * past (3 - (j 0).val) (m ((c : Thread nD τ).loc main_arg1)) (((cfg0.win 5).blk ⟨n, h⟩).view.emb (ix2 k (j 1)))

/-- A row stored last is read back at its row. -/
theorem rowHit (o : ℕ) (inb : ∀ a, (![o, 0] : Fin 2 → ℕ) a + (![1, 128] : Fin 2 → ℕ) a ≤ S4x128.size a) (w : S1x128.Idx → Elt Ideal .f32)
    (L : List (View.Piece (Elt Ideal) S4x128 .f32)) (j : S4x128.Idx) (h : (j 0).val = o) :
    View.canon ((⟨Rect.unit (s := S4x128) ![o, 0] ![1, 128] inb, w⟩ : View.Piece (Elt Ideal) S4x128 .f32) :: L) j = w (ix2 0 (j 1)) := by
  have e : (Rect.unit (s := S4x128) ![o, 0] ![1, 128] inb).emb (ix2 0 (j 1)) = j := by
    funext x; apply Fin.ext
    fin_cases x
    · show o + 1 * 0 = (j 0).val; omega
    · show 0 + 1 * (j 1).val = (j 1).val; omega
  have hh := View.canon_cons_emb (Val := Elt Ideal) (e := .f32) (Rect.unit (s := S4x128) ![o, 0] ![1, 128] inb) w L (ix2 0 (j 1))
  rw [e] at hh
  exact hh

/-- A row stored last does not change the other rows. -/
theorem rowMiss (o : ℕ) (inb : ∀ a, (![o, 0] : Fin 2 → ℕ) a + (![1, 128] : Fin 2 → ℕ) a ≤ S4x128.size a) (w : S1x128.Idx → Elt Ideal .f32)
    (L : List (View.Piece (Elt Ideal) S4x128 .f32)) (j : S4x128.Idx) (h : (j 0).val ≠ o) :
    View.canon ((⟨Rect.unit (s := S4x128) ![o, 0] ![1, 128] inb, w⟩ : View.Piece (Elt Ideal) S4x128 .f32) :: L) j = View.canon L j := by
  refine View.canon_cons_of_not_mem _ L ?_
  intro hm
  obtain ⟨i, hi, he⟩ := (LoadRect.mem_set _).mp hm (0 : Fin 2)
  have hi1 : i < 1 := hi
  have he' : (j 0).val = o + 1 * i := he
  omega

/-- A row read back from what was stored. -/
theorem rowRead {κ : Kind} {sp : Space} (v : View sig κ sp S4x128 .f32) (o : ℕ) (ho : o < 4) (inb : ∀ a, (![o, 0] : Fin 2 → ℕ) a + (![1, 128] : Fin 2 → ℕ) a ≤ S4x128.size a)
    (L : List (View.Piece (Elt Ideal) S4x128 .f32)) (z : S1x128.Idx) :
    v.readCov L (Rect.unit (s := S4x128) ![o, 0] ![1, 128] inb).toLoadRect z = View.canon L (ix2 ⟨o, ho⟩ (z 1)) := by
  have hz : (z 0).val < 1 := (z 0).isLt
  rw [View.readCov_eq_canon']
  refine congrArg (View.canon L) ?_
  funext x; apply Fin.ext
  fin_cases x
  · show o + 1 * (z 0).val = o; omega
  · show 0 + 1 * (z 1).val = (z 1).val; omega

/-- The zeros the taps' gradient begins with. -/
theorem zeros (inb : ∀ a, (![0, 0] : Fin 2 → ℕ) a + (![4, 128] : Fin 2 → ℕ) a ≤ S4x128.size a) (j : S4x128.Idx) :
    View.canon [(⟨Rect.unit (s := S4x128) ![0, 0] ![4, 128] inb, k0_pay4 (F := Ideal)⟩ : View.Piece (Elt Ideal) S4x128 .f32)] j = 0 := by
  refine (congrFun (View.canon_cons_unit_lit (Val := Elt Ideal) (e := .f32) (S := S4x128) inb (k0_pay4 (F := Ideal)) [] (by decide)) j).trans ?_
  pointwise [k0_pay4]

/-- A block added up over its rows. -/
theorem sumRows (u : FVec Ideal S2048x128 .f32) (z : S1x128.Idx) :
    shapeCast S1x128 (multiReduction .add [0] S128 u 0x00000000#32 reduces_S2048x128_S128 (.inl rfl) rfl) shapeCasts_S128_S1x128 z
      = ∑ k : Fin 2048, u (ix2 k (z 1)) := by
  pointwise

theorem same (v : FVec Ideal S1x128 .f32) (z : S1x128.Idx) : shapeCast S1x128 v shapeCasts_S1x128_S1x128 z = v z := by
  pointwise

theorem add0 (d x : FVec Ideal S2048x128 .f32) (q : FVec Ideal S8x128 .f32) (v : FVec Ideal S1x128 .f32) (z : S1x128.Idx) :
    k0_pay7 (F := Ideal) d x v z = v z + ∑ k : Fin 2048, d (ix2 k (z 1)) * moved 0 x q (ix2 k (z 1)) (by decide) := by
  refine congrArg₂ (fun a b : EReal => a + b) (same v z) ((sumRows _ z).trans (Finset.sum_congr rfl fun k _ => congrArg (fun b : EReal => d (ix2 k (z 1)) * b) ?_))
  unfold moved
  rw [dif_neg (by omega)]
  rfl

theorem add1 (d x : FVec Ideal S2048x128 .f32) (q : FVec Ideal S8x128 .f32) (v : FVec Ideal S1x128 .f32) (z : S1x128.Idx) :
    k0_pay12 (F := Ideal) d x q v z = v z + ∑ k : Fin 2048, d (ix2 k (z 1)) * moved 1 x q (ix2 k (z 1)) (by decide) :=
  congrArg₂ (fun a b : EReal => a + b) (same v z) ((sumRows _ z).trans (Finset.sum_congr rfl fun k _ => congrArg (fun b : EReal => d (ix2 k (z 1)) * b) (down1 x q (ix2 k (z 1)))))

theorem add2 (d x : FVec Ideal S2048x128 .f32) (q : FVec Ideal S8x128 .f32) (v : FVec Ideal S1x128 .f32) (z : S1x128.Idx) :
    k0_pay18 (F := Ideal) d (k0_pay14 v) (k0_pay15 x) (k0_pay16 q) k0_pay17 z = v z + ∑ k : Fin 2048, d (ix2 k (z 1)) * moved 2 x q (ix2 k (z 1)) (by decide) :=
  congrArg₂ (fun a b : EReal => a + b) (same v z) ((sumRows _ z).trans (Finset.sum_congr rfl fun k _ => congrArg (fun b : EReal => d (ix2 k (z 1)) * b) (down2 x q (ix2 k (z 1)))))

theorem add3 (d x : FVec Ideal S2048x128 .f32) (q : FVec Ideal S8x128 .f32) (v : FVec Ideal S1x128 .f32) (z : S1x128.Idx) :
    k0_pay20 (F := Ideal) d x q v z = v z + ∑ k : Fin 2048, d (ix2 k (z 1)) * moved 3 x q (ix2 k (z 1)) (by decide) :=
  congrArg₂ (fun a b : EReal => a + b) (same v z) ((sumRows _ z).trans (Finset.sum_congr rfl fun k _ => congrArg (fun b : EReal => d (ix2 k (z 1)) * b) (down3 x q (ix2 k (z 1)))))

/-- One tap's addend of one point, from the blocks. -/
theorem addend (c : Dev nD) (n : ℕ) (h : n < cfg0.N) (l : Fin 128) (s : ℕ) (hs : s < 8) :
    ∑ k : Fin 2048, (show FVec Ideal S2048x128 .f32 from iblk m c 0 ⟨n, h⟩) (ix2 k l) * moved s (iblk m c 2 ⟨n, h⟩) (k0_pay3 (F := Ideal) (grid0.coords ⟨n, h⟩) (iblk m c 3 ⟨n, h⟩)) (ix2 k l) hs
      = ∑ k : Fin 2048, (show FVec Ideal S2048x128 .f32 from iblk m c 0 ⟨n, h⟩) (ix2 k l) * past s (m ((c : Thread nD τ).loc main_arg1)) (((cfg0.win 5).blk ⟨n, h⟩).view.emb (ix2 k l)) :=
  Finset.sum_congr rfl fun k _ => congrArg (fun b : EReal => (show FVec Ideal S2048x128 .f32 from iblk m c 0 ⟨n, h⟩) (ix2 k l) * b) (pastBlk m c ⟨n, h⟩ (ix2 k l) s hs)

theorem first6 (c : Dev nD) (j : S4x128.Idx) (n : ℕ) (h : n < cfg0.N) (h0 : n % 2 = 0) : (outsAt0 m c n h).2.1 j = part6 m c j n h := by
  rw [outsAt0_A m c ⟨n, h⟩ h0]
  frame_out
  have hj : (j 0).val < 4 := (j 0).isLt
  obtain e | e | e | e : (j 0).val = 0 ∨ (j 0).val = 1 ∨ (j 0).val = 2 ∨ (j 0).val = 3 := by omega
  · rw [rowHit 0 _ _ _ j e]
    refine (add3 _ _ _ _ _).trans ?_
    rw [rowRead _ 0 (by decide), rowMiss 1 _ _ _ _ (show (0 : ℕ) ≠ 1 by decide), rowMiss 2 _ _ _ _ (show (0 : ℕ) ≠ 2 by decide), rowMiss 3 _ _ _ _ (show (0 : ℕ) ≠ 3 by decide), zeros, zero_add]
    unfold part6
    rw [e]
    exact addend m c n h (j 1) 3 (by decide)
  · rw [rowMiss 0 _ _ _ j (by omega), rowHit 1 _ _ _ j e]
    refine (add2 _ _ _ _ _).trans ?_
    rw [rowRead _ 1 (by decide), rowMiss 2 _ _ _ _ (show (1 : ℕ) ≠ 2 by decide), rowMiss 3 _ _ _ _ (show (1 : ℕ) ≠ 3 by decide), zeros, zero_add]
    unfold part6
    rw [e]
    exact addend m c n h (j 1) 2 (by decide)
  · rw [rowMiss 0 _ _ _ j (by omega), rowMiss 1 _ _ _ j (by omega), rowHit 2 _ _ _ j e]
    refine (add1 _ _ _ _ _).trans ?_
    rw [rowRead _ 2 (by decide), rowMiss 3 _ _ _ _ (show (2 : ℕ) ≠ 3 by decide), zeros, zero_add]
    unfold part6
    rw [e]
    exact addend m c n h (j 1) 1 (by decide)
  · rw [rowMiss 0 _ _ _ j (by omega), rowMiss 1 _ _ _ j (by omega), rowMiss 2 _ _ _ j (by omega), rowHit 3 _ _ _ j e]
    refine (add0 _ _ (k0_pay3 (F := Ideal) (grid0.coords ⟨n, h⟩) (iblk m c 3 ⟨n, h⟩)) _ _).trans ?_
    rw [rowRead _ 3 (by decide), zeros, zero_add]
    unfold part6
    rw [e]
    exact addend m c n h (j 1) 0 (by decide)

theorem next6 (c : Dev nD) (j : S4x128.Idx) (n : ℕ) (h : n < cfg0.N) (h0 : n % 2 ≠ 0) :
    (outsAt0 m c n h).2.1 j = (outsAt0 m c (n - 1) (lt_of_le_of_lt (Nat.sub_le _ _) h)).2.1 j + part6 m c j n h := by
  rw [outsAt0_B m c ⟨n, h⟩ h0]
  frame_out
  have hj : (j 0).val < 4 := (j 0).isLt
  obtain e | e | e | e : (j 0).val = 0 ∨ (j 0).val = 1 ∨ (j 0).val = 2 ∨ (j 0).val = 3 := by omega
  · rw [rowHit 0 _ _ _ j e]
    refine (add3 _ _ _ _ _).trans ?_
    refine congrArg₂ (fun a b : EReal => a + b) ?_ ?_
    · refine congrArg (outsAt0 m c (n - 1) (lt_of_le_of_lt (Nat.sub_le _ _) h)).2.1 ?_
      funext x; apply Fin.ext
      fin_cases x
      · show 0 + 1 * 0 = (j 0).val; omega
      · show 0 + 1 * (j 1).val = (j 1).val; omega
    · unfold part6
      rw [e]
      exact addend m c n h (j 1) 3 (by decide)
  · rw [rowMiss 0 _ _ _ j (by omega), rowHit 1 _ _ _ j e]
    refine (add2 _ _ _ _ _).trans ?_
    refine congrArg₂ (fun a b : EReal => a + b) ?_ ?_
    · refine congrArg (outsAt0 m c (n - 1) (lt_of_le_of_lt (Nat.sub_le _ _) h)).2.1 ?_
      funext x; apply Fin.ext
      fin_cases x
      · show 1 + 1 * 0 = (j 0).val; omega
      · show 0 + 1 * (j 1).val = (j 1).val; omega
    · unfold part6
      rw [e]
      exact addend m c n h (j 1) 2 (by decide)
  · rw [rowMiss 0 _ _ _ j (by omega), rowMiss 1 _ _ _ j (by omega), rowHit 2 _ _ _ j e]
    refine (add1 _ _ _ _ _).trans ?_
    refine congrArg₂ (fun a b : EReal => a + b) ?_ ?_
    · refine congrArg (outsAt0 m c (n - 1) (lt_of_le_of_lt (Nat.sub_le _ _) h)).2.1 ?_
      funext x; apply Fin.ext
      fin_cases x
      · show 2 + 1 * 0 = (j 0).val; omega
      · show 0 + 1 * (j 1).val = (j 1).val; omega
    · unfold part6
      rw [e]
      exact addend m c n h (j 1) 1 (by decide)
  · rw [rowMiss 0 _ _ _ j (by omega), rowMiss 1 _ _ _ j (by omega), rowMiss 2 _ _ _ j (by omega), rowHit 3 _ _ _ j e]
    refine (add0 _ _ (k0_pay3 (F := Ideal) (grid0.coords ⟨n, h⟩) (iblk m c 3 ⟨n, h⟩)) _ _).trans ?_
    refine congrArg₂ (fun a b : EReal => a + b) ?_ ?_
    · refine congrArg (outsAt0 m c (n - 1) (lt_of_le_of_lt (Nat.sub_le _ _) h)).2.1 ?_
      funext x; apply Fin.ext
      fin_cases x
      · show 3 + 1 * 0 = (j 0).val; omega
      · show 0 + 1 * (j 1).val = (j 1).val; omega
    · unfold part6
      rw [e]
      exact addend m c n h (j 1) 0 (by decide)

/-- A sum over the rows, the first three apart. -/
theorem split3 (f : Fin 4096 → EReal) : ∑ k, f k = ∑ k : Fin 3, f ⟨k.val, by have := k.isLt; omega⟩ + ∑ k : Fin 4093, f ⟨3 + k.val, by have := k.isLt; omega⟩ :=
  Fin.sum_univ_add (a := 3) (b := 4093) f

theorem total6 (c : Dev nD) (j : S4x128.Idx) (t : ℕ) (h : t < cfg0.N) (ht : t % 2 = 2 - 1) :
    (outsAt0 m c (t - 1) (by omega)).2.1 j + part6 m c j t h
      = ∑ i : Fin 2, part6 m c j (2 * (t / 2) + i.val) (by have := i.isLt; have := Nat.div_add_mod t 2; omega) :=
  Cert.Sums.run_total 2 (by decide) (fun n h => (outsAt0 m c n h).2.1 j) (part6 m c j)
    (fun n h h0 => first6 m c j n h h0)
    (fun n h h0 h1 => next6 m c j n h h0) t h ht

/-- The array of the taps' gradient after the run. -/
theorem final6 (c : Dev nD) : (dats m 0 c).arrAt 6 (cfgs 0).N = dw (m ((c : Thread nD τ).loc main_arg0)) (m ((c : Thread nD τ).loc main_arg1)) := by
  refine (dats m 0 c).arrAt_eq_of_covers 6 _ (by decide +kernel) fun t hf y => ?_
  have ht : t.val % 2 = 1 := (flush0_6 t).mp hf
  have hN : t.val < 48 := lt_of_lt_of_eq t.isLt N_0
  blk_simp
  rw [after0_6]
  refine (next6 m c y t.val t.isLt (by omega)).trans ?_
  refine (total6 m c y t.val t.isLt ht).trans ?_
  refine Fin.sum_mul_add_congr fun s k hl => ?_
  refine congrArg₂ (fun u v : EReal => u * v) ?_ ?_
  · blk_point [iblk, V, idx t, idx ⟨_, Pipeline.run_point_lt_of_flush t ht s⟩, hl]
  · have e0 : ((win0_6.blk t).view.emb y 0).val = (y 0).val := by blk_simp [idx t]
    have hs : s.val < 2 := s.isLt
    rw [e0]
    refine congrArg (past (3 - (y 0).val) _) ?_
    funext a; apply Fin.ext
    fin_cases a
    · blk_simp [idx t, idx ⟨_, Pipeline.run_point_lt_of_flush t ht s⟩]
      show (2 * (t.val / 2) + s.val) % 2 * 2048 + k.val = s.val * 2048 + k.val
      omega
    · have e1 : ((win0_6.blk t).view.emb y 1).val = t.val / 2 * 128 + (y 1).val := by blk_simp [idx t]
      blk_simp [idx t, idx ⟨_, Pipeline.run_point_lt_of_flush t ht s⟩]
      show (2 * (t.val / 2) + s.val) / 2 * 128 + (y 1).val = ((win0_6.blk t).view.emb y 1).val
      rw [e1]
      omega

end Cert.GdnConvBwdIdeal.Conv

namespace Cert.Proof.GdnConvBwdClaim

open Cert.GdnConvBwdIdeal.Conv

/-- The reference leaves its arguments as they were. -/
theorem frame_ref : Cert.quiescent_GdnConvBwdRefIdeal := fun m ρ _ =>
  (θ_run Cert.GdnConvBwdRefIdeal.defs _ _).mono (fun r h => ⟨fun c => (h c).2.2.2,
      Idealize.ShloMosaic.sem_eq_zero_of_no_sems (by decide) r.2⟩)
    (Cert.GdnConvBwdRefIdeal.Value.run (F := Ideal) m ρ)

/-- The kernel's results are those of the reference. -/
theorem algebraic : Cert.algebraic_GdnConvBwdIdeal_GdnConvBwdRefIdeal := by
  intro m ρ m' ρ' _ hag
  refine ⟨fun c => dx (m ((c.tc : Thread _ _).loc Cert.GdnConvBwdIdeal.main_arg0)) (m ((c.tc : Thread _ _).loc Cert.GdnConvBwdIdeal.main_arg2)), fun c => dw (m ((c.tc : Thread _ _).loc Cert.GdnConvBwdIdeal.main_arg0)) (m ((c.tc : Thread _ _).loc Cert.GdnConvBwdIdeal.main_arg1)), fun c => db (m ((c.tc : Thread _ _).loc Cert.GdnConvBwdIdeal.main_arg0)), ?_, ?_⟩
  · exact (θ_run Cert.GdnConvBwdIdeal.defs _ _).mono (fun _ h c => ⟨(h c).1.trans (final5 m c), (h c).2.1.trans (final6 m c), (h c).2.2.1.trans (final7 m c), (h c).2.2.2⟩)
      (Cert.GdnConvBwdIdeal.Value.run_blocks (F := Ideal) m ρ)
  · refine (θ_run Cert.GdnConvBwdRefIdeal.defs _ _).mono (fun _ h c => ⟨(h c).1.trans ?_, (h c).2.1.trans ?_, (h c).2.2.1.trans ?_, (h c).2.2.2⟩)
      (Cert.GdnConvBwdRefIdeal.Value.run (F := Ideal) m' ρ')
    · rw [(hag c).1, (hag c).2.2]
      funext i
      clear h hag
      have hi : (i 0).val < 4096 := (i 0).isLt
      pointwise [dx, later]
      refine congrArg₂ (fun u v : EReal => u + v) (congrArg₂ (fun u v : EReal => u + v) (congrArg₂ (fun u v : EReal => u + v) rfl ?_) ?_) ?_
      · by_cases h : (i 0).val + 1 < 4096
        · rw [dif_pos (by omega), dif_pos h]
          exact congrArg (fun u : EReal => u * _) (congrArg _ (congrArg (fun r => ix2 r _) (Fin.ext (by dsimp only; omega))))
        · rw [dif_neg (by omega), dif_neg h, zero_mul]
      · by_cases h : (i 0).val + 2 < 4096
        · rw [dif_pos (by omega), dif_pos h]
          exact congrArg (fun u : EReal => u * _) (congrArg _ (congrArg (fun r => ix2 r _) (Fin.ext (by dsimp only; omega))))
        · rw [dif_neg (by omega), dif_neg h, zero_mul]
      · by_cases h : (i 0).val + 3 < 4096
        · rw [dif_pos (by omega), dif_pos h]
          exact congrArg (fun u : EReal => u * _) (congrArg _ (congrArg (fun r => ix2 r _) (Fin.ext (by dsimp only; omega))))
        · rw [dif_neg (by omega), dif_neg h, zero_mul]
    · rw [(hag c).1, (hag c).2.1]
      funext i
      clear h hag
      have hi : (i 0).val < 4 := (i 0).isLt
      pointwise [dw, past, colX]
      obtain e | e | e | e : (i 0).val = 0 ∨ (i 0).val = 1 ∨ (i 0).val = 2 ∨ (i 0).val = 3 := by omega
      · refine (congrArg₂ (fun u v : EReal => u + v) (congrArg₂ (fun u v : EReal => u + v) (congrArg₂ (fun u v : EReal => u + v) (dif_neg (by omega)) (dif_neg (by omega))) (dif_neg (by omega))) (dif_pos (by omega))).trans ?_
        simp only [add_zero, zero_add, Finset.univ_unique, Finset.sum_singleton, zero_mul, Finset.sum_const_zero]
        rw [split3]
        refine Eq.trans ?_ (congrArg₂ (fun u v : EReal => u + v) (Finset.sum_eq_zero fun k _ => ?_).symm rfl)
        · refine Eq.trans ?_ (zero_add _).symm
          refine Finset.sum_congr rfl fun k _ => ?_
          rw [mul_comm, dif_neg (by dsimp only; omega)]
          exact congrArg (fun u : EReal => _ * u) (congrArg _ (congrArg (fun r => ix2 r _) (Fin.ext (by dsimp only; omega))))
        · have := k.isLt
          rw [dif_pos (by dsimp only; omega), mul_zero]
      · refine (congrArg₂ (fun u v : EReal => u + v) (congrArg₂ (fun u v : EReal => u + v) (congrArg₂ (fun u v : EReal => u + v) (dif_neg (by omega)) (dif_neg (by omega))) (dif_pos (by omega))) (dif_neg (by omega))).trans ?_
        simp only [add_zero, zero_add, Finset.univ_unique, Finset.sum_singleton, zero_mul, Finset.sum_const_zero]
        refine Finset.sum_congr rfl fun k _ => ?_
        rw [mul_comm]
        refine congrArg (fun u : EReal => _ * u) ?_
        by_cases h : k.val < 2
        · rw [dif_pos (by omega), dif_pos (by omega)]
        · rw [dif_neg (by omega), dif_neg (by omega)]
          exact congrArg _ (congrArg (fun r => ix2 r _) (Fin.ext (by dsimp only; omega)))
      · refine (congrArg₂ (fun u v : EReal => u + v) (congrArg₂ (fun u v : EReal => u + v) (congrArg₂ (fun u v : EReal => u + v) (dif_neg (by omega)) (dif_pos (by omega))) (dif_neg (by omega))) (dif_neg (by omega))).trans ?_
        simp only [add_zero, zero_add, Finset.univ_unique, Finset.sum_singleton, zero_mul, Finset.sum_const_zero]
        refine Finset.sum_congr rfl fun k _ => ?_
        rw [mul_comm]
        refine congrArg (fun u : EReal => _ * u) ?_
        by_cases h : k.val < 1
        · rw [dif_pos (by omega), dif_pos (by omega)]
        · rw [dif_neg (by omega), dif_neg (by omega)]
          exact congrArg _ (congrArg (fun r => ix2 r _) (Fin.ext (by dsimp only; omega)))
      · refine (congrArg₂ (fun u v : EReal => u + v) (congrArg₂ (fun u v : EReal => u + v) (congrArg₂ (fun u v : EReal => u + v) (dif_pos (by omega)) (dif_neg (by omega))) (dif_neg (by omega))) (dif_neg (by omega))).trans ?_
        simp only [add_zero, zero_add, Finset.univ_unique, Finset.sum_singleton, zero_mul, Finset.sum_const_zero]
        refine Finset.sum_congr rfl fun k _ => ?_
        rw [mul_comm, dif_neg (by omega)]
        exact congrArg (fun u : EReal => _ * u) (congrArg _ (congrArg (fun r => ix2 r _) (Fin.ext (by dsimp only; omega))))
    · rw [(hag c).1]
      funext i
      clear h hag
      pointwise [db]
      simp only [Finset.univ_unique, Finset.sum_singleton]

end Cert.Proof.GdnConvBwdClaim

end
-- ==== Proof.lean ====
module

public import proofs.«01_k».proof.Defs
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdRefIdeal
public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.Gen.DMlpAct
public import proofs.«01_k».proof.Proof.Gen.DMlpAct.Skeleton
public import proofs.«01_k».proof.Proof.Gen.DMlpAct.Launch
public import proofs.«01_k».proof.Proof.Gen.DMlpAct.Points
public import proofs.«01_k».proof.Proof.Gen.DMlpAct.Frame
public import proofs.«01_k».proof.Proof.Gen.DMlpActIdeal
public import proofs.«01_k».proof.Proof.Gen.DMlpActIdeal.Skeleton
public import proofs.«01_k».proof.Proof.Gen.DMlpActIdeal.Launch
public import proofs.«01_k».proof.Proof.Gen.DMlpActIdeal.Points
public import proofs.«01_k».proof.Proof.Gen.DMlpActIdeal.Frame
public import proofs.«01_k».proof.Proof.Gen.DMlpActRefIdeal
public import proofs.«01_k».proof.Proof.Gen.DMlpActIdeal.Value
public import proofs.«01_k».proof.Proof.Gen.DMlpActRefIdeal.Run
public import proofs.«01_k».proof.Proof.Gen.DMlpActRefIdeal.Read
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownRefIdeal
public import proofs.«01_k».proof.Proof.Gen.DwDownIdeal.Value
public import proofs.«01_k».proof.Proof.Gen.DwDownRefIdeal.Run
public import proofs.«01_k».proof.Proof.Gen.DwDownRefIdeal.Read
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpRefIdeal
public import proofs.«01_k».proof.Proof.Gen.DwUpIdeal.Value
public import proofs.«01_k».proof.Proof.Gen.DwUpRefIdeal.Run
public import proofs.«01_k».proof.Proof.Gen.DwUpRefIdeal.Read
public import proofs.«01_k».proof.Proof.Gen.DH2
public import proofs.«01_k».proof.Proof.Gen.DH2.Skeleton
public import proofs.«01_k».proof.Proof.Gen.DH2.Launch
public import proofs.«01_k».proof.Proof.Gen.DH2.Points
public import proofs.«01_k».proof.Proof.Gen.DH2.Frame
public import proofs.«01_k».proof.Proof.Gen.DH2Ideal
public import proofs.«01_k».proof.Proof.Gen.DH2Ideal.Skeleton
public import proofs.«01_k».proof.Proof.Gen.DH2Ideal.Launch
public import proofs.«01_k».proof.Proof.Gen.DH2Ideal.Points
public import proofs.«01_k».proof.Proof.Gen.DH2Ideal.Frame
public import proofs.«01_k».proof.Proof.Gen.DH2RefIdeal
public import proofs.«01_k».proof.Proof.Gen.DH2Ideal.Value
public import proofs.«01_k».proof.Proof.Gen.DH2RefIdeal.Run
public import proofs.«01_k».proof.Proof.Gen.DH2RefIdeal.Read
public import proofs.«01_k».proof.Proof.Gen.MlpUp
public import proofs.«01_k».proof.Proof.Gen.MlpUp.Skeleton
public import proofs.«01_k».proof.Proof.Gen.MlpUp.Launch
public import proofs.«01_k».proof.Proof.Gen.MlpUp.Points
public import proofs.«01_k».proof.Proof.Gen.MlpUp.Frame
public import proofs.«01_k».proof.Proof.Gen.MlpUpIdeal
public import proofs.«01_k».proof.Proof.Gen.MlpUpIdeal.Skeleton
public import proofs.«01_k».proof.Proof.Gen.MlpUpIdeal.Launch
public import proofs.«01_k».proof.Proof.Gen.MlpUpIdeal.Points
public import proofs.«01_k».proof.Proof.Gen.MlpUpIdeal.Frame
public import proofs.«01_k».proof.Proof.Gen.MlpUpRefIdeal
public import proofs.«01_k».proof.Proof.Gen.MlpUpIdeal.Value
public import proofs.«01_k».proof.Proof.Gen.MlpUpRefIdeal.Run
public import proofs.«01_k».proof.Proof.Gen.MlpUpRefIdeal.Read
public import proofs.«01_k».proof.Proof.Gen.MlpDown
public import proofs.«01_k».proof.Proof.Gen.MlpDown.Skeleton
public import proofs.«01_k».proof.Proof.Gen.MlpDown.Launch
public import proofs.«01_k».proof.Proof.Gen.MlpDown.Points
public import proofs.«01_k».proof.Proof.Gen.MlpDown.Frame
public import proofs.«01_k».proof.Proof.Gen.MlpDownIdeal
public import proofs.«01_k».proof.Proof.Gen.MlpDownIdeal.Skeleton
public import proofs.«01_k».proof.Proof.Gen.MlpDownIdeal.Launch
public import proofs.«01_k».proof.Proof.Gen.MlpDownIdeal.Points
public import proofs.«01_k».proof.Proof.Gen.MlpDownIdeal.Frame
public import proofs.«01_k».proof.Proof.Gen.MlpDownRefIdeal
public import proofs.«01_k».proof.Proof.Gen.MlpDownIdeal.Value
public import proofs.«01_k».proof.Proof.Gen.MlpDownRefIdeal.Run
public import proofs.«01_k».proof.Proof.Gen.MlpDownRefIdeal.Read
public import proofs.«01_k».proof.Proof.Gen.DMerged
public import proofs.«01_k».proof.Proof.Gen.DMerged.Skeleton
public import proofs.«01_k».proof.Proof.Gen.DMerged.Launch
public import proofs.«01_k».proof.Proof.Gen.DMerged.Points
public import proofs.«01_k».proof.Proof.Gen.DMerged.Frame
public import proofs.«01_k».proof.Proof.Gen.DMergedIdeal
public import proofs.«01_k».proof.Proof.Gen.DMergedIdeal.Skeleton
public import proofs.«01_k».proof.Proof.Gen.DMergedIdeal.Launch
public import proofs.«01_k».proof.Proof.Gen.DMergedIdeal.Points
public import proofs.«01_k».proof.Proof.Gen.DMergedIdeal.Frame
public import proofs.«01_k».proof.Proof.Gen.DMergedRefIdeal
public import proofs.«01_k».proof.Proof.Gen.DMergedIdeal.Value
public import proofs.«01_k».proof.Proof.Gen.DMergedRefIdeal.Run
public import proofs.«01_k».proof.Proof.Gen.DMergedRefIdeal.Read
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.DBranch
public import proofs.«01_k».proof.Proof.Gen.DBranch.Skeleton
public import proofs.«01_k».proof.Proof.Gen.DBranch.Launch
public import proofs.«01_k».proof.Proof.Gen.DBranch.Points
public import proofs.«01_k».proof.Proof.Gen.DBranch.Frame
public import proofs.«01_k».proof.Proof.Gen.DBranchIdeal
public import proofs.«01_k».proof.Proof.Gen.DBranchIdeal.Skeleton
public import proofs.«01_k».proof.Proof.Gen.DBranchIdeal.Launch
public import proofs.«01_k».proof.Proof.Gen.DBranchIdeal.Points
public import proofs.«01_k».proof.Proof.Gen.DBranchIdeal.Frame
public import proofs.«01_k».proof.Proof.Gen.DBranchRefIdeal
public import proofs.«01_k».proof.Proof.Gen.DBranchIdeal.Value
public import proofs.«01_k».proof.Proof.Gen.DBranchRefIdeal.Run
public import proofs.«01_k».proof.Proof.Gen.DBranchRefIdeal.Read
public import proofs.«01_k».proof.Proof.Gen.DwBranch
public import proofs.«01_k».proof.Proof.Gen.DwBranch.Skeleton
public import proofs.«01_k».proof.Proof.Gen.DwBranch.Launch
public import proofs.«01_k».proof.Proof.Gen.DwBranch.Points
public import proofs.«01_k».proof.Proof.Gen.DwBranch.Frame
public import proofs.«01_k».proof.Proof.Gen.DwBranchIdeal
public import proofs.«01_k».proof.Proof.Gen.DwBranchIdeal.Skeleton
public import proofs.«01_k».proof.Proof.Gen.DwBranchIdeal.Launch
public import proofs.«01_k».proof.Proof.Gen.DwBranchIdeal.Points
public import proofs.«01_k».proof.Proof.Gen.DwBranchIdeal.Frame
public import proofs.«01_k».proof.Proof.Gen.DwBranchRefIdeal
public import proofs.«01_k».proof.Proof.Gen.DwBranchIdeal.Value
public import proofs.«01_k».proof.Proof.Gen.DwBranchRefIdeal.Run
public import proofs.«01_k».proof.Proof.Gen.DwBranchRefIdeal.Read
public import proofs.«01_k».proof.Proof.Gen.Branch
public import proofs.«01_k».proof.Proof.Gen.Branch.Skeleton
public import proofs.«01_k».proof.Proof.Gen.Branch.Launch
public import proofs.«01_k».proof.Proof.Gen.Branch.Points
public import proofs.«01_k».proof.Proof.Gen.Branch.Frame
public import proofs.«01_k».proof.Proof.Gen.BranchIdeal
public import proofs.«01_k».proof.Proof.Gen.BranchIdeal.Skeleton
public import proofs.«01_k».proof.Proof.Gen.BranchIdeal.Launch
public import proofs.«01_k».proof.Proof.Gen.BranchIdeal.Points
public import proofs.«01_k».proof.Proof.Gen.BranchIdeal.Frame
public import proofs.«01_k».proof.Proof.Gen.BranchRefIdeal
public import proofs.«01_k».proof.Proof.Gen.BranchIdeal.Value
public import proofs.«01_k».proof.Proof.Gen.BranchRefIdeal.Run
public import proofs.«01_k».proof.Proof.Gen.BranchRefIdeal.Read
public import proofs.«01_k».proof.Proof.Gen.DH
public import proofs.«01_k».proof.Proof.Gen.DH.Skeleton
public import proofs.«01_k».proof.Proof.Gen.DH.Launch
public import proofs.«01_k».proof.Proof.Gen.DH.Points
public import proofs.«01_k».proof.Proof.Gen.DH.Frame
public import proofs.«01_k».proof.Proof.Gen.DHIdeal
public import proofs.«01_k».proof.Proof.Gen.DHIdeal.Skeleton
public import proofs.«01_k».proof.Proof.Gen.DHIdeal.Launch
public import proofs.«01_k».proof.Proof.Gen.DHIdeal.Points
public import proofs.«01_k».proof.Proof.Gen.DHIdeal.Frame
public import proofs.«01_k».proof.Proof.Gen.DHRefIdeal
public import proofs.«01_k».proof.Proof.Gen.DHIdeal.Value
public import proofs.«01_k».proof.Proof.Gen.DHRefIdeal.Run
public import proofs.«01_k».proof.Proof.Gen.DHRefIdeal.Read
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.DwInIdeal.Value
public import proofs.«01_k».proof.Proof.Gen.DwInRefIdeal.Run
public import proofs.«01_k».proof.Proof.Gen.DwInRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallRefIdeal
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.Gen.SumMid
public import proofs.«01_k».proof.Proof.Gen.SumMid.Skeleton
public import proofs.«01_k».proof.Proof.Gen.SumMid.Launch
public import proofs.«01_k».proof.Proof.Gen.SumMid.Points
public import proofs.«01_k».proof.Proof.Gen.SumMid.Frame
public import proofs.«01_k».proof.Proof.Gen.SumMidIdeal
public import proofs.«01_k».proof.Proof.Gen.SumMidIdeal.Skeleton
public import proofs.«01_k».proof.Proof.Gen.SumMidIdeal.Launch
public import proofs.«01_k».proof.Proof.Gen.SumMidIdeal.Points
public import proofs.«01_k».proof.Proof.Gen.SumMidIdeal.Frame
public import proofs.«01_k».proof.Proof.Gen.SumMidRefIdeal
public import proofs.«01_k».proof.Proof.Gen.SumMidIdeal.Value
public import proofs.«01_k».proof.Proof.Gen.SumMidRefIdeal.Run
public import proofs.«01_k».proof.Proof.Gen.SumMidRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallRefIdeal
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Gen.AdamMid
public import proofs.«01_k».proof.Proof.Gen.AdamMid.Skeleton
public import proofs.«01_k».proof.Proof.Gen.AdamMid.Launch
public import proofs.«01_k».proof.Proof.Gen.AdamMid.Points
public import proofs.«01_k».proof.Proof.Gen.AdamMid.Frame
public import proofs.«01_k».proof.Proof.Gen.AdamMidIdeal
public import proofs.«01_k».proof.Proof.Gen.AdamMidIdeal.Skeleton
public import proofs.«01_k».proof.Proof.Gen.AdamMidIdeal.Launch
public import proofs.«01_k».proof.Proof.Gen.AdamMidIdeal.Points
public import proofs.«01_k».proof.Proof.Gen.AdamMidIdeal.Frame
public import proofs.«01_k».proof.Proof.Gen.AdamMidRefIdeal
public import proofs.«01_k».proof.Proof.Gen.AdamMidIdeal.Value
public import proofs.«01_k».proof.Proof.Gen.AdamMidRefIdeal.Run
public import proofs.«01_k».proof.Proof.Gen.AdamMidRefIdeal.Read
public import proofs.«01_k».proof.Proof.Gen.RmsFwd
public import proofs.«01_k».proof.Proof.Gen.RmsFwd.Skeleton
public import proofs.«01_k».proof.Proof.Gen.RmsFwd.Launch
public import proofs.«01_k».proof.Proof.Gen.RmsFwd.Points
public import proofs.«01_k».proof.Proof.Gen.RmsFwd.Frame
public import proofs.«01_k».proof.Proof.Gen.RmsFwdIdeal
public import proofs.«01_k».proof.Proof.Gen.RmsFwdIdeal.Skeleton
public import proofs.«01_k».proof.Proof.Gen.RmsFwdIdeal.Launch
public import proofs.«01_k».proof.Proof.Gen.RmsFwdIdeal.Points
public import proofs.«01_k».proof.Proof.Gen.RmsFwdIdeal.Frame
public import proofs.«01_k».proof.Proof.Gen.RmsFwdRefIdeal
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.Gen.RmsBwd
public import proofs.«01_k».proof.Proof.Gen.RmsBwd.Skeleton
public import proofs.«01_k».proof.Proof.Gen.RmsBwd.Launch
public import proofs.«01_k».proof.Proof.Gen.RmsBwd.Points
public import proofs.«01_k».proof.Proof.Gen.RmsBwd.Frame
public import proofs.«01_k».proof.Proof.Gen.RmsBwdIdeal
public import proofs.«01_k».proof.Proof.Gen.RmsBwdIdeal.Skeleton
public import proofs.«01_k».proof.Proof.Gen.RmsBwdIdeal.Launch
public import proofs.«01_k».proof.Proof.Gen.RmsBwdIdeal.Points
public import proofs.«01_k».proof.Proof.Gen.RmsBwdIdeal.Frame
public import proofs.«01_k».proof.Proof.Gen.RmsBwdRefIdeal
public import proofs.«01_k».proof.Proof.Gen.RmsBwdIdeal.Value
public import proofs.«01_k».proof.Proof.Gen.RmsBwdRefIdeal.Run
public import proofs.«01_k».proof.Proof.Gen.RmsBwdRefIdeal.Read
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadRefIdeal
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamBranch
public import proofs.«01_k».proof.Proof.Gen.AdamBranch.Skeleton
public import proofs.«01_k».proof.Proof.Gen.AdamBranch.Launch
public import proofs.«01_k».proof.Proof.Gen.AdamBranch.Points
public import proofs.«01_k».proof.Proof.Gen.AdamBranch.Frame
public import proofs.«01_k».proof.Proof.Gen.AdamBranchIdeal
public import proofs.«01_k».proof.Proof.Gen.AdamBranchIdeal.Skeleton
public import proofs.«01_k».proof.Proof.Gen.AdamBranchIdeal.Launch
public import proofs.«01_k».proof.Proof.Gen.AdamBranchIdeal.Points
public import proofs.«01_k».proof.Proof.Gen.AdamBranchIdeal.Frame
public import proofs.«01_k».proof.Proof.Gen.AdamBranchRefIdeal
public import proofs.«01_k».proof.Proof.Gen.AdamBranchRefIdeal.Run
public import proofs.«01_k».proof.Proof.Gen.AdamBranchRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamMlp
public import proofs.«01_k».proof.Proof.Gen.AdamMlp.Skeleton
public import proofs.«01_k».proof.Proof.Gen.AdamMlp.Launch
public import proofs.«01_k».proof.Proof.Gen.AdamMlp.Points
public import proofs.«01_k».proof.Proof.Gen.AdamMlp.Frame
public import proofs.«01_k».proof.Proof.Gen.AdamMlpIdeal
public import proofs.«01_k».proof.Proof.Gen.AdamMlpIdeal.Skeleton
public import proofs.«01_k».proof.Proof.Gen.AdamMlpIdeal.Launch
public import proofs.«01_k».proof.Proof.Gen.AdamMlpIdeal.Points
public import proofs.«01_k».proof.Proof.Gen.AdamMlpIdeal.Frame
public import proofs.«01_k».proof.Proof.Gen.AdamMlpRefIdeal
public import proofs.«01_k».proof.Proof.Gen.AdamMlpRefIdeal.Run
public import proofs.«01_k».proof.Proof.Gen.AdamMlpRefIdeal.Read
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdRefIdeal
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Gen.GdnPostFwd
public import proofs.«01_k».proof.Proof.Gen.GdnPostFwd.Skeleton
public import proofs.«01_k».proof.Proof.Gen.GdnPostFwd.Launch
public import proofs.«01_k».proof.Proof.Gen.GdnPostFwd.Points
public import proofs.«01_k».proof.Proof.Gen.GdnPostFwd.Frame
public import proofs.«01_k».proof.Proof.Gen.GdnPostFwdIdeal
public import proofs.«01_k».proof.Proof.Gen.GdnPostFwdIdeal.Skeleton
public import proofs.«01_k».proof.Proof.Gen.GdnPostFwdIdeal.Launch
public import proofs.«01_k».proof.Proof.Gen.GdnPostFwdIdeal.Points
public import proofs.«01_k».proof.Proof.Gen.GdnPostFwdIdeal.Frame
public import proofs.«01_k».proof.Proof.Gen.GdnPostFwdRefIdeal
public import proofs.«01_k».proof.Proof.Gen.GdnPostFwdIdeal.Value
public import proofs.«01_k».proof.Proof.Gen.GdnPostFwdRefIdeal.Run
public import proofs.«01_k».proof.Proof.Gen.GdnPostFwdRefIdeal.Read
public import proofs.«01_k».proof.Proof.Gen.DabReduce
public import proofs.«01_k».proof.Proof.Gen.DabReduce.Skeleton
public import proofs.«01_k».proof.Proof.Gen.DabReduce.Launch
public import proofs.«01_k».proof.Proof.Gen.DabReduce.Points
public import proofs.«01_k».proof.Proof.Gen.DabReduce.Frame
public import proofs.«01_k».proof.Proof.Gen.DabReduceIdeal
public import proofs.«01_k».proof.Proof.Gen.DabReduceIdeal.Skeleton
public import proofs.«01_k».proof.Proof.Gen.DabReduceIdeal.Launch
public import proofs.«01_k».proof.Proof.Gen.DabReduceIdeal.Points
public import proofs.«01_k».proof.Proof.Gen.DabReduceIdeal.Frame
public import proofs.«01_k».proof.Proof.Gen.DabReduceRefIdeal
public import proofs.«01_k».proof.Proof.Gen.DabReduceIdeal.Value
public import proofs.«01_k».proof.Proof.Gen.DabReduceRefIdeal.Run
public import proofs.«01_k».proof.Proof.Gen.DabReduceRefIdeal.Read
public import proofs.«01_k».proof.Proof.Gen.LruConvFwd
public import proofs.«01_k».proof.Proof.Gen.LruConvFwd.Skeleton
public import proofs.«01_k».proof.Proof.Gen.LruConvFwd.Launch
public import proofs.«01_k».proof.Proof.Gen.LruConvFwd.Points
public import proofs.«01_k».proof.Proof.Gen.LruConvFwd.Frame
public import proofs.«01_k».proof.Proof.Gen.LruConvFwdIdeal
public import proofs.«01_k».proof.Proof.Gen.LruConvFwdIdeal.Skeleton
public import proofs.«01_k».proof.Proof.Gen.LruConvFwdIdeal.Launch
public import proofs.«01_k».proof.Proof.Gen.LruConvFwdIdeal.Points
public import proofs.«01_k».proof.Proof.Gen.LruConvFwdIdeal.Frame
public import proofs.«01_k».proof.Proof.Gen.LruConvFwdRefIdeal
public import proofs.«01_k».proof.Proof.Gen.LruConvFwdIdeal.Value
public import proofs.«01_k».proof.Proof.Gen.LruConvFwdRefIdeal.Run
public import proofs.«01_k».proof.Proof.Gen.LruConvFwdRefIdeal.Read
public import proofs.«01_k».proof.Proof.Gen.LruConvBwd
public import proofs.«01_k».proof.Proof.Gen.LruConvBwd.Skeleton
public import proofs.«01_k».proof.Proof.Gen.LruConvBwd.Launch
public import proofs.«01_k».proof.Proof.Gen.LruConvBwd.Points
public import proofs.«01_k».proof.Proof.Gen.LruConvBwd.Frame
public import proofs.«01_k».proof.Proof.Gen.LruConvBwdIdeal
public import proofs.«01_k».proof.Proof.Gen.LruConvBwdIdeal.Skeleton
public import proofs.«01_k».proof.Proof.Gen.LruConvBwdIdeal.Launch
public import proofs.«01_k».proof.Proof.Gen.LruConvBwdIdeal.Points
public import proofs.«01_k».proof.Proof.Gen.LruConvBwdIdeal.Frame
public import proofs.«01_k».proof.Proof.Gen.LruConvBwdRefIdeal
public import proofs.«01_k».proof.Proof.Gen.LruConvBwdIdeal.Value
public import proofs.«01_k».proof.Proof.Gen.LruConvBwdRefIdeal.Run
public import proofs.«01_k».proof.Proof.Gen.LruConvBwdRefIdeal.Read
public import proofs.«01_k».proof.Proof.Gen.GdnConvBwd
public import proofs.«01_k».proof.Proof.Gen.GdnConvBwd.Skeleton
public import proofs.«01_k».proof.Proof.Gen.GdnConvBwd.Launch
public import proofs.«01_k».proof.Proof.Gen.GdnConvBwd.Points
public import proofs.«01_k».proof.Proof.Gen.GdnConvBwd.Frame
public import proofs.«01_k».proof.Proof.Gen.GdnConvBwdIdeal
public import proofs.«01_k».proof.Proof.Gen.GdnConvBwdIdeal.Skeleton
public import proofs.«01_k».proof.Proof.Gen.GdnConvBwdIdeal.Launch
public import proofs.«01_k».proof.Proof.Gen.GdnConvBwdIdeal.Points
public import proofs.«01_k».proof.Proof.Gen.GdnConvBwdIdeal.Frame
public import proofs.«01_k».proof.Proof.Gen.GdnConvBwdRefIdeal
public import proofs.«01_k».proof.Proof.Gen.GdnConvBwdIdeal.Value
public import proofs.«01_k».proof.Proof.Gen.GdnConvBwdRefIdeal.Run
public import proofs.«01_k».proof.Proof.Gen.GdnConvBwdRefIdeal.Read
public import proofs.«01_k».proof.Proof.MergeBwdClaim
public import proofs.«01_k».proof.Proof.DMlpActClaim
public import proofs.«01_k».proof.Proof.DwDownClaim
public import proofs.«01_k».proof.Proof.DwUpClaim
public import proofs.«01_k».proof.Proof.DH2Claim
public import proofs.«01_k».proof.Proof.MlpUpClaim
public import proofs.«01_k».proof.Proof.MlpDownClaim
public import proofs.«01_k».proof.Proof.DMergedClaim
public import proofs.«01_k».proof.Proof.DwOutClaim
public import proofs.«01_k».proof.Proof.OutProjClaim
public import proofs.«01_k».proof.Proof.DBranchClaim
public import proofs.«01_k».proof.Proof.DwBranchClaim
public import proofs.«01_k».proof.Proof.BranchClaim
public import proofs.«01_k».proof.Proof.DHClaim
public import proofs.«01_k».proof.Proof.DwInClaim
public import proofs.«01_k».proof.Proof.ProjClaim
public import proofs.«01_k».proof.Proof.SumSmallClaim
public import proofs.«01_k».proof.Proof.SumMidClaim
public import proofs.«01_k».proof.Proof.AdamSmallClaim
public import proofs.«01_k».proof.Proof.AdamMidClaim
public import proofs.«01_k».proof.Proof.RmsFwdClaim
public import proofs.«01_k».proof.Proof.RmsBwdClaim
public import proofs.«01_k».proof.Proof.LossHeadClaim
public import proofs.«01_k».proof.Proof.AdamInClaim
public import proofs.«01_k».proof.Proof.AdamBranchClaim
public import proofs.«01_k».proof.Proof.AdamOutClaim
public import proofs.«01_k».proof.Proof.AdamMlpClaim
public import proofs.«01_k».proof.Proof.MergeFwdClaim
public import proofs.«01_k».proof.Proof.GdnPostFwdClaim
public import proofs.«01_k».proof.Proof.DabReduceClaim
public import proofs.«01_k».proof.Proof.LruConvFwdClaim
public import proofs.«01_k».proof.Proof.LruConvBwdClaim
public import proofs.«01_k».proof.Proof.GdnConvBwdClaim
public import Idealize.ShloMosaic.Adequacy
public import Idealize.ShloMosaic.Init

@[expose] public section

noncomputable section

namespace Cert.Proof

open Idealize.ShloMosaic Idealize.SL.Sem

theorem claim : Cert.Claim := ⟨Cert.MergeBwd.Gen.facts, Cert.MergeBwdIdeal.Gen.facts, Cert.MergeBwdRefIdeal.Gen.facts, Cert.DMlpAct.Gen.facts, Cert.DMlpActIdeal.Gen.facts, Cert.DMlpActRefIdeal.Gen.facts, Cert.DwDown.Gen.facts, Cert.DwDownIdeal.Gen.facts, Cert.DwDownRefIdeal.Gen.facts, Cert.DwUp.Gen.facts, Cert.DwUpIdeal.Gen.facts, Cert.DwUpRefIdeal.Gen.facts, Cert.DH2.Gen.facts, Cert.DH2Ideal.Gen.facts, Cert.DH2RefIdeal.Gen.facts, Cert.MlpUp.Gen.facts, Cert.MlpUpIdeal.Gen.facts, Cert.MlpUpRefIdeal.Gen.facts, Cert.MlpDown.Gen.facts, Cert.MlpDownIdeal.Gen.facts, Cert.MlpDownRefIdeal.Gen.facts, Cert.DMerged.Gen.facts, Cert.DMergedIdeal.Gen.facts, Cert.DMergedRefIdeal.Gen.facts, Cert.DwOut.Gen.facts, Cert.DwOutIdeal.Gen.facts, Cert.DwOutRefIdeal.Gen.facts, Cert.OutProj.Gen.facts, Cert.OutProjIdeal.Gen.facts, Cert.OutProjRefIdeal.Gen.facts, Cert.DBranch.Gen.facts, Cert.DBranchIdeal.Gen.facts, Cert.DBranchRefIdeal.Gen.facts, Cert.DwBranch.Gen.facts, Cert.DwBranchIdeal.Gen.facts, Cert.DwBranchRefIdeal.Gen.facts, Cert.Branch.Gen.facts, Cert.BranchIdeal.Gen.facts, Cert.BranchRefIdeal.Gen.facts, Cert.DH.Gen.facts, Cert.DHIdeal.Gen.facts, Cert.DHRefIdeal.Gen.facts, Cert.DwIn.Gen.facts, Cert.DwInIdeal.Gen.facts, Cert.DwInRefIdeal.Gen.facts, Cert.Proj.Gen.facts, Cert.ProjIdeal.Gen.facts, Cert.ProjRefIdeal.Gen.facts, Cert.SumSmall.Gen.facts, Cert.SumSmallIdeal.Gen.facts, Cert.SumSmallRefIdeal.Gen.facts, Cert.SumMid.Gen.facts, Cert.SumMidIdeal.Gen.facts, Cert.SumMidRefIdeal.Gen.facts, Cert.AdamSmall.Gen.facts, Cert.AdamSmallIdeal.Gen.facts, Cert.AdamSmallRefIdeal.Gen.facts, Cert.AdamMid.Gen.facts, Cert.AdamMidIdeal.Gen.facts, Cert.AdamMidRefIdeal.Gen.facts, Cert.RmsFwd.Gen.facts, Cert.RmsFwdIdeal.Gen.facts, Cert.RmsFwdRefIdeal.Gen.facts, Cert.RmsBwd.Gen.facts, Cert.RmsBwdIdeal.Gen.facts, Cert.RmsBwdRefIdeal.Gen.facts, Cert.LossHead.Gen.facts, Cert.LossHeadIdeal.Gen.facts, Cert.LossHeadRefIdeal.Gen.facts, Cert.AdamIn.Gen.facts, Cert.AdamInIdeal.Gen.facts, Cert.AdamInRefIdeal.Gen.facts, Cert.AdamBranch.Gen.facts, Cert.AdamBranchIdeal.Gen.facts, Cert.AdamBranchRefIdeal.Gen.facts, Cert.AdamOut.Gen.facts, Cert.AdamOutIdeal.Gen.facts, Cert.AdamOutRefIdeal.Gen.facts, Cert.AdamMlp.Gen.facts, Cert.AdamMlpIdeal.Gen.facts, Cert.AdamMlpRefIdeal.Gen.facts, Cert.MergeFwd.Gen.facts, Cert.MergeFwdIdeal.Gen.facts, Cert.MergeFwdRefIdeal.Gen.facts, Cert.GdnPostFwd.Gen.facts, Cert.GdnPostFwdIdeal.Gen.facts, Cert.GdnPostFwdRefIdeal.Gen.facts, Cert.DabReduce.Gen.facts, Cert.DabReduceIdeal.Gen.facts, Cert.DabReduceRefIdeal.Gen.facts, Cert.LruConvFwd.Gen.facts, Cert.LruConvFwdIdeal.Gen.facts, Cert.LruConvFwdRefIdeal.Gen.facts, Cert.LruConvBwd.Gen.facts, Cert.LruConvBwdIdeal.Gen.facts, Cert.LruConvBwdRefIdeal.Gen.facts, Cert.GdnConvBwd.Gen.facts, Cert.GdnConvBwdIdeal.Gen.facts, Cert.GdnConvBwdRefIdeal.Gen.facts,
  fun m ρ _ => Cert.MergeBwd.Gen.frame m ρ,
  fun m ρ _ => Cert.MergeBwdIdeal.Gen.frame m ρ,
  MergeBwdClaim.frame_ref,
  fun m ρ _ => Cert.DMlpAct.Gen.frame m ρ,
  fun m ρ _ => Cert.DMlpActIdeal.Gen.frame m ρ,
  DMlpActClaim.frame_ref,
  fun m ρ _ => Cert.DwDown.Gen.frame m ρ,
  fun m ρ _ => Cert.DwDownIdeal.Gen.frame m ρ,
  DwDownClaim.frame_ref,
  fun m ρ _ => Cert.DwUp.Gen.frame m ρ,
  fun m ρ _ => Cert.DwUpIdeal.Gen.frame m ρ,
  DwUpClaim.frame_ref,
  fun m ρ _ => Cert.DH2.Gen.frame m ρ,
  fun m ρ _ => Cert.DH2Ideal.Gen.frame m ρ,
  DH2Claim.frame_ref,
  fun m ρ _ => Cert.MlpUp.Gen.frame m ρ,
  fun m ρ _ => Cert.MlpUpIdeal.Gen.frame m ρ,
  MlpUpClaim.frame_ref,
  fun m ρ _ => Cert.MlpDown.Gen.frame m ρ,
  fun m ρ _ => Cert.MlpDownIdeal.Gen.frame m ρ,
  MlpDownClaim.frame_ref,
  fun m ρ _ => Cert.DMerged.Gen.frame m ρ,
  fun m ρ _ => Cert.DMergedIdeal.Gen.frame m ρ,
  DMergedClaim.frame_ref,
  fun m ρ _ => Cert.DwOut.Gen.frame m ρ,
  fun m ρ _ => Cert.DwOutIdeal.Gen.frame m ρ,
  DwOutClaim.frame_ref,
  fun m ρ _ => Cert.OutProj.Gen.frame m ρ,
  fun m ρ _ => Cert.OutProjIdeal.Gen.frame m ρ,
  OutProjClaim.frame_ref,
  fun m ρ _ => Cert.DBranch.Gen.frame m ρ,
  fun m ρ _ => Cert.DBranchIdeal.Gen.frame m ρ,
  DBranchClaim.frame_ref,
  fun m ρ _ => Cert.DwBranch.Gen.frame m ρ,
  fun m ρ _ => Cert.DwBranchIdeal.Gen.frame m ρ,
  DwBranchClaim.frame_ref,
  fun m ρ _ => Cert.Branch.Gen.frame m ρ,
  fun m ρ _ => Cert.BranchIdeal.Gen.frame m ρ,
  BranchClaim.frame_ref,
  fun m ρ _ => Cert.DH.Gen.frame m ρ,
  fun m ρ _ => Cert.DHIdeal.Gen.frame m ρ,
  DHClaim.frame_ref,
  fun m ρ _ => Cert.DwIn.Gen.frame m ρ,
  fun m ρ _ => Cert.DwInIdeal.Gen.frame m ρ,
  DwInClaim.frame_ref,
  fun m ρ _ => Cert.Proj.Gen.frame m ρ,
  fun m ρ _ => Cert.ProjIdeal.Gen.frame m ρ,
  ProjClaim.frame_ref,
  fun m ρ _ => Cert.SumSmall.Gen.frame m ρ,
  fun m ρ _ => Cert.SumSmallIdeal.Gen.frame m ρ,
  SumSmallClaim.frame_ref,
  fun m ρ _ => Cert.SumMid.Gen.frame m ρ,
  fun m ρ _ => Cert.SumMidIdeal.Gen.frame m ρ,
  SumMidClaim.frame_ref,
  fun m ρ _ => Cert.AdamSmall.Gen.frame m ρ,
  fun m ρ _ => Cert.AdamSmallIdeal.Gen.frame m ρ,
  AdamSmallClaim.frame_ref,
  fun m ρ _ => Cert.AdamMid.Gen.frame m ρ,
  fun m ρ _ => Cert.AdamMidIdeal.Gen.frame m ρ,
  AdamMidClaim.frame_ref,
  fun m ρ _ => Cert.RmsFwd.Gen.frame m ρ,
  fun m ρ _ => Cert.RmsFwdIdeal.Gen.frame m ρ,
  RmsFwdClaim.frame_ref,
  fun m ρ _ => Cert.RmsBwd.Gen.frame m ρ,
  fun m ρ _ => Cert.RmsBwdIdeal.Gen.frame m ρ,
  RmsBwdClaim.frame_ref,
  fun m ρ _ => Cert.LossHead.Gen.frame m ρ,
  fun m ρ _ => Cert.LossHeadIdeal.Gen.frame m ρ,
  LossHeadClaim.frame_ref,
  fun m ρ _ => Cert.AdamIn.Gen.frame m ρ trivial,
  fun m ρ _ => Cert.AdamInIdeal.Gen.frame m ρ trivial,
  AdamInClaim.frame_ref,
  fun m ρ _ => Cert.AdamBranch.Gen.frame m ρ trivial,
  fun m ρ _ => Cert.AdamBranchIdeal.Gen.frame m ρ trivial,
  AdamBranchClaim.frame_ref,
  fun m ρ _ => Cert.AdamOut.Gen.frame m ρ trivial,
  fun m ρ _ => Cert.AdamOutIdeal.Gen.frame m ρ trivial,
  AdamOutClaim.frame_ref,
  fun m ρ _ => Cert.AdamMlp.Gen.frame m ρ trivial,
  fun m ρ _ => Cert.AdamMlpIdeal.Gen.frame m ρ trivial,
  AdamMlpClaim.frame_ref,
  fun m ρ _ => Cert.MergeFwd.Gen.frame m ρ,
  fun m ρ _ => Cert.MergeFwdIdeal.Gen.frame m ρ,
  MergeFwdClaim.frame_ref,
  fun m ρ _ => Cert.GdnPostFwd.Gen.frame m ρ,
  fun m ρ _ => Cert.GdnPostFwdIdeal.Gen.frame m ρ,
  GdnPostFwdClaim.frame_ref,
  fun m ρ _ => Cert.DabReduce.Gen.frame m ρ,
  fun m ρ _ => Cert.DabReduceIdeal.Gen.frame m ρ,
  DabReduceClaim.frame_ref,
  fun m ρ _ => Cert.LruConvFwd.Gen.frame m ρ,
  fun m ρ _ => Cert.LruConvFwdIdeal.Gen.frame m ρ,
  LruConvFwdClaim.frame_ref,
  fun m ρ _ => Cert.LruConvBwd.Gen.frame m ρ,
  fun m ρ _ => Cert.LruConvBwdIdeal.Gen.frame m ρ,
  LruConvBwdClaim.frame_ref,
  fun m ρ _ => Cert.GdnConvBwd.Gen.frame m ρ,
  fun m ρ _ => Cert.GdnConvBwdIdeal.Gen.frame m ρ,
  GdnConvBwdClaim.frame_ref,
  trivial,
  MergeBwdClaim.algebraic,
  trivial,
  DMlpActClaim.algebraic,
  trivial,
  DwDownClaim.algebraic,
  trivial,
  DwUpClaim.algebraic,
  trivial,
  DH2Claim.algebraic,
  trivial,
  MlpUpClaim.algebraic,
  trivial,
  MlpDownClaim.algebraic,
  trivial,
  DMergedClaim.algebraic,
  trivial,
  DwOutClaim.algebraic,
  trivial,
  OutProjClaim.algebraic,
  trivial,
  DBranchClaim.algebraic,
  trivial,
  DwBranchClaim.algebraic,
  trivial,
  BranchClaim.algebraic,
  trivial,
  DHClaim.algebraic,
  trivial,
  DwInClaim.algebraic,
  trivial,
  ProjClaim.algebraic,
  trivial,
  SumSmallClaim.algebraic,
  trivial,
  SumMidClaim.algebraic,
  trivial,
  AdamSmallClaim.algebraic,
  trivial,
  AdamMidClaim.algebraic,
  trivial,
  RmsFwdClaim.algebraic,
  trivial,
  RmsBwdClaim.algebraic,
  trivial,
  LossHeadClaim.algebraic,
  trivial,
  AdamInClaim.algebraic,
  trivial,
  AdamBranchClaim.algebraic,
  trivial,
  AdamOutClaim.algebraic,
  trivial,
  AdamMlpClaim.algebraic,
  trivial,
  MergeFwdClaim.algebraic,
  trivial,
  GdnPostFwdClaim.algebraic,
  trivial,
  DabReduceClaim.algebraic,
  trivial,
  LruConvFwdClaim.algebraic,
  trivial,
  LruConvBwdClaim.algebraic,
  trivial,
  GdnConvBwdClaim.algebraic⟩

end Cert.Proof

end
